-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite_scores [hPre_finite_scores : Cert.Pre_finite_scores.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite_scores.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))).1 = (fun _ => 1#1)
    ∧ (Cert.Pre_finite_scores.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))).2 = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite_scores [hPre_finite_scores : Cert.Pre_finite_scores.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite_scores.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))).1 = (fun _ => 1#1)
    ∧ (Cert.Pre_finite_scores.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Kernel30Ideal_pre_finite_scores [hKernel30Ideal : Cert.Kernel30Ideal.Facts] [hPre_finite_scores : Cert.Pre_finite_scores.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite_scores m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Reference30Ideal_pre_finite_scores [hReference30Ideal : Cert.Reference30Ideal.Facts] [hPre_finite_scores : Cert.Pre_finite_scores.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite_scores m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)) (v2 : (c : Dev Cert.KernelIdeal.nD) → Buf (Elt Ideal) ((c.tc : Thread Cert.KernelIdeal.nD Cert.KernelIdeal.τ).loc Cert.KernelIdeal.main_v68_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_v68_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  IdealRules.named_const.Statement Cert.Kernel30Ideal.κ "mask" .f32 0xF149F2CA#32 ⊥
  ∧ IdealRules.named_const.Statement Cert.Kernel30Ideal.κ "log2e" .f32 0x3FB8AA3B#32 (((Real.log 2)⁻¹ : ℝ) : EReal)

def algebraic_Kernel30Ideal_Reference30Ideal_pre_finite_scores [hKernel30Ideal : Cert.Kernel30Ideal.Facts] [hReference30Ideal : Cert.Reference30Ideal.Facts] [hPre_finite_scores : Cert.Pre_finite_scores.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite_scores m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v7_0)) (v1 : (c : Dev Cert.Kernel30Ideal.nD) → Buf (Elt Ideal) ((c.tc : Thread Cert.Kernel30Ideal.nD Cert.Kernel30Ideal.τ).loc Cert.Kernel30Ideal.main_v7_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v7_0) = v0 c
          ∧ r.2.mem ((c.tc : Thread Cert.Kernel30Ideal.nD Cert.Kernel30Ideal.τ).loc Cert.Kernel30Ideal.main_v7_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v44) = v0 c
          ∧ r.2.mem ((c.tc : Thread Cert.Reference30Ideal.nD Cert.Reference30Ideal.τ).loc Cert.Reference30Ideal.main_v45) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Kernel30Ideal_pre_finite_scores (hKernel30Ideal := hKernel30Ideal) (hPre_finite_scores := hPre_finite_scores)
    ∧ quiescent_Reference30Ideal (hReference30Ideal := hReference30Ideal)
    ∧ quiescent_Reference30Ideal_pre_finite_scores (hReference30Ideal := hReference30Ideal) (hPre_finite_scores := hPre_finite_scores)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal_pre_finite_scores (hKernel30Ideal := hKernel30Ideal) (hReference30Ideal := hReference30Ideal) (hPre_finite_scores := hPre_finite_scores)
-- ==== Pre_finite.lean ====
abbrev S2x4224x16x96 : Shape := ⟨4, ![2, 4224, 16, 96]⟩
abbrev S2x4224x16x64 : Shape := ⟨4, ![2, 4224, 16, 64]⟩
abbrev S_ : Shape := ⟨0, ![]⟩

class Facts : Prop where
  bcast_S_S2x4224x16x96 : S_.BroadcastsInDim S2x4224x16x96 (![] : Fin 0 → Fin S2x4224x16x96.rank)
  bcast_S_S2x4224x16x64 : S_.BroadcastsInDim S2x4224x16x64 (![] : Fin 0 → Fin S2x4224x16x64.rank)

variable [Facts]

def fn {F : FTy → Type} [FloatOps F] (main_arg0 : FVec F S2x4224x16x96 .f32) (main_arg1 : FVec F S2x4224x16x96 .f32) (main_arg2 : FVec F S2x4224x16x64 .f32) (main_arg3 : FVec F S2x4224x16x64 .f32) : IVec S2x4224x16x96 1 × IVec S2x4224x16x96 1 × IVec S2x4224x16x64 1 × IVec S2x4224x16x64 1 :=
  let main_v0 : FVec F S2x4224x16x96 .f32 := Host.absf main_arg0
  let main_cst : FVec F S_ .f32 := constant S_ .f32 0x7F800000#32
  let main_v1 : FVec F S2x4224x16x96 .f32 := broadcastInDim S2x4224x16x96 ![] bcast_S_S2x4224x16x96 main_cst
  let main_v2 : IVec S2x4224x16x96 1 := cmpf .olt main_v0 main_v1
  let main_v3 : FVec F S2x4224x16x96 .f32 := Host.absf main_arg1
  let main_cst_0 : FVec F S_ .f32 := constant S_ .f32 0x7F800000#32
  let main_v4 : FVec F S2x4224x16x96 .f32 := broadcastInDim S2x4224x16x96 ![] bcast_S_S2x4224x16x96 main_cst_0
  let main_v5 : IVec S2x4224x16x96 1 := cmpf .olt main_v3 main_v4
  let main_v6 : FVec F S2x4224x16x64 .f32 := Host.absf main_arg2
  let main_cst_1 : FVec F S_ .f32 := constant S_ .f32 0x7F800000#32
  let main_v7 : FVec F S2x4224x16x64 .f32 := broadcastInDim S2x4224x16x64 ![] bcast_S_S2x4224x16x64 main_cst_1
  let main_v8 : IVec S2x4224x16x64 1 := cmpf .olt main_v6 main_v7
  let main_v9 : FVec F S2x4224x16x64 .f32 := Host.absf main_arg3
  let main_cst_2 : FVec F S_ .f32 := constant S_ .f32 0x7F800000#32
  let main_v10 : FVec F S2x4224x16x64 .f32 := broadcastInDim S2x4224x16x64 ![] bcast_S_S2x4224x16x64 main_cst_2
  let main_v11 : IVec S2x4224x16x64 1 := cmpf .olt main_v9 main_v10
  (main_v2, main_v5, main_v8, main_v11)
-- ==== Pre_finite_scores.lean ====
abbrev S8448x2048 : Shape := ⟨2, ![8448, 2048]⟩
abbrev S_ : Shape := ⟨0, ![]⟩

class Facts : Prop where
  bcast_S_S8448x2048 : S_.BroadcastsInDim S8448x2048 (![] : Fin 0 → Fin S8448x2048.rank)

variable [Facts]

def fn {F : FTy → Type} [FloatOps F] (main_arg0 : FVec F S8448x2048 .f32) (main_arg1 : FVec F S8448x2048 .f32) (main_arg2 : FVec F S8448x2048 .f32) : IVec S8448x2048 1 × IVec S8448x2048 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S8448x2048 .f32 := Host.absf main_arg1
  let main_cst_0 : FVec F S_ .f32 := constant S_ .f32 0x7F800000#32
  let main_v4 : FVec F S8448x2048 .f32 := broadcastInDim S8448x2048 ![] bcast_S_S8448x2048 main_cst_0
  let main_v5 : IVec S8448x2048 1 := cmpf .olt main_v3 main_v4
  (main_v2, main_v5)
-- ==== Kernel.lean ====
abbrev S2x4224x16x96 : Shape := ⟨4, ![2, 4224, 16, 96]⟩
abbrev S2x4224x16x64 : Shape := ⟨4, ![2, 4224, 16, 64]⟩
abbrev S_ : Shape := ⟨0, ![]⟩
abbrev S2x16x4224x4224 : Shape := ⟨4, ![2, 16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S1x1x4224x4224 : Shape := ⟨4, ![1, 1, 4224, 4224]⟩
abbrev S2x16x4224 : Shape := ⟨3, ![2, 16, 4224]⟩
abbrev S2x16x4224x1 : Shape := ⟨4, ![2, 16, 4224, 1]⟩
abbrev S2x16x64x4224 : Shape := ⟨4, ![2, 16, 64, 4224]⟩
abbrev S2x4224x16 : Shape := ⟨3, ![2, 4224, 16]⟩
abbrev S2x4224x16x128 : Shape := ⟨4, ![2, 4224, 16, 128]⟩
abbrev S8448x2048 : Shape := ⟨2, ![8448, 2048]⟩
abbrev S32x11x1x384 : Shape := ⟨4, ![32, 11, 1, 384]⟩
abbrev S32x11x8x384 : Shape := ⟨4, ![32, 11, 8, 384]⟩
abbrev S4224x256 : Shape := ⟨2, ![4224, 256]⟩
abbrev S384x256 : Shape := ⟨2, ![384, 256]⟩
abbrev S2x11x8x384 : Shape := ⟨4, ![2, 11, 8, 384]⟩
abbrev S384x128 : Shape := ⟨2, ![384, 128]⟩
abbrev S768x128 : Shape := ⟨2, ![768, 128]⟩
abbrev S1x1x8x384 : Shape := ⟨4, ![1, 1, 8, 384]⟩
abbrev S8x384 : Shape := ⟨2, ![8, 384]⟩
abbrev S1x384 : Shape := ⟨2, ![1, 384]⟩
abbrev S1x768 : Shape := ⟨2, ![1, 768]⟩
abbrev S384x768 : Shape := ⟨2, ![384, 768]⟩
abbrev S384x384 : Shape := ⟨2, ![384, 384]⟩
abbrev S1536x128 : Shape := ⟨2, ![1536, 128]⟩
abbrev S1x1536 : Shape := ⟨2, ![1, 1536]⟩
abbrev S384x1536 : Shape := ⟨2, ![384, 1536]⟩

abbrev nBuf : Space → Nat
  | .hbm => 100
  | .vmem => 18
  | .smem => 0
  | _ => 0

abbrev bufTy : (tb : Table) → Fin (tcTables nBuf tb) → BufTy
  | .hbm, ⟨0, _⟩ => ⟨S2x4224x16x96, .f32⟩
  | .hbm, ⟨1, _⟩ => ⟨S2x4224x16x96, .f32⟩
  | .hbm, ⟨2, _⟩ => ⟨S2x4224x16x64, .f32⟩
  | .hbm, ⟨3, _⟩ => ⟨S2x4224x16x64, .f32⟩
  | .hbm, ⟨4, _⟩ => ⟨S_, .f32⟩
  | .hbm, ⟨5, _⟩ => ⟨S2x4224x16x96, .f32⟩
  | .hbm, ⟨6, _⟩ => ⟨S2x4224x16x96, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x16x4224x4224, .f32⟩
  | .hbm, ⟨12, _⟩ => ⟨S4224, .i32⟩
  | .hbm, ⟨13, _⟩ => ⟨S1x4224, .i32⟩
  | .hbm, ⟨14, _⟩ => ⟨S4224x1, .i32⟩
  | .hbm, ⟨15, _⟩ => ⟨S4224x4224, .i32⟩
  | .hbm, ⟨16, _⟩ => ⟨S4224x4224, .i32⟩
  | .hbm, ⟨17, _⟩ => ⟨S4224x4224, .i1⟩
  | .hbm, ⟨18, _⟩ => ⟨S1x1x4224x4224, .i1⟩
  | .hbm, ⟨19, _⟩ => ⟨S_, .f32⟩
  | .hbm, ⟨20, _⟩ => ⟨S_, .f32⟩
  | .hbm, ⟨21, _⟩ => ⟨S2x16x4224x4224, .i1⟩
  | .hbm, ⟨22, _⟩ => ⟨S2x16x4224x4224, .f32⟩
  | .hbm, ⟨23, _⟩ => ⟨S2x16x4224x4224, .f32⟩
  | .hbm, ⟨24, _⟩ => ⟨S_, .f32⟩
  | .hbm, ⟨25, _⟩ => ⟨S2x16x4224, .f32⟩
  | .hbm, ⟨26, _⟩ => ⟨S2x16x4224x1, .f32⟩
  | .hbm, ⟨27, _⟩ => ⟨S2x16x4224x4224, .f32⟩
  | .hbm, ⟨28, _⟩ => ⟨S2x16x4224x4224, .f32⟩
  | .hbm, ⟨29, _⟩ => ⟨S2x16x4224x4224, .f32⟩
  | .hbm, ⟨30, _⟩ => ⟨S_, .f32⟩
  | .hbm, ⟨31, _⟩ => ⟨S2x16x4224, .f32⟩
  | .hbm, ⟨32, _⟩ => ⟨S2x16x4224x1, .f32⟩
  | .hbm, ⟨33, _⟩ => ⟨S2x16x4224x1, .f32⟩
  | .hbm, ⟨34, _⟩ => ⟨S2x16x4224x1, .f32⟩
  | .hbm, ⟨35, _⟩ => ⟨S2x16x4224, .f32⟩
  | .hbm, ⟨36, _⟩ => ⟨S2x16x4224, .f32⟩
  | .hbm, ⟨37, _⟩ => ⟨S2x16x4224, .f32⟩
  | .hbm, ⟨38, _⟩ => ⟨S2x16x4224x4224, .f32⟩
  | .hbm, ⟨39, _⟩ => ⟨S4224, .i32⟩
  | .hbm, ⟨40, _⟩ => ⟨S1x4224, .i32⟩
  | .hbm, ⟨41, _⟩ => ⟨S4224x1, .i32⟩
  | .hbm, ⟨42, _⟩ => ⟨S4224x4224, .i32⟩
  | .hbm, ⟨43, _⟩ => ⟨S4224x4224, .i32⟩
  | .hbm, ⟨44, _⟩ => ⟨S4224x4224, .i1⟩
  | .hbm, ⟨45, _⟩ => ⟨S1x1x4224x4224, .i1⟩
  | .hbm, ⟨46, _⟩ => ⟨S_, .f32⟩
  | .hbm, ⟨47, _⟩ => ⟨S_, .f32⟩
  | .hbm, ⟨48, _⟩ => ⟨S2x16x4224x4224, .i1⟩
  | .hbm, ⟨49, _⟩ => ⟨S2x16x4224x4224, .f32⟩
  | .hbm, ⟨50, _⟩ => ⟨S2x16x4224x4224, .f32⟩
  | .hbm, ⟨51, _⟩ => ⟨S_, .f32⟩
  | .hbm, ⟨52, _⟩ => ⟨S2x16x4224, .f32⟩
  | .hbm, ⟨53, _⟩ => ⟨S_, .f32⟩
  | .hbm, ⟨54, _⟩ => ⟨S2x16x4224, .f32⟩
  | .hbm, ⟨55, _⟩ => ⟨S2x16x4224, .f32⟩
  | .hbm, ⟨56, _⟩ => ⟨S2x16x4224x1, .f32⟩
  | .hbm, ⟨57, _⟩ => ⟨S2x16x4224x4224, .f32⟩
  | .hbm, ⟨58, _⟩ => ⟨S2x16x4224x4224, .f32⟩
  | .hbm, ⟨59, _⟩ => ⟨S2x16x4224x4224, .f32⟩
  | .hbm, ⟨60, _⟩ => ⟨S_, .f32⟩
  | .hbm, ⟨61, _⟩ => ⟨S2x16x4224, .f32⟩
  | .hbm, ⟨62, _⟩ => ⟨S2x16x4224x1, .f32⟩
  | .hbm, ⟨63, _⟩ => ⟨S2x16x4224x4224, .f32⟩
  | .hbm, ⟨64, _⟩ => ⟨S2x16x4224x4224, .f32⟩
  | .hbm, ⟨65, _⟩ => ⟨S2x16x64x4224, .f32⟩
  | .hbm, ⟨66, _⟩ => ⟨S2x4224x16x64, .f32⟩
  | .hbm, ⟨67, _⟩ => ⟨S2x4224x16x64, .f32⟩
  | .hbm, ⟨68, _⟩ => ⟨S_, .f32⟩
  | .hbm, ⟨69, _⟩ => ⟨S2x4224x16, .f32⟩
  | .hbm, ⟨70, _⟩ => ⟨S2x16x4224, .f32⟩
  | .hbm, ⟨71, _⟩ => ⟨S2x4224x16x96, .f32⟩
  | .hbm, ⟨72, _⟩ => ⟨S2x4224x16x96, .f32⟩
  | .hbm, ⟨73, _⟩ => ⟨S_, .i32⟩
  | .hbm, ⟨74, _⟩ => ⟨S_, .f32⟩
  | .hbm, ⟨75, _⟩ => ⟨S2x4224x16x128, .f32⟩
  | .hbm, ⟨76, _⟩ => ⟨S8448x2048, .f32⟩
  | .hbm, ⟨77, _⟩ => ⟨S8448x2048, .bf16⟩
  | .hbm, ⟨78, _⟩ => ⟨S_, .i32⟩
  | .hbm, ⟨79, _⟩ => ⟨S_, .f32⟩
  | .hbm, ⟨80, _⟩ => ⟨S2x4224x16x128, .f32⟩
  | .hbm, ⟨81, _⟩ => ⟨S8448x2048, .f32⟩
  | .hbm, ⟨82, _⟩ => ⟨S8448x2048, .bf16⟩
  | .hbm, ⟨83, _⟩ => ⟨S_, .i32⟩
  | .hbm, ⟨84, _⟩ => ⟨S_, .f32⟩
  | .hbm, ⟨85, _⟩ => ⟨S2x4224x16x128, .f32⟩
  | .hbm, ⟨86, _⟩ => ⟨S8448x2048, .f32⟩
  | .hbm, ⟨87, _⟩ => ⟨S8448x2048, .bf16⟩
  | .hbm, ⟨88, _⟩ => ⟨S_, .i32⟩
  | .hbm, ⟨89, _⟩ => ⟨S_, .f32⟩
  | .hbm, ⟨90, _⟩ => ⟨S2x4224x16x128, .f32⟩
  | .hbm, ⟨91, _⟩ => ⟨S8448x2048, .f32⟩
  | .hbm, ⟨92, _⟩ => ⟨S8448x2048, .bf16⟩
  | .hbm, ⟨93, _⟩ => ⟨S32x11x1x384, .f32⟩
  | .hbm, ⟨94, _⟩ => ⟨S32x11x8x384, .f32⟩
  | .hbm, ⟨95, _⟩ => ⟨S32x11x1x384, .f32⟩
  | .hbm, ⟨96, _⟩ => ⟨S32x11x8x384, .f32⟩
  | .hbm, ⟨97, _⟩ => ⟨S8448x2048, .f32⟩
  | .hbm, ⟨98, _⟩ => ⟨S8448x2048, .f32⟩
  | .hbm, ⟨99, _⟩ => ⟨S8448x2048, .bf16⟩
  | .local _ .vmem, ⟨0, _⟩ => ⟨S4224x256, .bf16⟩
  | .local _ .vmem, ⟨1, _⟩ => ⟨S4224x256, .bf16⟩
  | .local _ .vmem, ⟨2, _⟩ => ⟨S384x256, .bf16⟩
  | .local _ .vmem, ⟨3, _⟩ => ⟨S384x256, .bf16⟩
  | .local _ .vmem, ⟨4, _⟩ => ⟨S384x256, .bf16⟩
  | .local _ .vmem, ⟨5, _⟩ => ⟨S384x256, .bf16⟩
  | .local _ .vmem, ⟨6, _⟩ => ⟨S4224x256, .bf16⟩
  | .local _ .vmem, ⟨7, _⟩ => ⟨S4224x256, .bf16⟩
  | .local _ .vmem, ⟨8, _⟩ => ⟨S2x11x8x384, .f32⟩
  | .local _ .vmem, ⟨9, _⟩ => ⟨S2x11x8x384, .f32⟩
  | .local _ .vmem, ⟨10, _⟩ => ⟨S2x11x8x384, .f32⟩
  | .local _ .vmem, ⟨11, _⟩ => ⟨S2x11x8x384, .f32⟩
  | .local _ .vmem, ⟨12, _⟩ => ⟨S4224x256, .f32⟩
  | .local _ .vmem, ⟨13, _⟩ => ⟨S4224x256, .f32⟩
  | .local _ .vmem, ⟨14, _⟩ => ⟨S384x256, .f32⟩
  | .local _ .vmem, ⟨15, _⟩ => ⟨S384x256, .f32⟩
  | .local _ .vmem, ⟨16, _⟩ => ⟨S384x256, .bf16⟩
  | .local _ .vmem, ⟨17, _⟩ => ⟨S384x256, .bf16⟩
  | _, _ => ⟨S2x4224x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c : Ref sig .tc := ⟨.hbm, 73, rfl⟩
abbrev main_call2_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_call3_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_call4_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_call5_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68_0 : Ref sig .tc := ⟨.hbm, 97, rfl⟩
abbrev main_v68_1 : Ref sig .tc := ⟨.hbm, 98, rfl⟩
abbrev main_v68_2 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 11], ![false, false, false]⟩

@[reducible] def k0_t1_loop (i : grid0.Coords) : Scf.Loop 32 :=
  let c0_i32_8 : BitVec 32 := 0#32
  let c10_i32 : BitVec 32 := 10#32
  let arg2 : BitVec 32 := BitVec.ofNat 32 (i 2).val
  let v12 : BitVec 32 := Scalar.subi c10_i32 arg2
  let c1_i32 : BitVec 32 := 1#32
  let v13 : BitVec 32 := Scalar.minsi v12 c1_i32
  let v17 : BitVec 32 := Scalar.subi v13 c0_i32_8
  let c1_i32_9 : BitVec 32 := 1#32
  let v19 : BitVec 32 := Scalar.divsi v17 c1_i32_9
  let v20 : BitVec 32 := Scalar.muli v19 c1_i32_9
  let v21 : BitVec 32 := Scalar.addi c0_i32_8 v20
  let c1_i32_10 : BitVec 32 := 1#32
  ⟨c0_i32_8, v21, c1_i32_10⟩
def k0_mult1 (i : grid0.Coords) : BitVec 32 :=
  let arg2 : BitVec 32 := BitVec.ofNat 32 (i 2).val
  let c384_i32 : BitVec 32 := 384#32
  let v99 : BitVec 32 := Scalar.muli arg2 c384_i32
  v99
def k0_off1 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v101 : Index := Scalar.indexCast v100
  let c0_53 : Index := 0#32
  ![v101.toNat, 0]
def k0_off2 (i : grid0.Coords) (c0_i32_55 : BitVec 32) : Fin 4 → Nat :=
  let c0_56 : Index := 0#32
  let arg2 : BitVec 32 := BitVec.ofNat 32 (i 2).val
  let v107 : BitVec 32 := Scalar.addi arg2 c0_i32_55
  let v108 : Index := Scalar.indexCast v107
  let c0_57 : Index := 0#32
  let c0_58 : Index := 0#32
  ![0, v108.toNat, 0, 0]
def k0_off3 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v155 : Index := Scalar.indexCast v100
  let c128_79 : Index := 128#32
  ![v155.toNat, 128]
def k0_off4 (i : grid0.Coords) (c0_i32_81 : BitVec 32) : Fin 4 → Nat :=
  let c1 : Index := 1#32
  let arg2 : BitVec 32 := BitVec.ofNat 32 (i 2).val
  let v161 : BitVec 32 := Scalar.addi arg2 c0_i32_81
  let v162 : Index := Scalar.indexCast v161
  let c0_82 : Index := 0#32
  let c0_83 : Index := 0#32
  ![1, v162.toNat, 0, 0]
@[reducible] def k0_t2_loop (i : grid0.Coords) : Scf.Loop 32 :=
  let c0_i32_8 : BitVec 32 := 0#32
  let c10_i32 : BitVec 32 := 10#32
  let arg2 : BitVec 32 := BitVec.ofNat 32 (i 2).val
  let v12 : BitVec 32 := Scalar.subi c10_i32 arg2
  let c1_i32 : BitVec 32 := 1#32
  let v13 : BitVec 32 := Scalar.minsi v12 c1_i32
  let v17 : BitVec 32 := Scalar.subi v13 c0_i32_8
  let c1_i32_9 : BitVec 32 := 1#32
  let v19 : BitVec 32 := Scalar.divsi v17 c1_i32_9
  let v20 : BitVec 32 := Scalar.muli v19 c1_i32_9
  let v21 : BitVec 32 := Scalar.addi c0_i32_8 v20
  let v18 : BitVec 32 := Scalar.addi c0_i32_8 v17
  let c1_i32_11 : BitVec 32 := 1#32
  ⟨v21, v18, c1_i32_11⟩
def k0_mult2 (i : grid0.Coords) : BitVec 32 :=
  let arg2 : BitVec 32 := BitVec.ofNat 32 (i 2).val
  let c384_i32 : BitVec 32 := 384#32
  let v99 : BitVec 32 := Scalar.muli arg2 c384_i32
  v99
def k0_off5 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v101 : Index := Scalar.indexCast v100
  let c0_53 : Index := 0#32
  ![v101.toNat, 0]
def k0_off6 (i : grid0.Coords) (c0_i32_55 : BitVec 32) : Fin 4 → Nat :=
  let c0_56 : Index := 0#32
  let arg2 : BitVec 32 := BitVec.ofNat 32 (i 2).val
  let v107 : BitVec 32 := Scalar.addi arg2 c0_i32_55
  let v108 : Index := Scalar.indexCast v107
  let c0_57 : Index := 0#32
  let c0_58 : Index := 0#32
  ![0, v108.toNat, 0, 0]
def k0_off7 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v155 : Index := Scalar.indexCast v100
  let c128_79 : Index := 128#32
  ![v155.toNat, 128]
def k0_off8 (i : grid0.Coords) (c0_i32_81 : BitVec 32) : Fin 4 → Nat :=
  let c1 : Index := 1#32
  let arg2 : BitVec 32 := BitVec.ofNat 32 (i 2).val
  let v161 : BitVec 32 := Scalar.addi arg2 c0_i32_81
  let v162 : Index := Scalar.indexCast v161
  let c0_82 : Index := 0#32
  let c0_83 : Index := 0#32
  ![1, v162.toNat, 0, 0]
@[reducible] def k0_t3_loop (i : grid0.Coords) : Scf.Loop 32 :=
  let c0_i32_13 : BitVec 32 := 0#32
  let c1_i32_12 : BitVec 32 := 1#32
  let c10_i32 : BitVec 32 := 10#32
  let arg2 : BitVec 32 := BitVec.ofNat 32 (i 2).val
  let v12 : BitVec 32 := Scalar.subi c10_i32 arg2
  let c1_i32 : BitVec 32 := 1#32
  let v13 : BitVec 32 := Scalar.minsi v12 c1_i32
  let v24 : BitVec 32 := Scalar.subi c1_i32_12 v13
  let v25 : BitVec 32 := Scalar.subi v24 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_15 : BitVec 32 := 1#32
  ⟨c0_i32_13, v29, c1_i32_15⟩
def k0_mult3 (i : grid0.Coords) : BitVec 32 :=
  let arg2 : BitVec 32 := BitVec.ofNat 32 (i 2).val
  let c384_i32 : BitVec 32 := 384#32
  let v99 : BitVec 32 := Scalar.muli arg2 c384_i32
  v99
def k0_off9 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v101 : Index := Scalar.indexCast v100
  let c0_53 : Index := 0#32
  ![v101.toNat, 0]
def k0_off10 (i : grid0.Coords) : Fin 4 → Nat :=
  let c0_56 : Index := 0#32
  let arg2 : BitVec 32 := BitVec.ofNat 32 (i 2).val
  let c0_i32_55 : BitVec 32 := 0#32
  let v107 : BitVec 32 := Scalar.addi arg2 c0_i32_55
  let v108 : Index := Scalar.indexCast v107
  let c0_57 : Index := 0#32
  let c0_58 : Index := 0#32
  ![0, v108.toNat, 0, 0]
def k0_off11 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v143 : Index := Scalar.indexCast v100
  let c128_71 : Index := 128#32
  ![v143.toNat, 128]
def k0_off12 (i : grid0.Coords) : Fin 4 → Nat :=
  let c1 : Index := 1#32
  let arg2 : BitVec 32 := BitVec.ofNat 32 (i 2).val
  let c0_i32_73 : BitVec 32 := 0#32
  let v149 : BitVec 32 := Scalar.addi arg2 c0_i32_73
  let v150 : Index := Scalar.indexCast v149
  let c0_74 : Index := 0#32
  let c0_75 : Index := 0#32
  ![1, v150.toNat, 0, 0]
@[reducible] def k0_t4_loop (i : grid0.Coords) : Scf.Loop 32 :=
  let c0_i32_13 : BitVec 32 := 0#32
  let c1_i32_12 : BitVec 32 := 1#32
  let c10_i32 : BitVec 32 := 10#32
  let arg2 : BitVec 32 := BitVec.ofNat 32 (i 2).val
  let v12 : BitVec 32 := Scalar.subi c10_i32 arg2
  let c1_i32 : BitVec 32 := 1#32
  let v13 : BitVec 32 := Scalar.minsi v12 c1_i32
  let v24 : BitVec 32 := Scalar.subi c1_i32_12 v13
  let v25 : BitVec 32 := Scalar.subi v24 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let v26 : BitVec 32 := Scalar.addi c0_i32_13 v25
  let c1_i32_16 : BitVec 32 := 1#32
  ⟨v29, v26, c1_i32_16⟩
def k0_mult4 (i : grid0.Coords) : BitVec 32 :=
  let arg2 : BitVec 32 := BitVec.ofNat 32 (i 2).val
  let c384_i32 : BitVec 32 := 384#32
  let v99 : BitVec 32 := Scalar.muli arg2 c384_i32
  v99
def k0_off13 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v101 : Index := Scalar.indexCast v100
  let c0_53 : Index := 0#32
  ![v101.toNat, 0]
def k0_off14 (i : grid0.Coords) : Fin 4 → Nat :=
  let c0_56 : Index := 0#32
  let arg2 : BitVec 32 := BitVec.ofNat 32 (i 2).val
  let c0_i32_55 : BitVec 32 := 0#32
  let v107 : BitVec 32 := Scalar.addi arg2 c0_i32_55
  let v108 : Index := Scalar.indexCast v107
  let c0_57 : Index := 0#32
  let c0_58 : Index := 0#32
  ![0, v108.toNat, 0, 0]
def k0_off15 (i : grid0.Coords) : Fin 2 → Nat :=
  let arg2 : BitVec 32 := BitVec.ofNat 32 (i 2).val
  let c384_i32 : BitVec 32 := 384#32
  let v99 : BitVec 32 := Scalar.muli arg2 c384_i32
  let v100 : BitVec 32 := v99
  let v143 : Index := Scalar.indexCast v100
  let c128_71 : Index := 128#32
  ![v143.toNat, 128]
def k0_off16 (i : grid0.Coords) : Fin 4 → Nat :=
  let c1 : Index := 1#32
  let arg2 : BitVec 32 := BitVec.ofNat 32 (i 2).val
  let c0_i32_73 : BitVec 32 := 0#32
  let v149 : BitVec 32 := Scalar.addi arg2 c0_i32_73
  let v150 : Index := Scalar.indexCast v149
  let c0_74 : Index := 0#32
  let c0_75 : Index := 0#32
  ![1, v150.toNat, 0, 0]
@[reducible] def k0_t5_loop (i : grid0.Coords) : Scf.Loop 32 :=
  let c0_i32_23 : BitVec 32 := 0#32
  let c11_i32 : BitVec 32 := 11#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let v16 : BitVec 32 := Scalar.subi c11_i32 v15
  let c0_i32_17 : BitVec 32 := 0#32
  let v33 : BitVec 1 := Scalar.cmpi .sgt v16 c0_i32_17
  let v34 : BitVec 32 := Scalar.extui v33
  let c0_i32_18 : BitVec 32 := 0#32
  let v35 : BitVec 1 := Scalar.cmpi .slt v16 c0_i32_18
  let v36 : BitVec 32 := Scalar.extui v35
  let v37 : BitVec 32 := Scalar.subi v34 v36
  let c4_i32 : BitVec 32 := 4#32
  let c0_i32_19 : BitVec 32 := 0#32
  let v38 : BitVec 1 := Scalar.cmpi .sgt c4_i32 c0_i32_19
  let v39 : BitVec 32 := Scalar.extui v38
  let c0_i32_20 : BitVec 32 := 0#32
  let v40 : BitVec 1 := Scalar.cmpi .slt c4_i32 c0_i32_20
  let v41 : BitVec 32 := Scalar.extui v40
  let v42 : BitVec 32 := Scalar.subi v39 v41
  let v43 : BitVec 1 := Scalar.cmpi .ne v37 v42
  let v44 : BitVec 32 := Scalar.remsi v16 c4_i32
  let c0_i32_21 : BitVec 32 := 0#32
  let v45 : BitVec 1 := Scalar.cmpi .ne v44 c0_i32_21
  let v46 : BitVec 1 := Scalar.andi v43 v45
  let v32 : BitVec 32 := Scalar.divsi v16 c4_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_25 : BitVec 32 := 1#32
  ⟨c0_i32_23, v53, c1_i32_25⟩
def k0_mult5 (i : grid0.Coords) (k0_t5 : Fin (k0_t5_loop i).trips) : BitVec 32 :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c1_i32_25 : BitVec 32 := 1#32
  let arg12 : BitVec 32 := Scf.iv c0_i32_23 c1_i32_25 k0_t5
  let v99 : BitVec 32 := Scalar.muli c4_i32_53 arg12
  let v100 : BitVec 32 := Scalar.addi v15 v99
  let c384_i32 : BitVec 32 := 384#32
  let v101 : BitVec 32 := Scalar.muli v100 c384_i32
  v101
def k0_off17 (i : grid0.Coords) (k0_t5 : Fin (k0_t5_loop i).trips) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c1_i32_25 : BitVec 32 := 1#32
  let arg12 : BitVec 32 := Scf.iv c0_i32_23 c1_i32_25 k0_t5
  let v99 : BitVec 32 := Scalar.muli c4_i32_53 arg12
  let v100 : BitVec 32 := Scalar.addi v15 v99
  let c384_i32 : BitVec 32 := 384#32
  let v101 : BitVec 32 := Scalar.muli v100 c384_i32
  let v102 : BitVec 32 := v101
  let v103 : Index := Scalar.indexCast v102
  let c0_54 : Index := 0#32
  ![v103.toNat, 0]
def k0_off18 (i : grid0.Coords) (k0_t5 : Fin (k0_t5_loop i).trips) (c0_i32_56 : BitVec 32) : Fin 4 → Nat :=
  let c0_57 : Index := 0#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c1_i32_25 : BitVec 32 := 1#32
  let arg12 : BitVec 32 := Scf.iv c0_i32_23 c1_i32_25 k0_t5
  let v99 : BitVec 32 := Scalar.muli c4_i32_53 arg12
  let v100 : BitVec 32 := Scalar.addi v15 v99
  let v109 : BitVec 32 := Scalar.addi v100 c0_i32_56
  let v110 : Index := Scalar.indexCast v109
  let c0_58 : Index := 0#32
  let c0_59 : Index := 0#32
  ![0, v110.toNat, 0, 0]
def k0_off19 (i : grid0.Coords) (k0_t5 : Fin (k0_t5_loop i).trips) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c1_i32_25 : BitVec 32 := 1#32
  let arg12 : BitVec 32 := Scf.iv c0_i32_23 c1_i32_25 k0_t5
  let v99 : BitVec 32 := Scalar.muli c4_i32_53 arg12
  let v100 : BitVec 32 := Scalar.addi v15 v99
  let c384_i32 : BitVec 32 := 384#32
  let v101 : BitVec 32 := Scalar.muli v100 c384_i32
  let v102 : BitVec 32 := v101
  let v172 : Index := Scalar.indexCast v102
  let c128_94 : Index := 128#32
  ![v172.toNat, 128]
def k0_off20 (i : grid0.Coords) (k0_t5 : Fin (k0_t5_loop i).trips) (c0_i32_96 : BitVec 32) : Fin 4 → Nat :=
  let c1 : Index := 1#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c1_i32_25 : BitVec 32 := 1#32
  let arg12 : BitVec 32 := Scf.iv c0_i32_23 c1_i32_25 k0_t5
  let v99 : BitVec 32 := Scalar.muli c4_i32_53 arg12
  let v100 : BitVec 32 := Scalar.addi v15 v99
  let v178 : BitVec 32 := Scalar.addi v100 c0_i32_96
  let v179 : Index := Scalar.indexCast v178
  let c0_97 : Index := 0#32
  let c0_98 : Index := 0#32
  ![1, v179.toNat, 0, 0]
@[reducible] def k0_t6_loop (i : grid0.Coords) : Scf.Loop 32 :=
  let c0_i32_23 : BitVec 32 := 0#32
  let c11_i32 : BitVec 32 := 11#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let v16 : BitVec 32 := Scalar.subi c11_i32 v15
  let c0_i32_17 : BitVec 32 := 0#32
  let v33 : BitVec 1 := Scalar.cmpi .sgt v16 c0_i32_17
  let v34 : BitVec 32 := Scalar.extui v33
  let c0_i32_18 : BitVec 32 := 0#32
  let v35 : BitVec 1 := Scalar.cmpi .slt v16 c0_i32_18
  let v36 : BitVec 32 := Scalar.extui v35
  let v37 : BitVec 32 := Scalar.subi v34 v36
  let c4_i32 : BitVec 32 := 4#32
  let c0_i32_19 : BitVec 32 := 0#32
  let v38 : BitVec 1 := Scalar.cmpi .sgt c4_i32 c0_i32_19
  let v39 : BitVec 32 := Scalar.extui v38
  let c0_i32_20 : BitVec 32 := 0#32
  let v40 : BitVec 1 := Scalar.cmpi .slt c4_i32 c0_i32_20
  let v41 : BitVec 32 := Scalar.extui v40
  let v42 : BitVec 32 := Scalar.subi v39 v41
  let v43 : BitVec 1 := Scalar.cmpi .ne v37 v42
  let v44 : BitVec 32 := Scalar.remsi v16 c4_i32
  let c0_i32_21 : BitVec 32 := 0#32
  let v45 : BitVec 1 := Scalar.cmpi .ne v44 c0_i32_21
  let v46 : BitVec 1 := Scalar.andi v43 v45
  let v32 : BitVec 32 := Scalar.divsi v16 c4_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let v50 : BitVec 32 := Scalar.addi c0_i32_23 v49
  let c1_i32_26 : BitVec 32 := 1#32
  ⟨v53, v50, c1_i32_26⟩
def k0_mult6 (i : grid0.Coords) (k0_t6 : Fin (k0_t6_loop i).trips) : BitVec 32 :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c11_i32 : BitVec 32 := 11#32
  let v16 : BitVec 32 := Scalar.subi c11_i32 v15
  let c0_i32_17 : BitVec 32 := 0#32
  let v33 : BitVec 1 := Scalar.cmpi .sgt v16 c0_i32_17
  let v34 : BitVec 32 := Scalar.extui v33
  let c0_i32_18 : BitVec 32 := 0#32
  let v35 : BitVec 1 := Scalar.cmpi .slt v16 c0_i32_18
  let v36 : BitVec 32 := Scalar.extui v35
  let v37 : BitVec 32 := Scalar.subi v34 v36
  let c4_i32 : BitVec 32 := 4#32
  let c0_i32_19 : BitVec 32 := 0#32
  let v38 : BitVec 1 := Scalar.cmpi .sgt c4_i32 c0_i32_19
  let v39 : BitVec 32 := Scalar.extui v38
  let c0_i32_20 : BitVec 32 := 0#32
  let v40 : BitVec 1 := Scalar.cmpi .slt c4_i32 c0_i32_20
  let v41 : BitVec 32 := Scalar.extui v40
  let v42 : BitVec 32 := Scalar.subi v39 v41
  let v43 : BitVec 1 := Scalar.cmpi .ne v37 v42
  let v44 : BitVec 32 := Scalar.remsi v16 c4_i32
  let c0_i32_21 : BitVec 32 := 0#32
  let v45 : BitVec 1 := Scalar.cmpi .ne v44 c0_i32_21
  let v46 : BitVec 1 := Scalar.andi v43 v45
  let v32 : BitVec 32 := Scalar.divsi v16 c4_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg12 : BitVec 32 := Scf.iv v53 c1_i32_26 k0_t6
  let v99 : BitVec 32 := Scalar.muli c4_i32_53 arg12
  let v100 : BitVec 32 := Scalar.addi v15 v99
  let c384_i32 : BitVec 32 := 384#32
  let v101 : BitVec 32 := Scalar.muli v100 c384_i32
  v101
def k0_off21 (i : grid0.Coords) (k0_t6 : Fin (k0_t6_loop i).trips) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c11_i32 : BitVec 32 := 11#32
  let v16 : BitVec 32 := Scalar.subi c11_i32 v15
  let c0_i32_17 : BitVec 32 := 0#32
  let v33 : BitVec 1 := Scalar.cmpi .sgt v16 c0_i32_17
  let v34 : BitVec 32 := Scalar.extui v33
  let c0_i32_18 : BitVec 32 := 0#32
  let v35 : BitVec 1 := Scalar.cmpi .slt v16 c0_i32_18
  let v36 : BitVec 32 := Scalar.extui v35
  let v37 : BitVec 32 := Scalar.subi v34 v36
  let c4_i32 : BitVec 32 := 4#32
  let c0_i32_19 : BitVec 32 := 0#32
  let v38 : BitVec 1 := Scalar.cmpi .sgt c4_i32 c0_i32_19
  let v39 : BitVec 32 := Scalar.extui v38
  let c0_i32_20 : BitVec 32 := 0#32
  let v40 : BitVec 1 := Scalar.cmpi .slt c4_i32 c0_i32_20
  let v41 : BitVec 32 := Scalar.extui v40
  let v42 : BitVec 32 := Scalar.subi v39 v41
  let v43 : BitVec 1 := Scalar.cmpi .ne v37 v42
  let v44 : BitVec 32 := Scalar.remsi v16 c4_i32
  let c0_i32_21 : BitVec 32 := 0#32
  let v45 : BitVec 1 := Scalar.cmpi .ne v44 c0_i32_21
  let v46 : BitVec 1 := Scalar.andi v43 v45
  let v32 : BitVec 32 := Scalar.divsi v16 c4_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg12 : BitVec 32 := Scf.iv v53 c1_i32_26 k0_t6
  let v99 : BitVec 32 := Scalar.muli c4_i32_53 arg12
  let v100 : BitVec 32 := Scalar.addi v15 v99
  let c384_i32 : BitVec 32 := 384#32
  let v101 : BitVec 32 := Scalar.muli v100 c384_i32
  let v102 : BitVec 32 := v101
  let v103 : Index := Scalar.indexCast v102
  let c0_54 : Index := 0#32
  ![v103.toNat, 0]
def k0_off22 (i : grid0.Coords) (k0_t6 : Fin (k0_t6_loop i).trips) (c0_i32_56 : BitVec 32) : Fin 4 → Nat :=
  let c0_57 : Index := 0#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c11_i32 : BitVec 32 := 11#32
  let v16 : BitVec 32 := Scalar.subi c11_i32 v15
  let c0_i32_17 : BitVec 32 := 0#32
  let v33 : BitVec 1 := Scalar.cmpi .sgt v16 c0_i32_17
  let v34 : BitVec 32 := Scalar.extui v33
  let c0_i32_18 : BitVec 32 := 0#32
  let v35 : BitVec 1 := Scalar.cmpi .slt v16 c0_i32_18
  let v36 : BitVec 32 := Scalar.extui v35
  let v37 : BitVec 32 := Scalar.subi v34 v36
  let c4_i32 : BitVec 32 := 4#32
  let c0_i32_19 : BitVec 32 := 0#32
  let v38 : BitVec 1 := Scalar.cmpi .sgt c4_i32 c0_i32_19
  let v39 : BitVec 32 := Scalar.extui v38
  let c0_i32_20 : BitVec 32 := 0#32
  let v40 : BitVec 1 := Scalar.cmpi .slt c4_i32 c0_i32_20
  let v41 : BitVec 32 := Scalar.extui v40
  let v42 : BitVec 32 := Scalar.subi v39 v41
  let v43 : BitVec 1 := Scalar.cmpi .ne v37 v42
  let v44 : BitVec 32 := Scalar.remsi v16 c4_i32
  let c0_i32_21 : BitVec 32 := 0#32
  let v45 : BitVec 1 := Scalar.cmpi .ne v44 c0_i32_21
  let v46 : BitVec 1 := Scalar.andi v43 v45
  let v32 : BitVec 32 := Scalar.divsi v16 c4_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg12 : BitVec 32 := Scf.iv v53 c1_i32_26 k0_t6
  let v99 : BitVec 32 := Scalar.muli c4_i32_53 arg12
  let v100 : BitVec 32 := Scalar.addi v15 v99
  let v109 : BitVec 32 := Scalar.addi v100 c0_i32_56
  let v110 : Index := Scalar.indexCast v109
  let c0_58 : Index := 0#32
  let c0_59 : Index := 0#32
  ![0, v110.toNat, 0, 0]
def k0_off23 (i : grid0.Coords) (k0_t6 : Fin (k0_t6_loop i).trips) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c11_i32 : BitVec 32 := 11#32
  let v16 : BitVec 32 := Scalar.subi c11_i32 v15
  let c0_i32_17 : BitVec 32 := 0#32
  let v33 : BitVec 1 := Scalar.cmpi .sgt v16 c0_i32_17
  let v34 : BitVec 32 := Scalar.extui v33
  let c0_i32_18 : BitVec 32 := 0#32
  let v35 : BitVec 1 := Scalar.cmpi .slt v16 c0_i32_18
  let v36 : BitVec 32 := Scalar.extui v35
  let v37 : BitVec 32 := Scalar.subi v34 v36
  let c4_i32 : BitVec 32 := 4#32
  let c0_i32_19 : BitVec 32 := 0#32
  let v38 : BitVec 1 := Scalar.cmpi .sgt c4_i32 c0_i32_19
  let v39 : BitVec 32 := Scalar.extui v38
  let c0_i32_20 : BitVec 32 := 0#32
  let v40 : BitVec 1 := Scalar.cmpi .slt c4_i32 c0_i32_20
  let v41 : BitVec 32 := Scalar.extui v40
  let v42 : BitVec 32 := Scalar.subi v39 v41
  let v43 : BitVec 1 := Scalar.cmpi .ne v37 v42
  let v44 : BitVec 32 := Scalar.remsi v16 c4_i32
  let c0_i32_21 : BitVec 32 := 0#32
  let v45 : BitVec 1 := Scalar.cmpi .ne v44 c0_i32_21
  let v46 : BitVec 1 := Scalar.andi v43 v45
  let v32 : BitVec 32 := Scalar.divsi v16 c4_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg12 : BitVec 32 := Scf.iv v53 c1_i32_26 k0_t6
  let v99 : BitVec 32 := Scalar.muli c4_i32_53 arg12
  let v100 : BitVec 32 := Scalar.addi v15 v99
  let c384_i32 : BitVec 32 := 384#32
  let v101 : BitVec 32 := Scalar.muli v100 c384_i32
  let v102 : BitVec 32 := v101
  let v172 : Index := Scalar.indexCast v102
  let c128_94 : Index := 128#32
  ![v172.toNat, 128]
def k0_off24 (i : grid0.Coords) (k0_t6 : Fin (k0_t6_loop i).trips) (c0_i32_96 : BitVec 32) : Fin 4 → Nat :=
  let c1 : Index := 1#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_53 : BitVec 32 := 4#32
  let c0_i32_23 : BitVec 32 := 0#32
  let c11_i32 : BitVec 32 := 11#32
  let v16 : BitVec 32 := Scalar.subi c11_i32 v15
  let c0_i32_17 : BitVec 32 := 0#32
  let v33 : BitVec 1 := Scalar.cmpi .sgt v16 c0_i32_17
  let v34 : BitVec 32 := Scalar.extui v33
  let c0_i32_18 : BitVec 32 := 0#32
  let v35 : BitVec 1 := Scalar.cmpi .slt v16 c0_i32_18
  let v36 : BitVec 32 := Scalar.extui v35
  let v37 : BitVec 32 := Scalar.subi v34 v36
  let c4_i32 : BitVec 32 := 4#32
  let c0_i32_19 : BitVec 32 := 0#32
  let v38 : BitVec 1 := Scalar.cmpi .sgt c4_i32 c0_i32_19
  let v39 : BitVec 32 := Scalar.extui v38
  let c0_i32_20 : BitVec 32 := 0#32
  let v40 : BitVec 1 := Scalar.cmpi .slt c4_i32 c0_i32_20
  let v41 : BitVec 32 := Scalar.extui v40
  let v42 : BitVec 32 := Scalar.subi v39 v41
  let v43 : BitVec 1 := Scalar.cmpi .ne v37 v42
  let v44 : BitVec 32 := Scalar.remsi v16 c4_i32
  let c0_i32_21 : BitVec 32 := 0#32
  let v45 : BitVec 1 := Scalar.cmpi .ne v44 c0_i32_21
  let v46 : BitVec 1 := Scalar.andi v43 v45
  let v32 : BitVec 32 := Scalar.divsi v16 c4_i32
  let c1_i32_22 : BitVec 32 := 1#32
  let v47 : BitVec 32 := Scalar.subi v32 c1_i32_22
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg12 : BitVec 32 := Scf.iv v53 c1_i32_26 k0_t6
  let v99 : BitVec 32 := Scalar.muli c4_i32_53 arg12
  let v100 : BitVec 32 := Scalar.addi v15 v99
  let v178 : BitVec 32 := Scalar.addi v100 c0_i32_96
  let v179 : Index := Scalar.indexCast v178
  let c0_97 : Index := 0#32
  let c0_98 : Index := 0#32
  ![1, v179.toNat, 0, 0]
@[reducible] def k0_t7_loop (i : grid0.Coords) : Scf.Loop 32 :=
  let c0_i32_34 : BitVec 32 := 0#32
  let c11_i32 : BitVec 32 := 11#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let v16 : BitVec 32 := Scalar.subi c11_i32 v15
  let c4_i32_27 : BitVec 32 := 4#32
  let v56 : BitVec 32 := Scalar.remsi v16 c4_i32_27
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c2_i32 : BitVec 32 := 2#32
  let c0_i32_30 : BitVec 32 := 0#32
  let v63 : BitVec 1 := Scalar.cmpi .sgt c2_i32 c0_i32_30
  let v64 : BitVec 32 := Scalar.extui v63
  let c0_i32_31 : BitVec 32 := 0#32
  let v65 : BitVec 1 := Scalar.cmpi .slt c2_i32 c0_i32_31
  let v66 : BitVec 32 := Scalar.extui v65
  let v67 : BitVec 32 := Scalar.subi v64 v66
  let v68 : BitVec 1 := Scalar.cmpi .ne v62 v67
  let v69 : BitVec 32 := Scalar.remsi v56 c2_i32
  let c0_i32_32 : BitVec 32 := 0#32
  let v70 : BitVec 1 := Scalar.cmpi .ne v69 c0_i32_32
  let v71 : BitVec 1 := Scalar.andi v68 v70
  let v57 : BitVec 32 := Scalar.divsi v56 c2_i32
  let c1_i32_33 : BitVec 32 := 1#32
  let v72 : BitVec 32 := Scalar.subi v57 c1_i32_33
  let v73 : BitVec 32 := Scalar.select v71 v72 v57
  let v74 : BitVec 32 := Scalar.subi v73 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_36 : BitVec 32 := 1#32
  ⟨c0_i32_34, v78, c1_i32_36⟩
def k0_mult7 (i : grid0.Coords) : BitVec 32 :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let c384_i32 : BitVec 32 := 384#32
  let v118 : BitVec 32 := Scalar.muli v117 c384_i32
  v118
def k0_off25 (i : grid0.Coords) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let c384_i32 : BitVec 32 := 384#32
  let v118 : BitVec 32 := Scalar.muli v117 c384_i32
  let v119 : BitVec 32 := v118
  let v120 : Index := Scalar.indexCast v119
  let c0_61 : Index := 0#32
  ![v120.toNat, 0]
def k0_off26 (i : grid0.Coords) (c0_i32_63 : BitVec 32) : Fin 4 → Nat :=
  let c0_64 : Index := 0#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let v126 : BitVec 32 := Scalar.addi v117 c0_i32_63
  let v127 : Index := Scalar.indexCast v126
  let c0_65 : Index := 0#32
  let c0_66 : Index := 0#32
  ![0, v127.toNat, 0, 0]
def k0_off27 (i : grid0.Coords) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let c384_i32 : BitVec 32 := 384#32
  let v118 : BitVec 32 := Scalar.muli v117 c384_i32
  let v119 : BitVec 32 := v118
  let v169 : Index := Scalar.indexCast v119
  let c128_86 : Index := 128#32
  ![v169.toNat, 128]
def k0_off28 (i : grid0.Coords) (c0_i32_88 : BitVec 32) : Fin 4 → Nat :=
  let c1 : Index := 1#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let v175 : BitVec 32 := Scalar.addi v117 c0_i32_88
  let v176 : Index := Scalar.indexCast v175
  let c0_89 : Index := 0#32
  let c0_90 : Index := 0#32
  ![1, v176.toNat, 0, 0]
@[reducible] def k0_t8_loop (i : grid0.Coords) : Scf.Loop 32 :=
  let c0_i32_34 : BitVec 32 := 0#32
  let c11_i32 : BitVec 32 := 11#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let v16 : BitVec 32 := Scalar.subi c11_i32 v15
  let c4_i32_27 : BitVec 32 := 4#32
  let v56 : BitVec 32 := Scalar.remsi v16 c4_i32_27
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c2_i32 : BitVec 32 := 2#32
  let c0_i32_30 : BitVec 32 := 0#32
  let v63 : BitVec 1 := Scalar.cmpi .sgt c2_i32 c0_i32_30
  let v64 : BitVec 32 := Scalar.extui v63
  let c0_i32_31 : BitVec 32 := 0#32
  let v65 : BitVec 1 := Scalar.cmpi .slt c2_i32 c0_i32_31
  let v66 : BitVec 32 := Scalar.extui v65
  let v67 : BitVec 32 := Scalar.subi v64 v66
  let v68 : BitVec 1 := Scalar.cmpi .ne v62 v67
  let v69 : BitVec 32 := Scalar.remsi v56 c2_i32
  let c0_i32_32 : BitVec 32 := 0#32
  let v70 : BitVec 1 := Scalar.cmpi .ne v69 c0_i32_32
  let v71 : BitVec 1 := Scalar.andi v68 v70
  let v57 : BitVec 32 := Scalar.divsi v56 c2_i32
  let c1_i32_33 : BitVec 32 := 1#32
  let v72 : BitVec 32 := Scalar.subi v57 c1_i32_33
  let v73 : BitVec 32 := Scalar.select v71 v72 v57
  let v74 : BitVec 32 := Scalar.subi v73 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let v75 : BitVec 32 := Scalar.addi c0_i32_34 v74
  let c1_i32_37 : BitVec 32 := 1#32
  ⟨v78, v75, c1_i32_37⟩
def k0_mult8 (i : grid0.Coords) : BitVec 32 :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let c384_i32 : BitVec 32 := 384#32
  let v118 : BitVec 32 := Scalar.muli v117 c384_i32
  v118
def k0_off29 (i : grid0.Coords) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let c384_i32 : BitVec 32 := 384#32
  let v118 : BitVec 32 := Scalar.muli v117 c384_i32
  let v119 : BitVec 32 := v118
  let v120 : Index := Scalar.indexCast v119
  let c0_61 : Index := 0#32
  ![v120.toNat, 0]
def k0_off30 (i : grid0.Coords) (c0_i32_63 : BitVec 32) : Fin 4 → Nat :=
  let c0_64 : Index := 0#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let v126 : BitVec 32 := Scalar.addi v117 c0_i32_63
  let v127 : Index := Scalar.indexCast v126
  let c0_65 : Index := 0#32
  let c0_66 : Index := 0#32
  ![0, v127.toNat, 0, 0]
def k0_off31 (i : grid0.Coords) : Fin 2 → Nat :=
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let c384_i32 : BitVec 32 := 384#32
  let v118 : BitVec 32 := Scalar.muli v117 c384_i32
  let v119 : BitVec 32 := v118
  let v169 : Index := Scalar.indexCast v119
  let c128_86 : Index := 128#32
  ![v169.toNat, 128]
def k0_off32 (i : grid0.Coords) (c0_i32_88 : BitVec 32) : Fin 4 → Nat :=
  let c1 : Index := 1#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let c4_i32_60 : BitVec 32 := 4#32
  let c11_i32 : BitVec 32 := 11#32
  let v16 : BitVec 32 := Scalar.subi c11_i32 v15
  let c0_i32_54 : BitVec 32 := 0#32
  let v100 : BitVec 1 := Scalar.cmpi .sgt v16 c0_i32_54
  let v101 : BitVec 32 := Scalar.extui v100
  let c0_i32_55 : BitVec 32 := 0#32
  let v102 : BitVec 1 := Scalar.cmpi .slt v16 c0_i32_55
  let v103 : BitVec 32 := Scalar.extui v102
  let v104 : BitVec 32 := Scalar.subi v101 v103
  let c4_i32_53 : BitVec 32 := 4#32
  let c0_i32_56 : BitVec 32 := 0#32
  let v105 : BitVec 1 := Scalar.cmpi .sgt c4_i32_53 c0_i32_56
  let v106 : BitVec 32 := Scalar.extui v105
  let c0_i32_57 : BitVec 32 := 0#32
  let v107 : BitVec 1 := Scalar.cmpi .slt c4_i32_53 c0_i32_57
  let v108 : BitVec 32 := Scalar.extui v107
  let v109 : BitVec 32 := Scalar.subi v106 v108
  let v110 : BitVec 1 := Scalar.cmpi .ne v104 v109
  let v111 : BitVec 32 := Scalar.remsi v16 c4_i32_53
  let c0_i32_58 : BitVec 32 := 0#32
  let v112 : BitVec 1 := Scalar.cmpi .ne v111 c0_i32_58
  let v113 : BitVec 1 := Scalar.andi v110 v112
  let v99 : BitVec 32 := Scalar.divsi v16 c4_i32_53
  let c1_i32_59 : BitVec 32 := 1#32
  let v114 : BitVec 32 := Scalar.subi v99 c1_i32_59
  let v115 : BitVec 32 := Scalar.select v113 v114 v99
  let v116 : BitVec 32 := Scalar.muli c4_i32_60 v115
  let v117 : BitVec 32 := Scalar.addi v15 v116
  let v175 : BitVec 32 := Scalar.addi v117 c0_i32_88
  let v176 : Index := Scalar.indexCast v175
  let c0_89 : Index := 0#32
  let c0_90 : Index := 0#32
  ![1, v176.toNat, 0, 0]
@[reducible] def k0_t9_loop (i : grid0.Coords) : Scf.Loop 32 :=
  let c0_i32_39 : BitVec 32 := 0#32
  let c11_i32 : BitVec 32 := 11#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let v16 : BitVec 32 := Scalar.subi c11_i32 v15
  let c2_i32_38 : BitVec 32 := 2#32
  let v81 : BitVec 32 := Scalar.remsi v16 c2_i32_38
  let v82 : BitVec 32 := Scalar.subi v81 c0_i32_39
  let c1_i32_40 : BitVec 32 := 1#32
  let v84 : BitVec 32 := Scalar.divsi v82 c1_i32_40
  let v85 : BitVec 32 := Scalar.muli v84 c1_i32_40
  let v86 : BitVec 32 := Scalar.addi c0_i32_39 v85
  let c1_i32_41 : BitVec 32 := 1#32
  ⟨c0_i32_39, v86, c1_i32_41⟩
def k0_mult9 : BitVec 32 :=
  let c3840_i32 : BitVec 32 := 3840#32
  c3840_i32
@[reducible] def k0_t10_loop (i : grid0.Coords) : Scf.Loop 32 :=
  let c0_i32_39 : BitVec 32 := 0#32
  let c11_i32 : BitVec 32 := 11#32
  let arg2 : BitVec 32 := BitVec.ofNat 32 (i 2).val
  let c1_i32_7 : BitVec 32 := 1#32
  let v14 : BitVec 32 := Scalar.addi arg2 c1_i32_7
  let c10_i32 : BitVec 32 := 10#32
  let v12 : BitVec 32 := Scalar.subi c10_i32 arg2
  let c1_i32 : BitVec 32 := 1#32
  let v13 : BitVec 32 := Scalar.minsi v12 c1_i32
  let v15 : BitVec 32 := Scalar.addi v14 v13
  let v16 : BitVec 32 := Scalar.subi c11_i32 v15
  let c2_i32_38 : BitVec 32 := 2#32
  let v81 : BitVec 32 := Scalar.remsi v16 c2_i32_38
  let v82 : BitVec 32 := Scalar.subi v81 c0_i32_39
  let c1_i32_40 : BitVec 32 := 1#32
  let v84 : BitVec 32 := Scalar.divsi v82 c1_i32_40
  let v85 : BitVec 32 := Scalar.muli v84 c1_i32_40
  let v86 : BitVec 32 := Scalar.addi c0_i32_39 v85
  let v83 : BitVec 32 := Scalar.addi c0_i32_39 v82
  let c1_i32_42 : BitVec 32 := 1#32
  ⟨v86, v83, c1_i32_42⟩
def k0_mult10 : BitVec 32 :=
  let c3840_i32 : BitVec 32 := 3840#32
  c3840_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4224x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x11x8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x11x8x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4224x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S2x4224x16x96 : Shape := ⟨4, ![2, 4224, 16, 96]⟩
abbrev S2x4224x16x64 : Shape := ⟨4, ![2, 4224, 16, 64]⟩
abbrev S_ : Shape := ⟨0, ![]⟩
abbrev S2x16x4224x4224 : Shape := ⟨4, ![2, 16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S1x1x4224x4224 : Shape := ⟨4, ![1, 1, 4224, 4224]⟩
abbrev S2x16x4224 : Shape := ⟨3, ![2, 16, 4224]⟩
abbrev S2x16x4224x1 : Shape := ⟨4, ![2, 16, 4224, 1]⟩
abbrev S2x16x64x4224 : Shape := ⟨4, ![2, 16, 64, 4224]⟩
abbrev S2x16x4224x96 : Shape := ⟨4, ![2, 16, 4224, 96]⟩
abbrev S2x4224x16x128 : Shape := ⟨4, ![2, 4224, 16, 128]⟩
abbrev S8448x2048 : Shape := ⟨2, ![8448, 2048]⟩

abbrev nBuf : Space → Nat
  | .hbm => 100
  | .vmem => 0
  | .smem => 0
  | _ => 0

abbrev bufTy : (tb : Table) → Fin (tcTables nBuf tb) → BufTy
  | .hbm, ⟨0, _⟩ => ⟨S2x4224x16x96, .f32⟩
  | .hbm, ⟨1, _⟩ => ⟨S2x4224x16x96, .f32⟩
  | .hbm, ⟨2, _⟩ => ⟨S2x4224x16x64, .f32⟩
  | .hbm, ⟨3, _⟩ => ⟨S2x4224x16x64, .f32⟩
  | .hbm, ⟨4, _⟩ => ⟨S_, .f32⟩
  | .hbm, ⟨5, _⟩ => ⟨S2x4224x16x96, .f32⟩
  | .hbm, ⟨6, _⟩ => ⟨S2x4224x16x96, .f32⟩
  | .hbm, ⟨7, _⟩ => ⟨S2x16x4224x4224, .f32⟩
  | .hbm, ⟨8, _⟩ => ⟨S4224, .i32⟩
  | .hbm, ⟨9, _⟩ => ⟨S1x4224, .i32⟩
  | .hbm, ⟨10, _⟩ => ⟨S4224x1, .i32⟩
  | .hbm, ⟨11, _⟩ => ⟨S4224x4224, .i32⟩
  | .hbm, ⟨12, _⟩ => ⟨S4224x4224, .i32⟩
  | .hbm, ⟨13, _⟩ => ⟨S4224x4224, .i1⟩
  | .hbm, ⟨14, _⟩ => ⟨S1x1x4224x4224, .i1⟩
  | .hbm, ⟨15, _⟩ => ⟨S_, .f32⟩
  | .hbm, ⟨16, _⟩ => ⟨S_, .f32⟩
  | .hbm, ⟨17, _⟩ => ⟨S2x16x4224x4224, .i1⟩
  | .hbm, ⟨18, _⟩ => ⟨S2x16x4224x4224, .f32⟩
  | .hbm, ⟨19, _⟩ => ⟨S2x16x4224x4224, .f32⟩
  | .hbm, ⟨20, _⟩ => ⟨S_, .f32⟩
  | .hbm, ⟨21, _⟩ => ⟨S2x16x4224x4224, .f32⟩
  | .hbm, ⟨22, _⟩ => ⟨S_, .f32⟩
  | .hbm, ⟨23, _⟩ => ⟨S2x16x4224, .f32⟩
  | .hbm, ⟨24, _⟩ => ⟨S2x16x4224x1, .f32⟩
  | .hbm, ⟨25, _⟩ => ⟨S2x16x4224x4224, .f32⟩
  | .hbm, ⟨26, _⟩ => ⟨S2x16x4224x4224, .i1⟩
  | .hbm, ⟨27, _⟩ => ⟨S2x16x4224x4224, .f32⟩
  | .hbm, ⟨28, _⟩ => ⟨S_, .f32⟩
  | .hbm, ⟨29, _⟩ => ⟨S2x16x4224, .f32⟩
  | .hbm, ⟨30, _⟩ => ⟨S_, .f32⟩
  | .hbm, ⟨31, _⟩ => ⟨S2x16x4224, .f32⟩
  | .hbm, ⟨32, _⟩ => ⟨S2x16x4224, .f32⟩
  | .hbm, ⟨33, _⟩ => ⟨S_, .f32⟩
  | .hbm, ⟨34, _⟩ => ⟨S2x16x4224, .f32⟩
  | .hbm, ⟨35, _⟩ => ⟨S2x16x4224, .i1⟩
  | .hbm, ⟨36, _⟩ => ⟨S_, .f32⟩
  | .hbm, ⟨37, _⟩ => ⟨S2x16x4224, .f32⟩
  | .hbm, ⟨38, _⟩ => ⟨S2x16x4224, .i1⟩
  | .hbm, ⟨39, _⟩ => ⟨S_, .f32⟩
  | .hbm, ⟨40, _⟩ => ⟨S2x16x4224, .f32⟩
  | .hbm, ⟨41, _⟩ => ⟨S_, .f32⟩
  | .hbm, ⟨42, _⟩ => ⟨S2x16x4224, .f32⟩
  | .hbm, ⟨43, _⟩ => ⟨S_, .f32⟩
  | .hbm, ⟨44, _⟩ => ⟨S2x16x4224, .f32⟩
  | .hbm, ⟨45, _⟩ => ⟨S2x16x4224, .f32⟩
  | .hbm, ⟨46, _⟩ => ⟨S2x16x4224, .f32⟩
  | .hbm, ⟨47, _⟩ => ⟨S2x16x4224x1, .f32⟩
  | .hbm, ⟨48, _⟩ => ⟨S2x16x4224x4224, .f32⟩
  | .hbm, ⟨49, _⟩ => ⟨S2x16x4224x4224, .f32⟩
  | .hbm, ⟨50, _⟩ => ⟨S2x16x4224x4224, .f32⟩
  | .hbm, ⟨51, _⟩ => ⟨S_, .f32⟩
  | .hbm, ⟨52, _⟩ => ⟨S2x16x4224, .f32⟩
  | .hbm, ⟨53, _⟩ => ⟨S2x16x4224x1, .f32⟩
  | .hbm, ⟨54, _⟩ => ⟨S2x16x4224x4224, .f32⟩
  | .hbm, ⟨55, _⟩ => ⟨S2x16x4224x4224, .f32⟩
  | .hbm, ⟨56, _⟩ => ⟨S2x16x4224x1, .f32⟩
  | .hbm, ⟨57, _⟩ => ⟨S_, .f32⟩
  | .hbm, ⟨58, _⟩ => ⟨S2x16x4224x1, .f32⟩
  | .hbm, ⟨59, _⟩ => ⟨S2x16x4224x1, .f32⟩
  | .hbm, ⟨60, _⟩ => ⟨S2x16x64x4224, .f32⟩
  | .hbm, ⟨61, _⟩ => ⟨S2x4224x16x64, .f32⟩
  | .hbm, ⟨62, _⟩ => ⟨S2x16x64x4224, .f32⟩
  | .hbm, ⟨63, _⟩ => ⟨S2x16x4224x4224, .f32⟩
  | .hbm, ⟨64, _⟩ => ⟨S2x16x64x4224, .f32⟩
  | .hbm, ⟨65, _⟩ => ⟨S2x4224x16x64, .f32⟩
  | .hbm, ⟨66, _⟩ => ⟨S2x16x4224x4224, .f32⟩
  | .hbm, ⟨67, _⟩ => ⟨S2x16x4224x4224, .f32⟩
  | .hbm, ⟨68, _⟩ => ⟨S2x16x4224x4224, .f32⟩
  | .hbm, ⟨69, _⟩ => ⟨S_, .f32⟩
  | .hbm, ⟨70, _⟩ => ⟨S2x16x4224, .f32⟩
  | .hbm, ⟨71, _⟩ => ⟨S2x16x4224x1, .f32⟩
  | .hbm, ⟨72, _⟩ => ⟨S2x16x4224x1, .f32⟩
  | .hbm, ⟨73, _⟩ => ⟨S2x16x4224x4224, .f32⟩
  | .hbm, ⟨74, _⟩ => ⟨S2x16x4224x4224, .f32⟩
  | .hbm, ⟨75, _⟩ => ⟨S_, .f32⟩
  | .hbm, ⟨76, _⟩ => ⟨S2x16x4224, .f32⟩
  | .hbm, ⟨77, _⟩ => ⟨S2x16x4224x4224, .f32⟩
  | .hbm, ⟨78, _⟩ => ⟨S2x16x4224x4224, .f32⟩
  | .hbm, ⟨79, _⟩ => ⟨S2x16x4224x4224, .f32⟩
  | .hbm, ⟨80, _⟩ => ⟨S_, .f32⟩
  | .hbm, ⟨81, _⟩ => ⟨S2x16x4224x4224, .f32⟩
  | .hbm, ⟨82, _⟩ => ⟨S2x16x4224x4224, .f32⟩
  | .hbm, ⟨83, _⟩ => ⟨S2x16x4224x96, .f32⟩
  | .hbm, ⟨84, _⟩ => ⟨S2x4224x16x96, .f32⟩
  | .hbm, ⟨85, _⟩ => ⟨S2x16x4224x96, .f32⟩
  | .hbm, ⟨86, _⟩ => ⟨S2x4224x16x96, .f32⟩
  | .hbm, ⟨87, _⟩ => ⟨S_, .i32⟩
  | .hbm, ⟨88, _⟩ => ⟨S_, .f32⟩
  | .hbm, ⟨89, _⟩ => ⟨S2x4224x16x128, .f32⟩
  | .hbm, ⟨90, _⟩ => ⟨S8448x2048, .f32⟩
  | .hbm, ⟨91, _⟩ => ⟨S_, .i32⟩
  | .hbm, ⟨92, _⟩ => ⟨S_, .f32⟩
  | .hbm, ⟨93, _⟩ => ⟨S2x4224x16x128, .f32⟩
  | .hbm, ⟨94, _⟩ => ⟨S8448x2048, .f32⟩
  | .hbm, ⟨95, _⟩ => ⟨S_, .i32⟩
  | .hbm, ⟨96, _⟩ => ⟨S_, .f32⟩
  | .hbm, ⟨97, _⟩ => ⟨S2x4224x16x128, .f32⟩
  | .hbm, ⟨98, _⟩ => ⟨S8448x2048, .f32⟩
  | .hbm, ⟨99, _⟩ => ⟨S8448x2048, .bf16⟩
  | _, _ => ⟨S2x4224x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_call3_v0 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_call4_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Kernel2.lean ====
abbrev S8448x2816 : Shape := ⟨2, ![8448, 2816]⟩
abbrev S2816x1024 : Shape := ⟨2, ![2816, 1024]⟩
abbrev S8448x1024 : Shape := ⟨2, ![8448, 1024]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S2816x1024, .bf16⟩
  | .hbm, ⟨4, _⟩ => ⟨S8448x2816, .f32⟩
  | .local _ .vmem, ⟨0, _⟩ => ⟨S768x1024, .f32⟩
  | .local _ .vmem, ⟨1, _⟩ => ⟨S768x1024, .f32⟩
  | .local _ .vmem, ⟨2, _⟩ => ⟨S1408x1024, .bf16⟩
  | .local _ .vmem, ⟨3, _⟩ => ⟨S1408x1024, .bf16⟩
  | .local _ .vmem, ⟨4, _⟩ => ⟨S768x1408, .f32⟩
  | .local _ .vmem, ⟨5, _⟩ => ⟨S768x1408, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x2816 : Shape := ⟨2, ![8448, 2816]⟩
abbrev S2816x1024 : Shape := ⟨2, ![2816, 1024]⟩
abbrev S8448x1024 : Shape := ⟨2, ![8448, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8448x2816 : Shape := ⟨2, ![8448, 2816]⟩
abbrev S2816x1024 : Shape := ⟨2, ![2816, 1024]⟩
abbrev S8448x1024 : Shape := ⟨2, ![8448, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x2816, .bf16⟩
  | .hbm, ⟨4, _⟩ => ⟨S2816x1024, .f32⟩
  | .local _ .vmem, ⟨0, _⟩ => ⟨S768x1408, .bf16⟩
  | .local _ .vmem, ⟨1, _⟩ => ⟨S768x1408, .bf16⟩
  | .local _ .vmem, ⟨2, _⟩ => ⟨S768x1024, .f32⟩
  | .local _ .vmem, ⟨3, _⟩ => ⟨S768x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x2816 : Shape := ⟨2, ![8448, 2816]⟩
abbrev S2816x1024 : Shape := ⟨2, ![2816, 1024]⟩
abbrev S8448x1024 : Shape := ⟨2, ![8448, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8448x1024 : Shape := ⟨2, ![8448, 1024]⟩
abbrev S1024x2816 : Shape := ⟨2, ![1024, 2816]⟩
abbrev S8448x2816 : Shape := ⟨2, ![8448, 2816]⟩
abbrev S1024x8448 : Shape := ⟨2, ![1024, 8448]⟩
abbrev S512x2816 : Shape := ⟨2, ![512, 2816]⟩
abbrev S2816x1408 : Shape := ⟨2, ![2816, 1408]⟩
abbrev S512x1408 : Shape := ⟨2, ![512, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S8448x2816, .f32⟩
  | .hbm, ⟨3, _⟩ => ⟨S1024x8448, .f32⟩
  | .hbm, ⟨4, _⟩ => ⟨S1024x8448, .bf16⟩
  | .hbm, ⟨5, _⟩ => ⟨S8448x2816, .bf16⟩
  | .hbm, ⟨6, _⟩ => ⟨S1024x2816, .f32⟩
  | .local _ .vmem, ⟨0, _⟩ => ⟨S512x2816, .bf16⟩
  | .local _ .vmem, ⟨1, _⟩ => ⟨S512x2816, .bf16⟩
  | .local _ .vmem, ⟨2, _⟩ => ⟨S2816x1408, .bf16⟩
  | .local _ .vmem, ⟨3, _⟩ => ⟨S2816x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S1024x2816 : Shape := ⟨2, ![1024, 2816]⟩
abbrev S8448x2816 : Shape := ⟨2, ![8448, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2816, .f32⟩
  | .hbm, ⟨2, _⟩ => ⟨S8448x2816, .f32⟩
  | .hbm, ⟨3, _⟩ => ⟨S8448x2816, .f32⟩
  | .hbm, ⟨4, _⟩ => ⟨S2816x1024, .f32⟩
  | .hbm, ⟨5, _⟩ => ⟨S1024x2816, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8448x1024 : Shape := ⟨2, ![8448, 1024]⟩
abbrev S1024x5632 : Shape := ⟨2, ![1024, 5632]⟩
abbrev S8448x2816 : Shape := ⟨2, ![8448, 2816]⟩
abbrev S768x2816 : Shape := ⟨2, ![768, 2816]⟩
abbrev S1024x2816 : Shape := ⟨2, ![1024, 2816]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x2816, .f32⟩
  | .hbm, ⟨3, _⟩ => ⟨S8448x2816, .bf16⟩
  | .hbm, ⟨4, _⟩ => ⟨S1024x5632, .bf16⟩
  | .hbm, ⟨5, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S1024x2816, .bf16⟩
  | .local _ .vmem, ⟨3, _⟩ => ⟨S768x1024, .f32⟩
  | .local _ .vmem, ⟨4, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S1024x5632 : Shape := ⟨2, ![1024, 5632]⟩
abbrev S8448x2816 : Shape := ⟨2, ![8448, 2816]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x2816, .f32⟩
  | .hbm, ⟨3, _⟩ => ⟨S1024x2816, .f32⟩
  | .hbm, ⟨4, _⟩ => ⟨S8448x2816, .f32⟩
  | .hbm, ⟨5, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8448x1024 : Shape := ⟨2, ![8448, 1024]⟩
abbrev S1024x5632 : Shape := ⟨2, ![1024, 5632]⟩
abbrev S8448x2816 : Shape := ⟨2, ![8448, 2816]⟩
abbrev S768x2816 : Shape := ⟨2, ![768, 2816]⟩
abbrev S1024x2816 : Shape := ⟨2, ![1024, 2816]⟩
abbrev S768x1024 : Shape := ⟨2, ![768, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x2816, .f32⟩
  | .hbm, ⟨3, _⟩ => ⟨S8448x1024, .f32⟩
  | .hbm, ⟨4, _⟩ => ⟨S8448x2816, .bf16⟩
  | .hbm, ⟨5, _⟩ => ⟨S1024x5632, .bf16⟩
  | .hbm, ⟨6, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S1024x2816, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8448x1024 : Shape := ⟨2, ![8448, 1024]⟩
abbrev S1024x5632 : Shape := ⟨2, ![1024, 5632]⟩
abbrev S8448x2816 : Shape := ⟨2, ![8448, 2816]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x2816, .f32⟩
  | .hbm, ⟨3, _⟩ => ⟨S8448x1024, .f32⟩
  | .hbm, ⟨4, _⟩ => ⟨S1024x2816, .f32⟩
  | .hbm, ⟨5, _⟩ => ⟨S8448x2816, .f32⟩
  | .hbm, ⟨6, _⟩ => ⟨S8448x1024, .f32⟩
  | .hbm, ⟨7, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S1024x2816 : Shape := ⟨2, ![1024, 2816]⟩
abbrev S768x2816 : Shape := ⟨2, ![768, 2816]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x1024, .bf16⟩
  | .hbm, ⟨3, _⟩ => ⟨S1024x5632, .bf16⟩
  | .hbm, ⟨4, _⟩ => ⟨S8448x5632, .bf16⟩
  | .local _ .vmem, ⟨0, _⟩ => ⟨S768x1024, .bf16⟩
  | .local _ .vmem, ⟨1, _⟩ => ⟨S768x1024, .bf16⟩
  | .local _ .vmem, ⟨2, _⟩ => ⟨S1024x2816, .bf16⟩
  | .local _ .vmem, ⟨3, _⟩ => ⟨S1024x2816, .bf16⟩
  | .local _ .vmem, ⟨4, _⟩ => ⟨S768x2816, .bf16⟩
  | .local _ .vmem, ⟨5, _⟩ => ⟨S768x2816, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x5632, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8448x1024 : Shape := ⟨2, ![8448, 1024]⟩
abbrev S8448x2816 : Shape := ⟨2, ![8448, 2816]⟩
abbrev S2816x1024 : Shape := ⟨2, ![2816, 1024]⟩
abbrev S768x2816 : Shape := ⟨2, ![768, 2816]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S2816x1024, .f32⟩
  | .hbm, ⟨3, _⟩ => ⟨S8448x2816, .bf16⟩
  | .hbm, ⟨4, _⟩ => ⟨S2816x1024, .bf16⟩
  | .hbm, ⟨5, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8448x1024 : Shape := ⟨2, ![8448, 1024]⟩
abbrev S8448x2816 : Shape := ⟨2, ![8448, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S2816x1024, .f32⟩
  | .hbm, ⟨3, _⟩ => ⟨S8448x1024, .f32⟩
  | .hbm, ⟨4, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8448x1024 : Shape := ⟨2, ![8448, 1024]⟩
abbrev S1024x2560 : Shape := ⟨2, ![1024, 2560]⟩
abbrev S8448x2560 : Shape := ⟨2, ![8448, 2560]⟩
abbrev S1408x1024 : Shape := ⟨2, ![1408, 1024]⟩
abbrev S1024x1280 : Shape := ⟨2, ![1024, 1280]⟩
abbrev S1408x1280 : Shape := ⟨2, ![1408, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x2560, .f32⟩
  | .hbm, ⟨2, _⟩ => ⟨S8448x1024, .bf16⟩
  | .hbm, ⟨3, _⟩ => ⟨S1024x2560, .bf16⟩
  | .hbm, ⟨4, _⟩ => ⟨S8448x2560, .f32⟩
  | .local _ .vmem, ⟨0, _⟩ => ⟨S1408x1024, .bf16⟩
  | .local _ .vmem, ⟨1, _⟩ => ⟨S1408x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1408x1280, .f32⟩
  | .local _ .vmem, ⟨5, _⟩ => ⟨S1408x1280, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x1024 : Shape := ⟨2, ![8448, 1024]⟩
abbrev S1024x2560 : Shape := ⟨2, ![1024, 2560]⟩
abbrev S8448x2560 : Shape := ⟨2, ![8448, 2560]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2560, .f32⟩
  | .hbm, ⟨2, _⟩ => ⟨S8448x2560, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8448x1024 : Shape := ⟨2, ![8448, 1024]⟩
abbrev S8448x512 : Shape := ⟨2, ![8448, 512]⟩
abbrev S512x1024 : Shape := ⟨2, ![512, 1024]⟩
abbrev S1408x512 : Shape := ⟨2, ![1408, 512]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S512x1024, .f32⟩
  | .hbm, ⟨3, _⟩ => ⟨S8448x512, .bf16⟩
  | .hbm, ⟨4, _⟩ => ⟨S512x1024, .bf16⟩
  | .hbm, ⟨5, _⟩ => ⟨S8448x1024, .f32⟩
  | .local _ .vmem, ⟨0, _⟩ => ⟨S1408x512, .bf16⟩
  | .local _ .vmem, ⟨1, _⟩ => ⟨S1408x512, .bf16⟩
  | .local _ .vmem, ⟨2, _⟩ => ⟨S512x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8448x1024 : Shape := ⟨2, ![8448, 1024]⟩
abbrev S8448x512 : Shape := ⟨2, ![8448, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S512x1024, .f32⟩
  | .hbm, ⟨3, _⟩ => ⟨S8448x1024, .f32⟩
  | .hbm, ⟨4, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S1024x1024, .bf16⟩
  | .hbm, ⟨4, _⟩ => ⟨S8448x1024, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8448x512 : Shape := ⟨2, ![8448, 512]⟩
abbrev S512x1024 : Shape := ⟨2, ![512, 1024]⟩
abbrev S8448x1024 : Shape := ⟨2, ![8448, 1024]⟩
abbrev S1408x512 : Shape := ⟨2, ![1408, 512]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x512, .bf16⟩
  | .hbm, ⟨4, _⟩ => ⟨S512x1024, .f32⟩
  | .local _ .vmem, ⟨0, _⟩ => ⟨S1408x512, .bf16⟩
  | .local _ .vmem, ⟨1, _⟩ => ⟨S1408x512, .bf16⟩
  | .local _ .vmem, ⟨2, _⟩ => ⟨S1408x1024, .f32⟩
  | .local _ .vmem, ⟨3, _⟩ => ⟨S1408x1024, .f32⟩
  | .local _ .vmem, ⟨4, _⟩ => ⟨S512x1024, .f32⟩
  | .local _ .vmem, ⟨5, _⟩ => ⟨S512x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8448x512 : Shape := ⟨2, ![8448, 512]⟩
abbrev S512x1024 : Shape := ⟨2, ![512, 1024]⟩
abbrev S8448x1024 : Shape := ⟨2, ![8448, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x1024, .f32⟩
  | .hbm, ⟨4, _⟩ => ⟨S1024x512, .f32⟩
  | .hbm, ⟨5, _⟩ => ⟨S512x1024, .f32⟩
  | .hbm, ⟨6, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8448x1024 : Shape := ⟨2, ![8448, 1024]⟩
abbrev S1024x2560 : Shape := ⟨2, ![1024, 2560]⟩
abbrev S8448x2560 : Shape := ⟨2, ![8448, 2560]⟩
abbrev S768x1024 : Shape := ⟨2, ![768, 1024]⟩
abbrev S768x1280 : Shape := ⟨2, ![768, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x2560, .f32⟩
  | .hbm, ⟨2, _⟩ => ⟨S8448x2560, .f32⟩
  | .hbm, ⟨3, _⟩ => ⟨S8448x1024, .bf16⟩
  | .hbm, ⟨4, _⟩ => ⟨S1024x2560, .f32⟩
  | .local _ .vmem, ⟨0, _⟩ => ⟨S768x1024, .bf16⟩
  | .local _ .vmem, ⟨1, _⟩ => ⟨S768x1024, .bf16⟩
  | .local _ .vmem, ⟨2, _⟩ => ⟨S768x1280, .f32⟩
  | .local _ .vmem, ⟨3, _⟩ => ⟨S768x1280, .f32⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond3 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x1024 : Shape := ⟨2, ![8448, 1024]⟩
abbrev S1024x2560 : Shape := ⟨2, ![1024, 2560]⟩
abbrev S8448x2560 : Shape := ⟨2, ![8448, 2560]⟩
abbrev S2560x1024 : Shape := ⟨2, ![2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2560, .f32⟩
  | .hbm, ⟨2, _⟩ => ⟨S8448x2560, .f32⟩
  | .hbm, ⟨3, _⟩ => ⟨S8448x2560, .f32⟩
  | .hbm, ⟨4, _⟩ => ⟨S2560x1024, .f32⟩
  | .hbm, ⟨5, _⟩ => ⟨S1024x2560, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8448x1024 : Shape := ⟨2, ![8448, 1024]⟩
abbrev S1024x2560 : Shape := ⟨2, ![1024, 2560]⟩
abbrev S8448x2560 : Shape := ⟨2, ![8448, 2560]⟩
abbrev S768x2560 : Shape := ⟨2, ![768, 2560]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x2560, .f32⟩
  | .hbm, ⟨2, _⟩ => ⟨S8448x2560, .f32⟩
  | .hbm, ⟨3, _⟩ => ⟨S1024x2560, .bf16⟩
  | .hbm, ⟨4, _⟩ => ⟨S8448x1024, .f32⟩
  | .local _ .vmem, ⟨0, _⟩ => ⟨S768x2560, .f32⟩
  | .local _ .vmem, ⟨1, _⟩ => ⟨S768x2560, .f32⟩
  | .local _ .vmem, ⟨2, _⟩ => ⟨S1024x2560, .bf16⟩
  | .local _ .vmem, ⟨3, _⟩ => ⟨S768x1024, .f32⟩
  | .local _ .vmem, ⟨4, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8448x1024 : Shape := ⟨2, ![8448, 1024]⟩
abbrev S1024x2560 : Shape := ⟨2, ![1024, 2560]⟩
abbrev S8448x2560 : Shape := ⟨2, ![8448, 2560]⟩
abbrev S2560x1024 : Shape := ⟨2, ![2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x2560, .f32⟩
  | .hbm, ⟨2, _⟩ => ⟨S8448x2560, .f32⟩
  | .hbm, ⟨3, _⟩ => ⟨S8448x2560, .f32⟩
  | .hbm, ⟨4, _⟩ => ⟨S2560x1024, .f32⟩
  | .hbm, ⟨5, _⟩ => ⟨S1024x2560, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8448x1024 : Shape := ⟨2, ![8448, 1024]⟩
abbrev S1024x768 : Shape := ⟨2, ![1024, 768]⟩
abbrev S8448x768 : Shape := ⟨2, ![8448, 768]⟩
abbrev S1408x1024 : Shape := ⟨2, ![1408, 1024]⟩
abbrev S1408x768 : Shape := ⟨2, ![1408, 768]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x768, .f32⟩
  | .hbm, ⟨2, _⟩ => ⟨S8448x1024, .bf16⟩
  | .hbm, ⟨3, _⟩ => ⟨S1024x768, .bf16⟩
  | .hbm, ⟨4, _⟩ => ⟨S8448x768, .f32⟩
  | .local _ .vmem, ⟨0, _⟩ => ⟨S1408x1024, .bf16⟩
  | .local _ .vmem, ⟨1, _⟩ => ⟨S1408x1024, .bf16⟩
  | .local _ .vmem, ⟨2, _⟩ => ⟨S1024x768, .bf16⟩
  | .local _ .vmem, ⟨3, _⟩ => ⟨S1408x768, .f32⟩
  | .local _ .vmem, ⟨4, _⟩ => ⟨S1408x768, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8448x1024 : Shape := ⟨2, ![8448, 1024]⟩
abbrev S1024x768 : Shape := ⟨2, ![1024, 768]⟩
abbrev S8448x768 : Shape := ⟨2, ![8448, 768]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x768, .f32⟩
  | .hbm, ⟨2, _⟩ => ⟨S8448x768, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8448x1024 : Shape := ⟨2, ![8448, 1024]⟩
abbrev S1024x768 : Shape := ⟨2, ![1024, 768]⟩
abbrev S8448x768 : Shape := ⟨2, ![8448, 768]⟩
abbrev S1408x1024 : Shape := ⟨2, ![1408, 1024]⟩
abbrev S1408x768 : Shape := ⟨2, ![1408, 768]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x768, .f32⟩
  | .hbm, ⟨2, _⟩ => ⟨S8448x768, .f32⟩
  | .hbm, ⟨3, _⟩ => ⟨S8448x1024, .bf16⟩
  | .hbm, ⟨4, _⟩ => ⟨S1024x768, .f32⟩
  | .local _ .vmem, ⟨0, _⟩ => ⟨S1408x1024, .bf16⟩
  | .local _ .vmem, ⟨1, _⟩ => ⟨S1408x1024, .bf16⟩
  | .local _ .vmem, ⟨2, _⟩ => ⟨S1408x768, .f32⟩
  | .local _ .vmem, ⟨3, _⟩ => ⟨S1408x768, .f32⟩
  | .local _ .vmem, ⟨4, _⟩ => ⟨S1024x768, .f32⟩
  | .local _ .vmem, ⟨5, _⟩ => ⟨S1024x768, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8448x1024 : Shape := ⟨2, ![8448, 1024]⟩
abbrev S1024x768 : Shape := ⟨2, ![1024, 768]⟩
abbrev S8448x768 : Shape := ⟨2, ![8448, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x768, .f32⟩
  | .hbm, ⟨2, _⟩ => ⟨S8448x768, .f32⟩
  | .hbm, ⟨3, _⟩ => ⟨S8448x768, .f32⟩
  | .hbm, ⟨4, _⟩ => ⟨S768x1024, .f32⟩
  | .hbm, ⟨5, _⟩ => ⟨S1024x768, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8448x1024 : Shape := ⟨2, ![8448, 1024]⟩
abbrev S1024x768 : Shape := ⟨2, ![1024, 768]⟩
abbrev S8448x768 : Shape := ⟨2, ![8448, 768]⟩
abbrev S1408x768 : Shape := ⟨2, ![1408, 768]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x768, .f32⟩
  | .hbm, ⟨2, _⟩ => ⟨S8448x768, .f32⟩
  | .hbm, ⟨3, _⟩ => ⟨S1024x768, .bf16⟩
  | .hbm, ⟨4, _⟩ => ⟨S8448x1024, .f32⟩
  | .local _ .vmem, ⟨0, _⟩ => ⟨S1408x768, .f32⟩
  | .local _ .vmem, ⟨1, _⟩ => ⟨S1408x768, .f32⟩
  | .local _ .vmem, ⟨2, _⟩ => ⟨S1024x768, .bf16⟩
  | .local _ .vmem, ⟨3, _⟩ => ⟨S1408x1024, .f32⟩
  | .local _ .vmem, ⟨4, _⟩ => ⟨S1408x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8448x1024 : Shape := ⟨2, ![8448, 1024]⟩
abbrev S1024x768 : Shape := ⟨2, ![1024, 768]⟩
abbrev S8448x768 : Shape := ⟨2, ![8448, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x768, .f32⟩
  | .hbm, ⟨2, _⟩ => ⟨S8448x768, .f32⟩
  | .hbm, ⟨3, _⟩ => ⟨S8448x768, .f32⟩
  | .hbm, ⟨4, _⟩ => ⟨S768x1024, .f32⟩
  | .hbm, ⟨5, _⟩ => ⟨S1024x768, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8448x384 : Shape := ⟨2, ![8448, 384]⟩
abbrev S384x2048 : Shape := ⟨2, ![384, 2048]⟩
abbrev S8448x2048 : Shape := ⟨2, ![8448, 2048]⟩
abbrev S1408x384 : Shape := ⟨2, ![1408, 384]⟩
abbrev S384x1024 : Shape := ⟨2, ![384, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x384, .bf16⟩
  | .hbm, ⟨3, _⟩ => ⟨S384x2048, .bf16⟩
  | .hbm, ⟨4, _⟩ => ⟨S8448x2048, .f32⟩
  | .local _ .vmem, ⟨0, _⟩ => ⟨S1408x384, .bf16⟩
  | .local _ .vmem, ⟨1, _⟩ => ⟨S1408x384, .bf16⟩
  | .local _ .vmem, ⟨2, _⟩ => ⟨S384x1024, .bf16⟩
  | .local _ .vmem, ⟨3, _⟩ => ⟨S384x1024, .bf16⟩
  | .local _ .vmem, ⟨4, _⟩ => ⟨S1408x1024, .f32⟩
  | .local _ .vmem, ⟨5, _⟩ => ⟨S1408x1024, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8448x384 : Shape := ⟨2, ![8448, 384]⟩
abbrev S384x2048 : Shape := ⟨2, ![384, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x2048, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel19.lean ====
abbrev S8448x384 : Shape := ⟨2, ![8448, 384]⟩
abbrev S384x2048 : Shape := ⟨2, ![384, 2048]⟩
abbrev S8448x2048 : Shape := ⟨2, ![8448, 2048]⟩
abbrev S1408x384 : Shape := ⟨2, ![1408, 384]⟩
abbrev S1408x2048 : Shape := ⟨2, ![1408, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x2048, .f32⟩
  | .hbm, ⟨3, _⟩ => ⟨S8448x384, .bf16⟩
  | .hbm, ⟨4, _⟩ => ⟨S8448x2048, .bf16⟩
  | .hbm, ⟨5, _⟩ => ⟨S384x2048, .f32⟩
  | .local _ .vmem, ⟨0, _⟩ => ⟨S1408x384, .bf16⟩
  | .local _ .vmem, ⟨1, _⟩ => ⟨S1408x384, .bf16⟩
  | .local _ .vmem, ⟨2, _⟩ => ⟨S1408x2048, .bf16⟩
  | .local _ .vmem, ⟨3, _⟩ => ⟨S1408x2048, .bf16⟩
  | .local _ .vmem, ⟨4, _⟩ => ⟨S384x2048, .f32⟩
  | .local _ .vmem, ⟨5, _⟩ => ⟨S384x2048, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8448x384 : Shape := ⟨2, ![8448, 384]⟩
abbrev S384x2048 : Shape := ⟨2, ![384, 2048]⟩
abbrev S8448x2048 : Shape := ⟨2, ![8448, 2048]⟩
abbrev S2048x384 : Shape := ⟨2, ![2048, 384]⟩

abbrev nBuf : Space → Nat
  | .hbm => 7
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x2048, .f32⟩
  | .hbm, ⟨3, _⟩ => ⟨S8448x2048, .f32⟩
  | .hbm, ⟨4, _⟩ => ⟨S2048x384, .f32⟩
  | .hbm, ⟨5, _⟩ => ⟨S384x2048, .f32⟩
  | .hbm, ⟨6, _⟩ => ⟨S8448x384, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8448x384 : Shape := ⟨2, ![8448, 384]⟩
abbrev S384x2048 : Shape := ⟨2, ![384, 2048]⟩
abbrev S8448x2048 : Shape := ⟨2, ![8448, 2048]⟩
abbrev S2816x2048 : Shape := ⟨2, ![2816, 2048]⟩
abbrev S2816x384 : Shape := ⟨2, ![2816, 384]⟩

abbrev nBuf : Space → Nat
  | .hbm => 6
  | .vmem => 5
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x2048, .f32⟩
  | .hbm, ⟨3, _⟩ => ⟨S8448x2048, .bf16⟩
  | .hbm, ⟨4, _⟩ => ⟨S384x2048, .bf16⟩
  | .hbm, ⟨5, _⟩ => ⟨S8448x384, .f32⟩
  | .local _ .vmem, ⟨0, _⟩ => ⟨S2816x2048, .bf16⟩
  | .local _ .vmem, ⟨1, _⟩ => ⟨S2816x2048, .bf16⟩
  | .local _ .vmem, ⟨2, _⟩ => ⟨S384x2048, .bf16⟩
  | .local _ .vmem, ⟨3, _⟩ => ⟨S2816x384, .f32⟩
  | .local _ .vmem, ⟨4, _⟩ => ⟨S2816x384, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2816x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8448x384 : Shape := ⟨2, ![8448, 384]⟩
abbrev S384x2048 : Shape := ⟨2, ![384, 2048]⟩
abbrev S8448x2048 : Shape := ⟨2, ![8448, 2048]⟩
abbrev S2048x384 : Shape := ⟨2, ![2048, 384]⟩

abbrev nBuf : Space → Nat
  | .hbm => 7
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x2048, .f32⟩
  | .hbm, ⟨2, _⟩ => ⟨S8448x2048, .f32⟩
  | .hbm, ⟨3, _⟩ => ⟨S8448x2048, .f32⟩
  | .hbm, ⟨4, _⟩ => ⟨S2048x384, .f32⟩
  | .hbm, ⟨5, _⟩ => ⟨S384x2048, .f32⟩
  | .hbm, ⟨6, _⟩ => ⟨S8448x384, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S8448x256 : Shape := ⟨2, ![8448, 256]⟩
abbrev S256x2048 : Shape := ⟨2, ![256, 2048]⟩
abbrev S8448x2048 : Shape := ⟨2, ![8448, 2048]⟩
abbrev S1408x256 : Shape := ⟨2, ![1408, 256]⟩
abbrev S1408x2048 : Shape := ⟨2, ![1408, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x256, .bf16⟩
  | .hbm, ⟨3, _⟩ => ⟨S256x2048, .bf16⟩
  | .hbm, ⟨4, _⟩ => ⟨S8448x2048, .f32⟩
  | .local _ .vmem, ⟨0, _⟩ => ⟨S1408x256, .bf16⟩
  | .local _ .vmem, ⟨1, _⟩ => ⟨S1408x256, .bf16⟩
  | .local _ .vmem, ⟨2, _⟩ => ⟨S256x2048, .bf16⟩
  | .local _ .vmem, ⟨3, _⟩ => ⟨S1408x2048, .f32⟩
  | .local _ .vmem, ⟨4, _⟩ => ⟨S1408x2048, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8448x256 : Shape := ⟨2, ![8448, 256]⟩
abbrev S256x2048 : Shape := ⟨2, ![256, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8448x256 : Shape := ⟨2, ![8448, 256]⟩
abbrev S256x2048 : Shape := ⟨2, ![256, 2048]⟩
abbrev S8448x2048 : Shape := ⟨2, ![8448, 2048]⟩
abbrev S1408x256 : Shape := ⟨2, ![1408, 256]⟩
abbrev S1408x2048 : Shape := ⟨2, ![1408, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x256, .bf16⟩
  | .hbm, ⟨4, _⟩ => ⟨S256x2048, .f32⟩
  | .local _ .vmem, ⟨0, _⟩ => ⟨S1408x256, .bf16⟩
  | .local _ .vmem, ⟨1, _⟩ => ⟨S1408x256, .bf16⟩
  | .local _ .vmem, ⟨2, _⟩ => ⟨S1408x2048, .f32⟩
  | .local _ .vmem, ⟨3, _⟩ => ⟨S1408x2048, .f32⟩
  | .local _ .vmem, ⟨4, _⟩ => ⟨S256x2048, .f32⟩
  | .local _ .vmem, ⟨5, _⟩ => ⟨S256x2048, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8448x256 : Shape := ⟨2, ![8448, 256]⟩
abbrev S256x2048 : Shape := ⟨2, ![256, 2048]⟩
abbrev S8448x2048 : Shape := ⟨2, ![8448, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .f32⟩
  | .hbm, ⟨4, _⟩ => ⟨S2048x256, .f32⟩
  | .hbm, ⟨5, _⟩ => ⟨S256x2048, .f32⟩
  | .hbm, ⟨6, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S8448x256 : Shape := ⟨2, ![8448, 256]⟩
abbrev S256x2048 : Shape := ⟨2, ![256, 2048]⟩
abbrev S8448x2048 : Shape := ⟨2, ![8448, 2048]⟩
abbrev S4224x512 : Shape := ⟨2, ![4224, 512]⟩
abbrev S256x512 : Shape := ⟨2, ![256, 512]⟩
abbrev S4224x256 : Shape := ⟨2, ![4224, 256]⟩

abbrev nBuf : Space → Nat
  | .hbm => 5
  | .vmem => 7
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S256x2048, .bf16⟩
  | .hbm, ⟨4, _⟩ => ⟨S8448x256, .f32⟩
  | .local _ .vmem, ⟨0, _⟩ => ⟨S4224x512, .f32⟩
  | .local _ .vmem, ⟨1, _⟩ => ⟨S4224x512, .f32⟩
  | .local _ .vmem, ⟨2, _⟩ => ⟨S256x512, .bf16⟩
  | .local _ .vmem, ⟨3, _⟩ => ⟨S256x512, .bf16⟩
  | .local _ .vmem, ⟨4, _⟩ => ⟨S4224x256, .f32⟩
  | .local _ .vmem, ⟨5, _⟩ => ⟨S4224x256, .f32⟩
  | .local _ .vmem, ⟨6, _⟩ => ⟨S4224x256, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4224x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8448x256 : Shape := ⟨2, ![8448, 256]⟩
abbrev S256x2048 : Shape := ⟨2, ![256, 2048]⟩
abbrev S8448x2048 : Shape := ⟨2, ![8448, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .f32⟩
  | .hbm, ⟨4, _⟩ => ⟨S2048x256, .f32⟩
  | .hbm, ⟨5, _⟩ => ⟨S256x2048, .f32⟩
  | .hbm, ⟨6, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S8448x256 : Shape := ⟨2, ![8448, 256]⟩
abbrev S256x2048 : Shape := ⟨2, ![256, 2048]⟩
abbrev S8448x2048 : Shape := ⟨2, ![8448, 2048]⟩
abbrev S1408x256 : Shape := ⟨2, ![1408, 256]⟩
abbrev S1408x2048 : Shape := ⟨2, ![1408, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x256, .bf16⟩
  | .hbm, ⟨3, _⟩ => ⟨S256x2048, .bf16⟩
  | .hbm, ⟨4, _⟩ => ⟨S8448x2048, .bf16⟩
  | .local _ .vmem, ⟨0, _⟩ => ⟨S1408x256, .bf16⟩
  | .local _ .vmem, ⟨1, _⟩ => ⟨S1408x256, .bf16⟩
  | .local _ .vmem, ⟨2, _⟩ => ⟨S256x2048, .bf16⟩
  | .local _ .vmem, ⟨3, _⟩ => ⟨S1408x2048, .bf16⟩
  | .local _ .vmem, ⟨4, _⟩ => ⟨S1408x2048, .bf16⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8448x256 : Shape := ⟨2, ![8448, 256]⟩
abbrev S256x2048 : Shape := ⟨2, ![256, 2048]⟩
abbrev S8448x2048 : Shape := ⟨2, ![8448, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .bf16⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S8448x256 : Shape := ⟨2, ![8448, 256]⟩
abbrev S256x2048 : Shape := ⟨2, ![256, 2048]⟩
abbrev S8448x2048 : Shape := ⟨2, ![8448, 2048]⟩
abbrev S2816x256 : Shape := ⟨2, ![2816, 256]⟩
abbrev S2816x2048 : Shape := ⟨2, ![2816, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x256, .bf16⟩
  | .hbm, ⟨4, _⟩ => ⟨S8448x2048, .bf16⟩
  | .hbm, ⟨5, _⟩ => ⟨S256x2048, .f32⟩
  | .local _ .vmem, ⟨0, _⟩ => ⟨S2816x256, .bf16⟩
  | .local _ .vmem, ⟨1, _⟩ => ⟨S2816x256, .bf16⟩
  | .local _ .vmem, ⟨2, _⟩ => ⟨S2816x2048, .bf16⟩
  | .local _ .vmem, ⟨3, _⟩ => ⟨S2816x2048, .bf16⟩
  | .local _ .vmem, ⟨4, _⟩ => ⟨S256x2048, .f32⟩
  | .local _ .vmem, ⟨5, _⟩ => ⟨S256x2048, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S8448x256 : Shape := ⟨2, ![8448, 256]⟩
abbrev S256x2048 : Shape := ⟨2, ![256, 2048]⟩
abbrev S8448x2048 : Shape := ⟨2, ![8448, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x2048, .f32⟩
  | .hbm, ⟨4, _⟩ => ⟨S2048x256, .f32⟩
  | .hbm, ⟨5, _⟩ => ⟨S256x2048, .f32⟩
  | .hbm, ⟨6, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S8448x256 : Shape := ⟨2, ![8448, 256]⟩
abbrev S256x2048 : Shape := ⟨2, ![256, 2048]⟩
abbrev S8448x2048 : Shape := ⟨2, ![8448, 2048]⟩
abbrev S2816x2048 : Shape := ⟨2, ![2816, 2048]⟩
abbrev S2816x256 : Shape := ⟨2, ![2816, 256]⟩

abbrev nBuf : Space → Nat
  | .hbm => 7
  | .vmem => 7
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x256, .f32⟩
  | .hbm, ⟨4, _⟩ => ⟨S8448x2048, .bf16⟩
  | .hbm, ⟨5, _⟩ => ⟨S256x2048, .bf16⟩
  | .hbm, ⟨6, _⟩ => ⟨S8448x256, .f32⟩
  | .local _ .vmem, ⟨0, _⟩ => ⟨S2816x2048, .bf16⟩
  | .local _ .vmem, ⟨1, _⟩ => ⟨S2816x2048, .bf16⟩
  | .local _ .vmem, ⟨2, _⟩ => ⟨S256x2048, .bf16⟩
  | .local _ .vmem, ⟨3, _⟩ => ⟨S2816x256, .f32⟩
  | .local _ .vmem, ⟨4, _⟩ => ⟨S2816x256, .f32⟩
  | .local _ .vmem, ⟨5, _⟩ => ⟨S2816x256, .f32⟩
  | .local _ .vmem, ⟨6, _⟩ => ⟨S2816x256, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2816x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2816x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S8448x256 : Shape := ⟨2, ![8448, 256]⟩
abbrev S256x2048 : Shape := ⟨2, ![256, 2048]⟩
abbrev S8448x2048 : Shape := ⟨2, ![8448, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x2048, .f32⟩
  | .hbm, ⟨2, _⟩ => ⟨S8448x2048, .f32⟩
  | .hbm, ⟨3, _⟩ => ⟨S8448x256, .f32⟩
  | .hbm, ⟨4, _⟩ => ⟨S8448x2048, .f32⟩
  | .hbm, ⟨5, _⟩ => ⟨S2048x256, .f32⟩
  | .hbm, ⟨6, _⟩ => ⟨S256x2048, .f32⟩
  | .hbm, ⟨7, _⟩ => ⟨S8448x256, .f32⟩
  | .hbm, ⟨8, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel27.lean ====
abbrev S8448x1024 : Shape := ⟨2, ![8448, 1024]⟩
abbrev S8448x2048 : Shape := ⟨2, ![8448, 2048]⟩
abbrev S2048x1024 : Shape := ⟨2, ![2048, 1024]⟩
abbrev S768x2048 : Shape := ⟨2, ![768, 2048]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S2048x1024, .f32⟩
  | .hbm, ⟨3, _⟩ => ⟨S8448x2048, .bf16⟩
  | .hbm, ⟨4, _⟩ => ⟨S2048x1024, .bf16⟩
  | .hbm, ⟨5, _⟩ => ⟨S8448x1024, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference27Ideal.lean ====
abbrev S8448x1024 : Shape := ⟨2, ![8448, 1024]⟩
abbrev S8448x2048 : Shape := ⟨2, ![8448, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S2048x1024, .f32⟩
  | .hbm, ⟨3, _⟩ => ⟨S8448x1024, .f32⟩
  | .hbm, ⟨4, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel28.lean ====
abbrev S8448x2048 : Shape := ⟨2, ![8448, 2048]⟩
abbrev S2048x1024 : Shape := ⟨2, ![2048, 1024]⟩
abbrev S8448x1024 : Shape := ⟨2, ![8448, 1024]⟩
abbrev S768x1024 : Shape := ⟨2, ![768, 1024]⟩
abbrev S768x2048 : Shape := ⟨2, ![768, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x1024, .f32⟩
  | .hbm, ⟨2, _⟩ => ⟨S8448x1024, .f32⟩
  | .hbm, ⟨3, _⟩ => ⟨S2048x1024, .bf16⟩
  | .hbm, ⟨4, _⟩ => ⟨S8448x2048, .bf16⟩
  | .local _ .vmem, ⟨0, _⟩ => ⟨S768x1024, .f32⟩
  | .local _ .vmem, ⟨1, _⟩ => ⟨S768x1024, .f32⟩
  | .local _ .vmem, ⟨2, _⟩ => ⟨S2048x1024, .bf16⟩
  | .local _ .vmem, ⟨3, _⟩ => ⟨S768x2048, .bf16⟩
  | .local _ .vmem, ⟨4, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8448x2048 : Shape := ⟨2, ![8448, 2048]⟩
abbrev S2048x1024 : Shape := ⟨2, ![2048, 1024]⟩
abbrev S8448x1024 : Shape := ⟨2, ![8448, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x1024, .f32⟩
  | .hbm, ⟨2, _⟩ => ⟨S8448x1024, .f32⟩
  | .hbm, ⟨3, _⟩ => ⟨S8448x1024, .f32⟩
  | .hbm, ⟨4, _⟩ => ⟨S1024x2048, .f32⟩
  | .hbm, ⟨5, _⟩ => ⟨S2048x1024, .f32⟩
  | .hbm, ⟨6, _⟩ => ⟨S8448x2048, .f32⟩
  | .hbm, ⟨7, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel29.lean ====
abbrev S8448x2048 : Shape := ⟨2, ![8448, 2048]⟩
abbrev S2048x1024 : Shape := ⟨2, ![2048, 1024]⟩
abbrev S8448x1024 : Shape := ⟨2, ![8448, 1024]⟩
abbrev S256x2048 : Shape := ⟨2, ![256, 2048]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x1024, .f32⟩
  | .hbm, ⟨2, _⟩ => ⟨S8448x1024, .f32⟩
  | .hbm, ⟨3, _⟩ => ⟨S8448x2048, .bf16⟩
  | .hbm, ⟨4, _⟩ => ⟨S2048x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S2048x1024, .f32⟩
  | .local _ .vmem, ⟨5, _⟩ => ⟨S2048x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 33], ![false, false, false]⟩

def k0_cond3 (i : grid0.Coords) : BitVec 1 :=
  let arg2 : BitVec 32 := BitVec.ofNat 32 (i 2).val
  let c32_i32 : BitVec 32 := 32#32
  let v11 : BitVec 1 := Scalar.cmpi .eq arg2 c32_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S8448x2048 : Shape := ⟨2, ![8448, 2048]⟩
abbrev S2048x1024 : Shape := ⟨2, ![2048, 1024]⟩
abbrev S8448x1024 : Shape := ⟨2, ![8448, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x1024, .f32⟩
  | .hbm, ⟨2, _⟩ => ⟨S8448x1024, .f32⟩
  | .hbm, ⟨3, _⟩ => ⟨S8448x1024, .f32⟩
  | .hbm, ⟨4, _⟩ => ⟨S1024x2048, .f32⟩
  | .hbm, ⟨5, _⟩ => ⟨S2048x1024, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel30.lean ====
abbrev S8448x2048 : Shape := ⟨2, ![8448, 2048]⟩
abbrev S_ : Shape := ⟨0, ![]⟩
abbrev S384x256 : Shape := ⟨2, ![384, 256]⟩
abbrev S4224x256 : Shape := ⟨2, ![4224, 256]⟩
abbrev S384x128 : Shape := ⟨2, ![384, 128]⟩
abbrev S384x1 : Shape := ⟨2, ![384, 1]⟩
abbrev S1536x128 : Shape := ⟨2, ![1536, 128]⟩
abbrev S384x1536 : Shape := ⟨2, ![384, 1536]⟩
abbrev S384 : Shape := ⟨1, ![384]⟩
abbrev S768x128 : Shape := ⟨2, ![768, 128]⟩
abbrev S384x768 : Shape := ⟨2, ![384, 768]⟩
abbrev S384x384 : Shape := ⟨2, ![384, 384]⟩

abbrev nBuf : Space → Nat
  | .hbm => 14
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8448x2048, .f32⟩
  | .hbm, ⟨8, _⟩ => ⟨S8448x2048, .f32⟩
  | .hbm, ⟨9, _⟩ => ⟨S8448x2048, .bf16⟩
  | .hbm, ⟨10, _⟩ => ⟨S8448x2048, .bf16⟩
  | .hbm, ⟨11, _⟩ => ⟨S8448x2048, .bf16⟩
  | .hbm, ⟨12, _⟩ => ⟨S8448x2048, .bf16⟩
  | .hbm, ⟨13, _⟩ => ⟨S8448x2048, .f32⟩
  | .local _ .vmem, ⟨0, _⟩ => ⟨S384x256, .bf16⟩
  | .local _ .vmem, ⟨1, _⟩ => ⟨S384x256, .bf16⟩
  | .local _ .vmem, ⟨2, _⟩ => ⟨S4224x256, .bf16⟩
  | .local _ .vmem, ⟨3, _⟩ => ⟨S4224x256, .bf16⟩
  | .local _ .vmem, ⟨4, _⟩ => ⟨S4224x256, .bf16⟩
  | .local _ .vmem, ⟨5, _⟩ => ⟨S4224x256, .bf16⟩
  | .local _ .vmem, ⟨6, _⟩ => ⟨S384x256, .bf16⟩
  | .local _ .vmem, ⟨7, _⟩ => ⟨S384x256, .bf16⟩
  | .local _ .vmem, ⟨8, _⟩ => ⟨S384x256, .f32⟩
  | .local _ .vmem, ⟨9, _⟩ => ⟨S384x256, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 11], ![false, false, false]⟩

@[reducible] def k0_t1_loop (i : grid0.Coords) : Scf.Loop 32 :=
  let c0_i32_7 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v23 : BitVec 32 := Scalar.subi v22 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_9 : BitVec 32 := 1#32
  ⟨c0_i32_7, v27, c1_i32_9⟩
def k0_mult1 (i : grid0.Coords) (k0_t1 : Fin (k0_t1_loop i).trips) : BitVec 32 :=
  let c4_i32_60 : BitVec 32 := 4#32
  let c0_i32_7 : BitVec 32 := 0#32
  let c1_i32_9 : BitVec 32 := 1#32
  let arg8 : BitVec 32 := Scf.iv c0_i32_7 c1_i32_9 k0_t1
  let v167 : BitVec 32 := Scalar.muli c4_i32_60 arg8
  let c384_i32_61 : BitVec 32 := 384#32
  let v168 : BitVec 32 := Scalar.muli v167 c384_i32_61
  v168
def k0_off1 (i : grid0.Coords) (k0_t1 : Fin (k0_t1_loop i).trips) : Fin 2 → Nat :=
  let c4_i32_60 : BitVec 32 := 4#32
  let c0_i32_7 : BitVec 32 := 0#32
  let c1_i32_9 : BitVec 32 := 1#32
  let arg8 : BitVec 32 := Scf.iv c0_i32_7 c1_i32_9 k0_t1
  let v167 : BitVec 32 := Scalar.muli c4_i32_60 arg8
  let c384_i32_61 : BitVec 32 := 384#32
  let v168 : BitVec 32 := Scalar.muli v167 c384_i32_61
  let v169 : BitVec 32 := v168
  let v170 : Index := Scalar.indexCast v169
  let c0_62 : Index := 0#32
  ![v170.toNat, 0]
def k0_off2 (i : grid0.Coords) (k0_t1 : Fin (k0_t1_loop i).trips) : Fin 2 → Nat :=
  let c4_i32_60 : BitVec 32 := 4#32
  let c0_i32_7 : BitVec 32 := 0#32
  let c1_i32_9 : BitVec 32 := 1#32
  let arg8 : BitVec 32 := Scf.iv c0_i32_7 c1_i32_9 k0_t1
  let v167 : BitVec 32 := Scalar.muli c4_i32_60 arg8
  let c384_i32_61 : BitVec 32 := 384#32
  let v168 : BitVec 32 := Scalar.muli v167 c384_i32_61
  let v169 : BitVec 32 := v168
  let v195 : Index := Scalar.indexCast v169
  let c128_69 : Index := 128#32
  ![v195.toNat, 128]
@[reducible] def k0_t2_loop (i : grid0.Coords) : Scf.Loop 32 :=
  let c0_i32_7 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v23 : BitVec 32 := Scalar.subi v22 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let v24 : BitVec 32 := Scalar.addi c0_i32_7 v23
  let c1_i32_10 : BitVec 32 := 1#32
  ⟨v27, v24, c1_i32_10⟩
def k0_mult2 (i : grid0.Coords) (k0_t2 : Fin (k0_t2_loop i).trips) : BitVec 32 :=
  let c4_i32_60 : BitVec 32 := 4#32
  let c0_i32_7 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v23 : BitVec 32 := Scalar.subi v22 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_10 : BitVec 32 := 1#32
  let arg8 : BitVec 32 := Scf.iv v27 c1_i32_10 k0_t2
  let v167 : BitVec 32 := Scalar.muli c4_i32_60 arg8
  let c384_i32_61 : BitVec 32 := 384#32
  let v168 : BitVec 32 := Scalar.muli v167 c384_i32_61
  v168
def k0_off3 (i : grid0.Coords) (k0_t2 : Fin (k0_t2_loop i).trips) : Fin 2 → Nat :=
  let c4_i32_60 : BitVec 32 := 4#32
  let c0_i32_7 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v23 : BitVec 32 := Scalar.subi v22 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_10 : BitVec 32 := 1#32
  let arg8 : BitVec 32 := Scf.iv v27 c1_i32_10 k0_t2
  let v167 : BitVec 32 := Scalar.muli c4_i32_60 arg8
  let c384_i32_61 : BitVec 32 := 384#32
  let v168 : BitVec 32 := Scalar.muli v167 c384_i32_61
  let v169 : BitVec 32 := v168
  let v170 : Index := Scalar.indexCast v169
  let c0_62 : Index := 0#32
  ![v170.toNat, 0]
def k0_off4 (i : grid0.Coords) (k0_t2 : Fin (k0_t2_loop i).trips) : Fin 2 → Nat :=
  let c4_i32_60 : BitVec 32 := 4#32
  let c0_i32_7 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v23 : BitVec 32 := Scalar.subi v22 c0_i32_7
  let c1_i32_8 : BitVec 32 := 1#32
  let v25 : BitVec 32 := Scalar.divsi v23 c1_i32_8
  let v26 : BitVec 32 := Scalar.muli v25 c1_i32_8
  let v27 : BitVec 32 := Scalar.addi c0_i32_7 v26
  let c1_i32_10 : BitVec 32 := 1#32
  let arg8 : BitVec 32 := Scf.iv v27 c1_i32_10 k0_t2
  let v167 : BitVec 32 := Scalar.muli c4_i32_60 arg8
  let c384_i32_61 : BitVec 32 := 384#32
  let v168 : BitVec 32 := Scalar.muli v167 c384_i32_61
  let v169 : BitVec 32 := v168
  let v195 : Index := Scalar.indexCast v169
  let c128_69 : Index := 128#32
  ![v195.toNat, 128]
@[reducible] def k0_t3_loop (i : grid0.Coords) : Scf.Loop 32 :=
  let c0_i32_18 : BitVec 32 := 0#32
  let arg2 : BitVec 32 := BitVec.ofNat 32 (i 2).val
  let c4_i32_11 : BitVec 32 := 4#32
  let v30 : BitVec 32 := Scalar.remsi arg2 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let v48 : BitVec 32 := Scalar.subi v47 c0_i32_18
  let c1_i32_19 : BitVec 32 := 1#32
  let v50 : BitVec 32 := Scalar.divsi v48 c1_i32_19
  let v51 : BitVec 32 := Scalar.muli v50 c1_i32_19
  let v52 : BitVec 32 := Scalar.addi c0_i32_18 v51
  let c1_i32_20 : BitVec 32 := 1#32
  ⟨c0_i32_18, v52, c1_i32_20⟩
def k0_mult3 (i : grid0.Coords) : BitVec 32 :=
  let c4_i32_60 : BitVec 32 := 4#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v167 : BitVec 32 := Scalar.muli c4_i32_60 v22
  let c384_i32_61 : BitVec 32 := 384#32
  let v168 : BitVec 32 := Scalar.muli v167 c384_i32_61
  v168
def k0_off5 (i : grid0.Coords) : Fin 2 → Nat :=
  let c4_i32_60 : BitVec 32 := 4#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v167 : BitVec 32 := Scalar.muli c4_i32_60 v22
  let c384_i32_61 : BitVec 32 := 384#32
  let v168 : BitVec 32 := Scalar.muli v167 c384_i32_61
  let v169 : BitVec 32 := v168
  let v170 : Index := Scalar.indexCast v169
  let c0_62 : Index := 0#32
  ![v170.toNat, 0]
def k0_off6 (i : grid0.Coords) : Fin 2 → Nat :=
  let c4_i32_60 : BitVec 32 := 4#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v167 : BitVec 32 := Scalar.muli c4_i32_60 v22
  let c384_i32_61 : BitVec 32 := 384#32
  let v168 : BitVec 32 := Scalar.muli v167 c384_i32_61
  let v169 : BitVec 32 := v168
  let v195 : Index := Scalar.indexCast v169
  let c128_69 : Index := 128#32
  ![v195.toNat, 128]
@[reducible] def k0_t4_loop (i : grid0.Coords) : Scf.Loop 32 :=
  let c0_i32_18 : BitVec 32 := 0#32
  let arg2 : BitVec 32 := BitVec.ofNat 32 (i 2).val
  let c4_i32_11 : BitVec 32 := 4#32
  let v30 : BitVec 32 := Scalar.remsi arg2 c4_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let v48 : BitVec 32 := Scalar.subi v47 c0_i32_18
  let c1_i32_19 : BitVec 32 := 1#32
  let v50 : BitVec 32 := Scalar.divsi v48 c1_i32_19
  let v51 : BitVec 32 := Scalar.muli v50 c1_i32_19
  let v52 : BitVec 32 := Scalar.addi c0_i32_18 v51
  let v49 : BitVec 32 := Scalar.addi c0_i32_18 v48
  let c1_i32_21 : BitVec 32 := 1#32
  ⟨v52, v49, c1_i32_21⟩
def k0_mult4 (i : grid0.Coords) : BitVec 32 :=
  let c4_i32_60 : BitVec 32 := 4#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v167 : BitVec 32 := Scalar.muli c4_i32_60 v22
  let c384_i32_61 : BitVec 32 := 384#32
  let v168 : BitVec 32 := Scalar.muli v167 c384_i32_61
  v168
def k0_off7 (i : grid0.Coords) : Fin 2 → Nat :=
  let c4_i32_60 : BitVec 32 := 4#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v167 : BitVec 32 := Scalar.muli c4_i32_60 v22
  let c384_i32_61 : BitVec 32 := 384#32
  let v168 : BitVec 32 := Scalar.muli v167 c384_i32_61
  let v169 : BitVec 32 := v168
  let v170 : Index := Scalar.indexCast v169
  let c0_62 : Index := 0#32
  ![v170.toNat, 0]
def k0_off8 (i : grid0.Coords) : Fin 2 → Nat :=
  let c4_i32_60 : BitVec 32 := 4#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_3 : BitVec 32 := 0#32
  let v9 : BitVec 1 := Scalar.cmpi .slt arg2 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi arg2 c4_i32
  let c0_i32_6 : BitVec 32 := 0#32
  let v19 : BitVec 1 := Scalar.cmpi .ne v18 c0_i32_6
  let v20 : BitVec 1 := Scalar.andi v17 v19
  let v6 : BitVec 32 := Scalar.divsi arg2 c4_i32
  let c1_i32 : BitVec 32 := 1#32
  let v21 : BitVec 32 := Scalar.subi v6 c1_i32
  let v22 : BitVec 32 := Scalar.select v20 v21 v6
  let v167 : BitVec 32 := Scalar.muli c4_i32_60 v22
  let c384_i32_61 : BitVec 32 := 384#32
  let v168 : BitVec 32 := Scalar.muli v167 c384_i32_61
  let v169 : BitVec 32 := v168
  let v195 : Index := Scalar.indexCast v169
  let c128_69 : Index := 128#32
  ![v195.toNat, 128]
@[reducible] def k0_t5_loop (i : grid0.Coords) : Scf.Loop 32 :=
  let c0_i32_23 : BitVec 32 := 0#32
  let arg2 : BitVec 32 := BitVec.ofNat 32 (i 2).val
  let c2_i32_22 : BitVec 32 := 2#32
  let v55 : BitVec 32 := Scalar.remsi arg2 c2_i32_22
  let v56 : BitVec 32 := Scalar.subi v55 c0_i32_23
  let c1_i32_24 : BitVec 32 := 1#32
  let v58 : BitVec 32 := Scalar.divsi v56 c1_i32_24
  let v59 : BitVec 32 := Scalar.muli v58 c1_i32_24
  let v60 : BitVec 32 := Scalar.addi c0_i32_23 v59
  let c1_i32_25 : BitVec 32 := 1#32
  ⟨c0_i32_23, v60, c1_i32_25⟩
def k0_mult5 (i : grid0.Coords) : BitVec 32 :=
  let arg2 : BitVec 32 := BitVec.ofNat 32 (i 2).val
  let c1_i32_60 : BitVec 32 := 1#32
  let v167 : BitVec 32 := Scalar.subi arg2 c1_i32_60
  let c384_i32_61 : BitVec 32 := 384#32
  let v168 : BitVec 32 := Scalar.muli v167 c384_i32_61
  v168
def k0_off9 (i : grid0.Coords) : Fin 2 → Nat :=
  let arg2 : BitVec 32 := BitVec.ofNat 32 (i 2).val
  let c1_i32_60 : BitVec 32 := 1#32
  let v167 : BitVec 32 := Scalar.subi arg2 c1_i32_60
  let c384_i32_61 : BitVec 32 := 384#32
  let v168 : BitVec 32 := Scalar.muli v167 c384_i32_61
  let v169 : BitVec 32 := v168
  let v170 : Index := Scalar.indexCast v169
  let c0_62 : Index := 0#32
  ![v170.toNat, 0]
def k0_off10 (i : grid0.Coords) : Fin 2 → Nat :=
  let arg2 : BitVec 32 := BitVec.ofNat 32 (i 2).val
  let c1_i32_60 : BitVec 32 := 1#32
  let v167 : BitVec 32 := Scalar.subi arg2 c1_i32_60
  let c384_i32_61 : BitVec 32 := 384#32
  let v168 : BitVec 32 := Scalar.muli v167 c384_i32_61
  let v169 : BitVec 32 := v168
  let v195 : Index := Scalar.indexCast v169
  let c128_69 : Index := 128#32
  ![v195.toNat, 128]
@[reducible] def k0_t6_loop (i : grid0.Coords) : Scf.Loop 32 :=
  let c0_i32_23 : BitVec 32 := 0#32
  let arg2 : BitVec 32 := BitVec.ofNat 32 (i 2).val
  let c2_i32_22 : BitVec 32 := 2#32
  let v55 : BitVec 32 := Scalar.remsi arg2 c2_i32_22
  let v56 : BitVec 32 := Scalar.subi v55 c0_i32_23
  let c1_i32_24 : BitVec 32 := 1#32
  let v58 : BitVec 32 := Scalar.divsi v56 c1_i32_24
  let v59 : BitVec 32 := Scalar.muli v58 c1_i32_24
  let v60 : BitVec 32 := Scalar.addi c0_i32_23 v59
  let v57 : BitVec 32 := Scalar.addi c0_i32_23 v56
  let c1_i32_26 : BitVec 32 := 1#32
  ⟨v60, v57, c1_i32_26⟩
def k0_mult6 (i : grid0.Coords) : BitVec 32 :=
  let arg2 : BitVec 32 := BitVec.ofNat 32 (i 2).val
  let c1_i32_60 : BitVec 32 := 1#32
  let v167 : BitVec 32 := Scalar.subi arg2 c1_i32_60
  let c384_i32_61 : BitVec 32 := 384#32
  let v168 : BitVec 32 := Scalar.muli v167 c384_i32_61
  v168
def k0_off11 (i : grid0.Coords) : Fin 2 → Nat :=
  let arg2 : BitVec 32 := BitVec.ofNat 32 (i 2).val
  let c1_i32_60 : BitVec 32 := 1#32
  let v167 : BitVec 32 := Scalar.subi arg2 c1_i32_60
  let c384_i32_61 : BitVec 32 := 384#32
  let v168 : BitVec 32 := Scalar.muli v167 c384_i32_61
  let v169 : BitVec 32 := v168
  let v170 : Index := Scalar.indexCast v169
  let c0_62 : Index := 0#32
  ![v170.toNat, 0]
def k0_off12 (i : grid0.Coords) : Fin 2 → Nat :=
  let arg2 : BitVec 32 := BitVec.ofNat 32 (i 2).val
  let c1_i32_60 : BitVec 32 := 1#32
  let v167 : BitVec 32 := Scalar.subi arg2 c1_i32_60
  let c384_i32_61 : BitVec 32 := 384#32
  let v168 : BitVec 32 := Scalar.muli v167 c384_i32_61
  let v169 : BitVec 32 := v168
  let v195 : Index := Scalar.indexCast v169
  let c128_69 : Index := 128#32
  ![v195.toNat, 128]
def k0_mult7 (i : grid0.Coords) : BitVec 32 :=
  let arg2 : BitVec 32 := BitVec.ofNat 32 (i 2).val
  let c384_i32 : BitVec 32 := 384#32
  let v63 : BitVec 32 := Scalar.muli arg2 c384_i32
  v63
def k0_off13 (i : grid0.Coords) : Fin 2 → Nat :=
  let arg2 : BitVec 32 := BitVec.ofNat 32 (i 2).val
  let c384_i32 : BitVec 32 := 384#32
  let v63 : BitVec 32 := Scalar.muli arg2 c384_i32
  let v64 : BitVec 32 := v63
  let v65 : Index := Scalar.indexCast v64
  let c0_27 : Index := 0#32
  ![v65.toNat, 0]
def k0_off14 (i : grid0.Coords) : Fin 2 → Nat :=
  let arg2 : BitVec 32 := BitVec.ofNat 32 (i 2).val
  let c384_i32 : BitVec 32 := 384#32
  let v63 : BitVec 32 := Scalar.muli arg2 c384_i32
  let v64 : BitVec 32 := v63
  let v99 : Index := Scalar.indexCast v64
  let c128_36 : Index := 128#32
  ![v99.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel30Ideal.lean ====
variable {F : FTy → Type} [FloatOps F] [Named F]
def κ : String → Option EReal := fun
  | "log2e" => some (((Real.log 2)⁻¹ : ℝ) : EReal)
  | "mask" => some ⊥
  | _ => none
-- ==== Reference30Ideal.lean ====
abbrev S8448x2048 : Shape := ⟨2, ![8448, 2048]⟩
abbrev S2x4224x16x128 : Shape := ⟨4, ![2, 4224, 16, 128]⟩
abbrev S2x16x4224x4224 : Shape := ⟨4, ![2, 16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S1x1x4224x4224 : Shape := ⟨4, ![1, 1, 4224, 4224]⟩
abbrev S_ : Shape := ⟨0, ![]⟩
abbrev S2x16x4224 : Shape := ⟨3, ![2, 16, 4224]⟩
abbrev S2x16x4224x1 : Shape := ⟨4, ![2, 16, 4224, 1]⟩
abbrev S2x4224x16x64 : Shape := ⟨4, ![2, 4224, 16, 64]⟩
abbrev S2x16x64x4224 : Shape := ⟨4, ![2, 16, 64, 4224]⟩
abbrev S2x4224x16 : Shape := ⟨3, ![2, 4224, 16]⟩
abbrev S2x4224x16x1 : Shape := ⟨4, ![2, 4224, 16, 1]⟩

abbrev nBuf : Space → Nat
  | .hbm => 61
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .f32⟩
  | .hbm, ⟨3, _⟩ => ⟨S2x4224x16x128, .f32⟩
  | .hbm, ⟨4, _⟩ => ⟨S2x4224x16x128, .f32⟩
  | .hbm, ⟨5, _⟩ => ⟨S2x16x4224x4224, .f32⟩
  | .hbm, ⟨6, _⟩ => ⟨S4224, .i32⟩
  | .hbm, ⟨7, _⟩ => ⟨S1x4224, .i32⟩
  | .hbm, ⟨8, _⟩ => ⟨S4224x1, .i32⟩
  | .hbm, ⟨9, _⟩ => ⟨S4224x4224, .i32⟩
  | .hbm, ⟨10, _⟩ => ⟨S4224x4224, .i32⟩
  | .hbm, ⟨11, _⟩ => ⟨S4224x4224, .i1⟩
  | .hbm, ⟨12, _⟩ => ⟨S1x1x4224x4224, .i1⟩
  | .hbm, ⟨13, _⟩ => ⟨S_, .f32⟩
  | .hbm, ⟨14, _⟩ => ⟨S_, .f32⟩
  | .hbm, ⟨15, _⟩ => ⟨S2x16x4224x4224, .i1⟩
  | .hbm, ⟨16, _⟩ => ⟨S2x16x4224x4224, .f32⟩
  | .hbm, ⟨17, _⟩ => ⟨S2x16x4224x4224, .f32⟩
  | .hbm, ⟨18, _⟩ => ⟨S_, .f32⟩
  | .hbm, ⟨19, _⟩ => ⟨S2x16x4224, .f32⟩
  | .hbm, ⟨20, _⟩ => ⟨S_, .f32⟩
  | .hbm, ⟨21, _⟩ => ⟨S2x16x4224, .f32⟩
  | .hbm, ⟨22, _⟩ => ⟨S2x16x4224, .f32⟩
  | .hbm, ⟨23, _⟩ => ⟨S2x16x4224x1, .f32⟩
  | .hbm, ⟨24, _⟩ => ⟨S2x16x4224x4224, .f32⟩
  | .hbm, ⟨25, _⟩ => ⟨S2x16x4224x4224, .f32⟩
  | .hbm, ⟨26, _⟩ => ⟨S2x16x4224x4224, .f32⟩
  | .hbm, ⟨27, _⟩ => ⟨S_, .f32⟩
  | .hbm, ⟨28, _⟩ => ⟨S2x16x4224, .f32⟩
  | .hbm, ⟨29, _⟩ => ⟨S2x16x4224x1, .f32⟩
  | .hbm, ⟨30, _⟩ => ⟨S2x16x4224x4224, .f32⟩
  | .hbm, ⟨31, _⟩ => ⟨S2x16x4224x4224, .f32⟩
  | .hbm, ⟨32, _⟩ => ⟨S2x4224x16x128, .f32⟩
  | .hbm, ⟨33, _⟩ => ⟨S2x4224x16x64, .f32⟩
  | .hbm, ⟨34, _⟩ => ⟨S2x16x64x4224, .f32⟩
  | .hbm, ⟨35, _⟩ => ⟨S2x4224x16x64, .f32⟩
  | .hbm, ⟨36, _⟩ => ⟨S_, .f32⟩
  | .hbm, ⟨37, _⟩ => ⟨S2x16x4224, .f32⟩
  | .hbm, ⟨38, _⟩ => ⟨S2x16x4224x1, .f32⟩
  | .hbm, ⟨39, _⟩ => ⟨S2x16x4224x4224, .f32⟩
  | .hbm, ⟨40, _⟩ => ⟨S2x16x4224x4224, .f32⟩
  | .hbm, ⟨41, _⟩ => ⟨S2x16x4224x4224, .f32⟩
  | .hbm, ⟨42, _⟩ => ⟨S_, .f32⟩
  | .hbm, ⟨43, _⟩ => ⟨S2x16x4224, .f32⟩
  | .hbm, ⟨44, _⟩ => ⟨S2x16x4224x1, .f32⟩
  | .hbm, ⟨45, _⟩ => ⟨S2x16x4224x1, .f32⟩
  | .hbm, ⟨46, _⟩ => ⟨S2x16x4224x1, .f32⟩
  | .hbm, ⟨47, _⟩ => ⟨S2x16x4224, .f32⟩
  | .hbm, ⟨48, _⟩ => ⟨S_, .f32⟩
  | .hbm, ⟨49, _⟩ => ⟨S_, .f32⟩
  | .hbm, ⟨50, _⟩ => ⟨S2x16x4224, .f32⟩
  | .hbm, ⟨51, _⟩ => ⟨S2x16x4224, .f32⟩
  | .hbm, ⟨52, _⟩ => ⟨S2x4224x16, .f32⟩
  | .hbm, ⟨53, _⟩ => ⟨S2x4224x16x1, .f32⟩
  | .hbm, ⟨54, _⟩ => ⟨S2x4224x16x128, .f32⟩
  | .hbm, ⟨55, _⟩ => ⟨S_, .i32⟩
  | .hbm, ⟨56, _⟩ => ⟨S_, .f32⟩
  | .hbm, ⟨57, _⟩ => ⟨S2x4224x16x128, .f32⟩
  | .hbm, ⟨58, _⟩ => ⟨S8448x2048, .f32⟩
  | .hbm, ⟨59, _⟩ => ⟨S8448x2048, .bf16⟩
  | .hbm, ⟨60, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call1_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Points.lean ====
/- The branch condition of the body over the grid points and the staging buffers at a point. -/
module

public import proofs.«01_k».proof.Proof.Gen.KernelIdeal.Frame

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 176 := Nat.lt_of_lt_of_eq t.isLt N_0
    have e0 : (grid0.coords t 0).val = t.val / 88 % 2 := Pipeline.Grid.coords_val t 0 (by decide) rfl
    have e1 : (grid0.coords t 1).val = t.val / 11 % 8 := Pipeline.Grid.coords_val t 1 (by decide) rfl
    have e2 : (grid0.coords t 2).val = t.val / 1 % 11 := Pipeline.Grid.coords_val t 2 (by decide) rfl
    simp only [cond0_0, e0, e1, e2]
    word_cmp
   : ∀ t : Fin grid0.N, cond0_0 (grid0.coords t) ↔ t.val % 11 = 0)

/-! ## The kernel body on any staging memrefs: a subtype the run finds -/

/-- One staging buffer of output window 6, through which its contents are stated (`View.read_writes_of_cover`: the
    choice does not matter). -/
abbrev VO0_6 : View sig .tc .vmem S4224x256 .f32 := (Memref.whole cc0_stg6_0 : Memref sig .tc .vmem S4224x256 .f32).view
/-- One staging buffer of output window 7, through which its contents are stated (`View.read_writes_of_cover`: the
    choice does not matter). -/
abbrev VO0_7 : View sig .tc .vmem S384x256 .f32 := (Memref.whole cc0_stg7_0 : Memref sig .tc .vmem S384x256 .f32).view
/-- One staging buffer of output window 8, through which its contents are stated (`View.read_writes_of_cover`: the
    choice does not matter). -/
abbrev VO0_8 : View sig .tc .vmem S384x256 .bf16 := (Memref.whole cc0_stg8_0 : Memref sig .tc .vmem S384x256 .bf16).view
/-- Each window's current staging memref at point `t`, spelled as the pipeline passes it (`bodyAt0`), and its wholeness. -/
abbrev ms0_0 (t : Fin cfg0.N) : Memref sig .tc .vmem S4224x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4224x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x11x8x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x11x8x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4224x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S384x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S384x256 .bf16 := win0_8.stage (cfg0.slots t 8)
abbrev hs0_8 (t : Fin cfg0.N) : (ms0_8 t).IsWhole := hstage0_8 ((cfg0.slots t 8).cast nbuf0_8)

end Cert.KernelIdeal.Att

end
-- ==== Proof.Offs.lean ====
/- The offsets of the unmasked query chunks in closed form. -/
module

public import proofs.«01_k».proof.Proof.Gen.KernelIdeal.Loops

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off17_eq : ∀ (i : grid0.Coords) (k0_t5 : Fin (k0_t5_loop i).trips), k0_off17 i k0_t5 = ![384 * (i 2).val + 384 * (min (10 - (i 2).val) 1) + 1536 * k0_t5.val + 384, 0] := by decide +kernel
instance closedOff_k0_off17 (i : grid0.Coords) (k0_t5 : Fin (k0_t5_loop i).trips) : ClosedOff (k0_off17 i k0_t5) := ⟨![384 * (i 2).val + 384 * (min (10 - (i 2).val) 1) + 1536 * k0_t5.val + 384, 0], k0_off17_eq i k0_t5⟩
theorem k0_off18_eq : ∀ (i : grid0.Coords) (k0_t5 : Fin (k0_t5_loop i).trips), ∀ (r : Fin 4), k0_off18 i k0_t5 (BitVec.ofNat 32 r.val) = ![0, (i 2).val + (min (10 - (i 2).val) 1) + 4 * k0_t5.val + r.val + 1, 0, 0] := by decide +kernel
instance closedOff_k0_off18_0 (i : grid0.Coords) (k0_t5 : Fin (k0_t5_loop i).trips) : ClosedOff (k0_off18 i k0_t5 (BitVec.ofNat 32 0)) := ⟨![0, (i 2).val + (min (10 - (i 2).val) 1) + 4 * k0_t5.val + 0 + 1, 0, 0], k0_off18_eq i k0_t5 ⟨0, by decide⟩⟩
instance closedOff_k0_off18_1 (i : grid0.Coords) (k0_t5 : Fin (k0_t5_loop i).trips) : ClosedOff (k0_off18 i k0_t5 (BitVec.ofNat 32 1)) := ⟨![0, (i 2).val + (min (10 - (i 2).val) 1) + 4 * k0_t5.val + 1 + 1, 0, 0], k0_off18_eq i k0_t5 ⟨1, by decide⟩⟩
instance closedOff_k0_off18_2 (i : grid0.Coords) (k0_t5 : Fin (k0_t5_loop i).trips) : ClosedOff (k0_off18 i k0_t5 (BitVec.ofNat 32 2)) := ⟨![0, (i 2).val + (min (10 - (i 2).val) 1) + 4 * k0_t5.val + 2 + 1, 0, 0], k0_off18_eq i k0_t5 ⟨2, by decide⟩⟩
instance closedOff_k0_off18_3 (i : grid0.Coords) (k0_t5 : Fin (k0_t5_loop i).trips) : ClosedOff (k0_off18 i k0_t5 (BitVec.ofNat 32 3)) := ⟨![0, (i 2).val + (min (10 - (i 2).val) 1) + 4 * k0_t5.val + 3 + 1, 0, 0], k0_off18_eq i k0_t5 ⟨3, by decide⟩⟩
theorem k0_off19_eq : ∀ (i : grid0.Coords) (k0_t5 : Fin (k0_t5_loop i).trips), k0_off19 i k0_t5 = ![384 * (i 2).val + 384 * (min (10 - (i 2).val) 1) + 1536 * k0_t5.val + 384, 128] := by decide +kernel
instance closedOff_k0_off19 (i : grid0.Coords) (k0_t5 : Fin (k0_t5_loop i).trips) : ClosedOff (k0_off19 i k0_t5) := ⟨![384 * (i 2).val + 384 * (min (10 - (i 2).val) 1) + 1536 * k0_t5.val + 384, 128], k0_off19_eq i k0_t5⟩
theorem k0_off20_eq : ∀ (i : grid0.Coords) (k0_t5 : Fin (k0_t5_loop i).trips), ∀ (r : Fin 4), k0_off20 i k0_t5 (BitVec.ofNat 32 r.val) = ![1, (i 2).val + (min (10 - (i 2).val) 1) + 4 * k0_t5.val + r.val + 1, 0, 0] := by decide +kernel
instance closedOff_k0_off20_0 (i : grid0.Coords) (k0_t5 : Fin (k0_t5_loop i).trips) : ClosedOff (k0_off20 i k0_t5 (BitVec.ofNat 32 0)) := ⟨![1, (i 2).val + (min (10 - (i 2).val) 1) + 4 * k0_t5.val + 0 + 1, 0, 0], k0_off20_eq i k0_t5 ⟨0, by decide⟩⟩
instance closedOff_k0_off20_1 (i : grid0.Coords) (k0_t5 : Fin (k0_t5_loop i).trips) : ClosedOff (k0_off20 i k0_t5 (BitVec.ofNat 32 1)) := ⟨![1, (i 2).val + (min (10 - (i 2).val) 1) + 4 * k0_t5.val + 1 + 1, 0, 0], k0_off20_eq i k0_t5 ⟨1, by decide⟩⟩
instance closedOff_k0_off20_2 (i : grid0.Coords) (k0_t5 : Fin (k0_t5_loop i).trips) : ClosedOff (k0_off20 i k0_t5 (BitVec.ofNat 32 2)) := ⟨![1, (i 2).val + (min (10 - (i 2).val) 1) + 4 * k0_t5.val + 2 + 1, 0, 0], k0_off20_eq i k0_t5 ⟨2, by decide⟩⟩
instance closedOff_k0_off20_3 (i : grid0.Coords) (k0_t5 : Fin (k0_t5_loop i).trips) : ClosedOff (k0_off20 i k0_t5 (BitVec.ofNat 32 3)) := ⟨![1, (i 2).val + (min (10 - (i 2).val) 1) + 4 * k0_t5.val + 3 + 1, 0, 0], k0_off20_eq i k0_t5 ⟨3, by decide⟩⟩
theorem k0_off25_eq : ∀ i : grid0.Coords, k0_off25 i = ![384 * (i 2).val + 384 * (min (10 - (i 2).val) 1) + 1536 * ((10 - ((i 2).val + (min (10 - (i 2).val) 1))) / 4) + 384, 0] := by decide +kernel
instance closedOff_k0_off25 (i : grid0.Coords) : ClosedOff (k0_off25 i) := ⟨![384 * (i 2).val + 384 * (min (10 - (i 2).val) 1) + 1536 * ((10 - ((i 2).val + (min (10 - (i 2).val) 1))) / 4) + 384, 0], k0_off25_eq i⟩
theorem k0_off26_eq : ∀ i : grid0.Coords, ∀ (r : Fin 2), k0_off26 i (BitVec.ofNat 32 r.val) = ![0, (i 2).val + (min (10 - (i 2).val) 1) + 4 * ((10 - ((i 2).val + (min (10 - (i 2).val) 1))) / 4) + r.val + 1, 0, 0] := by decide +kernel
instance closedOff_k0_off26_0 (i : grid0.Coords) : ClosedOff (k0_off26 i (BitVec.ofNat 32 0)) := ⟨![0, (i 2).val + (min (10 - (i 2).val) 1) + 4 * ((10 - ((i 2).val + (min (10 - (i 2).val) 1))) / 4) + 0 + 1, 0, 0], k0_off26_eq i ⟨0, by decide⟩⟩
instance closedOff_k0_off26_1 (i : grid0.Coords) : ClosedOff (k0_off26 i (BitVec.ofNat 32 1)) := ⟨![0, (i 2).val + (min (10 - (i 2).val) 1) + 4 * ((10 - ((i 2).val + (min (10 - (i 2).val) 1))) / 4) + 1 + 1, 0, 0], k0_off26_eq i ⟨1, by decide⟩⟩
theorem k0_off27_eq : ∀ i : grid0.Coords, k0_off27 i = ![384 * (i 2).val + 384 * (min (10 - (i 2).val) 1) + 1536 * ((10 - ((i 2).val + (min (10 - (i 2).val) 1))) / 4) + 384, 128] := by decide +kernel
instance closedOff_k0_off27 (i : grid0.Coords) : ClosedOff (k0_off27 i) := ⟨![384 * (i 2).val + 384 * (min (10 - (i 2).val) 1) + 1536 * ((10 - ((i 2).val + (min (10 - (i 2).val) 1))) / 4) + 384, 128], k0_off27_eq i⟩
theorem k0_off28_eq : ∀ i : grid0.Coords, ∀ (r : Fin 2), k0_off28 i (BitVec.ofNat 32 r.val) = ![1, (i 2).val + (min (10 - (i 2).val) 1) + 4 * ((10 - ((i 2).val + (min (10 - (i 2).val) 1))) / 4) + r.val + 1, 0, 0] := by decide +kernel
instance closedOff_k0_off28_0 (i : grid0.Coords) : ClosedOff (k0_off28 i (BitVec.ofNat 32 0)) := ⟨![1, (i 2).val + (min (10 - (i 2).val) 1) + 4 * ((10 - ((i 2).val + (min (10 - (i 2).val) 1))) / 4) + 0 + 1, 0, 0], k0_off28_eq i ⟨0, by decide⟩⟩
instance closedOff_k0_off28_1 (i : grid0.Coords) : ClosedOff (k0_off28 i (BitVec.ofNat 32 1)) := ⟨![1, (i 2).val + (min (10 - (i 2).val) 1) + 4 * ((10 - ((i 2).val + (min (10 - (i 2).val) 1))) / 4) + 1 + 1, 0, 0], k0_off28_eq i ⟨1, by decide⟩⟩

/-- The remainder loop of the four-tile chunks makes no trip. -/
theorem k0_t6_none : ∀ i : grid0.Coords, (k0_t6_loop i).trips = 0 := by decide +kernel
/-- The remainder loop of the two-tile chunk makes no trip. -/
theorem k0_t8_none : ∀ i : grid0.Coords, (k0_t8_loop i).trips = 0 := by decide +kernel

end Cert.KernelIdeal.Att

end
-- ==== Proof.LoopA.lean ====
/- The counted loops over pairs of query tiles, and the loop that makes no trip. -/
module

public import proofs.«01_k».proof.Proof.Gen.KernelIdeal.Loops
public import proofs.«01_k».proof.Proof.Offs

@[expose] public section

set_option maxRecDepth 16384
set_option maxHeartbeats 4000000

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev Trip_k0_t7 (c : Dev nD) (arg3 : Memref sig .tc .vmem S4224x256 .bf16) (arg6 : Memref sig .tc .vmem S4224x256 .bf16) (arg7 : Memref sig .tc .vmem S2x11x8x384 .f32) (arg8 : Memref sig .tc .vmem S2x11x8x384 .f32) (arg9 : Memref sig .tc .vmem S4224x256 .f32) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (f_arg9 : BufTy.Contents (Elt F) arg9.view.ty) : sProp 𝕄 :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} f_arg9))

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (v4 : FVec F S384x128 .bf16) (v6 : FVec F S384x128 .bf16) (v8 : FVec F S384x128 .bf16) (v10 : FVec F S384x128 .bf16) (v15 : BitVec 32) (v16 : BitVec 32) (X_arg3 : BufTy.Contents (Elt F) arg3.view.ty) (X_arg6 : BufTy.Contents (Elt F) arg6.view.ty) (X_arg7 : BufTy.Contents (Elt F) arg7.view.ty) (X_arg8 : BufTy.Contents (Elt F) arg8.view.ty)

@[irreducible] def trip_k0_t7 (k : Fin (k0_t7_loop i).trips) :
    Σ' (R_k0_t7 : ((FVec F S384x128 .f32 × FVec F S384x128 .f32 × FVec F S384x128 .f32 × FVec F S384x128 .f32) → BufTy.Contents (Elt F) arg9.view.ty → FVec F S384x128 .f32 × FVec F S384x128 .f32 × FVec F S384x128 .f32 × FVec F S384x128 .f32)) , { L_arg9 : ((FVec F S384x128 .f32 × FVec F S384x128 .f32 × FVec F S384x128 .f32 × FVec F S384x128 .f32) → BufTy.Contents (Elt F) arg9.view.ty → List (View.Piece (Elt F) S4224x256 .f32)) // ∀ (E : Set ℕ) (acc : FVec F S384x128 .f32 × FVec F S384x128 .f32 × FVec F S384x128 .f32 × FVec F S384x128 .f32) (f_arg9 : BufTy.Contents (Elt F) arg9.view.ty),
      Trip_k0_t7 (F := F) c arg3 arg6 arg7 arg8 arg9 X_arg3 X_arg6 X_arg7 X_arg8 f_arg9
      ⊢ wp frame (wpE (defs₀ (F := F)) 𝒱 (c : Thread nD τ) bd) E (k0_t7_body (F := F) i arg3 harg3 arg4 harg4 arg5 harg5 arg6 harg6 arg7 harg7 arg8 harg8 arg9 harg9 arg10 harg10 arg11 harg11 v4 v6 v8 v10 v15 v16 k acc)
          (fun yld => iprop(⌜yld = R_k0_t7 acc f_arg9⌝ ∗ Trip_k0_t7 (F := F) c arg3 arg6 arg7 arg8 arg9 X_arg3 X_arg6 X_arg7 X_arg8 (arg9.view.writes (Elt F) f_arg9 (L_arg9 acc f_arg9)))) } := by
  refine ⟨?_, ?_, fun E acc f_arg9 => ?run⟩
  case run =>
    unfold k0_t7_body
    iintro ⟨HR_arg3, HR_arg6, HR_arg7, HR_arg8, HW_arg9⟩
    sl_exec
    sl_step
    sl_close

abbrev tripR_k0_t7 (k : Fin (k0_t7_loop i).trips) (acc : FVec F S384x128 .f32 × FVec F S384x128 .f32 × FVec F S384x128 .f32 × FVec F S384x128 .f32) (f_arg9 : BufTy.Contents (Elt F) arg9.view.ty) : FVec F S384x128 .f32 × FVec F S384x128 .f32 × FVec F S384x128 .f32 × FVec F S384x128 .f32 :=
  (trip_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 k).1 acc f_arg9

abbrev tripL_k0_t7 (k : Fin (k0_t7_loop i).trips) (acc : FVec F S384x128 .f32 × FVec F S384x128 .f32 × FVec F S384x128 .f32 × FVec F S384x128 .f32) (f_arg9 : BufTy.Contents (Elt F) arg9.view.ty) : List (View.Piece (Elt F) S4224x256 .f32) :=
  (trip_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 k).2.1 acc f_arg9

@[irreducible] def st_k0_t7Step (G_arg9 : BufTy.Contents (Elt F) arg9.view.ty) (init : FVec F S384x128 .f32 × FVec F S384x128 .f32 × FVec F S384x128 .f32 × FVec F S384x128 .f32) (k : ℕ) (prev : (FVec F S384x128 .f32 × FVec F S384x128 .f32 × FVec F S384x128 .f32 × FVec F S384x128 .f32) × List (View.Piece (Elt F) S4224x256 .f32)) : (FVec F S384x128 .f32 × FVec F S384x128 .f32 × FVec F S384x128 .f32 × FVec F S384x128 .f32) × List (View.Piece (Elt F) S4224x256 .f32) :=
  if h : k < (k0_t7_loop i).trips then
    (tripR_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 ⟨k, h⟩ prev.1 (arg9.view.writes (Elt F) G_arg9 prev.2), (tripL_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 ⟨k, h⟩ prev.1 (arg9.view.writes (Elt F) G_arg9 prev.2)) ++ prev.2)
  else prev

def st_k0_t7 (G_arg9 : BufTy.Contents (Elt F) arg9.view.ty) (init : FVec F S384x128 .f32 × FVec F S384x128 .f32 × FVec F S384x128 .f32 × FVec F S384x128 .f32) : ℕ → (FVec F S384x128 .f32 × FVec F S384x128 .f32 × FVec F S384x128 .f32 × FVec F S384x128 .f32) × List (View.Piece (Elt F) S4224x256 .f32)
  | 0 => (init, [])
  | k + 1 => st_k0_t7Step 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k (st_k0_t7 G_arg9 init k)

theorem st_k0_t7_succ (G_arg9 : BufTy.Contents (Elt F) arg9.view.ty) (init : FVec F S384x128 .f32 × FVec F S384x128 .f32 × FVec F S384x128 .f32 × FVec F S384x128 .f32) (k : Fin (k0_t7_loop i).trips) :
    st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init (k.val + 1)
      = ((tripR_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 k (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k.val).1 (arg9.view.writes (Elt F) G_arg9 (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k.val).2)), (tripL_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 k (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k.val).1 (arg9.view.writes (Elt F) G_arg9 (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k.val).2)) ++ (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k.val).2) := by
  rw [st_k0_t7.eq_2]; unfold st_k0_t7Step; exact dif_pos k.isLt

@[simp] theorem st_k0_t7_zero (G_arg9 : BufTy.Contents (Elt F) arg9.view.ty) (init : FVec F S384x128 .f32 × FVec F S384x128 .f32 × FVec F S384x128 .f32 × FVec F S384x128 .f32) :
    (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init 0).1 = init := rfl

abbrev inv_k0_t7 (G_arg9 : BufTy.Contents (Elt F) arg9.view.ty) (init : FVec F S384x128 .f32 × FVec F S384x128 .f32 × FVec F S384x128 .f32 × FVec F S384x128 .f32) (k : ℕ) (acc : FVec F S384x128 .f32 × FVec F S384x128 .f32 × FVec F S384x128 .f32 × FVec F S384x128 .f32) : sProp 𝕄 :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f) ∗ ⌜f = arg9.view.writes (Elt F) G_arg9 (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k).2⌝) ∗ ⌜acc = (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k).1⌝)

end

set_option warn.classDefReducibility false in
@[sl_loop] def loopInv_k0_t7 (𝒱 : Variants) (c : Dev nD) (bd : Option 𝒱.V) (E : Set ℕ) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (v4 : FVec F S384x128 .bf16) (v6 : FVec F S384x128 .bf16) (v8 : FVec F S384x128 .bf16) (v10 : FVec F S384x128 .bf16) (v15 : BitVec 32) (v16 : BitVec 32) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (init : FVec F S384x128 .f32 × FVec F S384x128 .f32 × FVec F S384x128 .f32 × FVec F S384x128 .f32) :
    LoopInvTy_k0_t7 (F := F) Unit ℕ (UR sig nD τ) ℕ 𝒱 c bd E i arg3 harg3 arg4 harg4 arg5 harg5 arg6 harg6 arg7 harg7 arg8 harg8 arg9 harg9 arg10 harg10 arg11 harg11 v4 v6 v8 v10 v15 v16 init where
  inv := inv_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init
  step k acc := by
    iintro ⟨HR_arg3, HR_arg6, HR_arg7, HR_arg8, ⟨%f_arg9, HW_arg9, %h_arg9⟩, %h_acc⟩
    subst h_acc
    iapply (wp_wand_r Idealize.ShloMosaic.frame (wpE (defs₀ (F := F)) 𝒱 (c : Thread nD τ) bd) E)
    isplitl [HR_arg3 HR_arg6 HR_arg7 HR_arg8 HW_arg9]
    · iapply ((trip_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 k).2.2 E (st_k0_t7 (F := F) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init k).1 f_arg9)
      isplitl [HR_arg3]; · iexact HR_arg3
      isplitl [HR_arg6]; · iexact HR_arg6
      isplitl [HR_arg7]; · iexact HR_arg7
      isplitl [HR_arg8]; · iexact HR_arg8
      iexact HW_arg9
    · iintro %yld ⟨%h_res, HR_arg3, HR_arg6, HR_arg7, HR_arg8, HW_arg9⟩
      isplitl [HR_arg3]; · iexact HR_arg3
      isplitl [HR_arg6]; · iexact HR_arg6
      isplitl [HR_arg7]; · iexact HR_arg7
      isplitl [HR_arg8]; · iexact HR_arg8
      simp only [st_k0_t7_succ]
      isplitl [HW_arg9]
      · iexists _; isplitl [HW_arg9]; · iexact HW_arg9
        ipureintro; rw [h_arg9, ← View.writes_append]
      ipureintro; rw [h_res, h_arg9]

set_option warn.classDefReducibility false in
@[sl_loop] def loopInv_k0_t8 (𝒱 : Variants) (c : Dev nD) (bd : Option 𝒱.V) (E : Set ℕ) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (v4 : FVec F S384x128 .bf16) (v6 : FVec F S384x128 .bf16) (v8 : FVec F S384x128 .bf16) (v10 : FVec F S384x128 .bf16) (v15 : BitVec 32) (v16 : BitVec 32) (v78 : BitVec 32) (init : FVec F S384x128 .f32 × FVec F S384x128 .f32 × FVec F S384x128 .f32 × FVec F S384x128 .f32) :
    LoopInvTy_k0_t8 (F := F) Unit ℕ (UR sig nD τ) ℕ 𝒱 c bd E i arg3 harg3 arg4 harg4 arg5 harg5 arg6 harg6 arg7 harg7 arg8 harg8 arg9 harg9 arg10 harg10 arg11 harg11 v4 v6 v8 v10 v15 v16 v78 init where
  inv := fun _ acc => iprop(⌜acc = init⌝)
  step k acc := absurd k.isLt (by have h := k0_t8_none i; change ¬ k.val < (k0_t8_loop i).trips; omega)

end Cert.KernelIdeal.Att

end
-- ==== Proof.LoopB.lean ====
/- The counted loops over four query tiles, and the loop that makes no trip. -/
module

public import proofs.«01_k».proof.Proof.Gen.KernelIdeal.Loops
public import proofs.«01_k».proof.Proof.Offs

@[expose] public section

set_option maxRecDepth 16384
set_option maxHeartbeats 4000000

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev Trip_k0_t5 (c : Dev nD) (arg3 : Memref sig .tc .vmem S4224x256 .bf16) (arg6 : Memref sig .tc .vmem S4224x256 .bf16) (arg7 : Memref sig .tc .vmem S2x11x8x384 .f32) (arg8 : Memref sig .tc .vmem S2x11x8x384 .f32) (arg9 : Memref sig .tc .vmem S4224x256 .f32) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (f_arg9 : BufTy.Contents (Elt F) arg9.view.ty) : sProp 𝕄 :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} f_arg9))

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (v4 : FVec F S384x128 .bf16) (v6 : FVec F S384x128 .bf16) (v8 : FVec F S384x128 .bf16) (v10 : FVec F S384x128 .bf16) (v15 : BitVec 32) (v16 : BitVec 32) (v31_0 : FVec F S384x128 .f32) (v31_1 : FVec F S384x128 .f32) (v31_2 : FVec F S384x128 .f32) (v31_3 : FVec F S384x128 .f32) (X_arg3 : BufTy.Contents (Elt F) arg3.view.ty) (X_arg6 : BufTy.Contents (Elt F) arg6.view.ty) (X_arg7 : BufTy.Contents (Elt F) arg7.view.ty) (X_arg8 : BufTy.Contents (Elt F) arg8.view.ty)

@[irreducible] def trip_k0_t5 (k : Fin (k0_t5_loop i).trips) :
    Σ' (R_k0_t5 : ((FVec F S384x128 .f32 × FVec F S384x128 .f32 × FVec F S384x128 .f32 × FVec F S384x128 .f32) → BufTy.Contents (Elt F) arg9.view.ty → FVec F S384x128 .f32 × FVec F S384x128 .f32 × FVec F S384x128 .f32 × FVec F S384x128 .f32)) , { L_arg9 : ((FVec F S384x128 .f32 × FVec F S384x128 .f32 × FVec F S384x128 .f32 × FVec F S384x128 .f32) → BufTy.Contents (Elt F) arg9.view.ty → List (View.Piece (Elt F) S4224x256 .f32)) // ∀ (E : Set ℕ) (acc : FVec F S384x128 .f32 × FVec F S384x128 .f32 × FVec F S384x128 .f32 × FVec F S384x128 .f32) (f_arg9 : BufTy.Contents (Elt F) arg9.view.ty),
      Trip_k0_t5 (F := F) c arg3 arg6 arg7 arg8 arg9 X_arg3 X_arg6 X_arg7 X_arg8 f_arg9
      ⊢ wp frame (wpE (defs₀ (F := F)) 𝒱 (c : Thread nD τ) bd) E (k0_t5_body (F := F) i arg3 harg3 arg4 harg4 arg5 harg5 arg6 harg6 arg7 harg7 arg8 harg8 arg9 harg9 arg10 harg10 arg11 harg11 v4 v6 v8 v10 v15 v16 v31_0 v31_1 v31_2 v31_3 k acc)
          (fun yld => iprop(⌜yld = R_k0_t5 acc f_arg9⌝ ∗ Trip_k0_t5 (F := F) c arg3 arg6 arg7 arg8 arg9 X_arg3 X_arg6 X_arg7 X_arg8 (arg9.view.writes (Elt F) f_arg9 (L_arg9 acc f_arg9)))) } := by
  refine ⟨?_, ?_, fun E acc f_arg9 => ?run⟩
  case run =>
    unfold k0_t5_body
    iintro ⟨HR_arg3, HR_arg6, HR_arg7, HR_arg8, HW_arg9⟩
    sl_exec
    sl_step
    sl_close

abbrev tripR_k0_t5 (k : Fin (k0_t5_loop i).trips) (acc : FVec F S384x128 .f32 × FVec F S384x128 .f32 × FVec F S384x128 .f32 × FVec F S384x128 .f32) (f_arg9 : BufTy.Contents (Elt F) arg9.view.ty) : FVec F S384x128 .f32 × FVec F S384x128 .f32 × FVec F S384x128 .f32 × FVec F S384x128 .f32 :=
  (trip_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 k).1 acc f_arg9

abbrev tripL_k0_t5 (k : Fin (k0_t5_loop i).trips) (acc : FVec F S384x128 .f32 × FVec F S384x128 .f32 × FVec F S384x128 .f32 × FVec F S384x128 .f32) (f_arg9 : BufTy.Contents (Elt F) arg9.view.ty) : List (View.Piece (Elt F) S4224x256 .f32) :=
  (trip_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 k).2.1 acc f_arg9

@[irreducible] def st_k0_t5Step (G_arg9 : BufTy.Contents (Elt F) arg9.view.ty) (init : FVec F S384x128 .f32 × FVec F S384x128 .f32 × FVec F S384x128 .f32 × FVec F S384x128 .f32) (k : ℕ) (prev : (FVec F S384x128 .f32 × FVec F S384x128 .f32 × FVec F S384x128 .f32 × FVec F S384x128 .f32) × List (View.Piece (Elt F) S4224x256 .f32)) : (FVec F S384x128 .f32 × FVec F S384x128 .f32 × FVec F S384x128 .f32 × FVec F S384x128 .f32) × List (View.Piece (Elt F) S4224x256 .f32) :=
  if h : k < (k0_t5_loop i).trips then
    (tripR_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 ⟨k, h⟩ prev.1 (arg9.view.writes (Elt F) G_arg9 prev.2), (tripL_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 ⟨k, h⟩ prev.1 (arg9.view.writes (Elt F) G_arg9 prev.2)) ++ prev.2)
  else prev

def st_k0_t5 (G_arg9 : BufTy.Contents (Elt F) arg9.view.ty) (init : FVec F S384x128 .f32 × FVec F S384x128 .f32 × FVec F S384x128 .f32 × FVec F S384x128 .f32) : ℕ → (FVec F S384x128 .f32 × FVec F S384x128 .f32 × FVec F S384x128 .f32 × FVec F S384x128 .f32) × List (View.Piece (Elt F) S4224x256 .f32)
  | 0 => (init, [])
  | k + 1 => st_k0_t5Step 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k (st_k0_t5 G_arg9 init k)

theorem st_k0_t5_succ (G_arg9 : BufTy.Contents (Elt F) arg9.view.ty) (init : FVec F S384x128 .f32 × FVec F S384x128 .f32 × FVec F S384x128 .f32 × FVec F S384x128 .f32) (k : Fin (k0_t5_loop i).trips) :
    st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init (k.val + 1)
      = ((tripR_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 k (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k.val).1 (arg9.view.writes (Elt F) G_arg9 (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k.val).2)), (tripL_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 k (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k.val).1 (arg9.view.writes (Elt F) G_arg9 (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k.val).2)) ++ (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k.val).2) := by
  rw [st_k0_t5.eq_2]; unfold st_k0_t5Step; exact dif_pos k.isLt

@[simp] theorem st_k0_t5_zero (G_arg9 : BufTy.Contents (Elt F) arg9.view.ty) (init : FVec F S384x128 .f32 × FVec F S384x128 .f32 × FVec F S384x128 .f32 × FVec F S384x128 .f32) :
    (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init 0).1 = init := rfl

abbrev inv_k0_t5 (G_arg9 : BufTy.Contents (Elt F) arg9.view.ty) (init : FVec F S384x128 .f32 × FVec F S384x128 .f32 × FVec F S384x128 .f32 × FVec F S384x128 .f32) (k : ℕ) (acc : FVec F S384x128 .f32 × FVec F S384x128 .f32 × FVec F S384x128 .f32 × FVec F S384x128 .f32) : sProp 𝕄 :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (∃ f, (arg9.view.loc (c : Thread nD τ) ↦[arg9.view.set]{fullShare} f) ∗ ⌜f = arg9.view.writes (Elt F) G_arg9 (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k).2⌝) ∗ ⌜acc = (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k).1⌝)

end

set_option warn.classDefReducibility false in
@[sl_loop] def loopInv_k0_t5 (𝒱 : Variants) (c : Dev nD) (bd : Option 𝒱.V) (E : Set ℕ) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (v4 : FVec F S384x128 .bf16) (v6 : FVec F S384x128 .bf16) (v8 : FVec F S384x128 .bf16) (v10 : FVec F S384x128 .bf16) (v15 : BitVec 32) (v16 : BitVec 32) (v31_0 : FVec F S384x128 .f32) (v31_1 : FVec F S384x128 .f32) (v31_2 : FVec F S384x128 .f32) (v31_3 : FVec F S384x128 .f32) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (G_arg9 : BufTy.Contents (Elt F) arg9.view.ty) (init : FVec F S384x128 .f32 × FVec F S384x128 .f32 × FVec F S384x128 .f32 × FVec F S384x128 .f32) :
    LoopInvTy_k0_t5 (F := F) Unit ℕ (UR sig nD τ) ℕ 𝒱 c bd E i arg3 harg3 arg4 harg4 arg5 harg5 arg6 harg6 arg7 harg7 arg8 harg8 arg9 harg9 arg10 harg10 arg11 harg11 v4 v6 v8 v10 v15 v16 v31_0 v31_1 v31_2 v31_3 init where
  inv := inv_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init
  step k acc := by
    iintro ⟨HR_arg3, HR_arg6, HR_arg7, HR_arg8, ⟨%f_arg9, HW_arg9, %h_arg9⟩, %h_acc⟩
    subst h_acc
    iapply (wp_wand_r Idealize.ShloMosaic.frame (wpE (defs₀ (F := F)) 𝒱 (c : Thread nD τ) bd) E)
    isplitl [HR_arg3 HR_arg6 HR_arg7 HR_arg8 HW_arg9]
    · iapply ((trip_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 k).2.2 E (st_k0_t5 (F := F) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init k).1 f_arg9)
      isplitl [HR_arg3]; · iexact HR_arg3
      isplitl [HR_arg6]; · iexact HR_arg6
      isplitl [HR_arg7]; · iexact HR_arg7
      isplitl [HR_arg8]; · iexact HR_arg8
      iexact HW_arg9
    · iintro %yld ⟨%h_res, HR_arg3, HR_arg6, HR_arg7, HR_arg8, HW_arg9⟩
      isplitl [HR_arg3]; · iexact HR_arg3
      isplitl [HR_arg6]; · iexact HR_arg6
      isplitl [HR_arg7]; · iexact HR_arg7
      isplitl [HR_arg8]; · iexact HR_arg8
      simp only [st_k0_t5_succ]
      isplitl [HW_arg9]
      · iexists _; isplitl [HW_arg9]; · iexact HW_arg9
        ipureintro; rw [h_arg9, ← View.writes_append]
      ipureintro; rw [h_res, h_arg9]

set_option warn.classDefReducibility false in
@[sl_loop] def loopInv_k0_t6 (𝒱 : Variants) (c : Dev nD) (bd : Option 𝒱.V) (E : Set ℕ) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (v4 : FVec F S384x128 .bf16) (v6 : FVec F S384x128 .bf16) (v8 : FVec F S384x128 .bf16) (v10 : FVec F S384x128 .bf16) (v15 : BitVec 32) (v16 : BitVec 32) (v31_0 : FVec F S384x128 .f32) (v31_1 : FVec F S384x128 .f32) (v31_2 : FVec F S384x128 .f32) (v31_3 : FVec F S384x128 .f32) (v53 : BitVec 32) (init : FVec F S384x128 .f32 × FVec F S384x128 .f32 × FVec F S384x128 .f32 × FVec F S384x128 .f32) :
    LoopInvTy_k0_t6 (F := F) Unit ℕ (UR sig nD τ) ℕ 𝒱 c bd E i arg3 harg3 arg4 harg4 arg5 harg5 arg6 harg6 arg7 harg7 arg8 harg8 arg9 harg9 arg10 harg10 arg11 harg11 v4 v6 v8 v10 v15 v16 v31_0 v31_1 v31_2 v31_3 v53 init where
  inv := fun _ acc => iprop(⌜acc = init⌝)
  step k acc := absurd k.isLt (by have h := k0_t6_none i; change ¬ k.val < (k0_t6_loop i).trips; omega)

end Cert.KernelIdeal.Att

end
-- ==== Proof.RunA.lean ====
/- One point of the grid, case A of its conditional: what its stores leave. -/
module

public import proofs.«01_k».proof.Proof.Points
public import proofs.«01_k».proof.Proof.LoopA
public import proofs.«01_k».proof.Proof.LoopB

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 11, … 165: 16 of 176), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) :
    Σ' (L6 : List (View.Piece (Elt F) S4224x256 .f32)), Σ' (L7 : List (View.Piece (Elt F) S384x256 .f32)), { L8 : List (View.Piece (Elt F) S384x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)) -∗ K ⟨⟩))
          ⊢ wp frame (wpE (defs₀ (F := F)) Variants.none c none) E (cc0_od_flash_bwd i arg3 harg3 arg4 harg4 arg5 harg5 arg6 harg6 arg7 harg7 arg8 harg8 arg9 harg9 arg10 harg10 arg11 harg11) K } := by
  refine ⟨?_, ?_, ?_, fun E K => ?run⟩
  case run =>
    simp only [cc0_od_flash_bwd_eq_skeleton]; unfold cc0_od_flash_bwd_skel
    simp only [k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact H8

end Cert.KernelIdeal.Att

end
-- ==== Proof.RunB.lean ====
/- One point of the grid, case B of its conditional: what its stores leave. -/
module

public import proofs.«01_k».proof.Proof.Points
public import proofs.«01_k».proof.Proof.LoopA
public import proofs.«01_k».proof.Proof.LoopB

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 175: 160 of 176), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (hc0 : ¬cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (xo6 : Vec F S4224x256 .f32) :
    Σ' (L6 : List (View.Piece (Elt F) S4224x256 .f32)), Σ' (L7 : List (View.Piece (Elt F) S384x256 .f32)), { L8 : List (View.Piece (Elt F) S384x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread xo6) L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8)) -∗ K ⟨⟩))
          ⊢ wp frame (wpE (defs₀ (F := F)) Variants.none c none) E (cc0_od_flash_bwd i arg3 harg3 arg4 harg4 arg5 harg5 arg6 harg6 arg7 harg7 arg8 harg8 arg9 harg9 arg10 harg10 arg11 harg11) K } := by
  refine ⟨?_, ?_, ?_, fun E K => ?run⟩
  case run =>
    simp only [cc0_od_flash_bwd_eq_skeleton]; unfold cc0_od_flash_bwd_skel
    simp only [k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    iexists _; iexact H8

end Cert.KernelIdeal.Att

end
-- ==== Proof.Cases.lean ====
/- What each case leaves in the outputs, and its run over whole buffers. -/
module

public import proofs.«01_k».proof.Proof.RunA
public import proofs.«01_k».proof.Proof.RunB

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (c : Dev nD) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole)
include c i arg3 harg3 arg4 harg4 arg5 harg5 arg6 harg6 arg7 harg7 arg8 harg8 arg9 harg9 arg10 harg10 arg11 harg11

/-- Case A's pieces for output 6 include a counted loop's stores, a segment of the list whose length and places are not numerals, which no evaluation decides; one explicit piece is a literal store of the WHOLE block (found by walking the list as the run left it, that piece checked by the kernel's evaluation of it alone: Lib/Ring.lean `sl_whole_mem`), so they cover it whatever the others are. -/
theorem cover0_A_6 (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (y : S4224x256.Idx) :
    ∃ pc ∈ (kernelRun0_A c i arg3 harg3 arg4 harg4 arg5 harg5 arg6 harg6 arg7 harg7 arg8 harg8 arg9 harg9 arg10 harg10 arg11 harg11 hc0 x0 x1 x2 x3 x4 x5).1, y ∈ pc.1.set :=
  View.cover_of_wholeMem (kernelRun0_A c i arg3 harg3 arg4 harg4 arg5 harg5 arg6 harg6 arg7 harg7 arg8 harg8 arg9 harg9 arg10 harg10 arg11 harg11 hc0 x0 x1 x2 x3 x4 x5).1 (by sl_whole_mem) y

/-- What case A leaves in output 6's staging buffer: its pieces read back over junk. -/
def out0_A_6 (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) : Vec F S4224x256 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 x0 x1 x2 x3 x4 x5).1)

/-- Case A's pieces for output 7 tile its block (2 stores of `S384x128`, checked by the kernel's evaluation: Lib/Ring.lean `Piece.tiledL`, linear in the pieces, through a loop's `@[irreducible]` trip theorem too), so they cover it. -/
theorem cover0_A_7 (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (y : S384x256.Idx) :
    ∃ pc ∈ (kernelRun0_A c i arg3 harg3 arg4 harg4 arg5 harg5 arg6 harg6 arg7 harg7 arg8 harg8 arg9 harg9 arg10 harg10 arg11 harg11 hc0 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 x5).2.1 S384x128.size (by sl_kernel_rfl) y

/-- What case A leaves in output 7's staging buffer: its pieces read back over junk. -/
def out0_A_7 (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) : Vec F S384x256 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 x0 x1 x2 x3 x4 x5).2.1)

/-- Case A's pieces for output 8 tile its block (2 stores of `S384x128`, checked by the kernel's evaluation: Lib/Ring.lean `Piece.tiledL`, linear in the pieces, through a loop's `@[irreducible]` trip theorem too), so they cover it. -/
theorem cover0_A_8 (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (y : S384x256.Idx) :
    ∃ pc ∈ (kernelRun0_A c i arg3 harg3 arg4 harg4 arg5 harg5 arg6 harg6 arg7 harg7 arg8 harg8 arg9 harg9 arg10 harg10 arg11 harg11 hc0 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 x5).2.2.1 S384x128.size (by sl_kernel_rfl) y

/-- What case A leaves in output 8's staging buffer: its pieces read back over junk. -/
def out0_A_8 (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) : Vec F S384x256 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 hc0 x0 x1 x2 x3 x4 x5).2.2.1)

/-- What case B leaves in output 6's staging buffer: its stores read back over what the point before left there (they do not cover the block). -/
def out0_B_6 (hc0 : ¬cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (xo6 : Vec F S4224x256 .f32) : Vec F S4224x256 .f32 :=
  arg9.view.read (Elt F) (arg9.view.writes (Elt F) (harg9.unread xo6) (kernelRun0_B c i arg3 harg3 arg4 harg4 arg5 harg5 arg6 harg6 arg7 harg7 arg8 harg8 arg9 harg9 arg10 harg10 arg11 harg11 hc0 x0 x1 x2 x3 x4 x5 xo6).1)

/-- Case B's pieces for output 7 tile its block (2 stores of `S384x128`, checked by the kernel's evaluation: Lib/Ring.lean `Piece.tiledL`, linear in the pieces, through a loop's `@[irreducible]` trip theorem too), so they cover it. -/
theorem cover0_B_7 (hc0 : ¬cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (xo6 : Vec F S4224x256 .f32) (y : S384x256.Idx) :
    ∃ pc ∈ (kernelRun0_B c i arg3 harg3 arg4 harg4 arg5 harg5 arg6 harg6 arg7 harg7 arg8 harg8 arg9 harg9 arg10 harg10 arg11 harg11 hc0 x0 x1 x2 x3 x4 x5 xo6).2.1, y ∈ pc.1.set :=
  View.cover_of_tiledL (kernelRun0_B c i arg3 harg3 arg4 harg4 arg5 harg5 arg6 harg6 arg7 harg7 arg8 harg8 arg9 harg9 arg10 harg10 arg11 harg11 hc0 x0 x1 x2 x3 x4 x5 xo6).2.1 S384x128.size (by sl_kernel_rfl) y

/-- What case B leaves in output 7's staging buffer: its pieces read back over junk. -/
def out0_B_7 (hc0 : ¬cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (xo6 : Vec F S4224x256 .f32) : Vec F S384x256 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 x0 x1 x2 x3 x4 x5 xo6).2.1)

/-- Case B's pieces for output 8 tile its block (2 stores of `S384x128`, checked by the kernel's evaluation: Lib/Ring.lean `Piece.tiledL`, linear in the pieces, through a loop's `@[irreducible]` trip theorem too), so they cover it. -/
theorem cover0_B_8 (hc0 : ¬cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (xo6 : Vec F S4224x256 .f32) (y : S384x256.Idx) :
    ∃ pc ∈ (kernelRun0_B c i arg3 harg3 arg4 harg4 arg5 harg5 arg6 harg6 arg7 harg7 arg8 harg8 arg9 harg9 arg10 harg10 arg11 harg11 hc0 x0 x1 x2 x3 x4 x5 xo6).2.2.1, y ∈ pc.1.set :=
  View.cover_of_tiledL (kernelRun0_B c i arg3 harg3 arg4 harg4 arg5 harg5 arg6 harg6 arg7 harg7 arg8 harg8 arg9 harg9 arg10 harg10 arg11 harg11 hc0 x0 x1 x2 x3 x4 x5 xo6).2.2.1 S384x128.size (by sl_kernel_rfl) y

/-- What case B leaves in output 8's staging buffer: its pieces read back over junk. -/
def out0_B_8 (hc0 : ¬cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (xo6 : Vec F S4224x256 .f32) : Vec F S384x256 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 hc0 x0 x1 x2 x3 x4 x5 xo6).2.2.1)

set_option maxHeartbeats 4000000 in
/-- The run of case A, each output's buffer at what the case leaves in it. -/
theorem owned0_A (hc0 : cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out0_A_6 c i arg3 harg3 arg4 harg4 arg5 harg5 arg6 harg6 arg7 harg7 arg8 harg8 arg9 harg9 arg10 harg10 arg11 harg11 hc0 x0 x1 x2 x3 x4 x5) ∗ owns (c : Thread nD τ) arg10 fullShare (out0_A_7 c i arg3 harg3 arg4 harg4 arg5 harg5 arg6 harg6 arg7 harg7 arg8 harg8 arg9 harg9 arg10 harg10 arg11 harg11 hc0 x0 x1 x2 x3 x4 x5) ∗ owns (c : Thread nD τ) arg11 fullShare (out0_A_8 c i arg3 harg3 arg4 harg4 arg5 harg5 arg6 harg6 arg7 harg7 arg8 harg8 arg9 harg9 arg10 harg10 arg11 harg11 hc0 x0 x1 x2 x3 x4 x5)) -∗ K ⟨⟩))
      ⊢ wp frame (wpE (defs₀ (F := F)) Variants.none c none) E (cc0_od_flash_bwd i arg3 harg3 arg4 harg4 arg5 harg5 arg6 harg6 arg7 harg7 arg8 harg8 arg9 harg9 arg10 harg10 arg11 harg11) K := by
  iintro ⟨H0, H1, H2, H3, H4, H5, H6, H7, H8, Hk⟩
  iapply ((kernelRun0_A c i arg3 harg3 arg4 harg4 arg5 harg5 arg6 harg6 arg7 harg7 arg8 harg8 arg9 harg9 arg10 harg10 arg11 harg11 hc0 x0 x1 x2 x3 x4 x5).2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, ⟨%e6, H6⟩, ⟨%e7, H7⟩, ⟨%e8, H8⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c i arg3 harg3 arg4 harg4 arg5 harg5 arg6 harg6 arg7 harg7 arg8 harg8 arg9 harg9 arg10 harg10 arg11 harg11 hc0 x0 x1 x2 x3 x4 x5)
  isplitl [H7]
  · unfold owns; iexists _; isplitr
    swap; · iexact H7
    ipureintro; exact View.read_writes_of_cover _ _ _ _ _ (cover0_A_7 c i arg3 harg3 arg4 harg4 arg5 harg5 arg6 harg6 arg7 harg7 arg8 harg8 arg9 harg9 arg10 harg10 arg11 harg11 hc0 x0 x1 x2 x3 x4 x5)
  unfold owns; iexists _; isplitr
  swap; · iexact H8
  ipureintro; exact View.read_writes_of_cover _ _ _ _ _ (cover0_A_8 c i arg3 harg3 arg4 harg4 arg5 harg5 arg6 harg6 arg7 harg7 arg8 harg8 arg9 harg9 arg10 harg10 arg11 harg11 hc0 x0 x1 x2 x3 x4 x5)

set_option maxHeartbeats 4000000 in
/-- The run of case B, each output's buffer at what the case leaves in it. -/
theorem owned0_B (hc0 : ¬cond0_0 i)
    (x0 : Vec F S4224x256 .bf16) (x1 : Vec F S384x256 .bf16) (x2 : Vec F S384x256 .bf16) (x3 : Vec F S4224x256 .bf16) (x4 : Vec F S2x11x8x384 .f32) (x5 : Vec F S2x11x8x384 .f32) (xo6 : Vec F S4224x256 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo6 ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (out0_B_6 c i arg3 harg3 arg4 harg4 arg5 harg5 arg6 harg6 arg7 harg7 arg8 harg8 arg9 harg9 arg10 harg10 arg11 harg11 hc0 x0 x1 x2 x3 x4 x5 xo6) ∗ owns (c : Thread nD τ) arg10 fullShare (out0_B_7 c i arg3 harg3 arg4 harg4 arg5 harg5 arg6 harg6 arg7 harg7 arg8 harg8 arg9 harg9 arg10 harg10 arg11 harg11 hc0 x0 x1 x2 x3 x4 x5 xo6) ∗ owns (c : Thread nD τ) arg11 fullShare (out0_B_8 c i arg3 harg3 arg4 harg4 arg5 harg5 arg6 harg6 arg7 harg7 arg8 harg8 arg9 harg9 arg10 harg10 arg11 harg11 hc0 x0 x1 x2 x3 x4 x5 xo6)) -∗ K ⟨⟩))
      ⊢ wp frame (wpE (defs₀ (F := F)) Variants.none c none) E (cc0_od_flash_bwd i arg3 harg3 arg4 harg4 arg5 harg5 arg6 harg6 arg7 harg7 arg8 harg8 arg9 harg9 arg10 harg10 arg11 harg11) K := by
  iintro ⟨H0, H1, H2, H3, H4, H5, H6, H7, H8, Hk⟩
  iapply ((kernelRun0_B c i arg3 harg3 arg4 harg4 arg5 harg5 arg6 harg6 arg7 harg7 arg8 harg8 arg9 harg9 arg10 harg10 arg11 harg11 hc0 x0 x1 x2 x3 x4 x5 xo6).2.2.2 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, ⟨%e7, H7⟩, ⟨%e8, H8⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rfl
  isplitl [H7]
  · unfold owns; iexists _; isplitr
    swap; · iexact H7
    ipureintro; exact View.read_writes_of_cover _ _ _ _ _ (cover0_B_7 c i arg3 harg3 arg4 harg4 arg5 harg5 arg6 harg6 arg7 harg7 arg8 harg8 arg9 harg9 arg10 harg10 arg11 harg11 hc0 x0 x1 x2 x3 x4 x5 xo6)
  unfold owns; iexists _; isplitr
  swap; · iexact H8
  ipureintro; exact View.read_writes_of_cover _ _ _ _ _ (cover0_B_8 c i arg3 harg3 arg4 harg4 arg5 harg5 arg6 harg6 arg7 harg7 arg8 harg8 arg9 harg9 arg10 harg10 arg11 harg11 hc0 x0 x1 x2 x3 x4 x5 xo6)

end Cert.KernelIdeal.Att

end
-- ==== Proof.Run.lean ====
/- What the outputs hold point by point, and the run of the kernel. -/
module

public import proofs.«01_k».proof.Proof.Cases
public import Idealize.ShloMosaic.Lib.Claim

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4224x256 .f32 × Vec F S384x256 .f32 × Vec F S384x256 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 11 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1)

/-- `outsAt0` at a point of case A: that case's contents. -/
theorem outsAt0_A (c : Dev nD) (t : Fin cfg0.N) (h0 : t.val % 11 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 11 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point of case B output 6's current staging buffer holds what the body left at the point before: the point is
    not the first, the buffer was not written back between (`flush0_6`), the window is live and uncut (Lib/Pipeline/Frame.lean
    `Dat.before_out_kept`). -/
theorem before0_6_B (c : Dev nD) (t : Fin cfg0.N) (h0 : ¬t.val % 11 = 0) (d) :
    (dats m 0 c).before 6 t d = (outsAt0 m c (t.val - 1) (Nat.lt_of_le_of_lt (Nat.sub_le _ _) t.isLt)).1 := by
  have hN : t.val < 176 := lt_of_lt_of_eq t.isLt (show cfg0.N = 176 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  have hN : t.val < 176 := lt_of_lt_of_eq t.isLt (show cfg0.N = 176 from N_0)
  by_cases h0 : t.val % 11 = 0
  · rw [outsAt0_A m c t h0]
    (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (owned0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [outsAt0_B m c t h0]
    simp only [before0_6_B m c t h0]
    (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (owned0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Att

end
-- ==== Proof.Frames.lean ====
/- The frames of the three programs and the named constant of the kernel's text. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.AtBits.Run

@[expose] public section

noncomputable section

namespace Cert.Proof

open Idealize.ShloMosaic Idealize.SL.Sem

theorem frame_p : Cert.quiescent_Kernel := fun m ρ _ => Cert.Kernel.Att.frame m ρ

theorem frame_pi : Cert.quiescent_KernelIdeal := fun m ρ _ => Cert.KernelIdeal.Att.frame m ρ

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The table gives `"ln2"` the value log 2, and the printed constant is that value over the extended reals. -/
theorem preserves : Cert.preserves_Kernel_KernelIdeal :=
  IdealRules.named_const.statement Cert.KernelIdeal.κ "ln2" .f32 0x3F317218#32 ((Real.log 2 : ℝ) : EReal) rfl

end Cert.Proof

end
-- ==== Proof.Spec.lean ====
/- What one point of the grid computes, by numbers of rows and lanes: the probabilities, their gradients, and what a run of
   column chunks adds to the carried sums and to the query gradient. -/
module

public import proofs.«01_k».proof.Proof.Run
public import Idealize.ShloMosaic.Lib.Pointwise
public import Idealize.ShloMosaic.Lib.WordCmp
public import Idealize.ShloMosaic.Lib.WholeRead
public import Idealize.ShloMosaic.Lib.WritesUnit

@[expose] public section

noncomputable section

namespace Cert.KernelIdeal.Att

open Cert.KernelIdeal.Gen
open Idealize.ShloMosaic Idealize.ShloMosaic.TcCoe

/-- A rank-2 array read at two numbers, zero outside it. -/
def e2 {A B : ℕ} (x : (⟨2, ![A, B]⟩ : Shape).Idx → EReal) (i j : ℕ) : EReal :=
  if h : i < A ∧ j < B then x (ix2 ⟨i, h.1⟩ ⟨j, h.2⟩) else 0

/-- A rank-4 array read at four numbers, zero outside it. -/
def e4 {A B C D : ℕ} (x : (⟨4, ![A, B, C, D]⟩ : Shape).Idx → EReal) (i j k l : ℕ) : EReal :=
  if h : i < A ∧ j < B ∧ k < C ∧ l < D then x (ix4 ⟨i, h.1⟩ ⟨j, h.2.1⟩ ⟨k, h.2.2.1⟩ ⟨l, h.2.2.2⟩) else 0

theorem e2_val {A B : ℕ} (x : (⟨2, ![A, B]⟩ : Shape).Idx → EReal) (i : Fin A) (j : Fin B) : e2 x i.val j.val = x (ix2 i j) :=
  dif_pos ⟨i.isLt, j.isLt⟩

theorem e2_pos {A B : ℕ} (x : (⟨2, ![A, B]⟩ : Shape).Idx → EReal) (i j : ℕ) (hi : i < A) (hj : j < B) : e2 x i j = x (ix2 ⟨i, hi⟩ ⟨j, hj⟩) :=
  dif_pos ⟨hi, hj⟩

theorem e4_pos {A B C D : ℕ} (x : (⟨4, ![A, B, C, D]⟩ : Shape).Idx → EReal) (i j k l : ℕ) (hi : i < A) (hj : j < B) (hk : k < C) (hl : l < D) :
    e4 x i j k l = x (ix4 ⟨i, hi⟩ ⟨j, hj⟩ ⟨k, hk⟩ ⟨l, hl⟩) := dif_pos ⟨hi, hj, hk, hl⟩

section Reads

variable {sig' : RefSig} {κ : Kind} {sp : Space}

/-- A load of a rectangle of a rank-2 buffer is the buffer's contents moved by the rectangle's offsets. -/
theorem readAt2b {A B : ℕ} (v : View sig' κ sp (⟨2, ![A, B]⟩ : Shape) .bf16) (f : v.ty.Contents (Elt Ideal)) (off size : Fin 2 → ℕ)
    (inb : ∀ a : Fin 2, off a + size a ≤ (⟨2, ![A, B]⟩ : Shape).size a) (o p : ℕ) (h : off = ![o, p]) :
    v.readAt (Elt Ideal) (Rect.unit (s := ⟨2, ![A, B]⟩) off size inb).toLoadRect f = fun i => e2 (v.read (Elt Ideal) f) (o + (i 0).val) (p + (i 1).val) := by
  subst h
  funext i
  have h0 := inb 0; have h1 := inb 1
  have i0 : (i 0).val < size 0 := (i 0).isLt
  have i1 : (i 1).val < size 1 := (i 1).isLt
  simp only [Matrix.cons_val_zero, Matrix.cons_val_one] at h0 h1
  rw [e2_pos _ _ _ (by omega) (by omega)]
  refine congrArg (v.read (Elt Ideal) f) ?_
  funext a
  refine Fin.ext ?_
  match a with
  | ⟨0, _⟩ => show o + 1 * (i 0).val = o + (i 0).val; omega
  | ⟨1, _⟩ => show p + 1 * (i 1).val = p + (i 1).val; omega

theorem readAt2f {A B : ℕ} (v : View sig' κ sp (⟨2, ![A, B]⟩ : Shape) .f32) (f : v.ty.Contents (Elt Ideal)) (off size : Fin 2 → ℕ)
    (inb : ∀ a : Fin 2, off a + size a ≤ (⟨2, ![A, B]⟩ : Shape).size a) (o p : ℕ) (h : off = ![o, p]) :
    v.readAt (Elt Ideal) (Rect.unit (s := ⟨2, ![A, B]⟩) off size inb).toLoadRect f = fun i => e2 (v.read (Elt Ideal) f) (o + (i 0).val) (p + (i 1).val) := by
  subst h
  funext i
  have h0 := inb 0; have h1 := inb 1
  have i0 : (i 0).val < size 0 := (i 0).isLt
  have i1 : (i 1).val < size 1 := (i 1).isLt
  simp only [Matrix.cons_val_zero, Matrix.cons_val_one] at h0 h1
  rw [e2_pos _ _ _ (by omega) (by omega)]
  refine congrArg (v.read (Elt Ideal) f) ?_
  funext a
  refine Fin.ext ?_
  match a with
  | ⟨0, _⟩ => show o + 1 * (i 0).val = o + (i 0).val; omega
  | ⟨1, _⟩ => show p + 1 * (i 1).val = p + (i 1).val; omega

/-- A load of a rectangle of a rank-4 buffer is the buffer's contents moved by the rectangle's offsets. -/
theorem readAt4 {A B C D : ℕ} (v : View sig' κ sp (⟨4, ![A, B, C, D]⟩ : Shape) .f32) (f : v.ty.Contents (Elt Ideal)) (off size : Fin 4 → ℕ)
    (inb : ∀ a : Fin 4, off a + size a ≤ (⟨4, ![A, B, C, D]⟩ : Shape).size a) (o p : ℕ) (h : off = ![o, p, 0, 0]) :
    v.readAt (Elt Ideal) (Rect.unit (s := ⟨4, ![A, B, C, D]⟩) off size inb).toLoadRect f
      = fun i => e4 (v.read (Elt Ideal) f) (o + (i 0).val) (p + (i 1).val) (i 2).val (i 3).val := by
  subst h
  funext i
  have h0 := inb 0; have h1 := inb 1; have h2 := inb 2; have h3 := inb 3
  have i0 : (i 0).val < size 0 := (i 0).isLt
  have i1 : (i 1).val < size 1 := (i 1).isLt
  have i2 : (i 2).val < size 2 := (i 2).isLt
  have i3 : (i 3).val < size 3 := (i 3).isLt
  simp only [Matrix.cons_val_zero, Matrix.cons_val_one] at h0 h1
  have h2' : 0 + size 2 ≤ C := h2
  have h3' : 0 + size 3 ≤ D := h3
  rw [e4_pos _ _ _ _ _ (by omega) (by omega) (by omega) (by omega)]
  refine congrArg (v.read (Elt Ideal) f) ?_
  funext a
  refine Fin.ext ?_
  match a with
  | ⟨0, _⟩ => show o + 1 * (i 0).val = o + (i 0).val; omega
  | ⟨1, _⟩ => show p + 1 * (i 1).val = p + (i 1).val; omega
  | ⟨2, _⟩ => show 0 + 1 * (i 2).val = (i 2).val; omega
  | ⟨3, _⟩ => show 0 + 1 * (i 3).val = (i 3).val; omega

/-- A buffer after a store of the same rows into each half of its lanes. -/
theorem read_halves {A : ℕ} (v : View sig' κ sp (⟨2, ![A, 256]⟩ : Shape) .f32) (f : v.ty.Contents (Elt Ideal)) (W N : ℕ) (off0 off1 : Fin 2 → ℕ)
    (inb0 : ∀ a : Fin 2, off0 a + (![W, 128] : Fin 2 → ℕ) a ≤ (⟨2, ![A, 256]⟩ : Shape).size a)
    (inb1 : ∀ a : Fin 2, off1 a + (![W, 128] : Fin 2 → ℕ) a ≤ (⟨2, ![A, 256]⟩ : Shape).size a)
    (h0 : off0 = ![N, 0]) (h1 : off1 = ![N, 128]) (p0 p1 : (⟨2, ![W, 128]⟩ : Shape).Idx → EReal) (n : Fin A) (c : Fin 256) :
    v.read (Elt Ideal) (v.writes (Elt Ideal) f
        [⟨Rect.unit (s := ⟨2, ![A, 256]⟩) off1 ![W, 128] inb1, p1⟩, ⟨Rect.unit (s := ⟨2, ![A, 256]⟩) off0 ![W, 128] inb0, p0⟩]) (ix2 n c)
      = if N ≤ n.val ∧ n.val < N + W then (if c.val < 128 then e2 p0 (n.val - N) c.val else e2 p1 (n.val - N) (c.val - 128))
        else v.read (Elt Ideal) f (ix2 n c) := by
  by_cases hn : N ≤ n.val ∧ n.val < N + W
  · rw [if_pos hn]
    by_cases hc : c.val < 128
    · rw [if_pos hc, View.read_writes_cons_unit_of_not_mem v f inb1 p1 _ (ix2 n c) h1 1 (Or.inl hc)]
      rw [View.read_writes_cons_unit_of_mem v f inb0 p0 _ (ix2 n c) (ix2 ⟨n.val - N, by omega⟩ ⟨c.val, hc⟩) h0 (by
        intro a
        match a with
        | ⟨0, _⟩ => show n.val = N + (n.val - N); omega
        | ⟨1, _⟩ => show c.val = 0 + c.val; omega)]
      rw [e2_pos _ _ _ (by omega) hc]
    · rw [if_neg hc]
      have hc' := c.isLt
      rw [View.read_writes_cons_unit_of_mem v f inb1 p1 _ (ix2 n c) (ix2 ⟨n.val - N, by omega⟩ ⟨c.val - 128, by omega⟩) h1 (by
        intro a
        match a with
        | ⟨0, _⟩ => show n.val = N + (n.val - N); omega
        | ⟨1, _⟩ => show c.val = 128 + (c.val - 128); omega)]
      rw [e2_pos _ _ _ (by omega) (by omega)]
  · rw [if_neg hn]
    have hn' : n.val < N ∨ N + W ≤ n.val := by omega
    rw [View.read_writes_cons_unit_of_not_mem v f inb1 p1 _ (ix2 n c) h1 0 hn',
      View.read_writes_cons_unit_of_not_mem v f inb0 p0 _ (ix2 n c) h0 0 hn', View.writes_nil]

end Reads

/-- The mask's comparison of a row's number with a column's. -/
theorem select_le {α : Type} (r n : ℕ) (hr : r < 2 ^ 31) (hn : n < 2 ^ 31) (a b : α) :
    Scalar.select (IntOp.cmpi .sle (BitVec.ofNat 32 r) (BitVec.ofNat 32 n)) a b = if r ≤ n then a else b := by
  unfold Scalar.select
  by_cases h : r ≤ n
  · rw [if_pos h, if_pos]; exact (WordCmp.cmpi_sle_ofNat_eq_one_iff hr hn).mpr h
  · rw [if_neg h, if_neg]; exact fun hh => h ((WordCmp.cmpi_sle_ofNat_eq_one_iff hr hn).mp hh)

/-- The mask's comparisons in the widths that occur. -/
theorem select_fin {m n : ℕ} {α : Type} (hm : m ≤ 2 ^ 31) (hn : n ≤ 2 ^ 31) (r : Fin m) (x : Fin n) (a b : α) :
    Scalar.select (IntOp.cmpi .sle (BitVec.ofNat 32 r.val) (BitVec.ofNat 32 x.val)) a b = if r.val ≤ x.val then a else b :=
  select_le _ _ (lt_of_lt_of_le r.isLt hm) (lt_of_lt_of_le x.isLt hn) a b

theorem select_far (r x : Fin 384) {α : Type} (a b : α) :
    Scalar.select (IntOp.cmpi .sle (BitVec.ofNat 32 r.val) (BitVec.ofNat 32 (384 + x.val))) a b = a := by
  have hr := r.isLt; have hx := x.isLt
  rw [select_le _ _ (by omega) (by omega), if_pos (by omega)]

theorem exp2_ideal (x : EReal) : FloatOps.exp2 (F := Ideal) (φ := .f32) x = Ideal.exp2 x := rfl

/-- Where the row of query `384 T + x` lies in the arrays of row sums. -/
theorem row_div (T : ℕ) (x : Fin 384) : (384 * T + x.val) / 384 = T := by have := x.isLt; omega
theorem row_mod (T : ℕ) (x : Fin 384) : (384 * T + x.val) % 384 = x.val := by have := x.isLt; omega
theorem row_div' (T : ℕ) (x : Fin 384) : (384 * T + (384 + x.val)) / 384 = T + 1 := by have := x.isLt; omega
theorem row_mod' (T : ℕ) (x : Fin 384) : (384 * T + (384 + x.val)) % 384 = x.val := by have := x.isLt; omega

theorem row_two (f : (⟨4, ![2, 11, 8, 384]⟩ : Shape).Idx → EReal) (h T : ℕ) (x : Fin 768) :
    (if x.val < 384 then e4 f h T 0 x.val else e4 f h (T + 1) 0 (x.val - 384))
      = e4 f h ((384 * T + x.val) / 384) 0 ((384 * T + x.val) % 384) := by
  have hx := x.isLt
  by_cases h1 : x.val < 384
  · rw [if_pos h1, show (384 * T + x.val) / 384 = T by omega, show (384 * T + x.val) % 384 = x.val by omega]
  · rw [if_neg h1, show (384 * T + x.val) / 384 = T + 1 by omega, show (384 * T + x.val) % 384 = x.val - 384 by omega]

theorem row_four (f : (⟨4, ![2, 11, 8, 384]⟩ : Shape).Idx → EReal) (h T : ℕ) (x : Fin 1536) :
    (if x.val < 384 then e4 f h T 0 x.val else if x.val - 384 < 384 then e4 f h (T + 1) 0 (x.val - 384)
        else if x.val - 384 - 384 < 384 then e4 f h (T + 2) 0 (x.val - 384 - 384) else e4 f h (T + 3) 0 (x.val - 384 - 384 - 384))
      = e4 f h ((384 * T + x.val) / 384) 0 ((384 * T + x.val) % 384) := by
  have hx := x.isLt
  by_cases h1 : x.val < 384
  · rw [if_pos h1, show (384 * T + x.val) / 384 = T by omega, show (384 * T + x.val) % 384 = x.val by omega]
  rw [if_neg h1]
  by_cases h2 : x.val - 384 < 384
  · rw [if_pos h2, show (384 * T + x.val) / 384 = T + 1 by omega, show (384 * T + x.val) % 384 = x.val - 384 by omega]
  rw [if_neg h2]
  by_cases h3 : x.val - 384 - 384 < 384
  · rw [if_pos h3, show (384 * T + x.val) / 384 = T + 2 by omega, show (384 * T + x.val) % 384 = x.val - 384 - 384 by omega]
  · rw [if_neg h3, show (384 * T + x.val) / 384 = T + 3 by omega, show (384 * T + x.val) % 384 = x.val - 384 - 384 - 384 by omega]

/-- A sum over 768 columns as two over 384. -/
theorem sum_two (f : ℕ → EReal) : ∑ x : Fin 768, f x.val = ∑ x : Fin 384, f x.val + ∑ x : Fin 384, f (384 + x.val) := by
  have := Fin.sum_univ_add (a := 384) (b := 384) (fun x : Fin (384 + 384) => f x.val)
  simpa [Nat.add_comm] using this

/-- The blocks that a point of the grid reads: the queries and output gradients of a batch row, two heads wide, a tile of
    keys and values, and the rows' log-sums and deltas. -/
structure Blk where
  q : (⟨2, ![4224, 256]⟩ : Shape).Idx → EReal
  k : (⟨2, ![384, 256]⟩ : Shape).Idx → EReal
  v : (⟨2, ![384, 256]⟩ : Shape).Idx → EReal
  o : (⟨2, ![4224, 256]⟩ : Shape).Idx → EReal
  ls : (⟨4, ![2, 11, 8, 384]⟩ : Shape).Idx → EReal
  dl : (⟨4, ![2, 11, 8, 384]⟩ : Shape).Idx → EReal

namespace Blk

variable (B : Blk) (j h : ℕ)

/-- The probability that query `n` gives to key `r` of tile `j`, in head `h`: zero where the key comes after the query. -/
def p (r n : ℕ) : EReal :=
  if 384 * j + r ≤ n then
    Ideal.exp2 ((∑ l : Fin 128, e2 B.k r (128 * h + l) * e2 B.q n (128 * h + l)) - e4 B.ls h (n / 384) 0 (n % 384))
  else 0

/-- The gradient of the score of query `n` and key `r`. -/
def ds (r n : ℕ) : EReal :=
  B.p j h r n * ((∑ l : Fin 128, e2 B.v r (128 * h + l) * e2 B.o n (128 * h + l)) - e4 B.dl h (n / 384) 0 (n % 384))

/-- What the first `N` queries add to the gradient of key `r`, lane `l` of head `h`. -/
def dk (N r l : ℕ) : EReal := ∑ n ∈ Finset.range N, B.ds j h r n * e2 B.q n (128 * h + l)

/-- What the first `N` queries add to the gradient of value `r`. -/
def dv (N r l : ℕ) : EReal := ∑ n ∈ Finset.range N, B.p j h r n * e2 B.o n (128 * h + l)

/-- What the tile of keys adds to the gradient of query `n`. -/
def dq (n l : ℕ) : EReal := ∑ r : Fin 384, B.ds j h r n * e2 B.k r (128 * h + l)

theorem p_early (r n : ℕ) (hn : n < 384 * j) : B.p j h r n = 0 := if_neg (by omega)
theorem ds_early (r n : ℕ) (hn : n < 384 * j) : B.ds j h r n = 0 := by rw [ds, p_early B j h r n hn, zero_mul]
theorem dk_early (r l : ℕ) : B.dk j h (384 * j) r l = 0 :=
  Finset.sum_eq_zero fun n hn => by rw [ds_early B j h r n (Finset.mem_range.mp hn), zero_mul]
theorem dv_early (r l : ℕ) : B.dv j h (384 * j) r l = 0 :=
  Finset.sum_eq_zero fun n hn => by rw [p_early B j h r n (Finset.mem_range.mp hn), zero_mul]
theorem dq_early (n l : ℕ) (hn : n < 384 * j) : B.dq j h n l = 0 :=
  Finset.sum_eq_zero fun r _ => by rw [ds_early B j h r n hn, zero_mul]

theorem dk_add (N W r l : ℕ) : B.dk j h (N + W) r l = B.dk j h N r l + ∑ n : Fin W, B.ds j h r (N + n) * e2 B.q (N + n) (128 * h + l) := by
  rw [dk, Finset.sum_range_add, ← dk, Finset.sum_range (n := W)]
theorem dv_add (N W r l : ℕ) : B.dv j h (N + W) r l = B.dv j h N r l + ∑ n : Fin W, B.p j h r (N + n) * e2 B.o (N + n) (128 * h + l) := by
  rw [dv, Finset.sum_range_add, ← dv, Finset.sum_range (n := W)]

end Blk

/-- The four carried sums of a loop over the queries. -/
abbrev Carry : Type := FVec Ideal S384x128 .f32 × FVec Ideal S384x128 .f32 × FVec Ideal S384x128 .f32 × FVec Ideal S384x128 .f32

/-- The carried sums `s` and the query gradient `g` after the first `N` queries, `D` being the query gradient before. -/
structure Acc (B : Blk) (j : ℕ) (D : (⟨2, ![4224, 256]⟩ : Shape).Idx → EReal) (N : ℕ) (s : Carry) (g : (⟨2, ![4224, 256]⟩ : Shape).Idx → EReal) : Prop where
  dk0 : ∀ (r : Fin 384) (l : Fin 128), s.1 (ix2 r l) = B.dk j 0 N r l
  dv0 : ∀ (r : Fin 384) (l : Fin 128), s.2.1 (ix2 r l) = B.dv j 0 N r l
  dk1 : ∀ (r : Fin 384) (l : Fin 128), s.2.2.1 (ix2 r l) = B.dk j 1 N r l
  dv1 : ∀ (r : Fin 384) (l : Fin 128), s.2.2.2 (ix2 r l) = B.dv j 1 N r l
  dq : ∀ (n : Fin 4224) (c : Fin 256), g (ix2 n c) = D (ix2 n c) + if n.val < N then B.dq j (c.val / 128) n.val (c.val % 128) else 0

/-- At the tile's own first query nothing has been added. -/
theorem Acc.start (B : Blk) (j : ℕ) (D : (⟨2, ![4224, 256]⟩ : Shape).Idx → EReal) (s : Carry)
    (h0 : ∀ (r : Fin 384) (l : Fin 128), s.1 (ix2 r l) = 0) (h1 : ∀ (r : Fin 384) (l : Fin 128), s.2.1 (ix2 r l) = 0)
    (h2 : ∀ (r : Fin 384) (l : Fin 128), s.2.2.1 (ix2 r l) = 0) (h3 : ∀ (r : Fin 384) (l : Fin 128), s.2.2.2 (ix2 r l) = 0) :
    Acc B j D (384 * j) s D where
  dk0 r l := by rw [h0, B.dk_early]
  dv0 r l := by rw [h1, B.dv_early]
  dk1 r l := by rw [h2, B.dk_early]
  dv1 r l := by rw [h3, B.dv_early]
  dq n c := by
    by_cases h : n.val < 384 * j
    · rw [if_pos h, B.dq_early _ _ _ _ h, add_zero]
    · rw [if_neg h, add_zero]

/-- A chunk of `W` queries. -/
theorem Acc.step {B : Blk} {j : ℕ} {D : (⟨2, ![4224, 256]⟩ : Shape).Idx → EReal} {N : ℕ} {s : Carry} {g : (⟨2, ![4224, 256]⟩ : Shape).Idx → EReal}
    (h : Acc B j D N s g) (W : ℕ) (hW : N + W ≤ 4224) (s' : Carry) (g' : (⟨2, ![4224, 256]⟩ : Shape).Idx → EReal) (p0 p1 : (⟨2, ![W, 128]⟩ : Shape).Idx → EReal)
    (hdk0 : ∀ (r : Fin 384) (l : Fin 128), s'.1 (ix2 r l) = s.1 (ix2 r l) + ∑ n : Fin W, B.ds j 0 r (N + n) * e2 B.q (N + n) (128 * 0 + l))
    (hdv0 : ∀ (r : Fin 384) (l : Fin 128), s'.2.1 (ix2 r l) = s.2.1 (ix2 r l) + ∑ n : Fin W, B.p j 0 r (N + n) * e2 B.o (N + n) (128 * 0 + l))
    (hdk1 : ∀ (r : Fin 384) (l : Fin 128), s'.2.2.1 (ix2 r l) = s.2.2.1 (ix2 r l) + ∑ n : Fin W, B.ds j 1 r (N + n) * e2 B.q (N + n) (128 * 1 + l))
    (hdv1 : ∀ (r : Fin 384) (l : Fin 128), s'.2.2.2 (ix2 r l) = s.2.2.2 (ix2 r l) + ∑ n : Fin W, B.p j 1 r (N + n) * e2 B.o (N + n) (128 * 1 + l))
    (hg : ∀ (n : Fin 4224) (c : Fin 256), g' (ix2 n c)
      = if N ≤ n.val ∧ n.val < N + W then (if c.val < 128 then e2 p0 (n.val - N) c.val else e2 p1 (n.val - N) (c.val - 128)) else g (ix2 n c))
    (hp0 : ∀ (w : Fin W) (l : Fin 128), p0 (ix2 w l) = e2 g (N + w) (128 * 0 + l) + ∑ r : Fin 384, B.ds j 0 r (N + w) * e2 B.k r (128 * 0 + l))
    (hp1 : ∀ (w : Fin W) (l : Fin 128), p1 (ix2 w l) = e2 g (N + w) (128 * 1 + l) + ∑ r : Fin 384, B.ds j 1 r (N + w) * e2 B.k r (128 * 1 + l)) :
    Acc B j D (N + W) s' g' where
  dk0 r l := by rw [hdk0, h.dk0, B.dk_add]
  dv0 r l := by rw [hdv0, h.dv0, B.dv_add]
  dk1 r l := by rw [hdk1, h.dk1, B.dk_add]
  dv1 r l := by rw [hdv1, h.dv1, B.dv_add]
  dq n c := by
    have hc := c.isLt
    rw [hg]
    by_cases hn : N ≤ n.val ∧ n.val < N + W
    · rw [if_pos hn, if_pos hn.2]
      have hD : g (ix2 n c) = D (ix2 n c) := by rw [h.dq, if_neg (by omega), add_zero]
      by_cases hl : c.val < 128
      · rw [if_pos hl, e2_pos _ _ _ (by omega) hl, hp0]
        have e1 : N + (n.val - N) = n.val := by omega
        have e3 : (128 * 0 + c.val) = c.val := by omega
        show e2 g (N + (n.val - N)) (128 * 0 + c.val) + ∑ r : Fin 384, B.ds j 0 r (N + (n.val - N)) * e2 B.k r (128 * 0 + c.val) = _
        rw [e1, e3, e2_val, hD, Blk.dq, show c.val / 128 = 0 by omega, show c.val % 128 = c.val by omega]
        simp only [e3]
      · rw [if_neg hl, e2_pos _ _ _ (by omega) (by omega), hp1]
        have e1 : N + (n.val - N) = n.val := by omega
        have e3 : (128 * 1 + (c.val - 128)) = c.val := by omega
        show e2 g (N + (n.val - N)) (128 * 1 + (c.val - 128)) + ∑ r : Fin 384, B.ds j 1 r (N + (n.val - N)) * e2 B.k r (128 * 1 + (c.val - 128)) = _
        rw [e1, e3, e2_val, hD, Blk.dq, show c.val / 128 = 1 by omega, show c.val % 128 = c.val - 128 by omega]
        simp only [e3]
    · rw [if_neg hn, h.dq]
      by_cases h1 : n.val < N
      · rw [if_pos h1, if_pos (by omega)]
      · rw [if_neg h1, if_neg (by omega)]

end Cert.KernelIdeal.Att

end
-- ==== Proof.Trips.lean ====
/- One trip of each loop over the queries, as what it adds to the carried sums and to the query gradient. -/
module

public import proofs.«01_k».proof.Proof.Spec

@[expose] public section

noncomputable section

namespace Cert.KernelIdeal.Att

open Cert.KernelIdeal.Gen
open Idealize.ShloMosaic Idealize.ShloMosaic.TcCoe

set_option maxHeartbeats 1000000

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (arg2 : BitVec 32) (v3 : Vec Ideal S384x128 .bf16) (v5 : Vec Ideal S384x128 .bf16) (v7 : Vec Ideal S384x128 .bf16) (v9 : Vec Ideal S384x128 .bf16) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty)
include 𝒱 c bd i arg3 harg3 arg4 harg4 arg5 harg5 arg6 harg6 arg7 harg7 arg8 harg8 arg9 harg9 arg10 harg10 arg11 harg11 arg2 v3 v5 v7 v9 X_arg3 X_arg6 X_arg7 X_arg8

/-- One trip of loop 1: 768 queries more, the mask applied. -/
theorem acc_t1 (k : Fin (k0_t1_loop i).trips) (acc : FVec Ideal S384x128 .f32 × FVec Ideal S384x128 .f32 × FVec Ideal S384x128 .f32 × FVec Ideal S384x128 .f32) (f_arg9 : BufTy.Contents (Elt Ideal) arg9.view.ty) (B : Blk) (j T : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v3 = fun i => e2 B.k (i 0).val (128 * 0 + (i 1).val)) (hK1 : v5 = fun i => e2 B.k (i 0).val (128 * 1 + (i 1).val)) (hV0 : v7 = fun i => e2 B.v (i 0).val (128 * 0 + (i 1).val)) (hV1 : v9 = fun i => e2 B.v (i 0).val (128 * 1 + (i 1).val)) (a0 : k0_off1 i = ![384 * T, 0]) (a1 : k0_off3 i = ![384 * T, 128]) (b00 : k0_off2 i 0#32 = ![0, T + 0, 0, 0]) (b01 : k0_off2 i 1#32 = ![0, T + 1, 0, 0]) (b10 : k0_off4 i 0#32 = ![1, T + 0, 0, 0]) (b11 : k0_off4 i 1#32 = ![1, T + 1, 0, 0]) (hT : 384 * T + 768 ≤ 4224) (hj : j = T) (h : Acc B j D (384 * T) acc (arg9.view.read (Elt Ideal) f_arg9)) :
    Acc B j D (384 * T + 768) ((trip_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 k).1 acc f_arg9)
      (arg9.view.read (Elt Ideal) (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 k).2.1 acc f_arg9))) := by
  unfold trip_k0_t1
  sl_unfold_run_names; dsimp only
  refine h.step 768 (by omega) _ _ _ _ ?_ ?_ ?_ ?_ (fun n c => read_halves arg9.view f_arg9 768 (384 * T) _ _ _ _ a0 a1 _ _ n c) ?_ ?_
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, readAt4 arg8.view X_arg8 _ _ _ 0 (T + 0) b00, readAt4 arg8.view X_arg8 _ _ _ 0 (T + 1) b01, hQ, hO, hL, hK0, hE, hV0]
    pointwise [k0_pay154, k0_pay156, k0_pay162, k0_pay160, k0_pay163, k0_pay161, k0_pay159, k0_pay155, k0_pay157]
    rw [sum_two (fun x => B.ds j 0 r.val (384 * T + x) * e2 B.q (384 * T + x) l.val)]
    refine congrArg (_ + ·) (congrArg₂ (· + ·) (Finset.sum_congr rfl fun x _ => ?_) (Finset.sum_congr rfl fun x _ => ?_))
    · simp only [Blk.ds, Blk.p, Nat.mul_zero, Nat.mul_one, Nat.zero_add, select_fin (m := 384) (n := 384) (by norm_num) (by norm_num), exp2_ideal, hj, Nat.add_le_add_iff_left, row_div, row_mod]
      split_ifs
      · rfl
      · simp only [zero_mul]
    · have hr := r.isLt
      simp only [Blk.ds, Blk.p, Nat.mul_zero, Nat.mul_one, Nat.zero_add, select_far, exp2_ideal, hj, row_div', row_mod']
      rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, hQ, hO, hL, hK0]
    pointwise [k0_pay154, k0_pay156, k0_pay162, k0_pay160, k0_pay163, k0_pay161, k0_pay159, k0_pay155, k0_pay157]
    rw [sum_two (fun x => B.p j 0 r.val (384 * T + x) * e2 B.o (384 * T + x) l.val)]
    refine congrArg (_ + ·) (congrArg₂ (· + ·) (Finset.sum_congr rfl fun x _ => ?_) (Finset.sum_congr rfl fun x _ => ?_))
    · simp only [Blk.p, Nat.mul_zero, Nat.mul_one, Nat.zero_add, select_fin (m := 384) (n := 384) (by norm_num) (by norm_num), exp2_ideal, hj, Nat.add_le_add_iff_left, row_div, row_mod]
      split_ifs
      · rfl
      · simp only [zero_mul]
    · have hr := r.isLt
      simp only [Blk.p, Nat.mul_zero, Nat.mul_one, Nat.zero_add, select_far, exp2_ideal, hj, row_div', row_mod']
      rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, readAt4 arg8.view X_arg8 _ _ _ 1 (T + 0) b10, readAt4 arg8.view X_arg8 _ _ _ 1 (T + 1) b11, hQ, hO, hL, hK1, hE, hV1]
    pointwise [k0_pay154, k0_pay156, k0_pay162, k0_pay160, k0_pay163, k0_pay161, k0_pay159, k0_pay155, k0_pay157]
    rw [sum_two (fun x => B.ds j 1 r.val (384 * T + x) * e2 B.q (384 * T + x) (128 + l.val))]
    refine congrArg (_ + ·) (congrArg₂ (· + ·) (Finset.sum_congr rfl fun x _ => ?_) (Finset.sum_congr rfl fun x _ => ?_))
    · simp only [Blk.ds, Blk.p, Nat.mul_zero, Nat.mul_one, Nat.zero_add, select_fin (m := 384) (n := 384) (by norm_num) (by norm_num), exp2_ideal, hj, Nat.add_le_add_iff_left, row_div, row_mod]
      split_ifs
      · rfl
      · simp only [zero_mul]
    · have hr := r.isLt
      simp only [Blk.ds, Blk.p, Nat.mul_zero, Nat.mul_one, Nat.zero_add, select_far, exp2_ideal, hj, row_div', row_mod']
      rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, hQ, hO, hL, hK1]
    pointwise [k0_pay154, k0_pay156, k0_pay162, k0_pay160, k0_pay163, k0_pay161, k0_pay159, k0_pay155, k0_pay157]
    rw [sum_two (fun x => B.p j 1 r.val (384 * T + x) * e2 B.o (384 * T + x) (128 + l.val))]
    refine congrArg (_ + ·) (congrArg₂ (· + ·) (Finset.sum_congr rfl fun x _ => ?_) (Finset.sum_congr rfl fun x _ => ?_))
    · simp only [Blk.p, Nat.mul_zero, Nat.mul_one, Nat.zero_add, select_fin (m := 384) (n := 384) (by norm_num) (by norm_num), exp2_ideal, hj, Nat.add_le_add_iff_left, row_div, row_mod]
      split_ifs
      · rfl
      · simp only [zero_mul]
    · have hr := r.isLt
      simp only [Blk.p, Nat.mul_zero, Nat.mul_one, Nat.zero_add, select_far, exp2_ideal, hj, row_div', row_mod']
      rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, readAt4 arg8.view X_arg8 _ _ _ 0 (T + 0) b00, readAt4 arg8.view X_arg8 _ _ _ 0 (T + 1) b01, readAt2f arg9.view f_arg9 _ _ _ (384 * T) 0 a0, hQ, hO, hL, hK0, hE, hV0]
    pointwise [k0_pay154, k0_pay156, k0_pay162, k0_pay160, k0_pay163, k0_pay161, k0_pay159, k0_pay155, k0_pay157]
    refine congrArg (_ + ·) (Finset.sum_congr rfl fun x _ => ?_)
    simp only [Blk.ds, Blk.p, Nat.mul_zero, Nat.mul_one, Nat.zero_add, select_fin (m := 384) (n := 768) (by norm_num) (by norm_num), exp2_ideal, hj, Nat.add_le_add_iff_left, dite_eq_ite, row_two]
    split_ifs
    · rfl
    · simp only [zero_mul]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, readAt4 arg8.view X_arg8 _ _ _ 1 (T + 0) b10, readAt4 arg8.view X_arg8 _ _ _ 1 (T + 1) b11, readAt2f arg9.view f_arg9 _ _ _ (384 * T) 128 a1, hQ, hO, hL, hK1, hE, hV1]
    pointwise [k0_pay154, k0_pay156, k0_pay162, k0_pay160, k0_pay163, k0_pay161, k0_pay159, k0_pay155, k0_pay157]
    refine congrArg (_ + ·) (Finset.sum_congr rfl fun x _ => ?_)
    simp only [Blk.ds, Blk.p, Nat.mul_zero, Nat.mul_one, Nat.zero_add, select_fin (m := 384) (n := 768) (by norm_num) (by norm_num), exp2_ideal, hj, Nat.add_le_add_iff_left, dite_eq_ite, row_two]
    split_ifs
    · rfl
    · simp only [zero_mul]

/-- One trip of loop 3: 384 queries more, the mask applied. -/
theorem acc_t3 (k : Fin (k0_t3_loop i).trips) (acc : FVec Ideal S384x128 .f32 × FVec Ideal S384x128 .f32 × FVec Ideal S384x128 .f32 × FVec Ideal S384x128 .f32) (f_arg9 : BufTy.Contents (Elt Ideal) arg9.view.ty) (B : Blk) (j T : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v3 = fun i => e2 B.k (i 0).val (128 * 0 + (i 1).val)) (hK1 : v5 = fun i => e2 B.k (i 0).val (128 * 1 + (i 1).val)) (hV0 : v7 = fun i => e2 B.v (i 0).val (128 * 0 + (i 1).val)) (hV1 : v9 = fun i => e2 B.v (i 0).val (128 * 1 + (i 1).val)) (a0 : k0_off9 i = ![384 * T, 0]) (a1 : k0_off11 i = ![384 * T, 128]) (b00 : k0_off10 i = ![0, T + 0, 0, 0]) (b10 : k0_off12 i = ![1, T + 0, 0, 0]) (hT : 384 * T + 384 ≤ 4224) (hj : j = T) (h : Acc B j D (384 * T) acc (arg9.view.read (Elt Ideal) f_arg9)) :
    Acc B j D (384 * T + 384) ((trip_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 k).1 acc f_arg9)
      (arg9.view.read (Elt Ideal) (arg9.view.writes (Elt Ideal) f_arg9 ((trip_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 k).2.1 acc f_arg9))) := by
  unfold trip_k0_t3
  sl_unfold_run_names; dsimp only
  refine h.step 384 (by omega) _ _ _ _ ?_ ?_ ?_ ?_ (fun n c => read_halves arg9.view f_arg9 384 (384 * T) _ _ _ _ a0 a1 _ _ n c) ?_ ?_
  · intro r l
    rw [readAt2b arg3.view X_arg3 _ _ _ (384 * T) 0 a0, readAt2b arg6.view X_arg6 _ _ _ (384 * T) 0 a0, readAt4 arg7.view X_arg7 _ _ _ 0 (T + 0) b00, readAt4 arg8.view X_arg8 _ _ _ 0 (T + 0) b00, hQ, hO, hL, hK0, hE, hV0]
    pointwise [k0_pay154, k0_pay156, k0_pay155, k0_pay157, k0_pay169]
    refine congrArg (_ + ·) (Finset.sum_congr rfl fun x _ => ?_)
    simp only [Blk.ds, Blk.p, Nat.mul_zero, Nat.mul_one, Nat.zero_add, select_fin (m := 384) (n := 384) (by norm_num) (by norm_num), exp2_ideal, hj, Nat.add_le_add_iff_left, row_div, row_mod]
    split_ifs
    · rfl
    · simp only [zero_mul]
  · intro r l
    rw [readAt2b arg3.view X_arg3 _ _ _ (384 * T) 0 a0, readAt2b arg6.view X_arg6 _ _ _ (384 * T) 0 a0, readAt4 arg7.view X_arg7 _ _ _ 0 (T + 0) b00, hQ, hO, hL, hK0]
    pointwise [k0_pay154, k0_pay156, k0_pay155, k0_pay157, k0_pay169]
    refine congrArg (_ + ·) (Finset.sum_congr rfl fun x _ => ?_)
    simp only [Blk.p, Nat.mul_zero, Nat.mul_one, Nat.zero_add, select_fin (m := 384) (n := 384) (by norm_num) (by norm_num), exp2_ideal, hj, Nat.add_le_add_iff_left, row_div, row_mod]
    split_ifs
    · rfl
    · simp only [zero_mul]
  · intro r l
    rw [readAt2b arg3.view X_arg3 _ _ _ (384 * T) 128 a1, readAt2b arg6.view X_arg6 _ _ _ (384 * T) 128 a1, readAt4 arg7.view X_arg7 _ _ _ 1 (T + 0) b10, readAt4 arg8.view X_arg8 _ _ _ 1 (T + 0) b10, hQ, hO, hL, hK1, hE, hV1]
    pointwise [k0_pay154, k0_pay156, k0_pay155, k0_pay157, k0_pay169]
    refine congrArg (_ + ·) (Finset.sum_congr rfl fun x _ => ?_)
    simp only [Blk.ds, Blk.p, Nat.mul_zero, Nat.mul_one, Nat.zero_add, select_fin (m := 384) (n := 384) (by norm_num) (by norm_num), exp2_ideal, hj, Nat.add_le_add_iff_left, row_div, row_mod]
    split_ifs
    · rfl
    · simp only [zero_mul]
  · intro r l
    rw [readAt2b arg3.view X_arg3 _ _ _ (384 * T) 128 a1, readAt2b arg6.view X_arg6 _ _ _ (384 * T) 128 a1, readAt4 arg7.view X_arg7 _ _ _ 1 (T + 0) b10, hQ, hO, hL, hK1]
    pointwise [k0_pay154, k0_pay156, k0_pay155, k0_pay157, k0_pay169]
    refine congrArg (_ + ·) (Finset.sum_congr rfl fun x _ => ?_)
    simp only [Blk.p, Nat.mul_zero, Nat.mul_one, Nat.zero_add, select_fin (m := 384) (n := 384) (by norm_num) (by norm_num), exp2_ideal, hj, Nat.add_le_add_iff_left, row_div, row_mod]
    split_ifs
    · rfl
    · simp only [zero_mul]
  · intro r l
    rw [readAt2b arg3.view X_arg3 _ _ _ (384 * T) 0 a0, readAt2b arg6.view X_arg6 _ _ _ (384 * T) 0 a0, readAt4 arg7.view X_arg7 _ _ _ 0 (T + 0) b00, readAt4 arg8.view X_arg8 _ _ _ 0 (T + 0) b00, readAt2f arg9.view f_arg9 _ _ _ (384 * T) 0 a0, hQ, hO, hL, hK0, hE, hV0]
    pointwise [k0_pay154, k0_pay156, k0_pay155, k0_pay157, k0_pay169]
    refine congrArg (_ + ·) (Finset.sum_congr rfl fun x _ => ?_)
    simp only [Blk.ds, Blk.p, Nat.mul_zero, Nat.mul_one, Nat.zero_add, select_fin (m := 384) (n := 384) (by norm_num) (by norm_num), exp2_ideal, hj, Nat.add_le_add_iff_left, row_div, row_mod]
    split_ifs
    · rfl
    · simp only [zero_mul]
  · intro r l
    rw [readAt2b arg3.view X_arg3 _ _ _ (384 * T) 128 a1, readAt2b arg6.view X_arg6 _ _ _ (384 * T) 128 a1, readAt4 arg7.view X_arg7 _ _ _ 1 (T + 0) b10, readAt4 arg8.view X_arg8 _ _ _ 1 (T + 0) b10, readAt2f arg9.view f_arg9 _ _ _ (384 * T) 128 a1, hQ, hO, hL, hK1, hE, hV1]
    pointwise [k0_pay154, k0_pay156, k0_pay155, k0_pay157, k0_pay169]
    refine congrArg (_ + ·) (Finset.sum_congr rfl fun x _ => ?_)
    simp only [Blk.ds, Blk.p, Nat.mul_zero, Nat.mul_one, Nat.zero_add, select_fin (m := 384) (n := 384) (by norm_num) (by norm_num), exp2_ideal, hj, Nat.add_le_add_iff_left, row_div, row_mod]
    split_ifs
    · rfl
    · simp only [zero_mul]

end

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (v4 : FVec Ideal S384x128 .bf16) (v6 : FVec Ideal S384x128 .bf16) (v8 : FVec Ideal S384x128 .bf16) (v10 : FVec Ideal S384x128 .bf16)
include 𝒱 c bd i arg3 harg3 arg4 harg4 arg5 harg5 arg6 harg6 arg7 harg7 arg8 harg8 arg9 harg9 arg10 harg10 arg11 harg11 v4 v6 v8 v10

/-- One trip of loop 5: 1536 queries more. -/
theorem acc_t5 (v15 : BitVec 32) (v16 : BitVec 32) (v31_0 : FVec Ideal S384x128 .f32) (v31_1 : FVec Ideal S384x128 .f32) (v31_2 : FVec Ideal S384x128 .f32) (v31_3 : FVec Ideal S384x128 .f32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (k : Fin (k0_t5_loop i).trips) (acc : FVec Ideal S384x128 .f32 × FVec Ideal S384x128 .f32 × FVec Ideal S384x128 .f32 × FVec Ideal S384x128 .f32) (f_arg9 : BufTy.Contents (Elt Ideal) arg9.view.ty) (B : Blk) (j T : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (a0 : k0_off17 i k = ![384 * T, 0]) (a1 : k0_off19 i k = ![384 * T, 128]) (b00 : k0_off18 i k 0#32 = ![0, T + 0, 0, 0]) (b01 : k0_off18 i k 1#32 = ![0, T + 1, 0, 0]) (b02 : k0_off18 i k 2#32 = ![0, T + 2, 0, 0]) (b03 : k0_off18 i k 3#32 = ![0, T + 3, 0, 0]) (b10 : k0_off20 i k 0#32 = ![1, T + 0, 0, 0]) (b11 : k0_off20 i k 1#32 = ![1, T + 1, 0, 0]) (b12 : k0_off20 i k 2#32 = ![1, T + 2, 0, 0]) (b13 : k0_off20 i k 3#32 = ![1, T + 3, 0, 0]) (hT : 384 * T + 1536 ≤ 4224) (hj : j < T) (h : Acc B j D (384 * T) acc (arg9.view.read (Elt Ideal) f_arg9)) :
    Acc B j D (384 * T + 1536) ((trip_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 k).1 acc f_arg9)
      (arg9.view.read (Elt Ideal) (arg9.view.writes (Elt Ideal) f_arg9 ((trip_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 k).2.1 acc f_arg9))) := by
  unfold trip_k0_t5
  sl_unfold_run_names; dsimp only
  refine h.step 1536 (by omega) _ _ _ _ ?_ ?_ ?_ ?_ (fun n c => read_halves arg9.view f_arg9 1536 (384 * T) _ _ _ _ a0 a1 _ _ n c) ?_ ?_
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, readAt4 arg7.view X_arg7 _ _ _ 0 (T + 2) b02, readAt4 arg7.view X_arg7 _ _ _ 0 (T + 3) b03, readAt4 arg8.view X_arg8 _ _ _ 0 (T + 0) b00, readAt4 arg8.view X_arg8 _ _ _ 0 (T + 1) b01, readAt4 arg8.view X_arg8 _ _ _ 0 (T + 2) b02, readAt4 arg8.view X_arg8 _ _ _ 0 (T + 3) b03, hQ, hO, hL, hK0, hE, hV0]
    pointwise [k0_pay174, k0_pay172, k0_pay175, k0_pay173, k0_pay171]
    refine congrArg (_ + ·) (Finset.sum_congr rfl fun x _ => ?_)
    have hr := r.isLt
    simp only [Blk.ds, Blk.p, Nat.mul_zero, Nat.mul_one, Nat.zero_add, exp2_ideal, dite_eq_ite, row_four]
    rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, readAt4 arg7.view X_arg7 _ _ _ 0 (T + 2) b02, readAt4 arg7.view X_arg7 _ _ _ 0 (T + 3) b03, hQ, hO, hL, hK0]
    pointwise [k0_pay174, k0_pay172, k0_pay175, k0_pay173, k0_pay171]
    refine congrArg (_ + ·) (Finset.sum_congr rfl fun x _ => ?_)
    have hr := r.isLt
    simp only [Blk.p, Nat.mul_zero, Nat.mul_one, Nat.zero_add, exp2_ideal, dite_eq_ite, row_four]
    rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, readAt4 arg7.view X_arg7 _ _ _ 1 (T + 2) b12, readAt4 arg7.view X_arg7 _ _ _ 1 (T + 3) b13, readAt4 arg8.view X_arg8 _ _ _ 1 (T + 0) b10, readAt4 arg8.view X_arg8 _ _ _ 1 (T + 1) b11, readAt4 arg8.view X_arg8 _ _ _ 1 (T + 2) b12, readAt4 arg8.view X_arg8 _ _ _ 1 (T + 3) b13, hQ, hO, hL, hK1, hE, hV1]
    pointwise [k0_pay174, k0_pay172, k0_pay175, k0_pay173, k0_pay171]
    refine congrArg (_ + ·) (Finset.sum_congr rfl fun x _ => ?_)
    have hr := r.isLt
    simp only [Blk.ds, Blk.p, Nat.mul_zero, Nat.mul_one, Nat.zero_add, exp2_ideal, dite_eq_ite, row_four]
    rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, readAt4 arg7.view X_arg7 _ _ _ 1 (T + 2) b12, readAt4 arg7.view X_arg7 _ _ _ 1 (T + 3) b13, hQ, hO, hL, hK1]
    pointwise [k0_pay174, k0_pay172, k0_pay175, k0_pay173, k0_pay171]
    refine congrArg (_ + ·) (Finset.sum_congr rfl fun x _ => ?_)
    have hr := r.isLt
    simp only [Blk.p, Nat.mul_zero, Nat.mul_one, Nat.zero_add, exp2_ideal, dite_eq_ite, row_four]
    rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, readAt4 arg7.view X_arg7 _ _ _ 0 (T + 2) b02, readAt4 arg7.view X_arg7 _ _ _ 0 (T + 3) b03, readAt4 arg8.view X_arg8 _ _ _ 0 (T + 0) b00, readAt4 arg8.view X_arg8 _ _ _ 0 (T + 1) b01, readAt4 arg8.view X_arg8 _ _ _ 0 (T + 2) b02, readAt4 arg8.view X_arg8 _ _ _ 0 (T + 3) b03, readAt2f arg9.view f_arg9 _ _ _ (384 * T) 0 a0, hQ, hO, hL, hK0, hE, hV0]
    pointwise [k0_pay174, k0_pay172, k0_pay175, k0_pay173, k0_pay171]
    refine congrArg (_ + ·) (Finset.sum_congr rfl fun x _ => ?_)
    have hr := x.isLt
    simp only [Blk.ds, Blk.p, Nat.mul_zero, Nat.mul_one, Nat.zero_add, exp2_ideal, dite_eq_ite, row_four]
    rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, readAt4 arg7.view X_arg7 _ _ _ 1 (T + 2) b12, readAt4 arg7.view X_arg7 _ _ _ 1 (T + 3) b13, readAt4 arg8.view X_arg8 _ _ _ 1 (T + 0) b10, readAt4 arg8.view X_arg8 _ _ _ 1 (T + 1) b11, readAt4 arg8.view X_arg8 _ _ _ 1 (T + 2) b12, readAt4 arg8.view X_arg8 _ _ _ 1 (T + 3) b13, readAt2f arg9.view f_arg9 _ _ _ (384 * T) 128 a1, hQ, hO, hL, hK1, hE, hV1]
    pointwise [k0_pay174, k0_pay172, k0_pay175, k0_pay173, k0_pay171]
    refine congrArg (_ + ·) (Finset.sum_congr rfl fun x _ => ?_)
    have hr := x.isLt
    simp only [Blk.ds, Blk.p, Nat.mul_zero, Nat.mul_one, Nat.zero_add, exp2_ideal, dite_eq_ite, row_four]
    rw [if_pos (by omega)]

/-- One trip of loop 7: 768 queries more. -/
theorem acc_t7 (v15 : BitVec 32) (v16 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (k : Fin (k0_t7_loop i).trips) (acc : FVec Ideal S384x128 .f32 × FVec Ideal S384x128 .f32 × FVec Ideal S384x128 .f32 × FVec Ideal S384x128 .f32) (f_arg9 : BufTy.Contents (Elt Ideal) arg9.view.ty) (B : Blk) (j T : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (a0 : k0_off25 i = ![384 * T, 0]) (a1 : k0_off27 i = ![384 * T, 128]) (b00 : k0_off26 i 0#32 = ![0, T + 0, 0, 0]) (b01 : k0_off26 i 1#32 = ![0, T + 1, 0, 0]) (b10 : k0_off28 i 0#32 = ![1, T + 0, 0, 0]) (b11 : k0_off28 i 1#32 = ![1, T + 1, 0, 0]) (hT : 384 * T + 768 ≤ 4224) (hj : j < T) (h : Acc B j D (384 * T) acc (arg9.view.read (Elt Ideal) f_arg9)) :
    Acc B j D (384 * T + 768) ((trip_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 k).1 acc f_arg9)
      (arg9.view.read (Elt Ideal) (arg9.view.writes (Elt Ideal) f_arg9 ((trip_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 k).2.1 acc f_arg9))) := by
  unfold trip_k0_t7
  sl_unfold_run_names; dsimp only
  refine h.step 768 (by omega) _ _ _ _ ?_ ?_ ?_ ?_ (fun n c => read_halves arg9.view f_arg9 768 (384 * T) _ _ _ _ a0 a1 _ _ n c) ?_ ?_
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, readAt4 arg8.view X_arg8 _ _ _ 0 (T + 0) b00, readAt4 arg8.view X_arg8 _ _ _ 0 (T + 1) b01, hQ, hO, hL, hK0, hE, hV0]
    pointwise []
    rw [sum_two (fun x => B.ds j 0 r.val (384 * T + x) * e2 B.q (384 * T + x) l.val)]
    refine congrArg (_ + ·) (congrArg₂ (· + ·) (Finset.sum_congr rfl fun x _ => ?_) (Finset.sum_congr rfl fun x _ => ?_))
    · have hr := r.isLt
      simp only [Blk.ds, Blk.p, Nat.mul_zero, Nat.mul_one, Nat.zero_add, exp2_ideal, row_div, row_mod]
      rw [if_pos (by omega)]
    · have hr := r.isLt
      simp only [Blk.ds, Blk.p, Nat.mul_zero, Nat.mul_one, Nat.zero_add, exp2_ideal, row_div', row_mod']
      rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, hQ, hO, hL, hK0]
    pointwise []
    rw [sum_two (fun x => B.p j 0 r.val (384 * T + x) * e2 B.o (384 * T + x) l.val)]
    refine congrArg (_ + ·) (congrArg₂ (· + ·) (Finset.sum_congr rfl fun x _ => ?_) (Finset.sum_congr rfl fun x _ => ?_))
    · have hr := r.isLt
      simp only [Blk.p, Nat.mul_zero, Nat.mul_one, Nat.zero_add, exp2_ideal, row_div, row_mod]
      rw [if_pos (by omega)]
    · have hr := r.isLt
      simp only [Blk.p, Nat.mul_zero, Nat.mul_one, Nat.zero_add, exp2_ideal, row_div', row_mod']
      rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, readAt4 arg8.view X_arg8 _ _ _ 1 (T + 0) b10, readAt4 arg8.view X_arg8 _ _ _ 1 (T + 1) b11, hQ, hO, hL, hK1, hE, hV1]
    pointwise []
    rw [sum_two (fun x => B.ds j 1 r.val (384 * T + x) * e2 B.q (384 * T + x) (128 + l.val))]
    refine congrArg (_ + ·) (congrArg₂ (· + ·) (Finset.sum_congr rfl fun x _ => ?_) (Finset.sum_congr rfl fun x _ => ?_))
    · have hr := r.isLt
      simp only [Blk.ds, Blk.p, Nat.mul_zero, Nat.mul_one, Nat.zero_add, exp2_ideal, row_div, row_mod]
      rw [if_pos (by omega)]
    · have hr := r.isLt
      simp only [Blk.ds, Blk.p, Nat.mul_zero, Nat.mul_one, Nat.zero_add, exp2_ideal, row_div', row_mod']
      rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, hQ, hO, hL, hK1]
    pointwise []
    rw [sum_two (fun x => B.p j 1 r.val (384 * T + x) * e2 B.o (384 * T + x) (128 + l.val))]
    refine congrArg (_ + ·) (congrArg₂ (· + ·) (Finset.sum_congr rfl fun x _ => ?_) (Finset.sum_congr rfl fun x _ => ?_))
    · have hr := r.isLt
      simp only [Blk.p, Nat.mul_zero, Nat.mul_one, Nat.zero_add, exp2_ideal, row_div, row_mod]
      rw [if_pos (by omega)]
    · have hr := r.isLt
      simp only [Blk.p, Nat.mul_zero, Nat.mul_one, Nat.zero_add, exp2_ideal, row_div', row_mod']
      rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, readAt4 arg7.view X_arg7 _ _ _ 0 (T + 1) b01, readAt4 arg8.view X_arg8 _ _ _ 0 (T + 0) b00, readAt4 arg8.view X_arg8 _ _ _ 0 (T + 1) b01, readAt2f arg9.view f_arg9 _ _ _ (384 * T) 0 a0, hQ, hO, hL, hK0, hE, hV0]
    pointwise []
    refine congrArg (_ + ·) (Finset.sum_congr rfl fun x _ => ?_)
    have hr := x.isLt
    simp only [Blk.ds, Blk.p, Nat.mul_zero, Nat.mul_one, Nat.zero_add, exp2_ideal, dite_eq_ite, row_two]
    rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg7.view X_arg7 _ _ _ 1 (T + 1) b11, readAt4 arg8.view X_arg8 _ _ _ 1 (T + 0) b10, readAt4 arg8.view X_arg8 _ _ _ 1 (T + 1) b11, readAt2f arg9.view f_arg9 _ _ _ (384 * T) 128 a1, hQ, hO, hL, hK1, hE, hV1]
    pointwise []
    refine congrArg (_ + ·) (Finset.sum_congr rfl fun x _ => ?_)
    have hr := x.isLt
    simp only [Blk.ds, Blk.p, Nat.mul_zero, Nat.mul_one, Nat.zero_add, exp2_ideal, dite_eq_ite, row_two]
    rw [if_pos (by omega)]

/-- One trip of loop 9: 384 queries more. -/
theorem acc_t9 (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (k : Fin (k0_t9_loop i).trips) (acc : FVec Ideal S384x128 .f32 × FVec Ideal S384x128 .f32 × FVec Ideal S384x128 .f32 × FVec Ideal S384x128 .f32) (f_arg9 : BufTy.Contents (Elt Ideal) arg9.view.ty) (B : Blk) (j T : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (hT : T = 10) (hj : j < T) (h : Acc B j D (384 * T) acc (arg9.view.read (Elt Ideal) f_arg9)) :
    Acc B j D (384 * T + 384) ((trip_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 k).1 acc f_arg9)
      (arg9.view.read (Elt Ideal) (arg9.view.writes (Elt Ideal) f_arg9 ((trip_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 k).2.1 acc f_arg9))) := by
  have a0 : (![3840, 0] : Fin 2 → ℕ) = ![384 * T, 0] := by subst hT; rfl
  have a1 : (![3840, 128] : Fin 2 → ℕ) = ![384 * T, 128] := by subst hT; rfl
  have b00 : (![0, 10, 0, 0] : Fin 4 → ℕ) = ![0, T + 0, 0, 0] := by subst hT; rfl
  have b10 : (![1, 10, 0, 0] : Fin 4 → ℕ) = ![1, T + 0, 0, 0] := by subst hT; rfl
  unfold trip_k0_t9
  sl_unfold_run_names; dsimp only
  refine h.step 384 (by omega) _ _ _ _ ?_ ?_ ?_ ?_ (fun n c => read_halves arg9.view f_arg9 384 (384 * T) _ _ _ _ a0 a1 _ _ n c) ?_ ?_
  · intro r l
    rw [readAt2b arg3.view X_arg3 _ _ _ (384 * T) 0 a0, readAt2b arg6.view X_arg6 _ _ _ (384 * T) 0 a0, readAt4 arg7.view X_arg7 _ _ _ 0 (T + 0) b00, readAt4 arg8.view X_arg8 _ _ _ 0 (T + 0) b00, hQ, hO, hL, hK0, hE, hV0]
    pointwise [k0_pay5, k0_pay3, k0_pay6, k0_pay4, k0_pay2, k0_pay1]
    refine congrArg (_ + ·) (Finset.sum_congr rfl fun x _ => ?_)
    have hr := r.isLt
    simp only [Blk.ds, Blk.p, Nat.mul_zero, Nat.mul_one, Nat.zero_add, exp2_ideal, row_div, row_mod]
    rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, hQ, hO, hL, hK0]
    pointwise [k0_pay5, k0_pay3, k0_pay6, k0_pay4, k0_pay2, k0_pay1]
    refine congrArg (_ + ·) (Finset.sum_congr rfl fun x _ => ?_)
    have hr := r.isLt
    simp only [Blk.p, Nat.mul_zero, Nat.mul_one, Nat.zero_add, exp2_ideal, row_div, row_mod]
    rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg8.view X_arg8 _ _ _ 1 (T + 0) b10, hQ, hO, hL, hK1, hE, hV1]
    pointwise [k0_pay5, k0_pay3, k0_pay6, k0_pay4, k0_pay2, k0_pay1]
    refine congrArg (_ + ·) (Finset.sum_congr rfl fun x _ => ?_)
    have hr := r.isLt
    simp only [Blk.ds, Blk.p, Nat.mul_zero, Nat.mul_one, Nat.zero_add, exp2_ideal, row_div, row_mod]
    rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, hQ, hO, hL, hK1]
    pointwise [k0_pay5, k0_pay3, k0_pay6, k0_pay4, k0_pay2, k0_pay1]
    refine congrArg (_ + ·) (Finset.sum_congr rfl fun x _ => ?_)
    have hr := r.isLt
    simp only [Blk.p, Nat.mul_zero, Nat.mul_one, Nat.zero_add, exp2_ideal, row_div, row_mod]
    rw [if_pos (by omega)]
  · intro r l
    rw [readAt2b arg3.view X_arg3 _ _ _ (384 * T) 0 a0, readAt2b arg6.view X_arg6 _ _ _ (384 * T) 0 a0, readAt4 arg7.view X_arg7 _ _ _ 0 (T + 0) b00, readAt4 arg8.view X_arg8 _ _ _ 0 (T + 0) b00, readAt2f arg9.view f_arg9 _ _ _ (384 * T) 0 a0, hQ, hO, hL, hK0, hE, hV0]
    pointwise [k0_pay5, k0_pay3, k0_pay6, k0_pay4, k0_pay2, k0_pay1]
    refine congrArg (_ + ·) (Finset.sum_congr rfl fun x _ => ?_)
    have hr := x.isLt
    simp only [Blk.ds, Blk.p, Nat.mul_zero, Nat.mul_one, Nat.zero_add, exp2_ideal, row_div, row_mod]
    rw [if_pos (by omega)]
  · intro r l
    rw [readAt2b arg3.view X_arg3 _ _ _ (384 * T) 128 a1, readAt2b arg6.view X_arg6 _ _ _ (384 * T) 128 a1, readAt4 arg7.view X_arg7 _ _ _ 1 (T + 0) b10, readAt4 arg8.view X_arg8 _ _ _ 1 (T + 0) b10, readAt2f arg9.view f_arg9 _ _ _ (384 * T) 128 a1, hQ, hO, hL, hK1, hE, hV1]
    pointwise [k0_pay5, k0_pay3, k0_pay6, k0_pay4, k0_pay2, k0_pay1]
    refine congrArg (_ + ·) (Finset.sum_congr rfl fun x _ => ?_)
    have hr := x.isLt
    simp only [Blk.ds, Blk.p, Nat.mul_zero, Nat.mul_one, Nat.zero_add, exp2_ideal, row_div, row_mod]
    rw [if_pos (by omega)]

end

end Cert.KernelIdeal.Att

end
-- ==== Proof.Chunks.lean ====
/- The loops over the queries, run to their ends. -/
module

public import proofs.«01_k».proof.Proof.Trips

@[expose] public section

noncomputable section

namespace Cert.KernelIdeal.Att

open Cert.KernelIdeal.Gen
open Idealize.ShloMosaic Idealize.ShloMosaic.TcCoe

set_option maxHeartbeats 1000000

theorem trips1 : ∀ i : grid0.Coords, (k0_t1_loop i).trips = min (10 - (i 2).val) 1 := by decide +kernel
theorem trips3 : ∀ i : grid0.Coords, (k0_t3_loop i).trips = 1 - min (10 - (i 2).val) 1 := by decide +kernel
theorem trips5 : ∀ i : grid0.Coords, (k0_t5_loop i).trips = (10 - ((i 2).val + min (10 - (i 2).val) 1)) / 4 := by decide +kernel
theorem trips7 : ∀ i : grid0.Coords, (k0_t7_loop i).trips = (10 - ((i 2).val + min (10 - (i 2).val) 1)) % 4 / 2 := by decide +kernel
theorem trips9 : ∀ i : grid0.Coords, (k0_t9_loop i).trips = (10 - ((i 2).val + min (10 - (i 2).val) 1)) % 2 := by decide +kernel
theorem none2 : ∀ i : grid0.Coords, (k0_t2_loop i).trips ≤ 0 := fun i => (k0_t2_abs i).2.1
theorem none4 : ∀ i : grid0.Coords, (k0_t4_loop i).trips ≤ 0 := fun i => (k0_t4_abs i).2.1
theorem none10 : ∀ i : grid0.Coords, (k0_t10_loop i).trips ≤ 0 := by decide +kernel

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (arg2 : BitVec 32) (v3 : Vec Ideal S384x128 .bf16) (v5 : Vec Ideal S384x128 .bf16) (v7 : Vec Ideal S384x128 .bf16) (v9 : Vec Ideal S384x128 .bf16) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S384x128 .f32 × FVec Ideal S384x128 .f32 × FVec Ideal S384x128 .f32 × FVec Ideal S384x128 .f32) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v3 = fun i => e2 B.k (i 0).val (128 * 0 + (i 1).val)) (hK1 : v5 = fun i => e2 B.k (i 0).val (128 * 1 + (i 1).val)) (hV0 : v7 = fun i => e2 B.v (i 0).val (128 * 0 + (i 1).val)) (hV1 : v9 = fun i => e2 B.v (i 0).val (128 * 1 + (i 1).val)) (hj : j = (i 2).val)
include 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init B j D hQ hO hL hE hK0 hK1 hV0 hV1 hj

/-- Loop 1, after `n` trips. -/
theorem acc_st_t1 (h : Acc B j D (384 * j) init (arg9.view.read (Elt Ideal) G_arg9)) :
    ∀ n : ℕ, n ≤ (k0_t1_loop i).trips → Acc B j D (384 * j + 768 * n) (st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).1 (arg9.view.read (Elt Ideal) (arg9.view.writes (Elt Ideal) G_arg9 (st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).2)) := by
  intro n
  induction n with
  | zero => intro _; exact h
  | succ n ih =>
    intro hn
    have hn' : n < (k0_t1_loop i).trips := hn
    have IH := ih (le_of_lt hn')
    have ht := hn'; rw [trips1, ← hj] at ht
    have hi : (i 2).val < 11 := (i 2).isLt
    have eT : 384 * j + 768 * n = 384 * (j) := by omega
    rw [eT] at IH
    have a0 : k0_off1 i = ![384 * (j), 0] := by rw [k0_off1_eq, ← hj]
    have a1 : k0_off3 i = ![384 * (j), 128] := by rw [k0_off3_eq, ← hj]
    have b00 : k0_off2 i 0#32 = ![0, (j) + 0, 0, 0] := by have e := k0_off2_eq i (0 : Fin 2); rw [← hj] at e; refine e.trans (congrArg (fun z : ℕ => (![0, z, 0, 0] : Fin 4 → ℕ)) ?_); show _ + (0 : ℕ) = _; omega
    have b01 : k0_off2 i 1#32 = ![0, (j) + 1, 0, 0] := by have e := k0_off2_eq i (1 : Fin 2); rw [← hj] at e; refine e.trans (congrArg (fun z : ℕ => (![0, z, 0, 0] : Fin 4 → ℕ)) ?_); show _ + (1 : ℕ) = _; omega
    have b10 : k0_off4 i 0#32 = ![1, (j) + 0, 0, 0] := by have e := k0_off4_eq i (0 : Fin 2); rw [← hj] at e; refine e.trans (congrArg (fun z : ℕ => (![1, z, 0, 0] : Fin 4 → ℕ)) ?_); show _ + (0 : ℕ) = _; omega
    have b11 : k0_off4 i 1#32 = ![1, (j) + 1, 0, 0] := by have e := k0_off4_eq i (1 : Fin 2); rw [← hj] at e; refine e.trans (congrArg (fun z : ℕ => (![1, z, 0, 0] : Fin 4 → ℕ)) ?_); show _ + (1 : ℕ) = _; omega
    have E := acc_t1 𝒱 c bd i arg3 harg3 arg4 harg4 arg5 harg5 arg6 harg6 arg7 harg7 arg8 harg8 arg9 harg9 arg10 harg10 arg11 harg11 arg2 v3 v5 v7 v9 X_arg3 X_arg6 X_arg7 X_arg8 ⟨n, hn'⟩ (st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).1 (arg9.view.writes (Elt Ideal) G_arg9 (st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).2) B j (j) D hQ hO hL hE hK0 hK1 hV0 hV1 a0 a1 b00 b01 b10 b11 (by omega) (by omega) IH
    have eS := st_k0_t1_succ (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init ⟨n, hn'⟩
    dsimp only at eS
    rw [eS, View.writes_append, show 384 * j + 768 * (n + 1) = 384 * (j) + 768 by omega]
    exact E

/-- Loop 3, after `n` trips. -/
theorem acc_st_t3 (h : Acc B j D (384 * j + 768 * (min (10 - j) 1)) init (arg9.view.read (Elt Ideal) G_arg9)) :
    ∀ n : ℕ, n ≤ (k0_t3_loop i).trips → Acc B j D (384 * j + 768 * (min (10 - j) 1) + 384 * n) (st_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).1 (arg9.view.read (Elt Ideal) (arg9.view.writes (Elt Ideal) G_arg9 (st_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).2)) := by
  intro n
  induction n with
  | zero => intro _; exact h
  | succ n ih =>
    intro hn
    have hn' : n < (k0_t3_loop i).trips := hn
    have IH := ih (le_of_lt hn')
    have ht := hn'; rw [trips3, ← hj] at ht
    have hi : (i 2).val < 11 := (i 2).isLt
    have eT : 384 * j + 768 * (min (10 - j) 1) + 384 * n = 384 * (j) := by omega
    rw [eT] at IH
    have a0 : k0_off9 i = ![384 * (j), 0] := by rw [k0_off9_eq, ← hj]
    have a1 : k0_off11 i = ![384 * (j), 128] := by rw [k0_off11_eq, ← hj]
    have b00 : k0_off10 i = ![0, (j) + 0, 0, 0] := by rw [k0_off10_eq, ← hj]; rfl
    have b10 : k0_off12 i = ![1, (j) + 0, 0, 0] := by rw [k0_off12_eq, ← hj]; rfl
    have E := acc_t3 𝒱 c bd i arg3 harg3 arg4 harg4 arg5 harg5 arg6 harg6 arg7 harg7 arg8 harg8 arg9 harg9 arg10 harg10 arg11 harg11 arg2 v3 v5 v7 v9 X_arg3 X_arg6 X_arg7 X_arg8 ⟨n, hn'⟩ (st_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).1 (arg9.view.writes (Elt Ideal) G_arg9 (st_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init n).2) B j (j) D hQ hO hL hE hK0 hK1 hV0 hV1 a0 a1 b00 b10 (by omega) (by omega) IH
    have eS := st_k0_t3_succ (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G_arg9 init ⟨n, hn'⟩
    dsimp only at eS
    rw [eS, View.writes_append, show 384 * j + 768 * (min (10 - j) 1) + 384 * (n + 1) = 384 * (j) + 384 by omega]
    exact E

end

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole)
include 𝒱 c bd i arg3 harg3 arg4 harg4 arg5 harg5 arg6 harg6 arg7 harg7 arg8 harg8 arg9 harg9 arg10 harg10 arg11 harg11

/-- Loop 5, after `n` trips. -/
theorem acc_st_t5 (v4 : FVec Ideal S384x128 .bf16) (v6 : FVec Ideal S384x128 .bf16) (v8 : FVec Ideal S384x128 .bf16) (v10 : FVec Ideal S384x128 .bf16) (v15 : BitVec 32) (v16 : BitVec 32) (v31_0 : FVec Ideal S384x128 .f32) (v31_1 : FVec Ideal S384x128 .f32) (v31_2 : FVec Ideal S384x128 .f32) (v31_3 : FVec Ideal S384x128 .f32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S384x128 .f32 × FVec Ideal S384x128 .f32 × FVec Ideal S384x128 .f32 × FVec Ideal S384x128 .f32) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (hj : j = (i 2).val) (h : Acc B j D (384 * (j + min (10 - j) 1 + 1)) init (arg9.view.read (Elt Ideal) G_arg9)) :
    ∀ n : ℕ, n ≤ (k0_t5_loop i).trips → Acc B j D (384 * (j + min (10 - j) 1 + 1) + 1536 * n) (st_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init n).1 (arg9.view.read (Elt Ideal) (arg9.view.writes (Elt Ideal) G_arg9 (st_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init n).2)) := by
  intro n
  induction n with
  | zero => intro _; exact h
  | succ n ih =>
    intro hn
    have hn' : n < (k0_t5_loop i).trips := hn
    have IH := ih (le_of_lt hn')
    have ht := hn'; rw [trips5, ← hj] at ht
    have hi : (i 2).val < 11 := (i 2).isLt
    have eT : 384 * (j + min (10 - j) 1 + 1) + 1536 * n = 384 * (j + min (10 - j) 1 + 4 * n + 1) := by omega
    rw [eT] at IH
    have a0 : k0_off17 i ⟨n, hn'⟩ = ![384 * (j + min (10 - j) 1 + 4 * n + 1), 0] := by rw [k0_off17_eq, ← hj]; refine congrArg (fun z : ℕ => (![z, 0] : Fin 2 → ℕ)) ?_ <;> (show _ = _; dsimp only <;> omega)
    have a1 : k0_off19 i ⟨n, hn'⟩ = ![384 * (j + min (10 - j) 1 + 4 * n + 1), 128] := by rw [k0_off19_eq, ← hj]; refine congrArg (fun z : ℕ => (![z, 128] : Fin 2 → ℕ)) ?_ <;> (show _ = _; dsimp only <;> omega)
    have b00 : k0_off18 i ⟨n, hn'⟩ 0#32 = ![0, (j + min (10 - j) 1 + 4 * n + 1) + 0, 0, 0] := by have e := k0_off18_eq i ⟨n, hn'⟩ (0 : Fin 4); rw [← hj] at e; refine e.trans (congrArg (fun z : ℕ => (![0, z, 0, 0] : Fin 4 → ℕ)) ?_); show _ + (0 : ℕ) + 1 = _; dsimp only <;> omega
    have b01 : k0_off18 i ⟨n, hn'⟩ 1#32 = ![0, (j + min (10 - j) 1 + 4 * n + 1) + 1, 0, 0] := by have e := k0_off18_eq i ⟨n, hn'⟩ (1 : Fin 4); rw [← hj] at e; refine e.trans (congrArg (fun z : ℕ => (![0, z, 0, 0] : Fin 4 → ℕ)) ?_); show _ + (1 : ℕ) + 1 = _; dsimp only <;> omega
    have b02 : k0_off18 i ⟨n, hn'⟩ 2#32 = ![0, (j + min (10 - j) 1 + 4 * n + 1) + 2, 0, 0] := by have e := k0_off18_eq i ⟨n, hn'⟩ (2 : Fin 4); rw [← hj] at e; refine e.trans (congrArg (fun z : ℕ => (![0, z, 0, 0] : Fin 4 → ℕ)) ?_); show _ + (2 : ℕ) + 1 = _; dsimp only <;> omega
    have b03 : k0_off18 i ⟨n, hn'⟩ 3#32 = ![0, (j + min (10 - j) 1 + 4 * n + 1) + 3, 0, 0] := by have e := k0_off18_eq i ⟨n, hn'⟩ (3 : Fin 4); rw [← hj] at e; refine e.trans (congrArg (fun z : ℕ => (![0, z, 0, 0] : Fin 4 → ℕ)) ?_); show _ + (3 : ℕ) + 1 = _; dsimp only <;> omega
    have b10 : k0_off20 i ⟨n, hn'⟩ 0#32 = ![1, (j + min (10 - j) 1 + 4 * n + 1) + 0, 0, 0] := by have e := k0_off20_eq i ⟨n, hn'⟩ (0 : Fin 4); rw [← hj] at e; refine e.trans (congrArg (fun z : ℕ => (![1, z, 0, 0] : Fin 4 → ℕ)) ?_); show _ + (0 : ℕ) + 1 = _; dsimp only <;> omega
    have b11 : k0_off20 i ⟨n, hn'⟩ 1#32 = ![1, (j + min (10 - j) 1 + 4 * n + 1) + 1, 0, 0] := by have e := k0_off20_eq i ⟨n, hn'⟩ (1 : Fin 4); rw [← hj] at e; refine e.trans (congrArg (fun z : ℕ => (![1, z, 0, 0] : Fin 4 → ℕ)) ?_); show _ + (1 : ℕ) + 1 = _; dsimp only <;> omega
    have b12 : k0_off20 i ⟨n, hn'⟩ 2#32 = ![1, (j + min (10 - j) 1 + 4 * n + 1) + 2, 0, 0] := by have e := k0_off20_eq i ⟨n, hn'⟩ (2 : Fin 4); rw [← hj] at e; refine e.trans (congrArg (fun z : ℕ => (![1, z, 0, 0] : Fin 4 → ℕ)) ?_); show _ + (2 : ℕ) + 1 = _; dsimp only <;> omega
    have b13 : k0_off20 i ⟨n, hn'⟩ 3#32 = ![1, (j + min (10 - j) 1 + 4 * n + 1) + 3, 0, 0] := by have e := k0_off20_eq i ⟨n, hn'⟩ (3 : Fin 4); rw [← hj] at e; refine e.trans (congrArg (fun z : ℕ => (![1, z, 0, 0] : Fin 4 → ℕ)) ?_); show _ + (3 : ℕ) + 1 = _; dsimp only <;> omega
    have E := acc_t5 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 ⟨n, hn'⟩ (st_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init n).1 (arg9.view.writes (Elt Ideal) G_arg9 (st_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init n).2) B j (j + min (10 - j) 1 + 4 * n + 1) D hQ hO hL hE hK0 hK1 hV0 hV1 a0 a1 b00 b01 b02 b03 b10 b11 b12 b13 (by omega) (by omega) IH
    have eS := st_k0_t5_succ (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 G_arg9 init ⟨n, hn'⟩
    dsimp only at eS
    rw [eS, View.writes_append, show 384 * (j + min (10 - j) 1 + 1) + 1536 * (n + 1) = 384 * (j + min (10 - j) 1 + 4 * n + 1) + 1536 by omega]
    exact E

/-- Loop 7, after `n` trips. -/
theorem acc_st_t7 (v4 : FVec Ideal S384x128 .bf16) (v6 : FVec Ideal S384x128 .bf16) (v8 : FVec Ideal S384x128 .bf16) (v10 : FVec Ideal S384x128 .bf16) (v15 : BitVec 32) (v16 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S384x128 .f32 × FVec Ideal S384x128 .f32 × FVec Ideal S384x128 .f32 × FVec Ideal S384x128 .f32) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (hj : j = (i 2).val) (h : Acc B j D (384 * (j + min (10 - j) 1 + 1) + 1536 * ((10 - (j + min (10 - j) 1)) / 4)) init (arg9.view.read (Elt Ideal) G_arg9)) :
    ∀ n : ℕ, n ≤ (k0_t7_loop i).trips → Acc B j D (384 * (j + min (10 - j) 1 + 1) + 1536 * ((10 - (j + min (10 - j) 1)) / 4) + 768 * n) (st_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init n).1 (arg9.view.read (Elt Ideal) (arg9.view.writes (Elt Ideal) G_arg9 (st_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init n).2)) := by
  intro n
  induction n with
  | zero => intro _; exact h
  | succ n ih =>
    intro hn
    have hn' : n < (k0_t7_loop i).trips := hn
    have IH := ih (le_of_lt hn')
    have ht := hn'; rw [trips7, ← hj] at ht
    have hi : (i 2).val < 11 := (i 2).isLt
    have eT : 384 * (j + min (10 - j) 1 + 1) + 1536 * ((10 - (j + min (10 - j) 1)) / 4) + 768 * n = 384 * (j + min (10 - j) 1 + 4 * ((10 - (j + min (10 - j) 1)) / 4) + 1) := by omega
    rw [eT] at IH
    have a0 : k0_off25 i = ![384 * (j + min (10 - j) 1 + 4 * ((10 - (j + min (10 - j) 1)) / 4) + 1), 0] := by rw [k0_off25_eq, ← hj]; refine congrArg (fun z : ℕ => (![z, 0] : Fin 2 → ℕ)) ?_ <;> omega
    have a1 : k0_off27 i = ![384 * (j + min (10 - j) 1 + 4 * ((10 - (j + min (10 - j) 1)) / 4) + 1), 128] := by rw [k0_off27_eq, ← hj]; refine congrArg (fun z : ℕ => (![z, 128] : Fin 2 → ℕ)) ?_ <;> omega
    have b00 : k0_off26 i 0#32 = ![0, (j + min (10 - j) 1 + 4 * ((10 - (j + min (10 - j) 1)) / 4) + 1) + 0, 0, 0] := by have e := k0_off26_eq i (0 : Fin 2); rw [← hj] at e; refine e.trans (congrArg (fun z : ℕ => (![0, z, 0, 0] : Fin 4 → ℕ)) ?_); show _ + (0 : ℕ) + 1 = _; omega
    have b01 : k0_off26 i 1#32 = ![0, (j + min (10 - j) 1 + 4 * ((10 - (j + min (10 - j) 1)) / 4) + 1) + 1, 0, 0] := by have e := k0_off26_eq i (1 : Fin 2); rw [← hj] at e; refine e.trans (congrArg (fun z : ℕ => (![0, z, 0, 0] : Fin 4 → ℕ)) ?_); show _ + (1 : ℕ) + 1 = _; omega
    have b10 : k0_off28 i 0#32 = ![1, (j + min (10 - j) 1 + 4 * ((10 - (j + min (10 - j) 1)) / 4) + 1) + 0, 0, 0] := by have e := k0_off28_eq i (0 : Fin 2); rw [← hj] at e; refine e.trans (congrArg (fun z : ℕ => (![1, z, 0, 0] : Fin 4 → ℕ)) ?_); show _ + (0 : ℕ) + 1 = _; omega
    have b11 : k0_off28 i 1#32 = ![1, (j + min (10 - j) 1 + 4 * ((10 - (j + min (10 - j) 1)) / 4) + 1) + 1, 0, 0] := by have e := k0_off28_eq i (1 : Fin 2); rw [← hj] at e; refine e.trans (congrArg (fun z : ℕ => (![1, z, 0, 0] : Fin 4 → ℕ)) ?_); show _ + (1 : ℕ) + 1 = _; omega
    have E := acc_t7 𝒱 c bd i arg3 harg3 arg4 harg4 arg5 harg5 arg6 harg6 arg7 harg7 arg8 harg8 arg9 harg9 arg10 harg10 arg11 harg11 v4 v6 v8 v10 v15 v16 X_arg3 X_arg6 X_arg7 X_arg8 ⟨n, hn'⟩ (st_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init n).1 (arg9.view.writes (Elt Ideal) G_arg9 (st_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init n).2) B j (j + min (10 - j) 1 + 4 * ((10 - (j + min (10 - j) 1)) / 4) + 1) D hQ hO hL hE hK0 hK1 hV0 hV1 a0 a1 b00 b01 b10 b11 (by omega) (by omega) IH
    have eS := st_k0_t7_succ (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 G_arg9 init ⟨n, hn'⟩
    dsimp only at eS
    rw [eS, View.writes_append, show 384 * (j + min (10 - j) 1 + 1) + 1536 * ((10 - (j + min (10 - j) 1)) / 4) + 768 * (n + 1) = 384 * (j + min (10 - j) 1 + 4 * ((10 - (j + min (10 - j) 1)) / 4) + 1) + 768 by omega]
    exact E

/-- Loop 9, after `n` trips. -/
theorem acc_st_t9 (v4 : FVec Ideal S384x128 .bf16) (v6 : FVec Ideal S384x128 .bf16) (v8 : FVec Ideal S384x128 .bf16) (v10 : FVec Ideal S384x128 .bf16) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S384x128 .f32 × FVec Ideal S384x128 .f32 × FVec Ideal S384x128 .f32 × FVec Ideal S384x128 .f32) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (hj : j = (i 2).val) (h : Acc B j D (384 * (j + min (10 - j) 1 + 1) + 1536 * ((10 - (j + min (10 - j) 1)) / 4) + 768 * ((10 - (j + min (10 - j) 1)) % 4 / 2)) init (arg9.view.read (Elt Ideal) G_arg9)) :
    ∀ n : ℕ, n ≤ (k0_t9_loop i).trips → Acc B j D (384 * (j + min (10 - j) 1 + 1) + 1536 * ((10 - (j + min (10 - j) 1)) / 4) + 768 * ((10 - (j + min (10 - j) 1)) % 4 / 2) + 384 * n) (st_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 G_arg9 init n).1 (arg9.view.read (Elt Ideal) (arg9.view.writes (Elt Ideal) G_arg9 (st_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 G_arg9 init n).2)) := by
  intro n
  induction n with
  | zero => intro _; exact h
  | succ n ih =>
    intro hn
    have hn' : n < (k0_t9_loop i).trips := hn
    have IH := ih (le_of_lt hn')
    have ht := hn'; rw [trips9, ← hj] at ht
    have hi : (i 2).val < 11 := (i 2).isLt
    have eT : 384 * (j + min (10 - j) 1 + 1) + 1536 * ((10 - (j + min (10 - j) 1)) / 4) + 768 * ((10 - (j + min (10 - j) 1)) % 4 / 2) + 384 * n = 384 * (10) := by omega
    rw [eT] at IH
    have E := acc_t9 𝒱 c bd i arg3 harg3 arg4 harg4 arg5 harg5 arg6 harg6 arg7 harg7 arg8 harg8 arg9 harg9 arg10 harg10 arg11 harg11 v4 v6 v8 v10 X_arg3 X_arg6 X_arg7 X_arg8 ⟨n, hn'⟩ (st_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 G_arg9 init n).1 (arg9.view.writes (Elt Ideal) G_arg9 (st_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 G_arg9 init n).2) B j (10) D hQ hO hL hE hK0 hK1 hV0 hV1 (by omega) (by omega) IH
    have eS := st_k0_t9_succ (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 G_arg9 init ⟨n, hn'⟩
    dsimp only at eS
    rw [eS, View.writes_append, show 384 * (j + min (10 - j) 1 + 1) + 1536 * ((10 - (j + min (10 - j) 1)) / 4) + 768 * ((10 - (j + min (10 - j) 1)) % 4 / 2) + 384 * (n + 1) = 384 * (10) + 384 by omega]
    exact E

/-- Loop 2 never runs. -/
theorem st_t2_none (arg2 : BitVec 32) (v3 : Vec Ideal S384x128 .bf16) (v5 : Vec Ideal S384x128 .bf16) (v7 : Vec Ideal S384x128 .bf16) (v9 : Vec Ideal S384x128 .bf16) (v21 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S384x128 .f32 × FVec Ideal S384x128 .f32 × FVec Ideal S384x128 .f32 × FVec Ideal S384x128 .f32) (n : ℕ) (hn : n ≤ (k0_t2_loop i).trips) :
    st_k0_t2 (F := Ideal) 𝒱 c bd i arg3 harg3 arg4 harg4 arg5 harg5 arg6 harg6 arg7 harg7 arg8 harg8 arg9 harg9 arg10 harg10 arg11 harg11 arg2 v3 v5 v7 v9 v21 X_arg3 X_arg6 X_arg7 X_arg8 G_arg9 init n = (init, []) := by
  obtain rfl : n = 0 := by have := none2 i; omega
  rfl

/-- Loop 4 never runs. -/
theorem st_t4_none (arg2 : BitVec 32) (v3 : Vec Ideal S384x128 .bf16) (v5 : Vec Ideal S384x128 .bf16) (v7 : Vec Ideal S384x128 .bf16) (v9 : Vec Ideal S384x128 .bf16) (v29 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S384x128 .f32 × FVec Ideal S384x128 .f32 × FVec Ideal S384x128 .f32 × FVec Ideal S384x128 .f32) (n : ℕ) (hn : n ≤ (k0_t4_loop i).trips) :
    st_k0_t4 (F := Ideal) 𝒱 c bd i arg3 harg3 arg4 harg4 arg5 harg5 arg6 harg6 arg7 harg7 arg8 harg8 arg9 harg9 arg10 harg10 arg11 harg11 arg2 v3 v5 v7 v9 v29 X_arg3 X_arg6 X_arg7 X_arg8 G_arg9 init n = (init, []) := by
  obtain rfl : n = 0 := by have := none4 i; omega
  rfl

/-- Loop 10 never runs. -/
theorem st_t10_none (v4 : FVec Ideal S384x128 .bf16) (v6 : FVec Ideal S384x128 .bf16) (v8 : FVec Ideal S384x128 .bf16) (v10 : FVec Ideal S384x128 .bf16) (v86 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G_arg9 : BufTy.Contents (Elt Ideal) arg9.view.ty) (init : FVec Ideal S384x128 .f32 × FVec Ideal S384x128 .f32 × FVec Ideal S384x128 .f32 × FVec Ideal S384x128 .f32) (n : ℕ) (hn : n ≤ (k0_t10_loop i).trips) :
    st_k0_t10 (F := Ideal) 𝒱 c bd i arg3 harg3 arg4 harg4 arg5 harg5 arg6 harg6 arg7 harg7 arg8 harg8 arg9 harg9 arg10 harg10 arg11 harg11 v4 v6 v8 v10 v86 X_arg3 X_arg6 X_arg7 X_arg8 G_arg9 init n = (init, []) := by
  obtain rfl : n = 0 := by have := none10 i; omega
  rfl

end

end Cert.KernelIdeal.Att

end
-- ==== Proof.Chain.lean ====
/- The point of the grid run to its end: the loops one after another. -/
module

public import proofs.«01_k».proof.Proof.Chunks

@[expose] public section

noncomputable section

namespace Cert.KernelIdeal.Att

open Cert.KernelIdeal.Gen
open Idealize.ShloMosaic Idealize.ShloMosaic.TcCoe

set_option maxHeartbeats 1000000

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (arg2 : BitVec 32) (v3 : Vec Ideal S384x128 .bf16) (v5 : Vec Ideal S384x128 .bf16) (v7 : Vec Ideal S384x128 .bf16) (v9 : Vec Ideal S384x128 .bf16) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty)
include 𝒱 c bd i arg3 harg3 arg4 harg4 arg5 harg5 arg6 harg6 arg7 harg7 arg8 harg8 arg9 harg9 arg10 harg10 arg11 harg11 arg2 v3 v5 v7 v9 X_arg3 X_arg6 X_arg7 X_arg8 G

theorem chain1 (s : Carry) (n : ℕ) (hn : n = (k0_t1_loop i).trips) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v3 = fun i => e2 B.k (i 0).val (128 * 0 + (i 1).val)) (hK1 : v5 = fun i => e2 B.k (i 0).val (128 * 1 + (i 1).val)) (hV0 : v7 = fun i => e2 B.v (i 0).val (128 * 0 + (i 1).val)) (hV1 : v9 = fun i => e2 B.v (i 0).val (128 * 1 + (i 1).val)) (hj : j = (i 2).val) (h : Acc B j D (384 * j) s (arg9.view.read (Elt Ideal) G)) :
    Acc B j D (384 * j + 768 * (min (10 - j) 1)) (st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G s n).1 (arg9.view.read (Elt Ideal) (arg9.view.writes (Elt Ideal) G (st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 G s n).2)) := by
  have hi : (i 2).val < 11 := (i 2).isLt
  have E := acc_st_t1 𝒱 c bd i arg3 harg3 arg4 harg4 arg5 harg5 arg6 harg6 arg7 harg7 arg8 harg8 arg9 harg9 arg10 harg10 arg11 harg11 arg2 v3 v5 v7 v9 X_arg3 X_arg6 X_arg7 X_arg8 G s B j D hQ hO hL hE hK0 hK1 hV0 hV1 hj h n (le_of_eq hn)
  rw [hn, trips1, ← hj] at E
  rw [hn, trips1, ← hj]
  exact E

theorem chain3 (L : List (View.Piece (Elt Ideal) S4224x256 .f32)) (s : Carry) (n : ℕ) (hn : n = (k0_t3_loop i).trips) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v3 = fun i => e2 B.k (i 0).val (128 * 0 + (i 1).val)) (hK1 : v5 = fun i => e2 B.k (i 0).val (128 * 1 + (i 1).val)) (hV0 : v7 = fun i => e2 B.v (i 0).val (128 * 0 + (i 1).val)) (hV1 : v9 = fun i => e2 B.v (i 0).val (128 * 1 + (i 1).val)) (hj : j = (i 2).val) (h : Acc B j D (384 * j + 768 * (min (10 - j) 1)) s (arg9.view.read (Elt Ideal) (arg9.view.writes (Elt Ideal) G L))) :
    Acc B j D (384 * (j + min (10 - j) 1 + 1)) (st_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 (arg9.view.writes (Elt Ideal) G L) s n).1 (arg9.view.read (Elt Ideal) (arg9.view.writes (Elt Ideal) G ((st_k0_t3 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 (arg9.view.writes (Elt Ideal) G L) s n).2 ++ L))) := by
  have hi : (i 2).val < 11 := (i 2).isLt
  have E := acc_st_t3 𝒱 c bd i arg3 harg3 arg4 harg4 arg5 harg5 arg6 harg6 arg7 harg7 arg8 harg8 arg9 harg9 arg10 harg10 arg11 harg11 arg2 v3 v5 v7 v9 X_arg3 X_arg6 X_arg7 X_arg8 (arg9.view.writes (Elt Ideal) G L) s B j D hQ hO hL hE hK0 hK1 hV0 hV1 hj h n (le_of_eq hn)
  have eN : 384 * j + 768 * (min (10 - j) 1) + 384 * n = 384 * (j + min (10 - j) 1 + 1) := by rw [hn, trips3, ← hj] <;> omega
  rw [eN] at E
  rw [View.writes_append]
  exact E

end

section

variable (𝒱 : Variants) (c : Dev nD) (bd : Option 𝒱.V) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole)
include 𝒱 c bd i arg3 harg3 arg4 harg4 arg5 harg5 arg6 harg6 arg7 harg7 arg8 harg8 arg9 harg9 arg10 harg10 arg11 harg11

theorem chain5 (v4 : FVec Ideal S384x128 .bf16) (v6 : FVec Ideal S384x128 .bf16) (v8 : FVec Ideal S384x128 .bf16) (v10 : FVec Ideal S384x128 .bf16) (v15 : BitVec 32) (v16 : BitVec 32) (v31_0 : FVec Ideal S384x128 .f32) (v31_1 : FVec Ideal S384x128 .f32) (v31_2 : FVec Ideal S384x128 .f32) (v31_3 : FVec Ideal S384x128 .f32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty) (L : List (View.Piece (Elt Ideal) S4224x256 .f32)) (s : Carry) (n : ℕ) (hn : n = (k0_t5_loop i).trips) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (hj : j = (i 2).val) (h : Acc B j D (384 * (j + min (10 - j) 1 + 1)) s (arg9.view.read (Elt Ideal) (arg9.view.writes (Elt Ideal) G L))) :
    Acc B j D (384 * (j + min (10 - j) 1 + 1) + 1536 * ((10 - (j + min (10 - j) 1)) / 4)) (st_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 (arg9.view.writes (Elt Ideal) G L) s n).1 (arg9.view.read (Elt Ideal) (arg9.view.writes (Elt Ideal) G ((st_k0_t5 (F := Ideal) 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 (arg9.view.writes (Elt Ideal) G L) s n).2 ++ L))) := by
  have hi : (i 2).val < 11 := (i 2).isLt
  have E := acc_st_t5 𝒱 c bd i arg3 harg3 arg4 harg4 arg5 harg5 arg6 harg6 arg7 harg7 arg8 harg8 arg9 harg9 arg10 harg10 arg11 harg11 v4 v6 v8 v10 v15 v16 v31_0 v31_1 v31_2 v31_3 X_arg3 X_arg6 X_arg7 X_arg8 (arg9.view.writes (Elt Ideal) G L) s B j D hQ hO hL hE hK0 hK1 hV0 hV1 hj h n (le_of_eq hn)
  have eN : 384 * (j + min (10 - j) 1 + 1) + 1536 * n = 384 * (j + min (10 - j) 1 + 1) + 1536 * ((10 - (j + min (10 - j) 1)) / 4) := by rw [hn, trips5, ← hj] <;> omega
  rw [eN] at E
  rw [View.writes_append]
  exact E

theorem chain7 (v4 : FVec Ideal S384x128 .bf16) (v6 : FVec Ideal S384x128 .bf16) (v8 : FVec Ideal S384x128 .bf16) (v10 : FVec Ideal S384x128 .bf16) (v15 : BitVec 32) (v16 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty) (L : List (View.Piece (Elt Ideal) S4224x256 .f32)) (s : Carry) (n : ℕ) (hn : n = (k0_t7_loop i).trips) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (hj : j = (i 2).val) (h : Acc B j D (384 * (j + min (10 - j) 1 + 1) + 1536 * ((10 - (j + min (10 - j) 1)) / 4)) s (arg9.view.read (Elt Ideal) (arg9.view.writes (Elt Ideal) G L))) :
    Acc B j D (384 * (j + min (10 - j) 1 + 1) + 1536 * ((10 - (j + min (10 - j) 1)) / 4) + 768 * ((10 - (j + min (10 - j) 1)) % 4 / 2)) (st_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 (arg9.view.writes (Elt Ideal) G L) s n).1 (arg9.view.read (Elt Ideal) (arg9.view.writes (Elt Ideal) G ((st_k0_t7 (F := Ideal) 𝒱 c bd i arg3 harg3 arg4 harg4 arg5 harg5 arg6 harg6 arg7 harg7 arg8 harg8 arg9 harg9 arg10 harg10 arg11 harg11 v4 v6 v8 v10 v15 v16 X_arg3 X_arg6 X_arg7 X_arg8 (arg9.view.writes (Elt Ideal) G L) s n).2 ++ L))) := by
  have hi : (i 2).val < 11 := (i 2).isLt
  have E := acc_st_t7 𝒱 c bd i arg3 harg3 arg4 harg4 arg5 harg5 arg6 harg6 arg7 harg7 arg8 harg8 arg9 harg9 arg10 harg10 arg11 harg11 v4 v6 v8 v10 v15 v16 X_arg3 X_arg6 X_arg7 X_arg8 (arg9.view.writes (Elt Ideal) G L) s B j D hQ hO hL hE hK0 hK1 hV0 hV1 hj h n (le_of_eq hn)
  have eN : 384 * (j + min (10 - j) 1 + 1) + 1536 * ((10 - (j + min (10 - j) 1)) / 4) + 768 * n = 384 * (j + min (10 - j) 1 + 1) + 1536 * ((10 - (j + min (10 - j) 1)) / 4) + 768 * ((10 - (j + min (10 - j) 1)) % 4 / 2) := by rw [hn, trips7, ← hj] <;> omega
  rw [eN] at E
  rw [View.writes_append]
  exact E

theorem chain9 (v4 : FVec Ideal S384x128 .bf16) (v6 : FVec Ideal S384x128 .bf16) (v8 : FVec Ideal S384x128 .bf16) (v10 : FVec Ideal S384x128 .bf16) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty) (L : List (View.Piece (Elt Ideal) S4224x256 .f32)) (s : Carry) (n : ℕ) (hn : n = (k0_t9_loop i).trips) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v4 = fun i => e2 B.k (i 0).val (128 * 0 + (i 1).val)) (hK1 : v6 = fun i => e2 B.k (i 0).val (128 * 1 + (i 1).val)) (hV0 : v8 = fun i => e2 B.v (i 0).val (128 * 0 + (i 1).val)) (hV1 : v10 = fun i => e2 B.v (i 0).val (128 * 1 + (i 1).val)) (hj : j = (i 2).val) (h : Acc B j D (384 * (j + min (10 - j) 1 + 1) + 1536 * ((10 - (j + min (10 - j) 1)) / 4) + 768 * ((10 - (j + min (10 - j) 1)) % 4 / 2)) s (arg9.view.read (Elt Ideal) (arg9.view.writes (Elt Ideal) G L))) :
    Acc B j D (4224) (st_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 (arg9.view.writes (Elt Ideal) G L) s n).1 (arg9.view.read (Elt Ideal) (arg9.view.writes (Elt Ideal) G ((st_k0_t9 (F := Ideal) 𝒱 c bd i arg3 harg3 arg4 harg4 arg5 harg5 arg6 harg6 arg7 harg7 arg8 harg8 arg9 harg9 arg10 harg10 arg11 harg11 v4 v6 v8 v10 X_arg3 X_arg6 X_arg7 X_arg8 (arg9.view.writes (Elt Ideal) G L) s n).2 ++ L))) := by
  have hi : (i 2).val < 11 := (i 2).isLt
  have E := acc_st_t9 𝒱 c bd i arg3 harg3 arg4 harg4 arg5 harg5 arg6 harg6 arg7 harg7 arg8 harg8 arg9 harg9 arg10 harg10 arg11 harg11 v4 v6 v8 v10 X_arg3 X_arg6 X_arg7 X_arg8 (arg9.view.writes (Elt Ideal) G L) s B j D hQ hO hL hE hK0 hK1 hV0 hV1 hj h n (le_of_eq hn)
  have eN : 384 * (j + min (10 - j) 1 + 1) + 1536 * ((10 - (j + min (10 - j) 1)) / 4) + 768 * ((10 - (j + min (10 - j) 1)) % 4 / 2) + 384 * n = 4224 := by rw [hn, trips9, ← hj] <;> omega
  rw [eN] at E
  rw [View.writes_append]
  exact E

/-- The first loop over stores already made. -/
theorem chain1L (arg2 : BitVec 32) (v3 : Vec Ideal S384x128 .bf16) (v5 : Vec Ideal S384x128 .bf16) (v7 : Vec Ideal S384x128 .bf16) (v9 : Vec Ideal S384x128 .bf16) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty) (L : List (View.Piece (Elt Ideal) S4224x256 .f32)) (s : Carry) (n : ℕ) (hn : n = (k0_t1_loop i).trips) (B : Blk) (j : ℕ) (D : (⟨2, ![4224, 256]⟩ : Shape).Idx → EReal) (hQ : arg3.view.read (Elt Ideal) X_arg3 = B.q) (hO : arg6.view.read (Elt Ideal) X_arg6 = B.o) (hL : arg7.view.read (Elt Ideal) X_arg7 = B.ls) (hE : arg8.view.read (Elt Ideal) X_arg8 = B.dl) (hK0 : v3 = fun i => e2 B.k (i 0).val (128 * 0 + (i 1).val)) (hK1 : v5 = fun i => e2 B.k (i 0).val (128 * 1 + (i 1).val)) (hV0 : v7 = fun i => e2 B.v (i 0).val (128 * 0 + (i 1).val)) (hV1 : v9 = fun i => e2 B.v (i 0).val (128 * 1 + (i 1).val)) (hj : j = (i 2).val) (h : Acc B j D (384 * j) s (arg9.view.read (Elt Ideal) (arg9.view.writes (Elt Ideal) G L))) :
    Acc B j D (384 * j + 768 * (min (10 - j) 1)) (st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 (arg9.view.writes (Elt Ideal) G L) s n).1 (arg9.view.read (Elt Ideal) (arg9.view.writes (Elt Ideal) G ((st_k0_t1 (F := Ideal) 𝒱 c bd i arg3 harg3 arg4 harg4 arg5 harg5 arg6 harg6 arg7 harg7 arg8 harg8 arg9 harg9 arg10 harg10 arg11 harg11 arg2 v3 v5 v7 v9 X_arg3 X_arg6 X_arg7 X_arg8 (arg9.view.writes (Elt Ideal) G L) s n).2 ++ L))) := by
  rw [View.writes_append]
  exact chain1 𝒱 c bd i arg3 harg3 arg4 harg4 arg5 harg5 arg6 harg6 arg7 harg7 arg8 harg8 arg9 harg9 arg10 harg10 arg11 harg11 arg2 v3 v5 v7 v9 X_arg3 X_arg6 X_arg7 X_arg8 (arg9.view.writes (Elt Ideal) G L) s n hn B j D hQ hO hL hE hK0 hK1 hV0 hV1 hj h

theorem chain2 (arg2 : BitVec 32) (v3 : Vec Ideal S384x128 .bf16) (v5 : Vec Ideal S384x128 .bf16) (v7 : Vec Ideal S384x128 .bf16) (v9 : Vec Ideal S384x128 .bf16) (v21 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty) (L : List (View.Piece (Elt Ideal) S4224x256 .f32)) (s : Carry) (n : ℕ) (hn : n = (k0_t2_loop i).trips) (B : Blk) (j N : ℕ) (D : (⟨2, ![4224, 256]⟩ : Shape).Idx → EReal) (h : Acc B j D N s (arg9.view.read (Elt Ideal) (arg9.view.writes (Elt Ideal) G L))) :
    Acc B j D N (st_k0_t2 (F := Ideal) 𝒱 c bd i arg3 harg3 arg4 harg4 arg5 harg5 arg6 harg6 arg7 harg7 arg8 harg8 arg9 harg9 arg10 harg10 arg11 harg11 arg2 v3 v5 v7 v9 v21 X_arg3 X_arg6 X_arg7 X_arg8 (arg9.view.writes (Elt Ideal) G L) s n).1 (arg9.view.read (Elt Ideal) (arg9.view.writes (Elt Ideal) G ((st_k0_t2 (F := Ideal) 𝒱 c bd i arg3 harg3 arg4 harg4 arg5 harg5 arg6 harg6 arg7 harg7 arg8 harg8 arg9 harg9 arg10 harg10 arg11 harg11 arg2 v3 v5 v7 v9 v21 X_arg3 X_arg6 X_arg7 X_arg8 (arg9.view.writes (Elt Ideal) G L) s n).2 ++ L))) := by
  rw [st_t2_none 𝒱 c bd i arg3 harg3 arg4 harg4 arg5 harg5 arg6 harg6 arg7 harg7 arg8 harg8 arg9 harg9 arg10 harg10 arg11 harg11 arg2 v3 v5 v7 v9 v21 X_arg3 X_arg6 X_arg7 X_arg8 (arg9.view.writes (Elt Ideal) G L) s n (le_of_eq hn), List.nil_append]
  exact h

theorem chain4 (arg2 : BitVec 32) (v3 : Vec Ideal S384x128 .bf16) (v5 : Vec Ideal S384x128 .bf16) (v7 : Vec Ideal S384x128 .bf16) (v9 : Vec Ideal S384x128 .bf16) (v29 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty) (L : List (View.Piece (Elt Ideal) S4224x256 .f32)) (s : Carry) (n : ℕ) (hn : n = (k0_t4_loop i).trips) (B : Blk) (j N : ℕ) (D : (⟨2, ![4224, 256]⟩ : Shape).Idx → EReal) (h : Acc B j D N s (arg9.view.read (Elt Ideal) (arg9.view.writes (Elt Ideal) G L))) :
    Acc B j D N (st_k0_t4 (F := Ideal) 𝒱 c bd i arg3 harg3 arg4 harg4 arg5 harg5 arg6 harg6 arg7 harg7 arg8 harg8 arg9 harg9 arg10 harg10 arg11 harg11 arg2 v3 v5 v7 v9 v29 X_arg3 X_arg6 X_arg7 X_arg8 (arg9.view.writes (Elt Ideal) G L) s n).1 (arg9.view.read (Elt Ideal) (arg9.view.writes (Elt Ideal) G ((st_k0_t4 (F := Ideal) 𝒱 c bd i arg3 harg3 arg4 harg4 arg5 harg5 arg6 harg6 arg7 harg7 arg8 harg8 arg9 harg9 arg10 harg10 arg11 harg11 arg2 v3 v5 v7 v9 v29 X_arg3 X_arg6 X_arg7 X_arg8 (arg9.view.writes (Elt Ideal) G L) s n).2 ++ L))) := by
  rw [st_t4_none 𝒱 c bd i arg3 harg3 arg4 harg4 arg5 harg5 arg6 harg6 arg7 harg7 arg8 harg8 arg9 harg9 arg10 harg10 arg11 harg11 arg2 v3 v5 v7 v9 v29 X_arg3 X_arg6 X_arg7 X_arg8 (arg9.view.writes (Elt Ideal) G L) s n (le_of_eq hn), List.nil_append]
  exact h

theorem chain10 (v4 : FVec Ideal S384x128 .bf16) (v6 : FVec Ideal S384x128 .bf16) (v8 : FVec Ideal S384x128 .bf16) (v10 : FVec Ideal S384x128 .bf16) (v86 : BitVec 32) (X_arg3 : BufTy.Contents (Elt Ideal) arg3.view.ty) (X_arg6 : BufTy.Contents (Elt Ideal) arg6.view.ty) (X_arg7 : BufTy.Contents (Elt Ideal) arg7.view.ty) (X_arg8 : BufTy.Contents (Elt Ideal) arg8.view.ty) (G : BufTy.Contents (Elt Ideal) arg9.view.ty) (L : List (View.Piece (Elt Ideal) S4224x256 .f32)) (s : Carry) (n : ℕ) (hn : n = (k0_t10_loop i).trips) (B : Blk) (j N : ℕ) (D : (⟨2, ![4224, 256]⟩ : Shape).Idx → EReal) (h : Acc B j D N s (arg9.view.read (Elt Ideal) (arg9.view.writes (Elt Ideal) G L))) :
    Acc B j D N (st_k0_t10 (F := Ideal) 𝒱 c bd i arg3 harg3 arg4 harg4 arg5 harg5 arg6 harg6 arg7 harg7 arg8 harg8 arg9 harg9 arg10 harg10 arg11 harg11 v4 v6 v8 v10 v86 X_arg3 X_arg6 X_arg7 X_arg8 (arg9.view.writes (Elt Ideal) G L) s n).1 (arg9.view.read (Elt Ideal) (arg9.view.writes (Elt Ideal) G ((st_k0_t10 (F := Ideal) 𝒱 c bd i arg3 harg3 arg4 harg4 arg5 harg5 arg6 harg6 arg7 harg7 arg8 harg8 arg9 harg9 arg10 harg10 arg11 harg11 v4 v6 v8 v10 v86 X_arg3 X_arg6 X_arg7 X_arg8 (arg9.view.writes (Elt Ideal) G L) s n).2 ++ L))) := by
  rw [st_t10_none 𝒱 c bd i arg3 harg3 arg4 harg4 arg5 harg5 arg6 harg6 arg7 harg7 arg8 harg8 arg9 harg9 arg10 harg10 arg11 harg11 v4 v6 v8 v10 v86 X_arg3 X_arg6 X_arg7 X_arg8 (arg9.view.writes (Elt Ideal) G L) s n (le_of_eq hn), List.nil_append]
  exact h

end

end Cert.KernelIdeal.Att

end
-- ==== Proof.Point.lean ====
/- What a point of the grid leaves: the query gradient with the tile's part added, and the tile's key and value gradients. -/
module

public import proofs.«01_k».proof.Proof.Chain

@[expose] public section

noncomputable section

namespace Cert.KernelIdeal.Att

open Cert.KernelIdeal.Gen
open Idealize.ShloMosaic Idealize.ShloMosaic.TcCoe

set_option maxHeartbeats 400000

theorem acc_eta {B : Blk} {j : ℕ} {D : (⟨2, ![4224, 256]⟩ : Shape).Idx → EReal} {N : ℕ} {s : Carry} {g : (⟨2, ![4224, 256]⟩ : Shape).Idx → EReal}
    (h : Acc B j D N s g) : Acc B j D N (s.1, s.2.1, s.2.2.1, s.2.2.2) g := h

theorem zero158 (r : Fin 384) (l : Fin 128) : (k0_pay158 : FVec Ideal S384x128 .f32) (ix2 r l) = 0 := by pointwise [k0_pay158]

section

variable (a : Memref sig .tc .vmem S384x256 .bf16) (ha : a.IsWhole) (x : Vec Ideal S384x256 .bf16)

/-- A tile's halves, as loaded. -/
theorem raw_k0 : a.view.readAt (Elt Ideal) (Rect.unit (s := S384x256) ![0, 0] S384x128.size inb_S384x256_S384x128_0_0).toLoadRect (ha.unread x)
    = fun i => e2 x (i 0).val (128 * 0 + (i 1).val) := by
  rw [readAt2b a.view _ _ _ _ 0 0 rfl, ha.read_unread]
  funext i
  rw [Nat.zero_add, Nat.mul_zero]
theorem raw_k1 : a.view.readAt (Elt Ideal) (Rect.unit (s := S384x256) ![0, 128] S384x128.size inb_S384x256_S384x128_0_128).toLoadRect (ha.unread x)
    = fun i => e2 x (i 0).val (128 * 1 + (i 1).val) := by
  rw [readAt2b a.view _ _ _ _ 0 128 rfl, ha.read_unread]
  funext i
  rw [Nat.zero_add]
/-- The same after the cast to their own shape. -/
theorem cast_k0 (h : S384x128.ShapeCasts S384x128) : shapeCast S384x128 (a.view.readAt (Elt Ideal) (Rect.unit (s := S384x256) ![0, 0] S384x128.size inb_S384x256_S384x128_0_0).toLoadRect (ha.unread x)) h
    = fun i => e2 x (i 0).val (128 * 0 + (i 1).val) := by
  exact (shapeCast_self (s := S384x128) _ h).trans (raw_k0 a ha x)
theorem cast_k1 (h : S384x128.ShapeCasts S384x128) : shapeCast S384x128 (a.view.readAt (Elt Ideal) (Rect.unit (s := S384x256) ![0, 128] S384x128.size inb_S384x256_S384x128_0_128).toLoadRect (ha.unread x)) h
    = fun i => e2 x (i 0).val (128 * 1 + (i 1).val) := by
  exact (shapeCast_self (s := S384x128) _ h).trans (raw_k1 a ha x)

end

/-- The store of zeros over the whole block. -/
theorem zero_store (v : View sig .tc .vmem S4224x256 .f32) (f : v.ty.Contents (Elt Ideal)) (off : Fin 2 → ℕ) (ho : off = ![0, 0])
    (inb : ∀ a : Fin 2, off a + (![4224, 256] : Fin 2 → ℕ) a ≤ S4224x256.size a) :
    v.read (Elt Ideal) (v.writes (Elt Ideal) f [⟨Rect.unit (s := S4224x256) off ![4224, 256] inb, (k0_pay153 (F := Ideal))⟩]) = fun _ => 0 := by
  funext y
  obtain ⟨n, c, rfl⟩ : ∃ (n : Fin 4224) (c : Fin 256), y = ix2 n c := ⟨y 0, y 1, by funext a; match a with | ⟨0, _⟩ => rfl | ⟨1, _⟩ => rfl⟩
  rw [View.read_writes_cons_unit_of_mem v f inb _ _ (ix2 n c) (ix2 n c) ho (by
    intro a
    match a with
    | ⟨0, _⟩ => show n.val = 0 + n.val; omega
    | ⟨1, _⟩ => show c.val = 0 + c.val; omega)]
  show (k0_pay153 : FVec Ideal S4224x256 .f32) (ix2 n c) = 0
  pointwise [k0_pay153]

section

variable (c : Dev nD) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole)
include c i arg3 harg3 arg4 harg4 arg5 harg5 arg6 harg6 arg7 harg7 arg8 harg8 arg9 harg9 arg10 harg10 arg11 harg11

/-- A point of case B: the carried sums it ends with, and its stores. -/
theorem run_B (hc0 : ¬cond0_0 i) (x0 : Vec Ideal S4224x256 .bf16) (x1 : Vec Ideal S384x256 .bf16) (x2 : Vec Ideal S384x256 .bf16) (x3 : Vec Ideal S4224x256 .bf16) (x4 : Vec Ideal S2x11x8x384 .f32) (x5 : Vec Ideal S2x11x8x384 .f32) (xo6 : Vec Ideal S4224x256 .f32) :
    ∃ s : Carry, Acc ⟨x0, x1, x2, x3, x4, x5⟩ (i 2).val xo6 4224 s (arg9.view.read (Elt Ideal) (arg9.view.writes (Elt Ideal) (harg9.unread xo6) (kernelRun0_B (F := Ideal) c i arg3 harg3 arg4 harg4 arg5 harg5 arg6 harg6 arg7 harg7 arg8 harg8 arg9 harg9 arg10 harg10 arg11 harg11 hc0 x0 x1 x2 x3 x4 x5 xo6).1))
      ∧ (kernelRun0_B (F := Ideal) c i arg3 harg3 arg4 harg4 arg5 harg5 arg6 harg6 arg7 harg7 arg8 harg8 arg9 harg9 arg10 harg10 arg11 harg11 hc0 x0 x1 x2 x3 x4 x5 xo6).2.1 = [⟨Rect.unit (s := S384x256) ![0, 128] ![384, 128] inb_S384x256_S384x128_0_128, k0_pay15 s.2.2.1⟩, ⟨Rect.unit (s := S384x256) ![0, 0] ![384, 128] inb_S384x256_S384x128_0_0, k0_pay13 s.1⟩]
      ∧ (kernelRun0_B (F := Ideal) c i arg3 harg3 arg4 harg4 arg5 harg5 arg6 harg6 arg7 harg7 arg8 harg8 arg9 harg9 arg10 harg10 arg11 harg11 hc0 x0 x1 x2 x3 x4 x5 xo6).2.2.1 = [⟨Rect.unit (s := S384x256) ![0, 128] ![384, 128] inb_S384x256_S384x128_0_128, k0_pay16 s.2.2.2⟩, ⟨Rect.unit (s := S384x256) ![0, 0] ![384, 128] inb_S384x256_S384x128_0_0, k0_pay14 s.2.1⟩] := by
  have hQ := harg3.read_unread (Val := Elt Ideal) x0
  have hO := harg6.read_unread (Val := Elt Ideal) x3
  have hL := harg7.read_unread (Val := Elt Ideal) x4
  have hE := harg8.read_unread (Val := Elt Ideal) x5
  unfold kernelRun0_B
  sl_unfold_run_names
  dsimp only
  with_reducible refine ⟨_, chain10 (hn := ?_) (h := ?_) .., ?_, ?_⟩
  · rfl
  · with_reducible refine acc_eta ?_
    with_reducible refine chain9 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact cast_k0 arg4 harg4 x1 _
    · exact cast_k1 arg4 harg4 x1 _
    · exact cast_k0 arg5 harg5 x2 _
    · exact cast_k1 arg5 harg5 x2 _
    · rfl
    with_reducible refine acc_eta ?_
    with_reducible refine chain7 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact cast_k0 arg4 harg4 x1 _
    · exact cast_k1 arg4 harg4 x1 _
    · exact cast_k0 arg5 harg5 x2 _
    · exact cast_k1 arg5 harg5 x2 _
    · rfl
    with_reducible refine acc_eta ?_
    with_reducible refine chain5 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact cast_k0 arg4 harg4 x1 _
    · exact cast_k1 arg4 harg4 x1 _
    · exact cast_k0 arg5 harg5 x2 _
    · exact cast_k1 arg5 harg5 x2 _
    · rfl
    with_reducible refine acc_eta ?_
    with_reducible refine chain4 (hn := ?_) (h := ?_) ..
    · rfl
    with_reducible refine acc_eta ?_
    with_reducible refine chain3 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact raw_k0 arg4 harg4 x1
    · exact raw_k1 arg4 harg4 x1
    · exact raw_k0 arg5 harg5 x2
    · exact raw_k1 arg5 harg5 x2
    · rfl
    with_reducible refine acc_eta ?_
    with_reducible refine chain2 (hn := ?_) (h := ?_) ..
    · rfl
    with_reducible refine acc_eta ?_
    with_reducible refine chain1 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact raw_k0 arg4 harg4 x1
    · exact raw_k1 arg4 harg4 x1
    · exact raw_k0 arg5 harg5 x2
    · exact raw_k1 arg5 harg5 x2
    · rfl
    rw [harg9.read_unread]
    with_reducible refine Acc.start _ _ _ _ ?_ ?_ ?_ ?_ <;> exact zero158
  · with_reducible rfl
  · with_reducible rfl

/-- A point of case A: the carried sums it ends with, and its stores. -/
theorem run_A (hc0 : cond0_0 i) (x0 : Vec Ideal S4224x256 .bf16) (x1 : Vec Ideal S384x256 .bf16) (x2 : Vec Ideal S384x256 .bf16) (x3 : Vec Ideal S4224x256 .bf16) (x4 : Vec Ideal S2x11x8x384 .f32) (x5 : Vec Ideal S2x11x8x384 .f32) :
    ∃ s : Carry, Acc ⟨x0, x1, x2, x3, x4, x5⟩ (i 2).val (fun _ => 0) 4224 s (arg9.view.read (Elt Ideal) (arg9.view.writes (Elt Ideal) arg9.view.junk (kernelRun0_A (F := Ideal) c i arg3 harg3 arg4 harg4 arg5 harg5 arg6 harg6 arg7 harg7 arg8 harg8 arg9 harg9 arg10 harg10 arg11 harg11 hc0 x0 x1 x2 x3 x4 x5).1))
      ∧ (kernelRun0_A (F := Ideal) c i arg3 harg3 arg4 harg4 arg5 harg5 arg6 harg6 arg7 harg7 arg8 harg8 arg9 harg9 arg10 harg10 arg11 harg11 hc0 x0 x1 x2 x3 x4 x5).2.1 = [⟨Rect.unit (s := S384x256) ![0, 128] ![384, 128] inb_S384x256_S384x128_0_128, k0_pay15 s.2.2.1⟩, ⟨Rect.unit (s := S384x256) ![0, 0] ![384, 128] inb_S384x256_S384x128_0_0, k0_pay13 s.1⟩]
      ∧ (kernelRun0_A (F := Ideal) c i arg3 harg3 arg4 harg4 arg5 harg5 arg6 harg6 arg7 harg7 arg8 harg8 arg9 harg9 arg10 harg10 arg11 harg11 hc0 x0 x1 x2 x3 x4 x5).2.2.1 = [⟨Rect.unit (s := S384x256) ![0, 128] ![384, 128] inb_S384x256_S384x128_0_128, k0_pay16 s.2.2.2⟩, ⟨Rect.unit (s := S384x256) ![0, 0] ![384, 128] inb_S384x256_S384x128_0_0, k0_pay14 s.2.1⟩] := by
  have hQ := harg3.read_unread (Val := Elt Ideal) x0
  have hO := harg6.read_unread (Val := Elt Ideal) x3
  have hL := harg7.read_unread (Val := Elt Ideal) x4
  have hE := harg8.read_unread (Val := Elt Ideal) x5
  unfold kernelRun0_A
  sl_unfold_run_names
  dsimp only
  with_reducible refine ⟨_, chain10 (hn := ?_) (h := ?_) .., ?_, ?_⟩
  · rfl
  · with_reducible refine acc_eta ?_
    with_reducible refine chain9 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact cast_k0 arg4 harg4 x1 _
    · exact cast_k1 arg4 harg4 x1 _
    · exact cast_k0 arg5 harg5 x2 _
    · exact cast_k1 arg5 harg5 x2 _
    · rfl
    with_reducible refine acc_eta ?_
    with_reducible refine chain7 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact cast_k0 arg4 harg4 x1 _
    · exact cast_k1 arg4 harg4 x1 _
    · exact cast_k0 arg5 harg5 x2 _
    · exact cast_k1 arg5 harg5 x2 _
    · rfl
    with_reducible refine acc_eta ?_
    with_reducible refine chain5 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact cast_k0 arg4 harg4 x1 _
    · exact cast_k1 arg4 harg4 x1 _
    · exact cast_k0 arg5 harg5 x2 _
    · exact cast_k1 arg5 harg5 x2 _
    · rfl
    with_reducible refine acc_eta ?_
    with_reducible refine chain4 (hn := ?_) (h := ?_) ..
    · rfl
    with_reducible refine acc_eta ?_
    with_reducible refine chain3 (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact raw_k0 arg4 harg4 x1
    · exact raw_k1 arg4 harg4 x1
    · exact raw_k0 arg5 harg5 x2
    · exact raw_k1 arg5 harg5 x2
    · rfl
    with_reducible refine acc_eta ?_
    with_reducible refine chain2 (hn := ?_) (h := ?_) ..
    · rfl
    with_reducible refine acc_eta ?_
    with_reducible refine chain1L (hn := ?_) (hQ := ?_) (hO := ?_) (hL := ?_) (hE := ?_) (hK0 := ?_) (hK1 := ?_) (hV0 := ?_) (hV1 := ?_) (hj := ?_) (h := ?_) ..
    · rfl
    · exact hQ
    · exact hO
    · exact hL
    · exact hE
    · exact raw_k0 arg4 harg4 x1
    · exact raw_k1 arg4 harg4 x1
    · exact raw_k0 arg5 harg5 x2
    · exact raw_k1 arg5 harg5 x2
    · rfl
    rw [zero_store arg9.view _ _ rfl]
    with_reducible refine Acc.start _ _ _ _ ?_ ?_ ?_ ?_ <;> exact zero158
  · with_reducible rfl
  · with_reducible rfl

end

end Cert.KernelIdeal.Att

end
-- ==== Proof.Out.lean ====
/- What a point of the grid leaves in the three outputs' blocks, at an index. -/
module

public import proofs.«01_k».proof.Proof.Point

@[expose] public section

noncomputable section

namespace Cert.KernelIdeal.Att

open Cert.KernelIdeal.Gen
open Idealize.ShloMosaic Idealize.ShloMosaic.TcCoe

set_option maxHeartbeats 1000000

/-- The number by which the key gradient is scaled back. -/
theorem named_ln2 : Named.named (F := Ideal) (φ := .f32) Cert.KernelIdeal.κ "ln2" 0x3F317218#32 = ((Real.log 2 : ℝ) : EReal) :=
  IdealRules.named_const.ideal_named_scalar _ _ _ _ rfl

theorem pay13_at (s : FVec Ideal S384x128 .f32) (i : S384x128.Idx) : k0_pay13 s i = s i * ((Real.log 2 : ℝ) : EReal) := by
  show s i * (Named.named (F := Ideal) (φ := .f32) Cert.KernelIdeal.κ "ln2" 0x3F317218#32) = _
  rw [named_ln2]
theorem pay15_at (s : FVec Ideal S384x128 .f32) (i : S384x128.Idx) : k0_pay15 s i = s i * ((Real.log 2 : ℝ) : EReal) := by
  show s i * (Named.named (F := Ideal) (φ := .f32) Cert.KernelIdeal.κ "ln2" 0x3F317218#32) = _
  rw [named_ln2]
theorem pay14_at (s : FVec Ideal S384x128 .f32) (i : S384x128.Idx) : k0_pay14 s i = s i := rfl
theorem pay16_at (s : FVec Ideal S384x128 .f32) (i : S384x128.Idx) : k0_pay16 s i = s i := rfl

/-- A buffer after a store of the same rows into each half of its lanes, in the narrow type. -/
theorem read_halves_b {A : ℕ} (v : View sig .tc .vmem (⟨2, ![A, 256]⟩ : Shape) .bf16) (f : v.ty.Contents (Elt Ideal)) (W N : ℕ) (off0 off1 : Fin 2 → ℕ)
    (inb0 : ∀ a : Fin 2, off0 a + (![W, 128] : Fin 2 → ℕ) a ≤ (⟨2, ![A, 256]⟩ : Shape).size a)
    (inb1 : ∀ a : Fin 2, off1 a + (![W, 128] : Fin 2 → ℕ) a ≤ (⟨2, ![A, 256]⟩ : Shape).size a)
    (h0 : off0 = ![N, 0]) (h1 : off1 = ![N, 128]) (p0 p1 : (⟨2, ![W, 128]⟩ : Shape).Idx → EReal) (n : Fin A) (c : Fin 256) :
    v.read (Elt Ideal) (v.writes (Elt Ideal) f
        [⟨Rect.unit (s := ⟨2, ![A, 256]⟩) off1 ![W, 128] inb1, p1⟩, ⟨Rect.unit (s := ⟨2, ![A, 256]⟩) off0 ![W, 128] inb0, p0⟩]) (ix2 n c)
      = if N ≤ n.val ∧ n.val < N + W then (if c.val < 128 then e2 p0 (n.val - N) c.val else e2 p1 (n.val - N) (c.val - 128))
        else v.read (Elt Ideal) f (ix2 n c) := by
  by_cases hn : N ≤ n.val ∧ n.val < N + W
  · rw [if_pos hn]
    by_cases hc : c.val < 128
    · rw [if_pos hc, View.read_writes_cons_unit_of_not_mem v f inb1 p1 _ (ix2 n c) h1 1 (Or.inl hc)]
      rw [View.read_writes_cons_unit_of_mem v f inb0 p0 _ (ix2 n c) (ix2 ⟨n.val - N, by omega⟩ ⟨c.val, hc⟩) h0 (by
        intro a
        match a with
        | ⟨0, _⟩ => show n.val = N + (n.val - N); omega
        | ⟨1, _⟩ => show c.val = 0 + c.val; omega)]
      rw [e2_pos _ _ _ (by omega) hc]
    · rw [if_neg hc]
      have hc' := c.isLt
      rw [View.read_writes_cons_unit_of_mem v f inb1 p1 _ (ix2 n c) (ix2 ⟨n.val - N, by omega⟩ ⟨c.val - 128, by omega⟩) h1 (by
        intro a
        match a with
        | ⟨0, _⟩ => show n.val = N + (n.val - N); omega
        | ⟨1, _⟩ => show c.val = 128 + (c.val - 128); omega)]
      rw [e2_pos _ _ _ (by omega) (by omega)]
  · rw [if_neg hn]
    have hn' : n.val < N ∨ N + W ≤ n.val := by omega
    rw [View.read_writes_cons_unit_of_not_mem v f inb1 p1 _ (ix2 n c) h1 0 hn',
      View.read_writes_cons_unit_of_not_mem v f inb0 p0 _ (ix2 n c) h0 0 hn', View.writes_nil]

/-- A block of 256 lanes stored half by half. -/
theorem two_f32 (v : View sig .tc .vmem S384x256 .f32) (f : v.ty.Contents (Elt Ideal)) (p0 p1 : FVec Ideal S384x128 .f32) (r : Fin 384) (c : Fin 256) :
    v.read (Elt Ideal) (v.writes (Elt Ideal) f [⟨Rect.unit (s := S384x256) ![0, 128] ![384, 128] inb_S384x256_S384x128_0_128, p1⟩,
        ⟨Rect.unit (s := S384x256) ![0, 0] ![384, 128] inb_S384x256_S384x128_0_0, p0⟩]) (ix2 r c)
      = if c.val < 128 then e2 p0 r.val (c.val % 128) else e2 p1 r.val (c.val % 128) := by
  have hr := r.isLt
  have hc := c.isLt
  refine (read_halves v f 384 0 _ _ inb_S384x256_S384x128_0_0 inb_S384x256_S384x128_0_128 rfl rfl p0 p1 r c).trans ?_
  rw [if_pos ⟨Nat.zero_le _, by omega⟩, Nat.sub_zero]
  by_cases h : c.val < 128
  · rw [if_pos h, if_pos h, Nat.mod_eq_of_lt h]
  · rw [if_neg h, if_neg h, show c.val - 128 = c.val % 128 by omega]

/-- A block of 256 lanes stored half by half. -/
theorem two_bf16 (v : View sig .tc .vmem S384x256 .bf16) (f : v.ty.Contents (Elt Ideal)) (p0 p1 : FVec Ideal S384x128 .bf16) (r : Fin 384) (c : Fin 256) :
    v.read (Elt Ideal) (v.writes (Elt Ideal) f [⟨Rect.unit (s := S384x256) ![0, 128] ![384, 128] inb_S384x256_S384x128_0_128, p1⟩,
        ⟨Rect.unit (s := S384x256) ![0, 0] ![384, 128] inb_S384x256_S384x128_0_0, p0⟩]) (ix2 r c)
      = if c.val < 128 then e2 p0 r.val (c.val % 128) else e2 p1 r.val (c.val % 128) := by
  have hr := r.isLt
  have hc := c.isLt
  refine (read_halves_b v f 384 0 _ _ inb_S384x256_S384x128_0_0 inb_S384x256_S384x128_0_128 rfl rfl p0 p1 r c).trans ?_
  rw [if_pos ⟨Nat.zero_le _, by omega⟩, Nat.sub_zero]
  by_cases h : c.val < 128
  · rw [if_pos h, if_pos h, Nat.mod_eq_of_lt h]
  · rw [if_neg h, if_neg h, show c.val - 128 = c.val % 128 by omega]

section

variable (c : Dev nD) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (hc0 : cond0_0 i) (x0 : Vec Ideal S4224x256 .bf16) (x1 : Vec Ideal S384x256 .bf16) (x2 : Vec Ideal S384x256 .bf16) (x3 : Vec Ideal S4224x256 .bf16) (x4 : Vec Ideal S2x11x8x384 .f32) (x5 : Vec Ideal S2x11x8x384 .f32)
include c i arg3 harg3 arg4 harg4 arg5 harg5 arg6 harg6 arg7 harg7 arg8 harg8 arg9 harg9 arg10 harg10 arg11 harg11 hc0 x0 x1 x2 x3 x4 x5

theorem out6_A (n : Fin 4224) (c' : Fin 256) :
    out0_A_6 (F := Ideal) c i arg3 harg3 arg4 harg4 arg5 harg5 arg6 harg6 arg7 harg7 arg8 harg8 arg9 harg9 arg10 harg10 arg11 harg11 hc0 x0 x1 x2 x3 x4 x5 (ix2 n c') = Blk.dq (⟨x0, x1, x2, x3, x4, x5⟩ : Blk) (i 2).val (c'.val / 128) n.val (c'.val % 128) := by
  obtain ⟨s, h, -, -⟩ := run_A c i arg3 harg3 arg4 harg4 arg5 harg5 arg6 harg6 arg7 harg7 arg8 harg8 arg9 harg9 arg10 harg10 arg11 harg11 hc0 x0 x1 x2 x3 x4 x5
  have E := h.dq n c'
  rw [if_pos n.isLt] at E
  rw [zero_add, View.read_writes_of_cover _ _ VO0_6 VO0_6.junk _ (cover0_A_6 c i arg3 harg3 arg4 harg4 arg5 harg5 arg6 harg6 arg7 harg7 arg8 harg8 arg9 harg9 arg10 harg10 arg11 harg11 hc0 x0 x1 x2 x3 x4 x5)] at E
  exact E

theorem out7_A (r : Fin 384) (c' : Fin 256) :
    out0_A_7 (F := Ideal) c i arg3 harg3 arg4 harg4 arg5 harg5 arg6 harg6 arg7 harg7 arg8 harg8 arg9 harg9 arg10 harg10 arg11 harg11 hc0 x0 x1 x2 x3 x4 x5 (ix2 r c') = Blk.dk (⟨x0, x1, x2, x3, x4, x5⟩ : Blk) (i 2).val (c'.val / 128) 4224 r.val (c'.val % 128) * ((Real.log 2 : ℝ) : EReal) := by
  obtain ⟨s, h, E, -⟩ := run_A c i arg3 harg3 arg4 harg4 arg5 harg5 arg6 harg6 arg7 harg7 arg8 harg8 arg9 harg9 arg10 harg10 arg11 harg11 hc0 x0 x1 x2 x3 x4 x5
  unfold out0_A_7
  rw [E, two_f32]
  have hr := r.isLt
  have hc := c'.isLt
  by_cases hl : c'.val < 128
  · rw [if_pos hl, e2_pos _ _ _ hr (Nat.mod_lt _ (by omega)), pay13_at, h.dk0, show c'.val / 128 = 0 by omega]
  · rw [if_neg hl, e2_pos _ _ _ hr (Nat.mod_lt _ (by omega)), pay15_at, h.dk1, show c'.val / 128 = 1 by omega]

theorem out8_A (r : Fin 384) (c' : Fin 256) :
    out0_A_8 (F := Ideal) c i arg3 harg3 arg4 harg4 arg5 harg5 arg6 harg6 arg7 harg7 arg8 harg8 arg9 harg9 arg10 harg10 arg11 harg11 hc0 x0 x1 x2 x3 x4 x5 (ix2 r c') = Blk.dv (⟨x0, x1, x2, x3, x4, x5⟩ : Blk) (i 2).val (c'.val / 128) 4224 r.val (c'.val % 128) := by
  obtain ⟨s, h, -, E⟩ := run_A c i arg3 harg3 arg4 harg4 arg5 harg5 arg6 harg6 arg7 harg7 arg8 harg8 arg9 harg9 arg10 harg10 arg11 harg11 hc0 x0 x1 x2 x3 x4 x5
  unfold out0_A_8
  rw [E, two_bf16]
  have hr := r.isLt
  have hc := c'.isLt
  by_cases hl : c'.val < 128
  · rw [if_pos hl, e2_pos _ _ _ hr (Nat.mod_lt _ (by omega)), pay14_at, h.dv0, show c'.val / 128 = 0 by omega]
  · rw [if_neg hl, e2_pos _ _ _ hr (Nat.mod_lt _ (by omega)), pay16_at, h.dv1, show c'.val / 128 = 1 by omega]

end

section

variable (c : Dev nD) (i : grid0.Coords) (arg3 : Memref sig .tc .vmem S4224x256 .bf16) (harg3 : arg3.IsWhole) (arg4 : Memref sig .tc .vmem S384x256 .bf16) (harg4 : arg4.IsWhole) (arg5 : Memref sig .tc .vmem S384x256 .bf16) (harg5 : arg5.IsWhole) (arg6 : Memref sig .tc .vmem S4224x256 .bf16) (harg6 : arg6.IsWhole) (arg7 : Memref sig .tc .vmem S2x11x8x384 .f32) (harg7 : arg7.IsWhole) (arg8 : Memref sig .tc .vmem S2x11x8x384 .f32) (harg8 : arg8.IsWhole) (arg9 : Memref sig .tc .vmem S4224x256 .f32) (harg9 : arg9.IsWhole) (arg10 : Memref sig .tc .vmem S384x256 .f32) (harg10 : arg10.IsWhole) (arg11 : Memref sig .tc .vmem S384x256 .bf16) (harg11 : arg11.IsWhole) (hc0 : ¬cond0_0 i) (x0 : Vec Ideal S4224x256 .bf16) (x1 : Vec Ideal S384x256 .bf16) (x2 : Vec Ideal S384x256 .bf16) (x3 : Vec Ideal S4224x256 .bf16) (x4 : Vec Ideal S2x11x8x384 .f32) (x5 : Vec Ideal S2x11x8x384 .f32) (xo6 : Vec Ideal S4224x256 .f32)
include c i arg3 harg3 arg4 harg4 arg5 harg5 arg6 harg6 arg7 harg7 arg8 harg8 arg9 harg9 arg10 harg10 arg11 harg11 hc0 x0 x1 x2 x3 x4 x5 xo6

theorem out6_B (n : Fin 4224) (c' : Fin 256) :
    out0_B_6 (F := Ideal) c i arg3 harg3 arg4 harg4 arg5 harg5 arg6 harg6 arg7 harg7 arg8 harg8 arg9 harg9 arg10 harg10 arg11 harg11 hc0 x0 x1 x2 x3 x4 x5 xo6 (ix2 n c') = xo6 (ix2 n c') + Blk.dq (⟨x0, x1, x2, x3, x4, x5⟩ : Blk) (i 2).val (c'.val / 128) n.val (c'.val % 128) := by
  obtain ⟨s, h, -, -⟩ := run_B c i arg3 harg3 arg4 harg4 arg5 harg5 arg6 harg6 arg7 harg7 arg8 harg8 arg9 harg9 arg10 harg10 arg11 harg11 hc0 x0 x1 x2 x3 x4 x5 xo6
  have E := h.dq n c'
  rw [if_pos n.isLt] at E
  exact E

theorem out7_B (r : Fin 384) (c' : Fin 256) :
    out0_B_7 (F := Ideal) c i arg3 harg3 arg4 harg4 arg5 harg5 arg6 harg6 arg7 harg7 arg8 harg8 arg9 harg9 arg10 harg10 arg11 harg11 hc0 x0 x1 x2 x3 x4 x5 xo6 (ix2 r c') = Blk.dk (⟨x0, x1, x2, x3, x4, x5⟩ : Blk) (i 2).val (c'.val / 128) 4224 r.val (c'.val % 128) * ((Real.log 2 : ℝ) : EReal) := by
  obtain ⟨s, h, E, -⟩ := run_B c i arg3 harg3 arg4 harg4 arg5 harg5 arg6 harg6 arg7 harg7 arg8 harg8 arg9 harg9 arg10 harg10 arg11 harg11 hc0 x0 x1 x2 x3 x4 x5 xo6
  unfold out0_B_7
  rw [E, two_f32]
  have hr := r.isLt
  have hc := c'.isLt
  by_cases hl : c'.val < 128
  · rw [if_pos hl, e2_pos _ _ _ hr (Nat.mod_lt _ (by omega)), pay13_at, h.dk0, show c'.val / 128 = 0 by omega]
  · rw [if_neg hl, e2_pos _ _ _ hr (Nat.mod_lt _ (by omega)), pay15_at, h.dk1, show c'.val / 128 = 1 by omega]

theorem out8_B (r : Fin 384) (c' : Fin 256) :
    out0_B_8 (F := Ideal) c i arg3 harg3 arg4 harg4 arg5 harg5 arg6 harg6 arg7 harg7 arg8 harg8 arg9 harg9 arg10 harg10 arg11 harg11 hc0 x0 x1 x2 x3 x4 x5 xo6 (ix2 r c') = Blk.dv (⟨x0, x1, x2, x3, x4, x5⟩ : Blk) (i 2).val (c'.val / 128) 4224 r.val (c'.val % 128) := by
  obtain ⟨s, h, -, E⟩ := run_B c i arg3 harg3 arg4 harg4 arg5 harg5 arg6 harg6 arg7 harg7 arg8 harg8 arg9 harg9 arg10 harg10 arg11 harg11 hc0 x0 x1 x2 x3 x4 x5 xo6
  unfold out0_B_8
  rw [E, two_bf16]
  have hr := r.isLt
  have hc := c'.isLt
  by_cases hl : c'.val < 128
  · rw [if_pos hl, e2_pos _ _ _ hr (Nat.mod_lt _ (by omega)), pay14_at, h.dv0, show c'.val / 128 = 0 by omega]
  · rw [if_neg hl, e2_pos _ _ _ hr (Nat.mod_lt _ (by omega)), pay16_at, h.dv1, show c'.val / 128 = 1 by omega]

end

end Cert.KernelIdeal.Att

end
-- ==== Proof.Blocks.lean ====
/- The three output arrays after the run, at an index: sums over the points of the grid that reach it. -/
module

public import proofs.«01_k».proof.Proof.Out
public import Idealize.ShloMosaic.Lib.Pipeline.ValueKit

@[expose] public section

set_option maxRecDepth 16384

noncomputable section

namespace Cert.KernelIdeal.Att

open Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem co2 : ∀ t : Fin cfg0.N, (grid0.coords t 2).val = t.val % 11 := (by decide +kernel : ∀ t : Fin grid0.N, _)
theorem ix_0 : ∀ t : Fin cfg0.N, win0_0.index t = ![t.val / 88, t.val / 11 % 8] := (by decide +kernel : ∀ t : Fin grid0.N, _)
theorem ix_1 : ∀ t : Fin cfg0.N, win0_1.index t = ![11 * (t.val / 88) + t.val % 11, t.val / 11 % 8] := (by decide +kernel : ∀ t : Fin grid0.N, _)
theorem ix_2 : ∀ t : Fin cfg0.N, win0_2.index t = ![11 * (t.val / 88) + t.val % 11, t.val / 11 % 8] := (by decide +kernel : ∀ t : Fin grid0.N, _)
theorem ix_3 : ∀ t : Fin cfg0.N, win0_3.index t = ![t.val / 88, t.val / 11 % 8] := (by decide +kernel : ∀ t : Fin grid0.N, _)
theorem ix_4 : ∀ t : Fin cfg0.N, win0_4.index t = ![t.val / 11, 0, 0, 0] := (by decide +kernel : ∀ t : Fin grid0.N, _)
theorem ix_5 : ∀ t : Fin cfg0.N, win0_5.index t = ![t.val / 11, 0, 0, 0] := (by decide +kernel : ∀ t : Fin grid0.N, _)
theorem ix_6 : ∀ t : Fin cfg0.N, win0_6.index t = ![t.val / 88, t.val / 11 % 8] := (by decide +kernel : ∀ t : Fin grid0.N, _)
theorem ix_7 : ∀ t : Fin cfg0.N, win0_7.index t = ![11 * (t.val / 88) + t.val % 11, t.val / 11 % 8] := (by decide +kernel : ∀ t : Fin grid0.N, _)
theorem ix_8 : ∀ t : Fin cfg0.N, win0_8.index t = ![11 * (t.val / 88) + t.val % 11, t.val / 11 % 8] := (by decide +kernel : ∀ t : Fin grid0.N, _)

/-- The blocks of the six arrays at a grid point's number: `t = 88 b + 11 g + j`. -/
def blkAt (Q K V O : S8448x2048.Idx → EReal) (L D : S32x11x8x384.Idx → EReal) (t : ℕ) : Blk where
  q := fun i => e2 (A := 8448) (B := 2048) Q (4224 * (t / 88) + (i 0).val) (256 * (t / 11 % 8) + (i 1).val)
  k := fun i => e2 (A := 8448) (B := 2048) K (384 * (11 * (t / 88) + t % 11) + (i 0).val) (256 * (t / 11 % 8) + (i 1).val)
  v := fun i => e2 (A := 8448) (B := 2048) V (384 * (11 * (t / 88) + t % 11) + (i 0).val) (256 * (t / 11 % 8) + (i 1).val)
  o := fun i => e2 (A := 8448) (B := 2048) O (4224 * (t / 88) + (i 0).val) (256 * (t / 11 % 8) + (i 1).val)
  ls := fun i => e4 (A := 32) (B := 11) (C := 8) (D := 384) L (2 * (t / 11) + (i 0).val) (i 1).val (i 2).val (i 3).val
  dl := fun i => e4 (A := 32) (B := 11) (C := 8) (D := 384) D (2 * (t / 11) + (i 0).val) (i 1).val (i 2).val (i 3).val

/-- The six arrays as the grid finds them, at a grid point. -/
abbrev blkM (c : Dev nD) (t : ℕ) : Blk :=
  blkAt (V m c main_v54) (V m c main_v57) (V m c main_v60) (V m c main_v63) (V m c main_v65) (V m c main_v67) t

theorem iblk_0 (c : Dev nD) (t : Fin cfg0.N) : iblk m c 0 t = (blkM m c t.val).q := by
  funext y
  have hN : t.val < 176 := lt_of_lt_of_eq t.isLt (show cfg0.N = 176 from N_0)
  have y0 : (y 0).val < 4224 := (y 0).isLt
  have y1 : (y 1).val < 256 := (y 1).isLt
  dsimp only [blkM, blkAt]
  rw [e2_pos _ _ _ (by omega) (by omega)]
  blk_simp [iblk]
  refine congrArg (V m c _) ?_
  blk_ext [ix_0 t]

theorem iblk_1 (c : Dev nD) (t : Fin cfg0.N) : iblk m c 1 t = (blkM m c t.val).k := by
  funext y
  have hN : t.val < 176 := lt_of_lt_of_eq t.isLt (show cfg0.N = 176 from N_0)
  have y0 : (y 0).val < 384 := (y 0).isLt
  have y1 : (y 1).val < 256 := (y 1).isLt
  dsimp only [blkM, blkAt]
  rw [e2_pos _ _ _ (by omega) (by omega)]
  blk_simp [iblk]
  refine congrArg (V m c _) ?_
  blk_ext [ix_1 t]

theorem iblk_2 (c : Dev nD) (t : Fin cfg0.N) : iblk m c 2 t = (blkM m c t.val).v := by
  funext y
  have hN : t.val < 176 := lt_of_lt_of_eq t.isLt (show cfg0.N = 176 from N_0)
  have y0 : (y 0).val < 384 := (y 0).isLt
  have y1 : (y 1).val < 256 := (y 1).isLt
  dsimp only [blkM, blkAt]
  rw [e2_pos _ _ _ (by omega) (by omega)]
  blk_simp [iblk]
  refine congrArg (V m c _) ?_
  blk_ext [ix_2 t]

theorem iblk_3 (c : Dev nD) (t : Fin cfg0.N) : iblk m c 3 t = (blkM m c t.val).o := by
  funext y
  have hN : t.val < 176 := lt_of_lt_of_eq t.isLt (show cfg0.N = 176 from N_0)
  have y0 : (y 0).val < 4224 := (y 0).isLt
  have y1 : (y 1).val < 256 := (y 1).isLt
  dsimp only [blkM, blkAt]
  rw [e2_pos _ _ _ (by omega) (by omega)]
  blk_simp [iblk]
  refine congrArg (V m c _) ?_
  blk_ext [ix_3 t]

theorem rd_4 (t : Fin cfg0.N) (c : Dev nD) (W : Buf (Elt Ideal) ((c : Thread nD τ).loc (Pipeline.arrRef spec0 4))) (y : S2x11x8x384.Idx) :
    ((cfg0.win 4).blk t).view.read (Elt Ideal) W y = W ((win0_4.blk t).view.emb y) := by
  blk_simp

theorem iblk_4 (c : Dev nD) (t : Fin cfg0.N) : iblk m c 4 t = (blkM m c t.val).ls := by
  funext (y : S2x11x8x384.Idx)
  have hN : t.val < 176 := lt_of_lt_of_eq t.isLt (show cfg0.N = 176 from N_0)
  have y0 : (y 0).val < 2 := (y 0).isLt
  have y1 : (y 1).val < 11 := (y 1).isLt
  have y2 : (y 2).val < 8 := (y 2).isLt
  have y3 : (y 3).val < 384 := (y 3).isLt
  refine Eq.trans ?_ (e4_pos _ _ _ _ _ (by omega) (by omega) (by omega) (by omega)).symm
  refine (rd_4 t c (V m c main_v65) y).trans ?_
  have e : (win0_4.blk t).view.emb y = (ix4 (⟨2 * (t.val / 11) + (y 0).val, by omega⟩ : Fin 32) (⟨(y 1).val, y1⟩ : Fin 11) (⟨(y 2).val, y2⟩ : Fin 8)
      (⟨(y 3).val, y3⟩ : Fin 384) : S32x11x8x384.Idx) := by
    blk_ext [ix_4 t]
  exact congrArg (V m c main_v65) e

theorem rd_5 (t : Fin cfg0.N) (c : Dev nD) (W : Buf (Elt Ideal) ((c : Thread nD τ).loc (Pipeline.arrRef spec0 5))) (y : S2x11x8x384.Idx) :
    ((cfg0.win 5).blk t).view.read (Elt Ideal) W y = W ((win0_5.blk t).view.emb y) := by
  blk_simp

theorem iblk_5 (c : Dev nD) (t : Fin cfg0.N) : iblk m c 5 t = (blkM m c t.val).dl := by
  funext (y : S2x11x8x384.Idx)
  have hN : t.val < 176 := lt_of_lt_of_eq t.isLt (show cfg0.N = 176 from N_0)
  have y0 : (y 0).val < 2 := (y 0).isLt
  have y1 : (y 1).val < 11 := (y 1).isLt
  have y2 : (y 2).val < 8 := (y 2).isLt
  have y3 : (y 3).val < 384 := (y 3).isLt
  refine Eq.trans ?_ (e4_pos _ _ _ _ _ (by omega) (by omega) (by omega) (by omega)).symm
  refine (rd_5 t c (V m c main_v67) y).trans ?_
  have e : (win0_5.blk t).view.emb y = (ix4 (⟨2 * (t.val / 11) + (y 0).val, by omega⟩ : Fin 32) (⟨(y 1).val, y1⟩ : Fin 11) (⟨(y 2).val, y2⟩ : Fin 8)
      (⟨(y 3).val, y3⟩ : Fin 384) : S32x11x8x384.Idx) := by
    blk_ext [ix_5 t]
  exact congrArg (V m c main_v67) e

theorem blk_eq (c : Dev nD) (t : Fin cfg0.N) :
    (⟨iblk m c 0 t, iblk m c 1 t, iblk m c 2 t, iblk m c 3 t, iblk m c 4 t, iblk m c 5 t⟩ : Blk) = blkM m c t.val := by
  rw [iblk_0, iblk_1, iblk_2, iblk_3, iblk_4, iblk_5]

theorem o6_A (c : Dev nD) (t : Fin cfg0.N) (h0 : t.val % 11 = 0) (n : Fin 4224) (cc : Fin 256) :
    (outsAt0 m c t.val t.isLt).1 (ix2 n cc) = (blkM m c t.val).dq (t.val % 11) (cc.val / 128) n.val (cc.val % 128) := by
  rw [outsAt0_A m c t h0]
  dsimp only
  with_reducible refine (out6_A _ _ _ _ _ _ _ _ _ _ _ _ _ _ _ _ _ _ _ _ _ _ _ _ _ _ _ n cc).trans ?_
  rw [blk_eq m c t, co2 t]

theorem o6_B (c : Dev nD) (t : Fin cfg0.N) (h0 : ¬t.val % 11 = 0) (n : Fin 4224) (cc : Fin 256) :
    (outsAt0 m c t.val t.isLt).1 (ix2 n cc) = (outsAt0 m c (t.val - 1) (Nat.lt_of_le_of_lt (Nat.sub_le _ _) t.isLt)).1 (ix2 n cc)
      + (blkM m c t.val).dq (t.val % 11) (cc.val / 128) n.val (cc.val % 128) := by
  rw [outsAt0_B m c t h0]
  dsimp only
  with_reducible refine (out6_B _ _ _ _ _ _ _ _ _ _ _ _ _ _ _ _ _ _ _ _ _ _ _ _ _ _ _ _ n cc).trans ?_
  rw [blk_eq m c t, co2 t]

theorem o7 (c : Dev nD) (t : Fin cfg0.N) (r : Fin 384) (cc : Fin 256) :
    (outsAt0 m c t.val t.isLt).2.1 (ix2 r cc) = (blkM m c t.val).dk (t.val % 11) (cc.val / 128) 4224 r.val (cc.val % 128) * ((Real.log 2 : ℝ) : EReal) := by
  by_cases h0 : t.val % 11 = 0
  · rw [outsAt0_A m c t h0]
    dsimp only
    with_reducible refine (out7_A _ _ _ _ _ _ _ _ _ _ _ _ _ _ _ _ _ _ _ _ _ _ _ _ _ _ _ r cc).trans ?_
    rw [blk_eq m c t, co2 t]
  · rw [outsAt0_B m c t h0]
    dsimp only
    with_reducible refine (out7_B _ _ _ _ _ _ _ _ _ _ _ _ _ _ _ _ _ _ _ _ _ _ _ _ _ _ _ _ r cc).trans ?_
    rw [blk_eq m c t, co2 t]

theorem o8 (c : Dev nD) (t : Fin cfg0.N) (r : Fin 384) (cc : Fin 256) :
    (outsAt0 m c t.val t.isLt).2.2 (ix2 r cc) = (blkM m c t.val).dv (t.val % 11) (cc.val / 128) 4224 r.val (cc.val % 128) := by
  by_cases h0 : t.val % 11 = 0
  · rw [outsAt0_A m c t h0]
    dsimp only
    with_reducible refine (out8_A _ _ _ _ _ _ _ _ _ _ _ _ _ _ _ _ _ _ _ _ _ _ _ _ _ _ _ r cc).trans ?_
    rw [blk_eq m c t, co2 t]
  · rw [outsAt0_B m c t h0]
    dsimp only
    with_reducible refine (out8_B _ _ _ _ _ _ _ _ _ _ _ _ _ _ _ _ _ _ _ _ _ _ _ _ _ _ _ _ r cc).trans ?_
    rw [blk_eq m c t, co2 t]

/-- The query gradient's rows at a point: what the points of this batch and pair of heads have added so far. -/
theorem o6 (c : Dev nD) (t : Fin cfg0.N) (i : Fin 4224 × Fin 256) :
    (outsAt0 m c t.val t.isLt).1 (ix2 i.1 i.2) = 0 + ∑ k ∈ Finset.range (t.val % 11 + 1),
      (blkM m c (11 * (t.val / 11) + k)).dq ((11 * (t.val / 11) + k) % 11) (i.2.val / 128) i.1.val (i.2.val % 128) :=
  Pipeline.eq_sum_of_reset_step_apply (N := cfg0.N) (fun n h (i : Fin 4224 × Fin 256) => (outsAt0 m c n h).1 (ix2 i.1 i.2)) 11 (fun _ => 0)
    (fun n (i : Fin 4224 × Fin 256) => (blkM m c n).dq (n % 11) (i.2.val / 128) i.1.val (i.2.val % 128))
    (fun t h0 i => (o6_A m c t h0 i.1 i.2).trans (zero_add _).symm) (fun t h0 i => o6_B m c t h0 i.1 i.2) t i

/-- The query gradient's array after the run. -/
def aq (c : Dev nD) : S8448x2048.Idx → EReal := fun i =>
  ∑ j ∈ Finset.range 11, (blkM m c (88 * ((i 0).val / 4224) + 11 * ((i 1).val / 256) + j)).dq j ((i 1).val % 256 / 128) ((i 0).val % 4224) ((i 1).val % 128)

/-- The key gradient's array after the run. -/
def ak (c : Dev nD) : S8448x2048.Idx → EReal := fun i =>
  (blkM m c (88 * ((i 0).val / 4224) + 11 * ((i 1).val / 256) + (i 0).val % 4224 / 384)).dk ((i 0).val % 4224 / 384) ((i 1).val % 256 / 128) 4224
    ((i 0).val % 384) ((i 1).val % 128) * ((Real.log 2 : ℝ) : EReal)

/-- The value gradient's array after the run. -/
def av (c : Dev nD) : S8448x2048.Idx → EReal := fun i =>
  (blkM m c (88 * ((i 0).val / 4224) + 11 * ((i 1).val / 256) + (i 0).val % 4224 / 384)).dv ((i 0).val % 4224 / 384) ((i 1).val % 256 / 128) 4224
    ((i 0).val % 384) ((i 1).val % 128)

theorem fl6 : ∀ t : Fin cfg0.N, (cfg0.win 6).flush t = true → t.val % 11 = 10 := (by decide +kernel : ∀ t : Fin grid0.N, _)

theorem arr6 (c : Dev nD) : (dats m 0 c).arrAt 6 cfg0.N = aq m c := by
  refine (dats m 0 c).arrAt_eq_of_covers 6 _ (by decide +kernel) fun t hf y => ?_
  have hN : t.val < 176 := lt_of_lt_of_eq t.isLt (show cfg0.N = 176 from N_0)
  have hm := fl6 t hf
  blk_simp
  rw [after0_6]
  have y0 : (y 0).val < 4224 := (y 0).isLt
  have y1 : (y 1).val < 256 := (y 1).isLt
  have hy : y = ix2 (⟨(y 0).val, y0⟩ : Fin 4224) (⟨(y 1).val, y1⟩ : Fin 256) := by
    funext a; match a with
    | ⟨0, _⟩ => rfl
    | ⟨1, _⟩ => rfl
  have h := o6 m c t (⟨(y 0).val, y0⟩, ⟨(y 1).val, y1⟩)
  rw [zero_add, hm] at h
  refine (congrArg _ hy).trans (h.trans ?_)
  dsimp only [aq]
  blk_simp [ix_6 t]
  have e0 : (t.val / 88 * 4224 + (y 0).val) / 4224 = t.val / 88 := by omega
  have e1 : (t.val / 11 % 8 * 256 + (y 1).val) / 256 = t.val / 11 % 8 := by omega
  have e2 : (t.val / 11 % 8 * 256 + (y 1).val) % 256 / 128 = (y 1).val / 128 := by omega
  have e3 : (t.val / 88 * 4224 + (y 0).val) % 4224 = (y 0).val := by omega
  have e4 : (t.val / 11 % 8 * 256 + (y 1).val) % 128 = (y 1).val % 128 := by omega
  refine Finset.sum_congr rfl fun k hk => ?_
  have hk' := Finset.mem_range.mp hk
  have e5 : 11 * (t.val / 11) + k = 88 * (t.val / 88) + 11 * (t.val / 11 % 8) + k := by omega
  have e6 : (88 * (t.val / 88) + 11 * (t.val / 11 % 8) + k) % 11 = k := by omega
  rw [e0, e1, e2, e3, e4, e5, e6]

theorem arr7 (c : Dev nD) : (dats m 0 c).arrAt 7 cfg0.N = ak m c := by
  refine (dats m 0 c).arrAt_eq_of_covers 7 _ (by decide +kernel) fun t hf y => ?_
  have hN : t.val < 176 := lt_of_lt_of_eq t.isLt (show cfg0.N = 176 from N_0)
  blk_simp
  rw [after0_7]
  have y0 : (y 0).val < 384 := (y 0).isLt
  have y1 : (y 1).val < 256 := (y 1).isLt
  have hy : y = ix2 (⟨(y 0).val, y0⟩ : Fin 384) (⟨(y 1).val, y1⟩ : Fin 256) := by
    funext a; match a with
    | ⟨0, _⟩ => rfl
    | ⟨1, _⟩ => rfl
  refine (congrArg _ hy).trans ((o7 m c t ⟨(y 0).val, y0⟩ ⟨(y 1).val, y1⟩).trans ?_)
  dsimp only [ak]
  blk_simp [ix_7 t]
  have e0 : ((11 * (t.val / 88) + t.val % 11) * 384 + (y 0).val) / 4224 = t.val / 88 := by omega
  have e1 : (t.val / 11 % 8 * 256 + (y 1).val) / 256 = t.val / 11 % 8 := by omega
  have e2 : (t.val / 11 % 8 * 256 + (y 1).val) % 256 / 128 = (y 1).val / 128 := by omega
  have e3 : ((11 * (t.val / 88) + t.val % 11) * 384 + (y 0).val) % 4224 / 384 = t.val % 11 := by omega
  have e4 : (t.val / 11 % 8 * 256 + (y 1).val) % 128 = (y 1).val % 128 := by omega
  have e5 : ((11 * (t.val / 88) + t.val % 11) * 384 + (y 0).val) % 384 = (y 0).val := by omega
  have e6 : 88 * (t.val / 88) + 11 * (t.val / 11 % 8) + t.val % 11 = t.val := by omega
  rw [e0, e1, e2, e3, e4, e5, e6]

theorem arr8 (c : Dev nD) : (dats m 0 c).arrAt 8 cfg0.N = av m c := by
  refine (dats m 0 c).arrAt_eq_of_covers 8 _ (by decide +kernel) fun t hf y => ?_
  have hN : t.val < 176 := lt_of_lt_of_eq t.isLt (show cfg0.N = 176 from N_0)
  blk_simp
  rw [after0_8]
  have y0 : (y 0).val < 384 := (y 0).isLt
  have y1 : (y 1).val < 256 := (y 1).isLt
  have hy : y = ix2 (⟨(y 0).val, y0⟩ : Fin 384) (⟨(y 1).val, y1⟩ : Fin 256) := by
    funext a; match a with
    | ⟨0, _⟩ => rfl
    | ⟨1, _⟩ => rfl
  refine (congrArg _ hy).trans ((o8 m c t ⟨(y 0).val, y0⟩ ⟨(y 1).val, y1⟩).trans ?_)
  dsimp only [av]
  blk_simp [ix_8 t]
  have e0 : ((11 * (t.val / 88) + t.val % 11) * 384 + (y 0).val) / 4224 = t.val / 88 := by omega
  have e1 : (t.val / 11 % 8 * 256 + (y 1).val) / 256 = t.val / 11 % 8 := by omega
  have e2 : (t.val / 11 % 8 * 256 + (y 1).val) % 256 / 128 = (y 1).val / 128 := by omega
  have e3 : ((11 * (t.val / 88) + t.val % 11) * 384 + (y 0).val) % 4224 / 384 = t.val % 11 := by omega
  have e4 : (t.val / 11 % 8 * 256 + (y 1).val) % 128 = (y 1).val % 128 := by omega
  have e5 : ((11 * (t.val / 88) + t.val % 11) * 384 + (y 0).val) % 384 = (y 0).val := by omega
  have e6 : 88 * (t.val / 88) + 11 * (t.val / 11 % 8) + t.val % 11 = t.val := by omega
  rw [e0, e1, e2, e3, e4, e5, e6]

/-- The run with its three output arrays named. -/
theorem run_arrays : θ_run defs (onTc (τ := τ) (main (F := Ideal))) ⟨m, fun _ => 0, ρ⟩ (fun r => ∀ c : Dev nD,
      r.2.mem ((c : Thread nD τ).loc main_v68_0) = aq m c
    ∧ r.2.mem ((c : Thread nD τ).loc main_v68_1) = ak m c
    ∧ r.2.mem ((c : Thread nD τ).loc main_v68_2) = av m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun r h c => ⟨((h c).1 6).trans (arr6 m c), ((h c).1 7).trans (arr7 m c), ((h c).1 8).trans (arr8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.KernelIdeal.Att

end
-- ==== Proof.Attn.lean ====
/- Masked attention over the reals: the probabilities of a row, the gradients of query, key and value, and the extended-real
   forms in which the two programs compute them. -/
module

public import proofs.«01_k».proof.Proof.Spec

@[expose] public section

noncomputable section

namespace Cert.Attn

open Idealize.ShloMosaic

/-- The arguments as reals, by batch, position, head and lane; the query already scaled. -/
structure Args where
  q : Fin 2 → Fin 4224 → Fin 16 → Fin 96 → ℝ
  k : Fin 2 → Fin 4224 → Fin 16 → Fin 96 → ℝ
  v : Fin 2 → Fin 4224 → Fin 16 → Fin 64 → ℝ
  o : Fin 2 → Fin 4224 → Fin 16 → Fin 64 → ℝ

namespace Args

variable (A : Args) (b : Fin 2) (h : Fin 16)

/-- The score of query `n` against key `r`. -/
def s (n r : Fin 4224) : ℝ := ∑ d, A.q b n h d * A.k b r h d
/-- Its exponential, zero where the key is later than the query. -/
def w (n r : Fin 4224) : ℝ := if r.val ≤ n.val then Real.exp (A.s b h n r) else 0
/-- A row's sum. -/
def L (n : Fin 4224) : ℝ := ∑ r, A.w b h n r
/-- The probabilities. -/
def y (n r : Fin 4224) : ℝ := A.w b h n r / A.L b h n
/-- The gradient of the probabilities. -/
def dy (n r : Fin 4224) : ℝ := ∑ d, A.o b n h d * A.v b r h d
/-- A row's sum of probability times gradient. -/
def D (n : Fin 4224) : ℝ := ∑ r, A.y b h n r * A.dy b h n r
/-- The gradient of the scores. -/
def g (n r : Fin 4224) : ℝ := A.y b h n r * (A.dy b h n r - A.D b h n)
/-- The gradient of the scaled query. -/
def dq (n : Fin 4224) (d : Fin 96) : ℝ := ∑ r, A.g b h n r * A.k b r h d
/-- The gradient of the key. -/
def dk (r : Fin 4224) (d : Fin 96) : ℝ := ∑ n, A.g b h n r * A.q b n h d
/-- The gradient of the value. -/
def dv (r : Fin 4224) (d : Fin 64) : ℝ := ∑ n, A.y b h n r * A.o b n h d

theorem w_nonneg (n r : Fin 4224) : 0 ≤ A.w b h n r := by
  unfold w
  split
  · exact (Real.exp_pos _).le
  · exact le_refl _

theorem L_pos (n : Fin 4224) : 0 < A.L b h n :=
  Finset.sum_pos' (fun r _ => A.w_nonneg b h n r) ⟨n, Finset.mem_univ n, by
    unfold w
    rw [if_pos (le_refl _)]
    exact Real.exp_pos _⟩

end Args

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest score of a row is a real: the row's own key is never masked. -/
theorem row_max (f : Fin 4224 → ℝ) (n : Fin 4224) :
    ∃ M : ℝ, Finset.fold max (⊥ : EReal) (fun r : Fin 4224 => if r.val ≤ n.val then ((f r : ℝ) : EReal) else ⊥) Finset.univ = (M : EReal) := by
  have ht : Finset.fold max (⊥ : EReal) (fun r : Fin 4224 => if r.val ≤ n.val then ((f r : ℝ) : EReal) else ⊥) Finset.univ < ⊤ :=
    Finset.fold_max_lt (c := (⊤ : EReal)) |>.mpr ⟨bot_lt_top, fun r _ => by
      split
      · exact EReal.coe_lt_top _
      · exact bot_lt_top⟩
  have hb : ⊥ < Finset.fold max (⊥ : EReal) (fun r : Fin 4224 => if r.val ≤ n.val then ((f r : ℝ) : EReal) else ⊥) Finset.univ :=
    Finset.lt_fold_max (c := (⊥ : EReal)) |>.mpr (Or.inr ⟨n, Finset.mem_univ n, by
      rw [if_pos (le_refl _)]
      exact EReal.bot_lt_coe _⟩)
  exact ⟨_, (EReal.coe_toReal ht.ne hb.ne').symm⟩

theorem exp_row (x M : ℝ) (p : Prop) [Decidable p] :
    Ideal.exp ((if p then (x : EReal) else ⊥) - (M : EReal)) = (((if p then Real.exp x else 0) * Real.exp (-M) : ℝ) : EReal) := by
  by_cases hp : p
  · rw [if_pos hp, if_pos hp, ← EReal.coe_sub, Ideal.exp_coe, ← Real.exp_add, sub_eq_add_neg]
  · rw [if_neg hp, if_neg hp, EReal.bot_sub, zero_mul]
    rfl

theorem div_real (x y : ℝ) (hy : y ≠ 0) : Ideal.div (x : EReal) (y : EReal) = ((x / y : ℝ) : EReal) := by
  rw [Ideal.div_coe hy, ← EReal.coe_mul, mul_one_div]

section Rows

variable (A : Args) (b : Fin 2) (h : Fin 16) (n : Fin 4224) (M : ℝ)

/-- A row's shifted exponentials. -/
theorem e_eq (r : Fin 4224) : Ideal.exp ((if r.val ≤ n.val then ((A.s b h n r : ℝ) : EReal) else ⊥) - (M : EReal))
    = ((A.w b h n r * Real.exp (-M) : ℝ) : EReal) := exp_row _ _ _

theorem l_eq : ∑ r : Fin 4224, Ideal.exp ((if r.val ≤ n.val then ((A.s b h n r : ℝ) : EReal) else ⊥) - (M : EReal))
    = ((A.L b h n * Real.exp (-M) : ℝ) : EReal) := by
  rw [Args.L, Finset.sum_mul, coe_sum]
  exact Finset.sum_congr rfl fun r _ => e_eq A b h n M r

theorem l_ne : A.L b h n * Real.exp (-M) ≠ 0 := (mul_pos (A.L_pos b h n) (Real.exp_pos _)).ne'

theorem y_eq (r : Fin 4224) : A.w b h n r * Real.exp (-M) / (A.L b h n * Real.exp (-M)) = A.y b h n r :=
  mul_div_mul_right _ _ (Real.exp_pos _).ne'

/-- The logarithm of a row's sum, to base two: the shift leaves it. -/
theorem lse_eq : ((M : EReal) + Ideal.log (∑ r : Fin 4224, Ideal.exp ((if r.val ≤ n.val then ((A.s b h n r : ℝ) : EReal) else ⊥) - (M : EReal))))
      * Ideal.div 1 (Ideal.log ((2 : ℝ) : EReal)) = ((Real.log (A.L b h n) / Real.log 2 : ℝ) : EReal) := by
  have hl2 : Real.log 2 ≠ 0 := (Real.log_pos one_lt_two).ne'
  rw [l_eq, Ideal.log_coe, Ideal.log_coe, if_neg (not_le.mpr (mul_pos (A.L_pos b h n) (Real.exp_pos _))), if_neg (by norm_num),
    Real.log_mul (A.L_pos b h n).ne' (Real.exp_pos _).ne', Real.log_exp, ← EReal.coe_add, ← EReal.coe_one, div_real _ _ hl2, ← EReal.coe_mul]
  congr 1
  field_simp
  ring

/-- A row's sum of probability times gradient, as a sum over lanes. -/
theorem delta_eq : ∑ d : Fin 64, (∑ r : Fin 4224, ((A.v b r h d : ℝ) : EReal) * ((A.y b h n r : ℝ) : EReal)) * ((A.o b n h d : ℝ) : EReal)
    = ((A.D b h n : ℝ) : EReal) := by
  simp only [← EReal.coe_mul, ← coe_sum]
  congr 1
  simp only [Args.D, Args.dy, Finset.mul_sum, Finset.sum_mul]
  rw [Finset.sum_comm]
  exact Finset.sum_congr rfl fun r _ => Finset.sum_congr rfl fun d _ => by ring

/-- The reference's gradient of the scores: the quotient's two terms. -/
theorem g_eq (r : Fin 4224) (d' : EReal)
    (hd : d' = -(∑ r : Fin 4224, ((A.dy b h n r : ℝ) : EReal)
        * Ideal.div 1 (((A.L b h n * Real.exp (-M) : ℝ) : EReal) * ((A.L b h n * Real.exp (-M) : ℝ) : EReal)) * ((A.w b h n r * Real.exp (-M) : ℝ) : EReal))) :
    (Ideal.div ((A.dy b h n r : ℝ) : EReal) ((A.L b h n * Real.exp (-M) : ℝ) : EReal) + d') * ((A.w b h n r * Real.exp (-M) : ℝ) : EReal)
      = ((A.g b h n r : ℝ) : EReal) := by
  have hne := l_ne A b h n M
  have hL := (A.L_pos b h n).ne'
  have hE := (Real.exp_pos (-M)).ne'
  rw [hd, ← EReal.coe_mul, ← EReal.coe_one, div_real _ _ (mul_ne_zero hne hne), div_real _ _ hne]
  simp only [← EReal.coe_mul, ← coe_sum, ← EReal.coe_neg, ← EReal.coe_add]
  congr 1
  have hD : ∑ r : Fin 4224, A.dy b h n r * (1 / (A.L b h n * Real.exp (-M) * (A.L b h n * Real.exp (-M)))) * (A.w b h n r * Real.exp (-M))
      = A.D b h n / (A.L b h n * Real.exp (-M)) := by
    rw [Args.D, Finset.sum_div]
    refine Finset.sum_congr rfl fun r _ => ?_
    rw [Args.y]
    field_simp
  rw [hD, Args.g, Args.y]
  field_simp
  ring

/-- The probability by powers of two: scores scaled by the base-two logarithm of e, less the row's. -/
theorem p_eq (r : Fin 4224) (hr : r.val ≤ n.val) :
    Ideal.exp2 ((A.s b h n r * (1 / Real.log 2) : ℝ) - ((Real.log (A.L b h n) / Real.log 2 : ℝ) : EReal)) = ((A.y b h n r : ℝ) : EReal) := by
  have hl2 : Real.log 2 ≠ 0 := (Real.log_pos one_lt_two).ne'
  rw [← EReal.coe_sub, Ideal.exp2_coe]
  congr 1
  show (2 : ℝ) ^ (A.s b h n r * (1 / Real.log 2) - Real.log (A.L b h n) / Real.log 2 : ℝ) = A.y b h n r
  rw [Real.rpow_def_of_pos two_pos]
  have e : Real.log 2 * (A.s b h n r * (1 / Real.log 2) - Real.log (A.L b h n) / Real.log 2) = A.s b h n r - Real.log (A.L b h n) := by
    field_simp
  rw [e, Real.exp_sub, Real.exp_log (A.L_pos b h n), Args.y, Args.w, if_pos hr]

theorem y_zero (r : Fin 4224) (hr : ¬r.val ≤ n.val) : A.y b h n r = 0 := by
  rw [Args.y, Args.w, if_neg hr, zero_div]

end Rows

theorem two_f32 : Ideal.ofBits .f32 0x40000000#32 = ((2 : ℝ) : EReal) := by
  simp [Ideal.ofBits, Ideal.ieee]
  rw [← EReal.coe_mul]
  norm_num

theorem ninf_f32 : Ideal.ofBits .f32 0xFF800000#32 = (⊥ : EReal) := by
  simp [Ideal.ofBits, Ideal.ieee]

theorem inf_f32 : Ideal.ofBits .f32 0x7F800000#32 = (⊤ : EReal) := by
  simp [Ideal.ofBits, Ideal.ieee]

/-- The scale of the query is a real. -/
theorem scale_real : ∃ x : ℝ, Ideal.ofBits .f32 0x3DD105EC#32 = (x : EReal) := by
  simp only [Ideal.ofBits, Ideal.ieee]
  norm_num
  exact ⟨_, rfl⟩

/-- The rows of all sequences one below another and the heads side by side, each of 128 columns: behind the `N` lanes of a head stand zeros. -/
def pad {N : ℕ} (f : Fin 2 → Fin 16 → Fin 4224 → Fin N → ℝ) (R : Fin 8448) (C : Fin 2048) : ℝ :=
  if h : C.val % 128 < N then
    f ⟨R.val / 4224, by omega⟩ ⟨C.val / 128, by omega⟩ ⟨R.val % 4224, Nat.mod_lt _ (by omega)⟩ ⟨C.val % 128, h⟩
  else 0

theorem sel_pad {N : ℕ} (f : Fin 2 → Fin 16 → Fin 4224 → Fin N → ℝ) (R : Fin 8448) (C : Fin 2048) (z : EReal) (hz : z = 0) :
    (if h : R.val / 4224 < 2 ∧ R.val % 4224 < 4224 ∧ C.val / 128 < 16 ∧ C.val % 128 < N then
      ((f ⟨R.val / 4224, h.1⟩ ⟨C.val / 128, h.2.2.1⟩ ⟨R.val % 4224, h.2.1⟩ ⟨C.val % 128, h.2.2.2⟩ : ℝ) : EReal)
    else z) = ((pad f R C : ℝ) : EReal) := by
  by_cases h : C.val % 128 < N
  · rw [dif_pos ⟨by omega, by omega, by omega, h⟩, pad, dif_pos h]
  · rw [dif_neg (fun h' => h h'.2.2.2), pad, dif_neg h, hz]
    rfl

end Cert.Attn

end
-- ==== Proof.Host.lean ====
/- The arrays the host computes in front of the call, at an index, over real arguments. -/
module

public import proofs.«01_k».proof.Proof.Blocks
public import proofs.«01_k».proof.Proof.Attn
public import Idealize.ShloMosaic.Lib.StableHlo.ReadAt

@[expose] public section

noncomputable section

namespace Cert.KernelIdeal.Att

open Cert.KernelIdeal.Gen Cert.Attn
open Idealize.ShloMosaic Idealize.ShloMosaic.TcCoe Idealize.SL.Sem

/-- The arguments on a device are the reals of `A`, the query before its scale. -/
structure Reals (A : Args) (x0 x1 : S2x4224x16x96.Idx → EReal) (x2 x3 : S2x4224x16x64.Idx → EReal) : Prop where
  q : ∀ b n h d, x0 (ix4 b n h d) * Ideal.ofBits .f32 0x3DD105EC#32 = ((A.q b n h d : ℝ) : EReal)
  k : ∀ b n h d, x1 (ix4 b n h d) = ((A.k b n h d : ℝ) : EReal)
  v : ∀ b n h d, x2 (ix4 b n h d) = ((A.v b n h d : ℝ) : EReal)
  o : ∀ b n h d, x3 (ix4 b n h d) = ((A.o b n h d : ℝ) : EReal)

theorem zero_word : (FloatOps.sitofp .f32 0#32 : Ideal .f32) = (0 : EReal) := by
  have h : (((0#32 : BitVec 32).toInt : ℝ) : EReal) = 0 := by simp
  exact h

theorem log2e : Ideal.div 1 (Ideal.log (Ideal.ofBits .f32 0x40000000#32)) = ((1 / Real.log 2 : ℝ) : EReal) := by
  rw [Cert.Attn.two_f32, Ideal.log_coe, if_neg (by norm_num), ← EReal.coe_one, div_real _ _ (Real.log_pos one_lt_two).ne']

/-- The mask: the key's position is at most the query's. -/
def maskOp : IVec S2x16x4224x4224 1 :=
  broadcastInDim S2x16x4224x4224 ![0, 1, 2, 3] bcast_S1x1x4224x4224_S2x16x4224x4224_0_1_2_3
    (broadcastInDim S1x1x4224x4224 ![2, 3] bcast_S4224x4224_S1x1x4224x4224_2_3
      (cmpi .sle
        (broadcastInDim S4224x4224 ![0, 1] bcast_S1x4224_S4224x4224_0_1 (broadcastInDim S1x4224 ![1] bcast_S4224_S1x4224_1 (iotaInDim S4224 32 0)))
        (broadcastInDim S4224x4224 ![0, 1] bcast_S4224x1_S4224x4224_0_1 (broadcastInDim S4224x1 ![0] bcast_S4224_S4224x1_0 (iotaInDim S4224 32 0)))))

/-- The scores of scaled query and key. -/
def dotOp (x0 x1 : FVec Ideal S2x4224x16x96 .f32) : FVec Ideal S2x16x4224x4224 .f32 :=
  Host.dotGeneral dot_S2x4224x16x96_S2x4224x16x96_S2x16x4224x4224_3_3_1_1_02_02 none
    (mulf x0 (broadcastInDim S2x4224x16x96 ![] bcast_S_S2x4224x16x96 (constant S_ .f32 1037108716#32))) x1

/-- The masked scores. -/
def scoreOp (x0 x1 : FVec Ideal S2x4224x16x96 .f32) : FVec Ideal S2x16x4224x4224 .f32 :=
  select maskOp (dotOp x0 x1) (broadcastInDim S2x16x4224x4224 ![] bcast_S_S2x16x4224x4224 (id (constant S_ .f32 4286578688#32)))

/-- A row's maximum. -/
def maxOp (z : FVec Ideal S2x16x4224x4224 .f32) : FVec Ideal S2x16x4224 .f32 :=
  Host.reduce FloatOps.maximumf z (constant S_ .f32 4286578688#32) reducesTo_S2x16x4224x4224_S2x16x4224_d3 h_S_

/-- The exponentials of the scores less the row's shift. -/
def expOp (z : FVec Ideal S2x16x4224x4224 .f32) (y : FVec Ideal S2x16x4224 .f32) : FVec Ideal S2x16x4224x4224 .f32 :=
  Host.exp (subf z (broadcastInDim S2x16x4224x4224 ![0, 1, 2, 3] bcast_S2x16x4224x1_S2x16x4224x4224_0_1_2_3
    (broadcastInDim S2x16x4224x1 ![0, 1, 2] bcast_S2x16x4224_S2x16x4224x1_0_1_2 y)))

/-- A row's sum. -/
def sumOp (e : FVec Ideal S2x16x4224x4224 .f32) : FVec Ideal S2x16x4224 .f32 :=
  Host.reduceAdd e (constant S_ .f32 0#32) reducesTo_S2x16x4224x4224_S2x16x4224_d3 h_S_

/-- The logarithm of a row's sum, to base two. -/
def lseOp (y l : FVec Ideal S2x16x4224 .f32) : FVec Ideal S2x16x4224 .f32 :=
  mulf (fun i => shapeCast { rank := 3, size := ![2, 16, 4224] }
      (addf (broadcastInDim S2x16x4224x1 ![0, 1, 2] bcast_S2x16x4224_S2x16x4224x1_0_1_2 y)
        (Host.log (broadcastInDim S2x16x4224x1 ![0, 1, 2] bcast_S2x16x4224_S2x16x4224x1_0_1_2 l))) shapeCasts_S2x16x4224x1_S2x16x4224 i)
    (broadcastInDim S2x16x4224 ![] bcast_S_S2x16x4224 (Host.divf (constant S_ .f32 1065353216#32) (Host.log (constant S_ .f32 1073741824#32))))

/-- A statistic of the rows as the call takes it: by tiles, each eight times. -/
def tileOp (u : FVec Ideal S2x16x4224 .f32) : FVec Ideal S32x11x8x384 .f32 :=
  broadcastInDim S32x11x8x384 ![0, 1, 2, 3] bcast_S32x11x1x384_S32x11x8x384_0_1_2_3 fun i =>
    shapeCast { rank := 4, size := ![32, 11, 1, 384] } u shapeCasts_S2x16x4224_S32x11x1x384 i

/-- The row's maximum, no less than the least value. -/
def max2Op (y : FVec Ideal S2x16x4224 .f32) : FVec Ideal S2x16x4224 .f32 :=
  maximumf (broadcastInDim S2x16x4224 ![] bcast_S_S2x16x4224 (constant S_ .f32 4286578688#32)) y

/-- The probabilities. -/
def probOp (e : FVec Ideal S2x16x4224x4224 .f32) (l : FVec Ideal S2x16x4224 .f32) : FVec Ideal S2x16x4224x4224 .f32 :=
  Host.divf e (broadcastInDim S2x16x4224x4224 ![0, 1, 2, 3] bcast_S2x16x4224x1_S2x16x4224x4224_0_1_2_3
    (broadcastInDim S2x16x4224x1 ![0, 1, 2] bcast_S2x16x4224_S2x16x4224x1_0_1_2 l))

/-- A row's sum of output times its gradient. -/
def deltaOp (p : FVec Ideal S2x16x4224x4224 .f32) (x2 x3 : FVec Ideal S2x4224x16x64 .f32) : FVec Ideal S2x16x4224 .f32 :=
  transpose S2x16x4224 [0, 2, 1]
    (Host.reduceAdd
      (mulf
        (transpose S2x4224x16x64 [0, 3, 1, 2]
          (Host.dotGeneral dot_S2x4224x16x64_S2x16x4224x4224_S2x16x64x4224_1_3_3_2_02_01 none x2 p)
          transposes_S2x16x64x4224_S2x4224x16x64_0_3_1_2)
        x3)
      (constant S_ .f32 0#32) reducesTo_S2x4224x16x64_S2x4224x16_d3 h_S_)
    transposes_S2x4224x16_S2x16x4224_0_2_1

theorem v65_op (m : (ℓ : Loc nD τ sig) → Buf (Elt Ideal) ℓ) (c : Dev nD) :
    V m c main_v65 = (tileOp (lseOp (maxOp (scoreOp (m (c, Proc.tc.devRef main_arg0)) (m (c, Proc.tc.devRef main_arg1))))
      (sumOp (expOp (scoreOp (m (c, Proc.tc.devRef main_arg0)) (m (c, Proc.tc.devRef main_arg1))) (maxOp (scoreOp (m (c, Proc.tc.devRef main_arg0)) (m (c, Proc.tc.devRef main_arg1)))))))) := by
  unfold V
  after_reads_simp
  all_goals try simp -implicitDefEqProofs only [StableHlo.TRef.toBuf, StableHlo.TRef.ofBuf, cast_cast, cast_eq]
  clean_types
  rfl

theorem v67_op (m : (ℓ : Loc nD τ sig) → Buf (Elt Ideal) ℓ) (c : Dev nD) :
    V m c main_v67 = (tileOp (deltaOp (probOp
      (expOp (scoreOp (m (c, Proc.tc.devRef main_arg0)) (m (c, Proc.tc.devRef main_arg1))) (max2Op (maxOp (scoreOp (m (c, Proc.tc.devRef main_arg0)) (m (c, Proc.tc.devRef main_arg1))))))
      (sumOp (expOp (scoreOp (m (c, Proc.tc.devRef main_arg0)) (m (c, Proc.tc.devRef main_arg1))) (max2Op (maxOp (scoreOp (m (c, Proc.tc.devRef main_arg0)) (m (c, Proc.tc.devRef main_arg1))))))))
      (m (c, Proc.tc.devRef main_arg2)) (m (c, Proc.tc.devRef main_arg3)))) := by
  unfold V
  after_reads_simp
  all_goals try simp -implicitDefEqProofs only [StableHlo.TRef.toBuf, StableHlo.TRef.ofBuf, cast_cast, cast_eq]
  clean_types
  rfl

section Ops

variable {A : Args} {x0 x1 : FVec Ideal S2x4224x16x96 .f32} {x2 x3 : FVec Ideal S2x4224x16x64 .f32}

theorem mask_at (b : Fin 2) (h : Fin 16) (n r : Fin 4224) : maskOp (ix4 b h n r) = IntOp.cmpi .sle (BitVec.ofNat 32 r.val) (BitVec.ofNat 32 n.val) := by
  unfold maskOp
  pointwise

theorem dot_at (H : Reals A x0 x1 x2 x3) (b : Fin 2) (h : Fin 16) (n r : Fin 4224) : dotOp x0 x1 (ix4 b h n r) = ((A.s b h n r : ℝ) : EReal) := by
  unfold dotOp
  pointwise
  rw [Args.s, coe_sum]
  refine Finset.sum_congr rfl fun d _ => ?_
  rw [EReal.coe_mul, ← H.q, ← H.k]

theorem fill_at (i : S2x16x4224x4224.Idx) :
    (broadcastInDim S2x16x4224x4224 ![] bcast_S_S2x16x4224x4224 (id (constant (F := Ideal) S_ .f32 4286578688#32)) : FVec Ideal S2x16x4224x4224 .f32) i = (⊥ : EReal) := ninf_f32

theorem score_at (H : Reals A x0 x1 x2 x3) (b : Fin 2) (h : Fin 16) (n r : Fin 4224) :
    scoreOp x0 x1 (ix4 b h n r) = if r.val ≤ n.val then ((A.s b h n r : ℝ) : EReal) else ⊥ := by
  have h1 := mask_at b h n r
  have h2 := dot_at H b h n r
  have h3 := fill_at (ix4 b h n r)
  unfold scoreOp
  show Scalar.select (maskOp (ix4 b h n r)) (dotOp x0 x1 (ix4 b h n r)) _ = _
  rw [h1, h2, h3, select_le _ _ (by omega) (by omega)]

theorem max_at {z : FVec Ideal S2x16x4224x4224 .f32} (b : Fin 2) (h : Fin 16) (n : Fin 4224)
    (hz : ∀ r : Fin 4224, z (ix4 b h n r) = if r.val ≤ n.val then ((A.s b h n r : ℝ) : EReal) else ⊥) : ∃ M : ℝ, maxOp z (ix3 b h n) = (M : EReal) := by
  unfold maxOp
  pointwise
  simp only [hz, Cert.Attn.ninf_f32]
  exact row_max _ n

theorem exp_at {z : FVec Ideal S2x16x4224x4224 .f32} {y : FVec Ideal S2x16x4224 .f32} (b : Fin 2) (h : Fin 16) (n r : Fin 4224) (M : ℝ)
    (hz : z (ix4 b h n r) = if r.val ≤ n.val then ((A.s b h n r : ℝ) : EReal) else ⊥) (hy : y (ix3 b h n) = (M : EReal)) :
    expOp z y (ix4 b h n r) = ((A.w b h n r * Real.exp (-M) : ℝ) : EReal) := by
  rw [← e_eq A b h n M r]
  unfold expOp
  pointwise
  rw [hz, hy]

theorem sum_at {e : FVec Ideal S2x16x4224x4224 .f32} (b : Fin 2) (h : Fin 16) (n : Fin 4224) (M : ℝ)
    (he : ∀ r, e (ix4 b h n r) = ((A.w b h n r * Real.exp (-M) : ℝ) : EReal)) :
    sumOp e (ix3 b h n) = ((A.L b h n * Real.exp (-M) : ℝ) : EReal) := by
  unfold sumOp
  pointwise
  rw [Args.L, Finset.sum_mul, coe_sum]
  exact Finset.sum_congr rfl fun r _ => he r

theorem lse_at {y l : FVec Ideal S2x16x4224 .f32} (b : Fin 2) (h : Fin 16) (n : Fin 4224) (M : ℝ) (hy : y (ix3 b h n) = (M : EReal))
    (hl : l (ix3 b h n) = ((A.L b h n * Real.exp (-M) : ℝ) : EReal)) :
    lseOp y l (ix3 b h n) = ((Real.log (A.L b h n) / Real.log 2 : ℝ) : EReal) := by
  rw [← lse_eq A b h n M, l_eq, ← Cert.Attn.two_f32]
  unfold lseOp
  pointwise
  rw [hy, hl]

theorem tile_at (u : FVec Ideal S2x16x4224 .f32) (a : Fin 32) (b : Fin 11) (d : Fin 8) (e : Fin 384) :
    tileOp u (ix4 a b d e) = u (ix3 ⟨a.val / 16, by omega⟩ ⟨a.val % 16, by omega⟩ ⟨b.val * 384 + e.val, by omega⟩) := by
  unfold tileOp
  pointwise

theorem least_at (i : S2x16x4224.Idx) :
    (broadcastInDim S2x16x4224 ![] bcast_S_S2x16x4224 (constant (F := Ideal) S_ .f32 4286578688#32) : FVec Ideal S2x16x4224 .f32) i = (⊥ : EReal) := ninf_f32

theorem max2_at {y : FVec Ideal S2x16x4224 .f32} (i : S2x16x4224.Idx) : max2Op y i = y i := by
  have h1 := least_at i
  unfold max2Op
  show max _ (y i) = _
  rw [h1]
  exact max_eq_right bot_le

theorem prob_at {e : FVec Ideal S2x16x4224x4224 .f32} {l : FVec Ideal S2x16x4224 .f32} (b : Fin 2) (h : Fin 16) (n r : Fin 4224) (M : ℝ)
    (he : e (ix4 b h n r) = ((A.w b h n r * Real.exp (-M) : ℝ) : EReal)) (hl : l (ix3 b h n) = ((A.L b h n * Real.exp (-M) : ℝ) : EReal)) :
    probOp e l (ix4 b h n r) = ((A.y b h n r : ℝ) : EReal) := by
  unfold probOp
  pointwise
  rw [he, hl, div_real _ _ (l_ne A b h n M), y_eq]

theorem delta_at (H : Reals A x0 x1 x2 x3) {p : FVec Ideal S2x16x4224x4224 .f32} (b : Fin 2) (h : Fin 16) (n : Fin 4224)
    (hp : ∀ r, p (ix4 b h n r) = ((A.y b h n r : ℝ) : EReal)) : deltaOp p x2 x3 (ix3 b h n) = ((A.D b h n : ℝ) : EReal) := by
  rw [← delta_eq A b h n]
  unfold deltaOp
  pointwise
  simp only [H.v, H.o, hp]

end Ops

variable {m : (ℓ : Loc nD τ sig) → Buf (Elt Ideal) ℓ} {c : Dev nD} {A : Args}
  (H : Reals A (m (c, Proc.tc.devRef main_arg0)) (m (c, Proc.tc.devRef main_arg1)) (m (c, Proc.tc.devRef main_arg2)) (m (c, Proc.tc.devRef main_arg3)))
include H

theorem v54_at (R : Fin 8448) (C : Fin 2048) : (V m c main_v54 : S8448x2048.Idx → EReal) (ix2 R C) = ((pad (fun b h n d => A.q b n h d * (1 / Real.log 2)) R C : ℝ) : EReal) := by
  unfold V
  after_reads_at
  simp only [H.q, log2e, ← EReal.coe_mul]
  exact sel_pad (fun b h n d => A.q b n h d * (1 / Real.log 2)) R C _ zero_word

theorem v57_at (R : Fin 8448) (C : Fin 2048) : (V m c main_v57 : S8448x2048.Idx → EReal) (ix2 R C) = ((pad (fun b h n d => A.k b n h d) R C : ℝ) : EReal) := by
  unfold V
  after_reads_at
  simp only [H.k]
  exact sel_pad (fun b h n d => A.k b n h d) R C _ zero_word

theorem v60_at (R : Fin 8448) (C : Fin 2048) : (V m c main_v60 : S8448x2048.Idx → EReal) (ix2 R C) = ((pad (fun b h n d => A.v b n h d) R C : ℝ) : EReal) := by
  unfold V
  after_reads_at
  simp only [H.v]
  exact sel_pad (fun b h n d => A.v b n h d) R C _ zero_word

theorem v63_at (R : Fin 8448) (C : Fin 2048) : (V m c main_v63 : S8448x2048.Idx → EReal) (ix2 R C) = ((pad (fun b h n d => A.o b n h d) R C : ℝ) : EReal) := by
  unfold V
  after_reads_at
  simp only [H.o]
  exact sel_pad (fun b h n d => A.o b n h d) R C _ zero_word

theorem v65_at (a : Fin 32) (b : Fin 11) (d : Fin 8) (e : Fin 384) : (V m c main_v65 : S32x11x8x384.Idx → EReal) (ix4 a b d e)
    = ((Real.log (A.L ⟨a.val / 16, by omega⟩ ⟨a.val % 16, by omega⟩ ⟨b.val * 384 + e.val, by omega⟩) / Real.log 2 : ℝ) : EReal) := by
  rw [v65_op, tile_at]
  obtain ⟨M, hM⟩ := max_at _ _ _ fun r => score_at H ⟨a.val / 16, by omega⟩ ⟨a.val % 16, by omega⟩ ⟨b.val * 384 + e.val, by omega⟩ r
  exact lse_at _ _ _ M hM (sum_at _ _ _ M fun r => exp_at _ _ _ r M (score_at H _ _ _ r) hM)

theorem v67_at (a : Fin 32) (b : Fin 11) (d : Fin 8) (e : Fin 384) : (V m c main_v67 : S32x11x8x384.Idx → EReal) (ix4 a b d e)
    = ((A.D ⟨a.val / 16, by omega⟩ ⟨a.val % 16, by omega⟩ ⟨b.val * 384 + e.val, by omega⟩ : ℝ) : EReal) := by
  rw [v67_op, tile_at]
  obtain ⟨M, hM⟩ := max_at _ _ _ fun r => score_at H ⟨a.val / 16, by omega⟩ ⟨a.val % 16, by omega⟩ ⟨b.val * 384 + e.val, by omega⟩ r
  have he := fun r => exp_at _ _ _ r M (score_at H ⟨a.val / 16, by omega⟩ ⟨a.val % 16, by omega⟩ ⟨b.val * 384 + e.val, by omega⟩ r) ((max2_at _).trans hM)
  exact delta_at H _ _ _ fun r => prob_at _ _ _ r M (he r) (sum_at _ _ _ M he)

end Cert.KernelIdeal.Att

end
-- ==== Proof.Value.lean ====
/- The kernel's three arrays over real arguments: the gradients of masked attention, lane by lane. -/
module

public import proofs.«01_k».proof.Proof.Host

@[expose] public section

noncomputable section

namespace Cert.KernelIdeal.Att

open Cert.KernelIdeal.Gen Cert.Attn
open Idealize.ShloMosaic Idealize.ShloMosaic.TcCoe Idealize.SL.Sem

/-- The lanes of a head, zeros behind the first `N`. -/
def padl {N : ℕ} (f : Fin N → ℝ) (l : ℕ) : ℝ := if h : l < N then f ⟨l, h⟩ else 0

theorem pad_eq {N : ℕ} (f : Fin 2 → Fin 16 → Fin 4224 → Fin N → ℝ) (R : Fin 8448) (C : Fin 2048) (b : Fin 2) (h : Fin 16) (n : Fin 4224) (l : ℕ)
    (hl : l < 128) (hR : R.val = 4224 * b.val + n.val) (hC : C.val = 128 * h.val + l) : pad f R C = padl (f b h n) l := by
  have hn := n.isLt
  have e1 : (⟨R.val / 4224, by omega⟩ : Fin 2) = b := Fin.ext (by show R.val / 4224 = b.val; omega)
  have e2 : (⟨C.val / 128, by omega⟩ : Fin 16) = h := Fin.ext (by show C.val / 128 = h.val; omega)
  have e3 : (⟨R.val % 4224, Nat.mod_lt _ (by omega)⟩ : Fin 4224) = n := Fin.ext (by show R.val % 4224 = n.val; omega)
  have e4 : C.val % 128 = l := by omega
  unfold Cert.Attn.pad padl
  by_cases h' : l < N
  · rw [dif_pos (by omega), dif_pos h', e1, e2, e3]
    exact congrArg (f b h n) (Fin.ext e4)
  · rw [dif_neg (by omega), dif_neg h']

theorem sum_padl {N : ℕ} (hN : N ≤ 128) (f g : Fin N → ℝ) : ∑ l : Fin 128, padl f l.val * padl g l.val = ∑ d : Fin N, f d * g d := by
  have e : ∀ d : Fin N, f d * g d = padl f d.val * padl g d.val := fun d => by
    unfold padl
    rw [dif_pos d.isLt, dif_pos d.isLt]
  simp only [e]
  rw [Fin.sum_univ_eq_sum_range (fun l => padl f l * padl g l) 128, Fin.sum_univ_eq_sum_range (fun l => padl f l * padl g l) N]
  refine (Finset.sum_subset (fun x hx => Finset.mem_range.mpr (lt_of_lt_of_le (Finset.mem_range.mp hx) hN)) fun x _ hx => ?_).symm
  rw [padl, dif_neg (fun h => hx (Finset.mem_range.mpr h)), zero_mul]

theorem padl_sum {N : ℕ} (f : Fin 4224 → ℝ) (g : Fin 4224 → Fin N → ℝ) (l : ℕ) : ∑ r, f r * padl (g r) l = padl (fun d => ∑ r, f r * g r d) l := by
  unfold padl
  by_cases h : l < N
  · simp only [dif_pos h]
  · simp only [dif_neg h, mul_zero, Finset.sum_const_zero]

variable {m : (ℓ : Loc nD τ sig) → Buf (Elt Ideal) ℓ} {c : Dev nD} {A : Args}
  (H : Reals A (m (c, Proc.tc.devRef main_arg0)) (m (c, Proc.tc.devRef main_arg1)) (m (c, Proc.tc.devRef main_arg2)) (m (c, Proc.tc.devRef main_arg3)))
include H

/-- A point of the grid: batch row `b`, pair of heads, tile of keys `j`; the head `h` is one of the pair. -/
structure At (t : ℕ) (b : Fin 2) (h : Fin 16) (j i : ℕ) : Prop where
  t : t = 88 * b.val + 11 * (h.val / 2) + j
  j : j < 11
  i : i = h.val % 2

variable {t : ℕ} {b : Fin 2} {h : Fin 16} {j i : ℕ} (T : At t b h j i)
include T

theorem q_at (n : Fin 4224) (l : Fin 128) : e2 (blkM m c t).q n.val (128 * i + l.val) = ((padl (fun d => A.q b n h d * (1 / Real.log 2)) l.val : ℝ) : EReal) := by
  obtain ⟨ht, hj, hi⟩ := T
  have hn := n.isLt; have hl := l.isLt; have hb := b.isLt; have hh := h.isLt
  rw [e2_pos _ _ _ hn (by omega)]
  show e2 (A := 8448) (B := 2048) (V m c main_v54) (4224 * (t / 88) + n.val) (256 * (t / 11 % 8) + (128 * i + l.val)) = _
  rw [e2_pos _ _ _ (by omega) (by omega), v54_at H, pad_eq _ _ _ b h n l.val hl (by show 4224 * (t / 88) + n.val = _; omega) (by show 256 * (t / 11 % 8) + (128 * i + l.val) = _; omega)]

theorem o_at (n : Fin 4224) (l : Fin 128) : e2 (blkM m c t).o n.val (128 * i + l.val) = ((padl (fun d => A.o b n h d) l.val : ℝ) : EReal) := by
  obtain ⟨ht, hj, hi⟩ := T
  have hn := n.isLt; have hl := l.isLt; have hb := b.isLt; have hh := h.isLt
  rw [e2_pos _ _ _ hn (by omega)]
  show e2 (A := 8448) (B := 2048) (V m c main_v63) (4224 * (t / 88) + n.val) (256 * (t / 11 % 8) + (128 * i + l.val)) = _
  rw [e2_pos _ _ _ (by omega) (by omega), v63_at H, pad_eq _ _ _ b h n l.val hl (by show 4224 * (t / 88) + n.val = _; omega) (by show 256 * (t / 11 % 8) + (128 * i + l.val) = _; omega)]

theorem k_at (r : ℕ) (hr : r < 384) (x : Fin 4224) (hx : x.val = 384 * j + r) (l : Fin 128) :
    e2 (blkM m c t).k r (128 * i + l.val) = ((padl (fun d => A.k b x h d) l.val : ℝ) : EReal) := by
  obtain ⟨ht, hj, hi⟩ := T
  have hl := l.isLt; have hb := b.isLt; have hh := h.isLt
  rw [e2_pos _ _ _ hr (by omega)]
  show e2 (A := 8448) (B := 2048) (V m c main_v57) (384 * (11 * (t / 88) + t % 11) + r) (256 * (t / 11 % 8) + (128 * i + l.val)) = _
  rw [e2_pos _ _ _ (by omega) (by omega), v57_at H, pad_eq _ _ _ b h x l.val hl (by show 384 * (11 * (t / 88) + t % 11) + r = _; omega) (by show 256 * (t / 11 % 8) + (128 * i + l.val) = _; omega)]

theorem w_at (r : ℕ) (hr : r < 384) (x : Fin 4224) (hx : x.val = 384 * j + r) (l : Fin 128) :
    e2 (blkM m c t).v r (128 * i + l.val) = ((padl (fun d => A.v b x h d) l.val : ℝ) : EReal) := by
  obtain ⟨ht, hj, hi⟩ := T
  have hl := l.isLt; have hb := b.isLt; have hh := h.isLt
  rw [e2_pos _ _ _ hr (by omega)]
  show e2 (A := 8448) (B := 2048) (V m c main_v60) (384 * (11 * (t / 88) + t % 11) + r) (256 * (t / 11 % 8) + (128 * i + l.val)) = _
  rw [e2_pos _ _ _ (by omega) (by omega), v60_at H, pad_eq _ _ _ b h x l.val hl (by show 384 * (11 * (t / 88) + t % 11) + r = _; omega) (by show 256 * (t / 11 % 8) + (128 * i + l.val) = _; omega)]

theorem ls_at (n : Fin 4224) : e4 (blkM m c t).ls i (n.val / 384) 0 (n.val % 384) = ((Real.log (A.L b h n) / Real.log 2 : ℝ) : EReal) := by
  obtain ⟨ht, hj, hi⟩ := T
  have hn := n.isLt; have hb := b.isLt; have hh := h.isLt
  rw [e4_pos _ _ _ _ _ (by omega) (by omega) (by omega) (by omega)]
  show e4 (A := 32) (B := 11) (C := 8) (D := 384) (V m c main_v65) (2 * (t / 11) + i) (n.val / 384) 0 (n.val % 384) = _
  rw [e4_pos _ _ _ _ _ (by omega) (by omega) (by omega) (by omega), v65_at H]
  have e1 : (⟨(2 * (t / 11) + i) / 16, by omega⟩ : Fin 2) = b := Fin.ext (by show (2 * (t / 11) + i) / 16 = b.val; omega)
  have e2 : (⟨(2 * (t / 11) + i) % 16, by omega⟩ : Fin 16) = h := Fin.ext (by show (2 * (t / 11) + i) % 16 = h.val; omega)
  have e3 : (⟨n.val / 384 * 384 + n.val % 384, by omega⟩ : Fin 4224) = n := Fin.ext (by show n.val / 384 * 384 + n.val % 384 = n.val; omega)
  rw [e1, e2, e3]

theorem dl_at (n : Fin 4224) : e4 (blkM m c t).dl i (n.val / 384) 0 (n.val % 384) = ((A.D b h n : ℝ) : EReal) := by
  obtain ⟨ht, hj, hi⟩ := T
  have hn := n.isLt; have hb := b.isLt; have hh := h.isLt
  rw [e4_pos _ _ _ _ _ (by omega) (by omega) (by omega) (by omega)]
  show e4 (A := 32) (B := 11) (C := 8) (D := 384) (V m c main_v67) (2 * (t / 11) + i) (n.val / 384) 0 (n.val % 384) = _
  rw [e4_pos _ _ _ _ _ (by omega) (by omega) (by omega) (by omega), v67_at H]
  have e1 : (⟨(2 * (t / 11) + i) / 16, by omega⟩ : Fin 2) = b := Fin.ext (by show (2 * (t / 11) + i) / 16 = b.val; omega)
  have e2 : (⟨(2 * (t / 11) + i) % 16, by omega⟩ : Fin 16) = h := Fin.ext (by show (2 * (t / 11) + i) % 16 = h.val; omega)
  have e3 : (⟨n.val / 384 * 384 + n.val % 384, by omega⟩ : Fin 4224) = n := Fin.ext (by show n.val / 384 * 384 + n.val % 384 = n.val; omega)
  rw [e1, e2, e3]

theorem p_at (r : ℕ) (hr : r < 384) (x : Fin 4224) (hx : x.val = 384 * j + r) (n : Fin 4224) :
    (blkM m c t).p j i r n.val = ((A.y b h n x : ℝ) : EReal) := by
  unfold Blk.p
  by_cases hn : x.val ≤ n.val
  · rw [if_pos (by omega), ← p_eq A b h n x hn, ls_at H T]
    simp only [k_at H T r hr x hx, q_at H T, ← EReal.coe_mul, ← coe_sum]
    rw [sum_padl (by omega)]
    have e : ∑ d : Fin 96, A.k b x h d * (A.q b n h d * (1 / Real.log 2)) = A.s b h n x * (1 / Real.log 2) := by
      rw [Args.s, Finset.sum_mul]
      exact Finset.sum_congr rfl fun d _ => by ring
    rw [e]
  · rw [if_neg (by omega), y_zero A b h n x hn]
    rfl

theorem ds_at (r : ℕ) (hr : r < 384) (x : Fin 4224) (hx : x.val = 384 * j + r) (n : Fin 4224) :
    (blkM m c t).ds j i r n.val = ((A.g b h n x : ℝ) : EReal) := by
  unfold Blk.ds
  rw [p_at H T r hr x hx n, dl_at H T]
  simp only [w_at H T r hr x hx, o_at H T, ← EReal.coe_mul, ← coe_sum]
  rw [sum_padl (by omega), ← EReal.coe_sub, ← EReal.coe_mul, Args.g, Args.dy]
  simp only [mul_comm]

theorem dv_at (r : ℕ) (hr : r < 384) (x : Fin 4224) (hx : x.val = 384 * j + r) (l : Fin 128) :
    (blkM m c t).dv j i 4224 r l.val = ((padl (fun d => A.dv b h x d) l.val : ℝ) : EReal) := by
  unfold Blk.dv
  rw [Finset.sum_range]
  simp only [p_at H T r hr x hx, o_at H T, ← EReal.coe_mul, ← coe_sum]
  rw [padl_sum]
  rfl

theorem dk_at (r : ℕ) (hr : r < 384) (x : Fin 4224) (hx : x.val = 384 * j + r) (l : Fin 128) :
    (blkM m c t).dk j i 4224 r l.val * ((Real.log 2 : ℝ) : EReal) = ((padl (fun d => A.dk b h x d) l.val : ℝ) : EReal) := by
  have hl2 : Real.log 2 ≠ 0 := (Real.log_pos one_lt_two).ne'
  unfold Blk.dk
  rw [Finset.sum_range]
  simp only [ds_at H T r hr x hx, q_at H T, ← EReal.coe_mul, ← coe_sum]
  rw [padl_sum]
  congr 1
  unfold padl
  by_cases h' : l.val < 96
  · rw [dif_pos h', dif_pos h']
    show (∑ n, A.g b h n x * (A.q b n h ⟨l.val, h'⟩ * (1 / Real.log 2))) * Real.log 2 = ∑ n, A.g b h n x * A.q b n h ⟨l.val, h'⟩
    rw [Finset.sum_mul]
    exact Finset.sum_congr rfl fun n _ => by field_simp
  · rw [dif_neg h', dif_neg h', zero_mul]

/-- What key `x` adds to a query's gradient, zero behind the last key. -/
def dqTerm (A : Args) (b : Fin 2) (h : Fin 16) (n : Fin 4224) (l x : ℕ) : ℝ :=
  if hx : x < 4224 then A.g b h n ⟨x, hx⟩ * padl (fun d => A.k b ⟨x, hx⟩ h d) l else 0

theorem dq_at (n : Fin 4224) (l : Fin 128) :
    (blkM m c t).dq j i n.val l.val = ((∑ r ∈ Finset.range 384, dqTerm A b h n l.val (384 * j + r) : ℝ) : EReal) := by
  unfold Blk.dq
  rw [Finset.sum_range, coe_sum]
  refine Finset.sum_congr rfl fun r _ => ?_
  have hj := T.j; have hr := r.isLt
  have hx : 384 * j + r.val < 4224 := by omega
  rw [ds_at H T r.val hr ⟨_, hx⟩ rfl n, k_at H T r.val hr ⟨_, hx⟩ rfl l, ← EReal.coe_mul, dqTerm, dif_pos hx]

omit H T

theorem dq_sum (A : Args) (b : Fin 2) (h : Fin 16) (n : Fin 4224) (l : ℕ) :
    ∑ j ∈ Finset.range 11, ∑ r ∈ Finset.range 384, dqTerm A b h n l (384 * j + r) = padl (fun d => A.dq b h n d) l := by
  have e : ∑ j ∈ Finset.range 11, ∑ r ∈ Finset.range 384, dqTerm A b h n l (384 * j + r) = ∑ x ∈ Finset.range 4224, dqTerm A b h n l x := by
    have := (Finset.sum_range_mul_split 11 384 fun x => dqTerm A b h n l x).symm
    simp only [mul_comm _ 384] at this
    exact this
  rw [e, Finset.sum_range]
  unfold Args.dq
  rw [← padl_sum]
  refine Finset.sum_congr rfl fun x _ => ?_
  rw [dqTerm, dif_pos x.isLt]

include H

theorem aq_at (R : Fin 8448) (C : Fin 2048) : aq m c (ix2 R C) = ((pad A.dq R C : ℝ) : EReal) := by
  have hR := R.isLt; have hC := C.isLt
  rw [pad_eq A.dq R C ⟨R.val / 4224, by omega⟩ ⟨C.val / 128, by omega⟩ ⟨R.val % 4224, by omega⟩ (C.val % 128) (by omega)
    (by show R.val = 4224 * (R.val / 4224) + R.val % 4224; omega) (by show C.val = 128 * (C.val / 128) + C.val % 128; omega), ← dq_sum, coe_sum]
  refine Finset.sum_congr rfl fun j hj => ?_
  have hj := Finset.mem_range.mp hj
  exact dq_at H (b := ⟨R.val / 4224, by omega⟩) (h := ⟨C.val / 128, by omega⟩)
    ⟨by show 88 * (R.val / 4224) + 11 * (C.val / 256) + j = 88 * (R.val / 4224) + 11 * (C.val / 128 / 2) + j; omega, hj, by show C.val % 256 / 128 = C.val / 128 % 2; omega⟩
    ⟨R.val % 4224, by omega⟩ ⟨C.val % 128, by omega⟩

theorem ak_at (R : Fin 8448) (C : Fin 2048) : ak m c (ix2 R C) = ((pad A.dk R C : ℝ) : EReal) := by
  have hR := R.isLt; have hC := C.isLt
  rw [pad_eq A.dk R C ⟨R.val / 4224, by omega⟩ ⟨C.val / 128, by omega⟩ ⟨R.val % 4224, by omega⟩ (C.val % 128) (by omega)
    (by show R.val = 4224 * (R.val / 4224) + R.val % 4224; omega) (by show C.val = 128 * (C.val / 128) + C.val % 128; omega)]
  exact dk_at H (b := ⟨R.val / 4224, by omega⟩) (h := ⟨C.val / 128, by omega⟩)
    ⟨by show 88 * (R.val / 4224) + 11 * (C.val / 256) + R.val % 4224 / 384 = 88 * (R.val / 4224) + 11 * (C.val / 128 / 2) + R.val % 4224 / 384; omega, by omega,
      by show C.val % 256 / 128 = C.val / 128 % 2; omega⟩
    (R.val % 384) (by omega) ⟨R.val % 4224, by omega⟩ (by show R.val % 4224 = 384 * (R.val % 4224 / 384) + R.val % 384; omega) ⟨C.val % 128, by omega⟩

theorem av_at (R : Fin 8448) (C : Fin 2048) : av m c (ix2 R C) = ((pad A.dv R C : ℝ) : EReal) := by
  have hR := R.isLt; have hC := C.isLt
  rw [pad_eq A.dv R C ⟨R.val / 4224, by omega⟩ ⟨C.val / 128, by omega⟩ ⟨R.val % 4224, by omega⟩ (C.val % 128) (by omega)
    (by show R.val = 4224 * (R.val / 4224) + R.val % 4224; omega) (by show C.val = 128 * (C.val / 128) + C.val % 128; omega)]
  exact dv_at H (b := ⟨R.val / 4224, by omega⟩) (h := ⟨C.val / 128, by omega⟩)
    ⟨by show 88 * (R.val / 4224) + 11 * (C.val / 256) + R.val % 4224 / 384 = 88 * (R.val / 4224) + 11 * (C.val / 128 / 2) + R.val % 4224 / 384; omega, by omega,
      by show C.val % 256 / 128 = C.val / 128 % 2; omega⟩
    (R.val % 384) (by omega) ⟨R.val % 4224, by omega⟩ (by show R.val % 4224 = 384 * (R.val % 4224 / 384) + R.val % 384; omega) ⟨C.val % 128, by omega⟩

end Cert.KernelIdeal.Att

end
-- ==== Proof.RefValue.lean ====
/- The reference's results at an index, over real arguments. -/
module

public import proofs.«01_k».proof.Proof.Gen.ReferenceIdeal.Read
public import proofs.«01_k».proof.Proof.Attn
public import Idealize.ShloMosaic.Lib.StableHlo.ReadAt

@[expose] public section

noncomputable section

namespace Cert.ReferenceIdeal.Att

open Cert.ReferenceIdeal.Gen Cert.ReferenceIdeal.Read Cert.Attn
open Idealize.ShloMosaic Idealize.ShloMosaic.TcCoe Idealize.SL.Sem

/-- The arguments are the reals of `A`, the query before its scale. -/
structure Reals (A : Args) (x0 x1 : S2x4224x16x96.Idx → EReal) (x2 x3 : S2x4224x16x64.Idx → EReal) : Prop where
  q : ∀ b n h d, x0 (ix4 b n h d) * Ideal.ofBits .f32 0x3DD105EC#32 = ((A.q b n h d : ℝ) : EReal)
  k : ∀ b n h d, x1 (ix4 b n h d) = ((A.k b n h d : ℝ) : EReal)
  v : ∀ b n h d, x2 (ix4 b n h d) = ((A.v b n h d : ℝ) : EReal)
  o : ∀ b n h d, x3 (ix4 b n h d) = ((A.o b n h d : ℝ) : EReal)

variable {A : Args} {x0 x1 : S2x4224x16x96.Idx → EReal} {x2 x3 : S2x4224x16x64.Idx → EReal} (H : Reals A x0 x1 x2 x3)
include H

theorem r1 (b : Fin 2) (n : Fin 4224) (h : Fin 16) (d : Fin 96) : val_main_v1 (F := Ideal) x0 (ix4 b n h d) = ((A.q b n h d : ℝ) : EReal) := by
  unfold val_main_v1 val_main_v0 val_main_cst
  clean_types
  pointwise
  exact H.q b n h d

theorem r2 (b : Fin 2) (h : Fin 16) (n r : Fin 4224) : val_main_v2 (F := Ideal) x0 x1 (ix4 b h n r) = ((A.s b h n r : ℝ) : EReal) := by
  have h1 := r1 H
  unfold val_main_v2
  generalize val_main_v1 (F := Ideal) x0 = y at h1 ⊢
  clean_types
  pointwise
  rw [Args.s, coe_sum]
  refine Finset.sum_congr rfl fun d _ => ?_
  rw [EReal.coe_mul, ← h1, ← H.k]

omit H in
theorem mask (b : Fin 2) (h : Fin 16) (n r : Fin 4224) {α : Type} (x y : α) :
    Scalar.select (val_main_v10_1 (F := Ideal) (ix4 b h n r)) x y = if r.val ≤ n.val then x else y := by
  unfold val_main_v10_1 val_main_v9 val_main_v8 val_main_v7 val_main_v6 val_main_v5 val_main_v4 val_main_v3
  clean_types
  pointwise
  exact KernelIdeal.Att.select_le _ _ (by omega) (by omega) _ _

theorem r10 (b : Fin 2) (h : Fin 16) (n r : Fin 4224) :
    val_main_v10_0 (F := Ideal) x0 x1 (ix4 b h n r) = if r.val ≤ n.val then ((A.s b h n r : ℝ) : EReal) else ⊥ := by
  rw [val_main_v10_0_apply, mask, r2 H]
  have e : val_main_call0_v2 (F := Ideal) (ix4 b h n r) = ⊥ := by
    unfold val_main_call0_v2 val_main_call0_v0 val_main_cst_0
    clean_types
    pointwise
    exact ninf_f32
  rw [e]

theorem r11 (b : Fin 2) (h : Fin 16) (n : Fin 4224) : ∃ M : ℝ, val_main_v11 (F := Ideal) x0 x1 (ix3 b h n) = (M : EReal) := by
  have h1 := r10 H
  unfold val_main_v11 val_main_cst_1
  generalize val_main_v10_0 (F := Ideal) x0 x1 = y at h1 ⊢
  clean_types
  pointwise
  simp only [h1, ninf_f32]
  exact row_max _ n

omit H in
theorem r17 (i : S2x16x4224.Idx) : val_main_v17 (F := Ideal) i = (⊥ : EReal) := by
  unfold val_main_v17 val_main_cst_3
  clean_types
  pointwise
  exact ninf_f32

theorem r18 (b : Fin 2) (h : Fin 16) (n : Fin 4224) (M : ℝ) (hM : val_main_v11 (F := Ideal) x0 x1 (ix3 b h n) = (M : EReal)) :
    val_main_v18 (F := Ideal) x0 x1 (ix3 b h n) = (M : EReal) := by
  rw [val_main_v18_apply, hM, r17]
  exact max_eq_right bot_le

theorem r29 (b : Fin 2) (h : Fin 16) (n r : Fin 4224) (M : ℝ) (hM : val_main_v11 (F := Ideal) x0 x1 (ix3 b h n) = (M : EReal)) :
    val_main_v29 (F := Ideal) x0 x1 (ix4 b h n r) = (M : EReal) := by
  have h1 := r18 H b h n M hM
  unfold val_main_v29 val_main_v28
  generalize val_main_v18 (F := Ideal) x0 x1 = y at h1 ⊢
  clean_types
  pointwise
  exact h1

theorem r31 (b : Fin 2) (h : Fin 16) (n r : Fin 4224) (M : ℝ) (hM : val_main_v11 (F := Ideal) x0 x1 (ix3 b h n) = (M : EReal)) :
    val_main_v31 (F := Ideal) x0 x1 (ix4 b h n r) = ((A.w b h n r * Real.exp (-M) : ℝ) : EReal) := by
  rw [← e_eq A b h n M r]
  have h0 := r10 H b h n r
  have e := r29 H b h n r M hM
  unfold val_main_v31 val_main_v30
  generalize val_main_v29 (F := Ideal) x0 x1 = y at e ⊢
  generalize val_main_v10_0 (F := Ideal) x0 x1 = z at h0 ⊢
  clean_types
  pointwise
  rw [h0, e]

theorem r33 (b : Fin 2) (h : Fin 16) (n : Fin 4224) (M : ℝ) (hM : val_main_v11 (F := Ideal) x0 x1 (ix3 b h n) = (M : EReal)) :
    val_main_v33 (F := Ideal) x0 x1 (ix4 b h n 0) = ((A.L b h n * Real.exp (-M) : ℝ) : EReal) := by
  have h1 := fun r => r31 H b h n r M hM
  unfold val_main_v33 val_main_v32 val_main_cst_9
  generalize val_main_v31 (F := Ideal) x0 x1 = y at h1 ⊢
  clean_types
  pointwise
  rw [Args.L, Finset.sum_mul, coe_sum]
  exact Finset.sum_congr rfl fun r _ => h1 r

theorem r35 (b : Fin 2) (h : Fin 16) (n r : Fin 4224) : val_main_v35 (F := Ideal) x0 x1 (ix4 b h n r) = ((A.y b h n r : ℝ) : EReal) := by
  obtain ⟨M, hM⟩ := r11 H b h n
  have h1 := r31 H b h n r M hM
  have h2 := r33 H b h n M hM
  unfold val_main_v35 val_main_v34
  generalize val_main_v31 (F := Ideal) x0 x1 = y at h1 ⊢
  generalize val_main_v33 (F := Ideal) x0 x1 = z at h2 ⊢
  clean_types
  pointwise
  rw [h1, h2, div_real _ _ (l_ne A b h n M), y_eq]

theorem r42 (b : Fin 2) (h : Fin 16) (n r : Fin 4224) : val_main_v42 (F := Ideal) x2 x3 (ix4 b h n r) = ((A.dy b h n r : ℝ) : EReal) := by
  unfold val_main_v42 val_main_v41
  clean_types
  pointwise
  rw [Args.dy, coe_sum]
  refine Finset.sum_congr rfl fun d _ => ?_
  rw [EReal.coe_mul, ← H.o, ← H.v]

theorem r54 (b : Fin 2) (h : Fin 16) (n r : Fin 4224) (M : ℝ) (hM : val_main_v11 (F := Ideal) x0 x1 (ix3 b h n) = (M : EReal)) :
    val_main_v54 (F := Ideal) x0 x1 x2 x3 (ix4 b h n r) = -(∑ r : Fin 4224, ((A.dy b h n r : ℝ) : EReal)
        * Ideal.div 1 (((A.L b h n * Real.exp (-M) : ℝ) : EReal) * ((A.L b h n * Real.exp (-M) : ℝ) : EReal)) * ((A.w b h n r * Real.exp (-M) : ℝ) : EReal)) := by
  have h1 := fun r => r31 H b h n r M hM
  have h2 := r33 H b h n M hM
  have h3 := fun r => r42 H b h n r
  unfold val_main_v54 val_main_v53 val_main_v50 val_main_v49 val_main_v48 val_main_v47 val_main_v46 val_main_v45 val_main_v38 val_main_v37 val_main_v36
    val_main_cst_12 val_main_cst_11 val_main_cst_10
  generalize val_main_v31 (F := Ideal) x0 x1 = y at h1 ⊢
  generalize val_main_v33 (F := Ideal) x0 x1 = z at h2 ⊢
  generalize val_main_v42 (F := Ideal) x2 x3 = u at h3 ⊢
  clean_types
  pointwise
  simp only [h1, h2, h3, Finset.univ_unique, Finset.sum_singleton]

theorem r57 (b : Fin 2) (h : Fin 16) (n r : Fin 4224) : val_main_v57 (F := Ideal) x0 x1 x2 x3 (ix4 b h n r) = ((A.g b h n r : ℝ) : EReal) := by
  rw [val_main_v57_apply, mask]
  by_cases hr : r.val ≤ n.val
  · rw [if_pos hr]
    obtain ⟨M, hM⟩ := r11 H b h n
    have h1 := r31 H b h n r M hM
    have h2 := r33 H b h n M hM
    have h3 := r42 H b h n r
    have h4 := r54 H b h n r M hM
    rw [← g_eq A b h n M r _ h4]
    unfold val_main_v56 val_main_v55 val_main_v52 val_main_v51
    generalize val_main_v54 (F := Ideal) x0 x1 x2 x3 = t
    generalize val_main_v31 (F := Ideal) x0 x1 = y at h1 ⊢
    generalize val_main_v33 (F := Ideal) x0 x1 = z at h2 ⊢
    generalize val_main_v42 (F := Ideal) x2 x3 = u at h3 ⊢
    clean_types
    pointwise
    rw [h1, h2, h3]
  · rw [if_neg hr, Args.g, y_zero A b h n r hr, zero_mul]
    unfold val_main_call1_v0 val_main_call1_cst
    clean_types
    pointwise
    rfl

theorem r61 (b : Fin 2) (n : Fin 4224) (h : Fin 16) (d : Fin 96) : val_main_v61 (F := Ideal) x0 x1 x2 x3 (ix4 b n h d) = ((A.dq b h n d : ℝ) : EReal) := by
  have h1 := fun r => r57 H b h n r
  unfold val_main_v61 val_main_v60
  generalize val_main_v57 (F := Ideal) x0 x1 x2 x3 = y at h1 ⊢
  clean_types
  pointwise
  rw [Args.dq, coe_sum]
  refine Finset.sum_congr rfl fun r _ => ?_
  rw [EReal.coe_mul, ← h1, ← H.k]

theorem r59 (b : Fin 2) (r : Fin 4224) (h : Fin 16) (d : Fin 96) : val_main_v59 (F := Ideal) x0 x1 x2 x3 (ix4 b r h d) = ((A.dk b h r d : ℝ) : EReal) := by
  have h1 := fun n => r57 H b h n r
  have h2 := r1 H
  unfold val_main_v59 val_main_v58
  generalize val_main_v57 (F := Ideal) x0 x1 x2 x3 = y at h1 ⊢
  generalize val_main_v1 (F := Ideal) x0 = z at h2 ⊢
  clean_types
  pointwise
  rw [Args.dk, coe_sum]
  refine Finset.sum_congr rfl fun n _ => ?_
  rw [EReal.coe_mul, ← h1, ← h2]

theorem r44 (b : Fin 2) (r : Fin 4224) (h : Fin 16) (d : Fin 64) : val_main_v44 (F := Ideal) x0 x1 x3 (ix4 b r h d) = ((A.dv b h r d : ℝ) : EReal) := by
  have h1 := fun n => r35 H b h n r
  unfold val_main_v44 val_main_v43 val_main_v41
  generalize val_main_v35 (F := Ideal) x0 x1 = y at h1 ⊢
  clean_types
  pointwise
  rw [Args.dv, coe_sum]
  refine Finset.sum_congr rfl fun n _ => ?_
  rw [mul_comm (A.y b h n r), EReal.coe_mul, ← h1, ← H.o]

omit H in
theorem z2 (i : S_.Idx) : val_main_call2_v0 (F := Ideal) i = (0 : EReal) := by
  have h : (((0#32 : BitVec 32).toInt : ℝ) : EReal) = 0 := by simp
  exact h

theorem r63 (R : Fin 8448) (C : Fin 2048) : val_main_v63 (F := Ideal) x0 x1 x2 x3 (ix2 R C) = ((pad A.dq R C : ℝ) : EReal) := by
  have h1 := r61 H
  have h2 := z2 (Shape.Idx.first h_S_)
  unfold val_main_v63 val_main_v62
  generalize val_main_v61 (F := Ideal) x0 x1 x2 x3 = y at h1 ⊢
  generalize val_main_call2_v0 (F := Ideal) = z at h2 ⊢
  clean_types
  pointwise
  simp only [h1]
  exact sel_pad _ R C _ h2

omit H in
theorem z3 (i : S_.Idx) : val_main_call3_v0 (F := Ideal) i = (0 : EReal) := by
  have h : (((0#32 : BitVec 32).toInt : ℝ) : EReal) = 0 := by simp
  exact h

theorem r65 (R : Fin 8448) (C : Fin 2048) : val_main_v65 (F := Ideal) x0 x1 x2 x3 (ix2 R C) = ((pad A.dk R C : ℝ) : EReal) := by
  have h1 := r59 H
  have h2 := z3 (Shape.Idx.first h_S_)
  unfold val_main_v65 val_main_v64
  generalize val_main_v59 (F := Ideal) x0 x1 x2 x3 = y at h1 ⊢
  generalize val_main_call3_v0 (F := Ideal) = z at h2 ⊢
  clean_types
  pointwise
  simp only [h1]
  exact sel_pad _ R C _ h2

omit H in
theorem z4 (i : S_.Idx) : val_main_call4_v0 (F := Ideal) i = (0 : EReal) := by
  have h : (((0#32 : BitVec 32).toInt : ℝ) : EReal) = 0 := by simp
  exact h

theorem r68 (R : Fin 8448) (C : Fin 2048) : val_main_v68 (F := Ideal) x0 x1 x3 (ix2 R C) = ((pad A.dv R C : ℝ) : EReal) := by
  have h1 := r44 H
  have h2 := z4 (Shape.Idx.first h_S_)
  unfold val_main_v68 val_main_v67 val_main_v66
  generalize val_main_v44 (F := Ideal) x0 x1 x3 = y at h1 ⊢
  generalize val_main_call4_v0 (F := Ideal) = z at h2 ⊢
  clean_types
  pointwise
  simp only [h1]
  exact sel_pad _ R C _ h2

end Cert.ReferenceIdeal.Att

end
-- ==== Proof.Algebraic.lean ====
/- The kernel's arrays and the reference's results are the same, where every argument is finite. -/
module

public import proofs.«01_k».proof.Defs
public import proofs.«01_k».proof.Proof.Value
public import proofs.«01_k».proof.Proof.RefValue
public import proofs.«01_k».proof.Proof.Gen.Pre_finite

@[expose] public section

noncomputable section

namespace Cert.Proof

open Idealize.ShloMosaic Idealize.ShloMosaic.TcCoe Idealize.SL.Sem Cert.Attn

/-- A number whose absolute value is below infinity is a real. -/
theorem real_of (x : EReal) (h : Ideal.cmp .olt (max x (-x)) (Ideal.ofBits .f32 0x7F800000#32) = 1#1) : x = ((x.toReal : ℝ) : EReal) := by
  rw [Cert.Attn.inf_f32] at h
  have hlt : max x (-x) < ⊤ := by
    by_contra hn
    simp [Ideal.cmp, hn] at h
  have h1 := lt_of_le_of_lt (le_max_left x (-x)) hlt
  have h2 := lt_of_le_of_lt (le_max_right x (-x)) hlt
  refine (EReal.coe_toReal h1.ne ?_).symm
  rintro rfl
  simp at h2

/-- The arguments as reals. -/
def argsOf (x0 x1 : (⟨4, ![2, 4224, 16, 96]⟩ : Shape).Idx → EReal) (x2 x3 : (⟨4, ![2, 4224, 16, 64]⟩ : Shape).Idx → EReal) : Args where
  q b n h d := (x0 (ix4 b n h d)).toReal * (Ideal.ofBits .f32 0x3DD105EC#32).toReal
  k b n h d := (x1 (ix4 b n h d)).toReal
  v b n h d := (x2 (ix4 b n h d)).toReal
  o b n h d := (x3 (ix4 b n h d)).toReal

theorem scale_eq : Ideal.ofBits .f32 0x3DD105EC#32 = (((Ideal.ofBits .f32 0x3DD105EC#32).toReal : ℝ) : EReal) := by
  obtain ⟨x, hx⟩ := scale_real
  rw [hx, EReal.toReal_coe]

/-- The precondition, read: every element of every argument is a real. -/
theorem pre_real (x0 x1 : (⟨4, ![2, 4224, 16, 96]⟩ : Shape).Idx → EReal) (x2 x3 : (⟨4, ![2, 4224, 16, 64]⟩ : Shape).Idx → EReal)
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2.1 = (fun _ => 1#1) ∧ (Cert.Pre_finite.fn (F := Ideal) x0 x1 x2 x3).2.2.2 = (fun _ => 1#1)) :
    (∀ i, x0 i = (((x0 i).toReal : ℝ) : EReal)) ∧ (∀ i, x1 i = (((x1 i).toReal : ℝ) : EReal)) ∧ (∀ i, x2 i = (((x2 i).toReal : ℝ) : EReal)) ∧ (∀ i, x3 i = (((x3 i).toReal : ℝ) : EReal)) :=
  ⟨fun i => real_of _ (congrFun h.1 i), fun i => real_of _ (congrFun h.2.1 i), fun i => real_of _ (congrFun h.2.2.1 i), fun i => real_of _ (congrFun h.2.2.2 i)⟩

/-- An array of 8448 rows and 2048 columns is known by its elements. -/
theorem ext2 (x y : (⟨2, ![8448, 2048]⟩ : Shape).Idx → EReal) (h : ∀ (R : Fin 8448) (C : Fin 2048), x (ix2 R C) = y (ix2 R C)) : x = y := by
  funext i
  have e : i = ix2 (i 0) (i 1) := by
    funext a
    match a with
    | ⟨0, _⟩ => rfl
    | ⟨1, _⟩ => rfl
  rw [e]
  exact h _ _

theorem algebraic : Cert.algebraic_KernelIdeal_ReferenceIdeal_pre_finite := by
  intro m g m' g' hpre hargs
  have HK : ∀ c : Dev Cert.KernelIdeal.nD, Cert.KernelIdeal.Att.Reals
      (argsOf (m (c, Proc.tc.devRef Cert.KernelIdeal.main_arg0)) (m (c, Proc.tc.devRef Cert.KernelIdeal.main_arg1)) (m (c, Proc.tc.devRef Cert.KernelIdeal.main_arg2)) (m (c, Proc.tc.devRef Cert.KernelIdeal.main_arg3)))
      (m (c, Proc.tc.devRef Cert.KernelIdeal.main_arg0)) (m (c, Proc.tc.devRef Cert.KernelIdeal.main_arg1)) (m (c, Proc.tc.devRef Cert.KernelIdeal.main_arg2)) (m (c, Proc.tc.devRef Cert.KernelIdeal.main_arg3)) := by
    intro c
    obtain ⟨h0, h1, h2, h3⟩ := pre_real _ _ _ _ (hpre c)
    exact ⟨fun b n h d => (congrArg₂ (· * ·) (h0 _) scale_eq).trans (EReal.coe_mul _ _).symm, fun b n h d => h1 _, fun b n h d => h2 _, fun b n h d => h3 _⟩
  have HR : ∀ c : Dev Cert.KernelIdeal.nD, Cert.ReferenceIdeal.Att.Reals
      (argsOf (m (c, Proc.tc.devRef Cert.KernelIdeal.main_arg0)) (m (c, Proc.tc.devRef Cert.KernelIdeal.main_arg1)) (m (c, Proc.tc.devRef Cert.KernelIdeal.main_arg2)) (m (c, Proc.tc.devRef Cert.KernelIdeal.main_arg3)))
      (m (c, Proc.tc.devRef Cert.KernelIdeal.main_arg0)) (m (c, Proc.tc.devRef Cert.KernelIdeal.main_arg1)) (m (c, Proc.tc.devRef Cert.KernelIdeal.main_arg2)) (m (c, Proc.tc.devRef Cert.KernelIdeal.main_arg3)) :=
    fun c => ⟨(HK c).q, (HK c).k, (HK c).v, (HK c).o⟩
  refine ⟨fun c => Cert.KernelIdeal.Att.aq m c, fun c => Cert.KernelIdeal.Att.ak m c, fun c => Cert.KernelIdeal.Att.av m c, Cert.KernelIdeal.Att.run_arrays m g, ?_⟩
  refine (θ_run Cert.ReferenceIdeal.defs _ _).mono (fun r h c => ?_) (Cert.ReferenceIdeal.Value.run (F := Ideal) m' g')
  obtain ⟨e0, e1, e2, ea⟩ := h c
  obtain ⟨a0, a1, a2, a3⟩ := hargs c
  refine ⟨e0.trans ?_, e1.trans ?_, e2.trans ?_, ea⟩
  · rw [Cert.ReferenceIdeal.Read.val_main_v63_eq, a0, a1, a2, a3]
    exact ext2 _ _ fun R C => (Cert.ReferenceIdeal.Att.r63 (HR c) R C).trans (Cert.KernelIdeal.Att.aq_at (HK c) R C).symm
  · rw [Cert.ReferenceIdeal.Read.val_main_v65_eq, a0, a1, a2, a3]
    exact ext2 _ _ fun R C => (Cert.ReferenceIdeal.Att.r65 (HR c) R C).trans (Cert.KernelIdeal.Att.ak_at (HK c) R C).symm
  · rw [Cert.ReferenceIdeal.Read.val_main_v68_eq, a0, a1, a3]
    exact ext2 _ _ fun R C => (Cert.ReferenceIdeal.Att.r68 (HR c) R C).trans (Cert.KernelIdeal.Att.av_at (HK c) R C).symm

end Cert.Proof

end
-- ==== Proof.Sums.lean ====
/- Matrices read at two numbers, and a sum over columns taken in equal parts. -/
module

public import Idealize.ShloMosaic.Lib.Pipeline.ValueKit
public import Idealize.ShloMosaic.Lib.Pointwise
public import Idealize.ShloMosaic.PureOps

@[expose] public section

noncomputable section

namespace Cert.Sums

open Idealize.ShloMosaic

/-- The element in row `i` and column `j`, zero outside the matrix. -/
def at2 {A B : ℕ} (x : (⟨2, ![A, B]⟩ : Shape).Idx → EReal) (i j : ℕ) : EReal :=
  if h : i < A ∧ j < B then x (ix2 ⟨i, h.1⟩ ⟨j, h.2⟩) else 0

theorem at2_val {A B : ℕ} (x : (⟨2, ![A, B]⟩ : Shape).Idx → EReal) (y : (⟨2, ![A, B]⟩ : Shape).Idx) : x y = at2 x (y 0).val (y 1).val := by
  have h0 : (y 0).val < A := (y 0).isLt
  have h1 : (y 1).val < B := (y 1).isLt
  unfold at2
  rw [dif_pos ⟨h0, h1⟩]
  refine congrArg x (funext fun a => ?_)
  match a with
  | ⟨0, _⟩ => rfl
  | ⟨1, _⟩ => rfl

theorem at2_of {A B : ℕ} (x : (⟨2, ![A, B]⟩ : Shape).Idx → EReal) (y : (⟨2, ![A, B]⟩ : Shape).Idx) (i j : ℕ) (h0 : (y 0).val = i) (h1 : (y 1).val = j) : x y = at2 x i j := by
  subst h0 h1
  exact at2_val x y

/-- A sum over `n` parts of `k` terms each is the sum over all of them. -/
theorem sum_parts (n k : ℕ) (f : ℕ → EReal) : ∑ j ∈ Finset.range n, ∑ i : Fin k, f (k * j + i.val) = ∑ l : Fin (n * k), f l.val := by
  rw [Fin.sum_univ_eq_sum_range f (n * k)]
  induction n with
  | zero => simp
  | succ n ih =>
    rw [Finset.sum_range_succ, ih, Nat.succ_mul, Finset.sum_range_add, Fin.sum_univ_eq_sum_range (fun i => f (k * n + i)) k]
    simp only [Nat.mul_comm k n]

end Cert.Sums

end
-- ==== Proof.Mm2.lean ====
/- The product of the output's gradient and the transposed down projection: the call and the plain product agree. -/
module

public import proofs.«01_k».proof.Defs
public import proofs.«01_k».proof.Proof.Sums
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.StableHlo.ReadAt

@[expose] public section

set_option maxRecDepth 16384

noncomputable section

namespace Cert.Kernel2Ideal.Mm

open Cert.Kernel2Ideal.Gen Cert.Sums
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ix_0 : ∀ t : Fin cfg0.N, win0_0.index t = ![t.val / 2, 0] := (by decide +kernel : ∀ t : Fin grid0.N, _)
theorem ix_1 : ∀ t : Fin cfg0.N, win0_1.index t = ![t.val % 2, 0] := (by decide +kernel : ∀ t : Fin grid0.N, _)
theorem ix_2 : ∀ t : Fin cfg0.N, win0_2.index t = ![t.val / 2, t.val % 2] := (by decide +kernel : ∀ t : Fin grid0.N, _)

/-- A point's product at an index. -/
theorem pay (x0 : Vec Ideal S768x1024 .f32) (x1 : Vec Ideal S1408x1024 .bf16) (y : S768x1408.Idx) :
    k0_pay1 (F := Ideal) x0 x1 y = ∑ k : Fin 1024, (x0 (ix2 (y 0) k) : EReal) * (x1 (ix2 (y 1) k) : EReal) := by
  unfold k0_pay1
  pointwise

theorem host_b (c : Dev nD) : (V m c main_v0 : S2816x1024.Idx → EReal) = (m ((c : Thread nD τ).loc main_arg1) : S2816x1024.Idx → EReal) := by
  funext i
  unfold V
  after_reads_at

/-- One step's terms at the output's row `i` and column `j`. -/
def term (x : S8448x1024.Idx → EReal) (w : S2816x1024.Idx → EReal) (i j k : ℕ) : EReal := at2 (A := 8448) (B := 1024) x i k * at2 (A := 2816) (B := 1024) w j k

/-- What point `t` adds at an index of its block. -/
abbrev add (c : Dev nD) (t : ℕ) (y : S768x1408.Idx) : EReal :=
  ∑ k : Fin 1024, term (m ((c : Thread nD τ).loc main_arg2)) (m ((c : Thread nD τ).loc main_arg1)) (t / 2 * 768 + (y 0).val) (t % 2 * 1408 + (y 1).val) (k.val)

theorem pt (c : Dev nD) (t : Fin cfg0.N) (y : S768x1408.Idx) :
    k0_pay1 (F := Ideal) (iblk m c 0 t) (iblk m c 1 t) y = add m c t.val y := by
  refine (pay (iblk m c 0 t) (iblk m c 1 t) y).trans ?_
  refine Finset.sum_congr (M := EReal) rfl fun k _ => congrArg₂ (· * ·) ?_ ?_
  · refine (congrArg (fun z : S8448x1024.Idx → EReal => z _) (V_main_arg2 m c)).trans (at2_of _ _ _ _ ?_ ?_)
    · (blk_simp [ix_0 t]) <;> omega
    · (blk_simp [ix_0 t]) <;> omega
  · refine (congrArg (fun z : S2816x1024.Idx → EReal => z _) (host_b m c)).trans (at2_of _ _ _ _ ?_ ?_)
    · (blk_simp [ix_1 t]) <;> omega
    · (blk_simp [ix_1 t]) <;> omega

/-- The whole product. -/
def prod (x : S8448x1024.Idx → EReal) (w : S2816x1024.Idx → EReal) : S8448x2816.Idx → EReal := fun i => ∑ k : Fin 1024, term x w (i 0).val (i 1).val k.val

/-- The array after the run. -/
abbrev av (c : Dev nD) : S8448x2816.Idx → EReal := prod (m ((c : Thread nD τ).loc main_arg2)) (m ((c : Thread nD τ).loc main_arg1))

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av, prod]
  blk_simp [ix_2 t]

end Cert.Kernel2Ideal.Mm

namespace Cert.Proof

open Idealize.ShloMosaic Idealize.ShloMosaic.TcCoe Idealize.SL.Sem

theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic2 : Cert.algebraic_Kernel2Ideal_Reference2Ideal := by
  intro m g m' g' hpre hargs
  refine ⟨fun c => Cert.Kernel2Ideal.Mm.av m c, ?_, ?_⟩
  · refine (θ_run Cert.Kernel2Ideal.defs _ _).mono (fun r h c => ?_) (Cert.Kernel2Ideal.Value.run_blocks (F := Ideal) m g)
    exact ⟨(h c).1.trans (Cert.Kernel2Ideal.Mm.arr m c), (h c).2⟩
  · refine (θ_run Cert.Reference2Ideal.defs _ _).mono (fun r h c => ?_) (Cert.Reference2Ideal.Value.run (F := Ideal) m' g')
    obtain ⟨a0, a1, a2⟩ := hargs c
    refine ⟨(h c).1.trans ?_, (h c).2⟩
    rw [Cert.Reference2Ideal.Read.val_main_v3_eq, a1, a2]
    funext i
    rw [Cert.Reference2Ideal.Read.val_main_v3_apply]
    exact Finset.sum_congr rfl fun k _ => congrArg₂ (· * ·) (Cert.Sums.at2_of _ _ _ _ rfl rfl) (Cert.Sums.at2_of _ _ _ _ rfl rfl)

end Cert.Proof

end
-- ==== Proof.Mm3.lean ====
/- The gradient of the down projection: the call's sum over row tiles and the plain product agree. -/
module

public import proofs.«01_k».proof.Defs
public import proofs.«01_k».proof.Proof.Sums
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.ReadAt

@[expose] public section

set_option maxRecDepth 16384

noncomputable section

namespace Cert.Kernel3Ideal.Mm

open Cert.Kernel3Ideal.Gen Cert.Sums
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ix_0 : ∀ t : Fin cfg0.N, win0_0.index t = ![t.val % 11, t.val / 11] := (by decide +kernel : ∀ t : Fin grid0.N, _)
theorem ix_1 : ∀ t : Fin cfg0.N, win0_1.index t = ![t.val % 11, 0] := (by decide +kernel : ∀ t : Fin grid0.N, _)
theorem ix_2 : ∀ t : Fin cfg0.N, win0_2.index t = ![t.val / 11, 0] := (by decide +kernel : ∀ t : Fin grid0.N, _)

/-- A point's product at an index. -/
theorem pay (x0 : Vec Ideal S768x1408 .bf16) (x1 : Vec Ideal S768x1024 .f32) (y : S1408x1024.Idx) :
    k0_pay1 (F := Ideal) x0 x1 y = ∑ k : Fin 768, (x0 (ix2 k (y 0)) : EReal) * (x1 (ix2 k (y 1)) : EReal) := by
  unfold k0_pay1
  pointwise

theorem host_a (c : Dev nD) : (V m c main_v0 : S8448x2816.Idx → EReal) = (m ((c : Thread nD τ).loc main_arg0) : S8448x2816.Idx → EReal) := by
  funext i
  unfold V
  after_reads_at

/-- One step's terms at the output's row `i` and column `j`. -/
def term (x : S8448x2816.Idx → EReal) (w : S8448x1024.Idx → EReal) (i j k : ℕ) : EReal := at2 (A := 8448) (B := 2816) x k i * at2 (A := 8448) (B := 1024) w k j

/-- What point `t` adds at an index of its block. -/
abbrev add (c : Dev nD) (t : ℕ) (y : S1408x1024.Idx) : EReal :=
  ∑ k : Fin 768, term (m ((c : Thread nD τ).loc main_arg0)) (m ((c : Thread nD τ).loc main_arg2)) (t / 11 * 1408 + (y 0).val) ((y 1).val) (768 * (t % 11) + k.val)

theorem pt (c : Dev nD) (t : Fin cfg0.N) (y : S1408x1024.Idx) :
    k0_pay1 (F := Ideal) (iblk m c 0 t) (iblk m c 1 t) y = add m c t.val y := by
  refine (pay (iblk m c 0 t) (iblk m c 1 t) y).trans ?_
  refine Finset.sum_congr (M := EReal) rfl fun k _ => congrArg₂ (· * ·) ?_ ?_
  · refine (congrArg (fun z : S8448x2816.Idx → EReal => z _) (host_a m c)).trans (at2_of _ _ _ _ ?_ ?_)
    · (blk_simp [ix_0 t]) <;> omega
    · (blk_simp [ix_0 t]) <;> omega
  · refine (congrArg (fun z : S8448x1024.Idx → EReal => z _) (V_main_arg2 m c)).trans (at2_of _ _ _ _ ?_ ?_)
    · (blk_simp [ix_1 t]) <;> omega
    · (blk_simp [ix_1 t]) <;> omega

theorem step_A (c : Dev nD) (t : Fin cfg0.N) (h0 : t.val % 11 = 0) (y : S1408x1024.Idx) :
    (outsAt0 m c t.val t.isLt).2 y = 0 + add m c t.val y := by
  rw [outsAt0_A m c t h0 (by omega) (by omega), zero_add]
  frame_out
  unfold k0_pay2
  rw [shapeCast_self]
  exact pt m c t y

theorem step_B (c : Dev nD) (t : Fin cfg0.N) (h0 : ¬t.val % 11 = 0) (y : S1408x1024.Idx) :
    (outsAt0 m c t.val t.isLt).2 y = (outsAt0 m c (t.val - 1) (Nat.lt_of_le_of_lt (Nat.sub_le _ _) t.isLt)).2 y + add m c t.val y := by
  have hp : ∀ z : Vec Ideal S1408x1024 .f32, k0_pay3 (F := Ideal) (iblk m c 0 t) (iblk m c 1 t) z y = (z y + add m c t.val y : EReal) := by
    intro z
    unfold k0_pay3
    rw [shapeCast_self, ← pt m c t y]
    rfl
  by_cases h2 : t.val % 11 = 10
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S1408x1024.Idx) :
    (outsAt0 m c t.val t.isLt).2 y = 0 + ∑ k ∈ Finset.range (t.val % 11 + 1), add m c (11 * (t.val / 11) + k) y :=
  Pipeline.eq_sum_of_reset_step_apply (N := cfg0.N) (fun n h (y : S1408x1024.Idx) => (outsAt0 m c n h).2 y) 11 (fun _ => 0)
    (fun n y => add m c n y) (fun t h0 y => step_A m c t h0 y) (fun t h0 y => step_B m c t h0 y) t y

theorem last (c : Dev nD) (t : Fin cfg0.N) (h2 : t.val % 11 = 10) (y : S1408x1024.Idx) :
    (outsAt0 m c t.val t.isLt).1 y = (outsAt0 m c t.val t.isLt).2 y := by
  rw [outsAt0_C m c t (by omega) (by omega) h2]
  frame_out

theorem flushes : ∀ t : Fin cfg0.N, (cfg0.win 2).flush t = true → t.val % 11 = 10 := (by decide +kernel : ∀ t : Fin grid0.N, _)

/-- The whole product. -/
def prod (x : S8448x2816.Idx → EReal) (w : S8448x1024.Idx → EReal) : S2816x1024.Idx → EReal := fun i => ∑ k : Fin (11 * 768), term x w (i 0).val (i 1).val k.val

/-- The array after the run. -/
abbrev av (c : Dev nD) : S2816x1024.Idx → EReal := prod (m ((c : Thread nD τ).loc main_arg0)) (m ((c : Thread nD τ).loc main_arg2))

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av, prod]
  blk_simp [ix_2 t]
  rw [← sum_parts 11 768]
  refine Finset.sum_congr (M := EReal) rfl fun j hj => ?_
  have hj' := Finset.mem_range.mp hj
  have e0 : (11 * (t.val / 11) + j) / 11 = t.val / 11 := by omega
  have e1 : (11 * (t.val / 11) + j) % 11 = j := by omega
  simp only [add, e0, e1]
  try simp

end Cert.Kernel3Ideal.Mm

namespace Cert.Proof

open Idealize.ShloMosaic Idealize.ShloMosaic.TcCoe Idealize.SL.Sem

theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic3 : Cert.algebraic_Kernel3Ideal_Reference3Ideal := by
  intro m g m' g' hpre hargs
  refine ⟨fun c => Cert.Kernel3Ideal.Mm.av m c, ?_, ?_⟩
  · refine (θ_run Cert.Kernel3Ideal.defs _ _).mono (fun r h c => ?_) (Cert.Kernel3Ideal.Value.run_blocks (F := Ideal) m g)
    exact ⟨(h c).1.trans (Cert.Kernel3Ideal.Mm.arr m c), (h c).2⟩
  · refine (θ_run Cert.Reference3Ideal.defs _ _).mono (fun r h c => ?_) (Cert.Reference3Ideal.Value.run (F := Ideal) m' g')
    obtain ⟨a0, a1, a2⟩ := hargs c
    refine ⟨(h c).1.trans ?_, (h c).2⟩
    rw [Cert.Reference3Ideal.Read.val_main_v2_eq, a0, a2]
    funext i
    rw [Cert.Reference3Ideal.Read.val_main_v2_apply, Cert.Reference3Ideal.Read.val_main_v1_apply]
    exact Finset.sum_congr rfl fun k _ => (mul_comm _ _).trans (congrArg₂ (· * ·) (Cert.Sums.at2_of _ _ _ _ rfl rfl) (Cert.Sums.at2_of _ _ _ _ rfl rfl))

end Cert.Proof

end
-- ==== Proof.Mm4.lean ====
/- The gradient of half of the up projection: the call's sum over row tiles and the plain product agree. -/
module

public import proofs.«01_k».proof.Defs
public import proofs.«01_k».proof.Proof.Sums
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.StableHlo.ReadAt

@[expose] public section

set_option maxRecDepth 16384

noncomputable section

namespace Cert.Kernel4Ideal.Mm

open Cert.Kernel4Ideal.Gen Cert.Sums
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ix_0 : ∀ t : Fin cfg0.N, win0_0.index t = ![t.val / 6, t.val % 3] := (by decide +kernel : ∀ t : Fin grid0.N, _)
theorem ix_1 : ∀ t : Fin cfg0.N, win0_1.index t = ![t.val % 3, t.val / 3 % 2] := (by decide +kernel : ∀ t : Fin grid0.N, _)
theorem ix_2 : ∀ t : Fin cfg0.N, win0_2.index t = ![t.val / 6, t.val / 3 % 2] := (by decide +kernel : ∀ t : Fin grid0.N, _)

/-- A point's product at an index. -/
theorem pay (x0 : Vec Ideal S512x2816 .bf16) (x1 : Vec Ideal S2816x1408 .bf16) (y : S512x1408.Idx) :
    k0_pay1 (F := Ideal) x0 x1 y = ∑ k : Fin 2816, (x0 (ix2 (y 0) k) : EReal) * (x1 (ix2 k (y 1)) : EReal) := by
  unfold k0_pay1
  pointwise

theorem host_a (c : Dev nD) (i : S1024x8448.Idx) : (V m c main_v1 : S1024x8448.Idx → EReal) i = (m ((c : Thread nD τ).loc main_arg0) : S8448x1024.Idx → EReal) (ix2 (i 1) (i 0)) := by
  unfold V
  after_reads_at

theorem host_b (c : Dev nD) : (V m c main_v2 : S8448x2816.Idx → EReal) = (m ((c : Thread nD τ).loc main_arg2) : S8448x2816.Idx → EReal) := by
  funext i
  unfold V
  after_reads_at

/-- One step's terms at the output's row `i` and column `j`. -/
def term (x : S8448x1024.Idx → EReal) (w : S8448x2816.Idx → EReal) (i j k : ℕ) : EReal := at2 (A := 8448) (B := 1024) x k i * at2 (A := 8448) (B := 2816) w k j

/-- What point `t` adds at an index of its block. -/
abbrev add (c : Dev nD) (t : ℕ) (y : S512x1408.Idx) : EReal :=
  ∑ k : Fin 2816, term (m ((c : Thread nD τ).loc main_arg0)) (m ((c : Thread nD τ).loc main_arg2)) (t / 6 * 512 + (y 0).val) (t / 3 % 2 * 1408 + (y 1).val) (2816 * (t % 3) + k.val)

theorem pt (c : Dev nD) (t : Fin cfg0.N) (y : S512x1408.Idx) :
    k0_pay1 (F := Ideal) (iblk m c 0 t) (iblk m c 1 t) y = add m c t.val y := by
  refine (pay (iblk m c 0 t) (iblk m c 1 t) y).trans ?_
  refine Finset.sum_congr (M := EReal) rfl fun k _ => congrArg₂ (· * ·) ?_ ?_
  · refine (host_a m c _).trans (at2_of _ _ _ _ ?_ ?_)
    · (blk_simp [ix_0 t]) <;> omega
    · (blk_simp [ix_0 t]) <;> omega
  · refine (congrArg (fun z : S8448x2816.Idx → EReal => z _) (host_b m c)).trans (at2_of _ _ _ _ ?_ ?_)
    · (blk_simp [ix_1 t]) <;> omega
    · (blk_simp [ix_1 t]) <;> omega

theorem step_A (c : Dev nD) (t : Fin cfg0.N) (h0 : t.val % 3 = 0) (y : S512x1408.Idx) :
    (outsAt0 m c t.val t.isLt).2 y = 0 + add m c t.val y := by
  rw [outsAt0_A m c t h0 (by omega) (by omega), zero_add]
  frame_out
  unfold k0_pay2
  rw [shapeCast_self]
  exact pt m c t y

theorem step_B (c : Dev nD) (t : Fin cfg0.N) (h0 : ¬t.val % 3 = 0) (y : S512x1408.Idx) :
    (outsAt0 m c t.val t.isLt).2 y = (outsAt0 m c (t.val - 1) (Nat.lt_of_le_of_lt (Nat.sub_le _ _) t.isLt)).2 y + add m c t.val y := by
  have hp : ∀ z : Vec Ideal S512x1408 .f32, k0_pay3 (F := Ideal) (iblk m c 0 t) (iblk m c 1 t) z y = (z y + add m c t.val y : EReal) := by
    intro z
    unfold k0_pay3
    rw [shapeCast_self, ← pt m c t y]
    rfl
  by_cases h2 : t.val % 3 = 2
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S512x1408.Idx) :
    (outsAt0 m c t.val t.isLt).2 y = 0 + ∑ k ∈ Finset.range (t.val % 3 + 1), add m c (3 * (t.val / 3) + k) y :=
  Pipeline.eq_sum_of_reset_step_apply (N := cfg0.N) (fun n h (y : S512x1408.Idx) => (outsAt0 m c n h).2 y) 3 (fun _ => 0)
    (fun n y => add m c n y) (fun t h0 y => step_A m c t h0 y) (fun t h0 y => step_B m c t h0 y) t y

theorem last (c : Dev nD) (t : Fin cfg0.N) (h2 : t.val % 3 = 2) (y : S512x1408.Idx) :
    (outsAt0 m c t.val t.isLt).1 y = (outsAt0 m c t.val t.isLt).2 y := by
  rw [outsAt0_C m c t (by omega) (by omega) h2]
  frame_out

theorem flushes : ∀ t : Fin cfg0.N, (cfg0.win 2).flush t = true → t.val % 3 = 2 := (by decide +kernel : ∀ t : Fin grid0.N, _)

/-- The whole product. -/
def prod (x : S8448x1024.Idx → EReal) (w : S8448x2816.Idx → EReal) : S1024x2816.Idx → EReal := fun i => ∑ k : Fin (3 * 2816), term x w (i 0).val (i 1).val k.val

/-- The array after the run. -/
abbrev av (c : Dev nD) : S1024x2816.Idx → EReal := prod (m ((c : Thread nD τ).loc main_arg0)) (m ((c : Thread nD τ).loc main_arg2))

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av, prod]
  blk_simp [ix_2 t]
  rw [← sum_parts 3 2816]
  refine Finset.sum_congr (M := EReal) rfl fun j hj => ?_
  have hj' := Finset.mem_range.mp hj
  have e0 : (3 * (t.val / 3) + j) / 6 = t.val / 6 := by omega
  have e1 : (3 * (t.val / 3) + j) / 3 % 2 = t.val / 3 % 2 := by omega
  have e2 : (3 * (t.val / 3) + j) % 3 = j := by omega
  simp only [add, e0, e1, e2]
  try simp

end Cert.Kernel4Ideal.Mm

namespace Cert.Proof

open Idealize.ShloMosaic Idealize.ShloMosaic.TcCoe Idealize.SL.Sem

theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic4 : Cert.algebraic_Kernel4Ideal_Reference4Ideal := by
  intro m g m' g' hpre hargs
  refine ⟨fun c => Cert.Kernel4Ideal.Mm.av m c, ?_, ?_⟩
  · refine (θ_run Cert.Kernel4Ideal.defs _ _).mono (fun r h c => ?_) (Cert.Kernel4Ideal.Value.run_blocks (F := Ideal) m g)
    exact ⟨(h c).1.trans (Cert.Kernel4Ideal.Mm.arr m c), (h c).2⟩
  · refine (θ_run Cert.Reference4Ideal.defs _ _).mono (fun r h c => ?_) (Cert.Reference4Ideal.Value.run (F := Ideal) m' g')
    obtain ⟨a0, a1, a2⟩ := hargs c
    refine ⟨(h c).1.trans ?_, (h c).2⟩
    rw [Cert.Reference4Ideal.Read.val_main_v2_eq, a0, a2]
    funext i
    rw [Cert.Reference4Ideal.Read.val_main_v2_apply, Cert.Reference4Ideal.Read.val_main_v1_apply]
    exact Finset.sum_congr rfl fun k _ => (mul_comm _ _).trans (congrArg₂ (· * ·) (Cert.Sums.at2_of _ _ _ _ rfl rfl) (Cert.Sums.at2_of _ _ _ _ rfl rfl))

end Cert.Proof

end
-- ==== Proof.Mm5.lean ====
/- The product of half of the gradient and the transposed up projection: the call and the plain product agree. -/
module

public import proofs.«01_k».proof.Defs
public import proofs.«01_k».proof.Proof.Sums
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.StableHlo.ReadAt

@[expose] public section

set_option maxRecDepth 16384

noncomputable section

namespace Cert.Kernel5Ideal.Mm

open Cert.Kernel5Ideal.Gen Cert.Sums
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

/-- A point's product at an index. -/
theorem pay (x0 : Vec Ideal S768x2816 .bf16) (x1 : Vec Ideal S1024x2816 .bf16) (y : S768x1024.Idx) :
    k0_pay1 (F := Ideal) x0 x1 y = ∑ k : Fin 2816, (x0 (ix2 (y 0) k) : EReal) * (x1 (ix2 (y 1) k) : EReal) := by
  unfold k0_pay1
  pointwise

theorem host_a (c : Dev nD) : (V m c main_v0 : S8448x2816.Idx → EReal) = (m ((c : Thread nD τ).loc main_arg2) : S8448x2816.Idx → EReal) := by
  funext i
  unfold V
  after_reads_at

theorem host_b (c : Dev nD) : (V m c main_v1 : S1024x5632.Idx → EReal) = (m ((c : Thread nD τ).loc main_arg1) : S1024x5632.Idx → EReal) := by
  funext i
  unfold V
  after_reads_at

/-- One step's terms at the output's row `i` and column `j`. -/
def term (x : S8448x2816.Idx → EReal) (w : S1024x5632.Idx → EReal) (i j k : ℕ) : EReal := at2 (A := 8448) (B := 2816) x i k * at2 (A := 1024) (B := 5632) w j k

/-- What point `t` adds at an index of its block. -/
abbrev add (c : Dev nD) (t : ℕ) (y : S768x1024.Idx) : EReal :=
  ∑ k : Fin 2816, term (m ((c : Thread nD τ).loc main_arg2)) (m ((c : Thread nD τ).loc main_arg1)) (t * 768 + (y 0).val) ((y 1).val) (k.val)

theorem pt (c : Dev nD) (t : Fin cfg0.N) (y : S768x1024.Idx) :
    k0_pay1 (F := Ideal) (iblk m c 0 t) (iblk m c 1 t) y = add m c t.val y := by
  refine (pay (iblk m c 0 t) (iblk m c 1 t) y).trans ?_
  refine Finset.sum_congr (M := EReal) rfl fun k _ => congrArg₂ (· * ·) ?_ ?_
  · refine (congrArg (fun z : S8448x2816.Idx → EReal => z _) (host_a m c)).trans (at2_of _ _ _ _ ?_ ?_)
    · (blk_simp [ix_0 t]) <;> omega
    · (blk_simp [ix_0 t]) <;> omega
  · refine (congrArg (fun z : S1024x5632.Idx → EReal => z _) (host_b m c)).trans (at2_of _ _ _ _ ?_ ?_)
    · (blk_simp [ix_1 t]) <;> omega
    · (blk_simp [ix_1 t]) <;> omega

/-- The whole product. -/
def prod (x : S8448x2816.Idx → EReal) (w : S1024x5632.Idx → EReal) : S8448x1024.Idx → EReal := fun i => ∑ k : Fin 2816, term x w (i 0).val (i 1).val k.val

/-- The array after the run. -/
abbrev av (c : Dev nD) : S8448x1024.Idx → EReal := prod (m ((c : Thread nD τ).loc main_arg2)) (m ((c : Thread nD τ).loc main_arg1))

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av, prod]
  blk_simp [ix_2 t]

end Cert.Kernel5Ideal.Mm

namespace Cert.Proof

open Idealize.ShloMosaic Idealize.ShloMosaic.TcCoe Idealize.SL.Sem

theorem frame_ri5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic5 : Cert.algebraic_Kernel5Ideal_Reference5Ideal := by
  intro m g m' g' hpre hargs
  refine ⟨fun c => Cert.Kernel5Ideal.Mm.av m c, ?_, ?_⟩
  · refine (θ_run Cert.Kernel5Ideal.defs _ _).mono (fun r h c => ?_) (Cert.Kernel5Ideal.Value.run_blocks (F := Ideal) m g)
    exact ⟨(h c).1.trans (Cert.Kernel5Ideal.Mm.arr m c), (h c).2⟩
  · refine (θ_run Cert.Reference5Ideal.defs _ _).mono (fun r h c => ?_) (Cert.Reference5Ideal.Value.run (F := Ideal) m' g')
    obtain ⟨a0, a1, a2⟩ := hargs c
    refine ⟨(h c).1.trans ?_, (h c).2⟩
    rw [Cert.Reference5Ideal.Read.val_main_v2_eq, a1, a2]
    funext i
    rw [Cert.Reference5Ideal.Read.val_main_v2_apply]
    exact Finset.sum_congr rfl fun k _ => congrArg₂ (· * ·) (Cert.Sums.at2_of _ _ _ _ rfl rfl) ((Cert.Reference5Ideal.Read.val_main_v0_apply _ _).trans (Cert.Sums.at2_of _ _ _ _ rfl rfl))

end Cert.Proof

end
-- ==== Proof.Mm6.lean ====
/- The other half of that product, added to the first: the call and the plain sum agree. -/
module

public import proofs.«01_k».proof.Defs
public import proofs.«01_k».proof.Proof.Sums
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.StableHlo.ReadAt

@[expose] public section

set_option maxRecDepth 16384

noncomputable section

namespace Cert.Kernel6Ideal.Mm

open Cert.Kernel6Ideal.Gen Cert.Sums
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ix_0 : ∀ t : Fin cfg0.N, win0_0.index t = ![t.val, 0] := (by decide +kernel : ∀ t : Fin grid0.N, _)
theorem ix_1 : ∀ t : Fin cfg0.N, win0_1.index t = ![0, 1] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)

/-- A point's product at an index. -/
theorem pay (x0 : Vec Ideal S768x2816 .bf16) (x1 : Vec Ideal S1024x2816 .bf16) (x2 : Vec Ideal S768x1024 .f32) (y : S768x1024.Idx) :
    k0_pay1 (F := Ideal) x0 x1 x2 y = (∑ k : Fin 2816, (x0 (ix2 (y 0) k) : EReal) * (x1 (ix2 (y 1) k) : EReal)) + (x2 y : EReal) := by
  unfold k0_pay1
  pointwise

theorem host_a (c : Dev nD) : (V m c main_v0 : S8448x2816.Idx → EReal) = (m ((c : Thread nD τ).loc main_arg2) : S8448x2816.Idx → EReal) := by
  funext i
  unfold V
  after_reads_at

theorem host_b (c : Dev nD) : (V m c main_v1 : S1024x5632.Idx → EReal) = (m ((c : Thread nD τ).loc main_arg1) : S1024x5632.Idx → EReal) := by
  funext i
  unfold V
  after_reads_at

/-- One step's terms at the output's row `i` and column `j`. -/
def term (x : S8448x2816.Idx → EReal) (w : S1024x5632.Idx → EReal) (i j k : ℕ) : EReal := at2 (A := 8448) (B := 2816) x i k * at2 (A := 1024) (B := 5632) w j (2816 + k)

/-- What point `t` adds at an index of its block. -/
abbrev add (c : Dev nD) (t : ℕ) (y : S768x1024.Idx) : EReal :=
  ∑ k : Fin 2816, term (m ((c : Thread nD τ).loc main_arg2)) (m ((c : Thread nD τ).loc main_arg1)) (t * 768 + (y 0).val) ((y 1).val) (k.val)

/-- The block of the array added to the product, at an index. -/
abbrev rest (c : Dev nD) (t : ℕ) (y : S768x1024.Idx) : EReal := at2 (A := 8448) (B := 1024) (m ((c : Thread nD τ).loc main_arg3)) (t * 768 + (y 0).val) ((y 1).val)

theorem pt (c : Dev nD) (t : Fin cfg0.N) (y : S768x1024.Idx) :
    k0_pay1 (F := Ideal) (iblk m c 0 t) (iblk m c 1 t) (iblk m c 2 t) y = add m c t.val y + rest m c t.val y := by
  refine (pay (iblk m c 0 t) (iblk m c 1 t) (iblk m c 2 t) y).trans ?_
  refine congrArg₂ (· + ·) ?_ ?_
  · refine Finset.sum_congr (M := EReal) rfl fun k _ => congrArg₂ (· * ·) ?_ ?_
    · refine (congrArg (fun z : S8448x2816.Idx → EReal => z _) (host_a m c)).trans (at2_of _ _ _ _ ?_ ?_)
      · (blk_simp [ix_0 t]) <;> omega
      · (blk_simp [ix_0 t]) <;> omega
    · refine (congrArg (fun z : S1024x5632.Idx → EReal => z _) (host_b m c)).trans (at2_of _ _ _ _ ?_ ?_)
      · (blk_simp [ix_1 t]) <;> omega
      · (blk_simp [ix_1 t]) <;> omega
  · refine (congrArg (fun z : S8448x1024.Idx → EReal => z _) (V_main_arg3 m c)).trans (at2_of _ _ _ _ ?_ ?_)
    · (blk_simp [ix_2 t]) <;> omega
    · (blk_simp [ix_2 t]) <;> omega

/-- The whole product. -/
def prod (x : S8448x2816.Idx → EReal) (w : S1024x5632.Idx → EReal) : S8448x1024.Idx → EReal := fun i => ∑ k : Fin 2816, term x w (i 0).val (i 1).val k.val

/-- The array after the run. -/
abbrev av (c : Dev nD) : S8448x1024.Idx → EReal := fun i => prod (m ((c : Thread nD τ).loc main_arg2)) (m ((c : Thread nD τ).loc main_arg1)) i + at2 (A := 8448) (B := 1024) (m ((c : Thread nD τ).loc main_arg3)) (i 0).val (i 1).val

theorem arr (c : Dev nD) : (dats m 0 c).arrAt 3 cfg0.N = av m c := by
  refine (dats m 0 c).arrAt_eq_of_covers 3 _ (by decide +kernel) fun t hf y => ?_
  blk_simp
  rw [after0_3]
  frame_out
  refine (pt m c t y).trans ?_
  dsimp only [av, prod]
  blk_simp [ix_3 t]

end Cert.Kernel6Ideal.Mm

namespace Cert.Proof

open Idealize.ShloMosaic Idealize.ShloMosaic.TcCoe Idealize.SL.Sem

theorem frame_ri6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic6 : Cert.algebraic_Kernel6Ideal_Reference6Ideal := by
  intro m g m' g' hpre hargs
  refine ⟨fun c => Cert.Kernel6Ideal.Mm.av m c, ?_, ?_⟩
  · refine (θ_run Cert.Kernel6Ideal.defs _ _).mono (fun r h c => ?_) (Cert.Kernel6Ideal.Value.run_blocks (F := Ideal) m g)
    exact ⟨(h c).1.trans (Cert.Kernel6Ideal.Mm.arr m c), (h c).2⟩
  · refine (θ_run Cert.Reference6Ideal.defs _ _).mono (fun r h c => ?_) (Cert.Reference6Ideal.Value.run (F := Ideal) m' g')
    obtain ⟨a0, a1, a2, a3⟩ := hargs c
    refine ⟨(h c).1.trans ?_, (h c).2⟩
    rw [Cert.Reference6Ideal.Read.val_main_v3_eq, a1, a2, a3]
    funext i
    rw [Cert.Reference6Ideal.Read.val_main_v3_apply, Cert.Reference6Ideal.Read.val_main_v2_apply]
    exact (add_comm _ _).trans (congrArg₂ (· + ·) (Finset.sum_congr rfl fun k _ => congrArg₂ (· * ·) (Cert.Sums.at2_of _ _ _ _ rfl rfl) ((Cert.Reference6Ideal.Read.val_main_v0_apply _ _).trans (Cert.Sums.at2_of _ _ _ _ rfl rfl))) (Cert.Sums.at2_of _ _ _ _ rfl rfl))

end Cert.Proof

end
-- ==== Proof.Mm7.lean ====
/- The up projection: the call and the plain product agree. -/
module

public import proofs.«01_k».proof.Defs
public import proofs.«01_k».proof.Proof.Sums
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.StableHlo.ReadAt

@[expose] public section

set_option maxRecDepth 16384

noncomputable section

namespace Cert.Kernel7Ideal.Mm

open Cert.Kernel7Ideal.Gen Cert.Sums
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ix_0 : ∀ t : Fin cfg0.N, win0_0.index t = ![t.val / 2, 0] := (by decide +kernel : ∀ t : Fin grid0.N, _)
theorem ix_1 : ∀ t : Fin cfg0.N, win0_1.index t = ![0, t.val % 2] := (by decide +kernel : ∀ t : Fin grid0.N, _)
theorem ix_2 : ∀ t : Fin cfg0.N, win0_2.index t = ![t.val / 2, t.val % 2] := (by decide +kernel : ∀ t : Fin grid0.N, _)

/-- A point's product at an index. -/
theorem pay (x0 : Vec Ideal S768x1024 .bf16) (x1 : Vec Ideal S1024x2816 .bf16) (y : S768x2816.Idx) :
    k0_pay1 (F := Ideal) x0 x1 y = ∑ k : Fin 1024, (x0 (ix2 (y 0) k) : EReal) * (x1 (ix2 k (y 1)) : EReal) := by
  unfold k0_pay1
  pointwise

theorem host_a (c : Dev nD) : (V m c main_v0 : S8448x1024.Idx → EReal) = (m ((c : Thread nD τ).loc main_arg0) : S8448x1024.Idx → EReal) := by
  funext i
  unfold V
  after_reads_at

theorem host_b (c : Dev nD) : (V m c main_v1 : S1024x5632.Idx → EReal) = (m ((c : Thread nD τ).loc main_arg1) : S1024x5632.Idx → EReal) := by
  funext i
  unfold V
  after_reads_at

/-- One step's terms at the output's row `i` and column `j`. -/
def term (x : S8448x1024.Idx → EReal) (w : S1024x5632.Idx → EReal) (i j k : ℕ) : EReal := at2 (A := 8448) (B := 1024) x i k * at2 (A := 1024) (B := 5632) w k j

/-- What point `t` adds at an index of its block. -/
abbrev add (c : Dev nD) (t : ℕ) (y : S768x2816.Idx) : EReal :=
  ∑ k : Fin 1024, term (m ((c : Thread nD τ).loc main_arg0)) (m ((c : Thread nD τ).loc main_arg1)) (t / 2 * 768 + (y 0).val) (t % 2 * 2816 + (y 1).val) (k.val)

theorem pt (c : Dev nD) (t : Fin cfg0.N) (y : S768x2816.Idx) :
    k0_pay1 (F := Ideal) (iblk m c 0 t) (iblk m c 1 t) y = add m c t.val y := by
  refine (pay (iblk m c 0 t) (iblk m c 1 t) y).trans ?_
  refine Finset.sum_congr (M := EReal) rfl fun k _ => congrArg₂ (· * ·) ?_ ?_
  · refine (congrArg (fun z : S8448x1024.Idx → EReal => z _) (host_a m c)).trans (at2_of _ _ _ _ ?_ ?_)
    · (blk_simp [ix_0 t]) <;> omega
    · (blk_simp [ix_0 t]) <;> omega
  · refine (congrArg (fun z : S1024x5632.Idx → EReal => z _) (host_b m c)).trans (at2_of _ _ _ _ ?_ ?_)
    · (blk_simp [ix_1 t]) <;> omega
    · (blk_simp [ix_1 t]) <;> omega

/-- The whole product. -/
def prod (x : S8448x1024.Idx → EReal) (w : S1024x5632.Idx → EReal) : S8448x5632.Idx → EReal := fun i => ∑ k : Fin 1024, term x w (i 0).val (i 1).val k.val

/-- The array after the run. -/
abbrev av (c : Dev nD) : S8448x5632.Idx → EReal := prod (m ((c : Thread nD τ).loc main_arg0)) (m ((c : Thread nD τ).loc main_arg1))

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av, prod]
  blk_simp [ix_2 t]

end Cert.Kernel7Ideal.Mm

namespace Cert.Proof

open Idealize.ShloMosaic Idealize.ShloMosaic.TcCoe Idealize.SL.Sem

theorem frame_ri7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic7 : Cert.algebraic_Kernel7Ideal_Reference7Ideal := by
  intro m g m' g' hpre hargs
  refine ⟨fun c => Cert.Kernel7Ideal.Mm.av m c, ?_, ?_⟩
  · refine (θ_run Cert.Kernel7Ideal.defs _ _).mono (fun r h c => ?_) (Cert.Kernel7Ideal.Value.run_blocks (F := Ideal) m g)
    exact ⟨(h c).1.trans (Cert.Kernel7Ideal.Mm.arr m c), (h c).2⟩
  · refine (θ_run Cert.Reference7Ideal.defs _ _).mono (fun r h c => ?_) (Cert.Reference7Ideal.Value.run (F := Ideal) m' g')
    obtain ⟨a0, a1⟩ := hargs c
    refine ⟨(h c).1.trans ?_, (h c).2⟩
    rw [Cert.Reference7Ideal.Read.val_main_v1_eq, a0, a1]
    funext i
    rw [Cert.Reference7Ideal.Read.val_main_v1_apply, Cert.Reference7Ideal.Read.val_main_v0_apply]
    exact Finset.sum_congr rfl fun k _ => congrArg₂ (· * ·) (Cert.Sums.at2_of _ _ _ _ rfl rfl) (Cert.Sums.at2_of _ _ _ _ rfl rfl)

end Cert.Proof

end
-- ==== Proof.Mm8.lean ====
/- The down projection added to what was there: the call and the plain sum agree. -/
module

public import proofs.«01_k».proof.Defs
public import proofs.«01_k».proof.Proof.Sums
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.StableHlo.ReadAt

@[expose] public section

set_option maxRecDepth 16384

noncomputable section

namespace Cert.Kernel8Ideal.Mm

open Cert.Kernel8Ideal.Gen Cert.Sums
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)

/-- A point's product at an index. -/
theorem pay (x0 : Vec Ideal S768x2816 .bf16) (x1 : Vec Ideal S2816x1024 .bf16) (x2 : Vec Ideal S768x1024 .f32) (y : S768x1024.Idx) :
    k0_pay1 (F := Ideal) x0 x1 x2 y = (∑ k : Fin 2816, (x0 (ix2 (y 0) k) : EReal) * (x1 (ix2 k (y 1)) : EReal)) + (x2 y : EReal) := by
  unfold k0_pay1
  pointwise

theorem host_a (c : Dev nD) : (V m c main_v0 : S8448x2816.Idx → EReal) = (m ((c : Thread nD τ).loc main_arg1) : S8448x2816.Idx → EReal) := by
  funext i
  unfold V
  after_reads_at

theorem host_b (c : Dev nD) : (V m c main_v1 : S2816x1024.Idx → EReal) = (m ((c : Thread nD τ).loc main_arg2) : S2816x1024.Idx → EReal) := by
  funext i
  unfold V
  after_reads_at

/-- One step's terms at the output's row `i` and column `j`. -/
def term (x : S8448x2816.Idx → EReal) (w : S2816x1024.Idx → EReal) (i j k : ℕ) : EReal := at2 (A := 8448) (B := 2816) x i k * at2 (A := 2816) (B := 1024) w k j

/-- What point `t` adds at an index of its block. -/
abbrev add (c : Dev nD) (t : ℕ) (y : S768x1024.Idx) : EReal :=
  ∑ k : Fin 2816, term (m ((c : Thread nD τ).loc main_arg1)) (m ((c : Thread nD τ).loc main_arg2)) (t * 768 + (y 0).val) ((y 1).val) (k.val)

/-- The block of the array added to the product, at an index. -/
abbrev rest (c : Dev nD) (t : ℕ) (y : S768x1024.Idx) : EReal := at2 (A := 8448) (B := 1024) (m ((c : Thread nD τ).loc main_arg0)) (t * 768 + (y 0).val) ((y 1).val)

theorem pt (c : Dev nD) (t : Fin cfg0.N) (y : S768x1024.Idx) :
    k0_pay1 (F := Ideal) (iblk m c 0 t) (iblk m c 1 t) (iblk m c 2 t) y = add m c t.val y + rest m c t.val y := by
  refine (pay (iblk m c 0 t) (iblk m c 1 t) (iblk m c 2 t) y).trans ?_
  refine congrArg₂ (· + ·) ?_ ?_
  · refine Finset.sum_congr (M := EReal) rfl fun k _ => congrArg₂ (· * ·) ?_ ?_
    · refine (congrArg (fun z : S8448x2816.Idx → EReal => z _) (host_a m c)).trans (at2_of _ _ _ _ ?_ ?_)
      · (blk_simp [ix_0 t]) <;> omega
      · (blk_simp [ix_0 t]) <;> omega
    · refine (congrArg (fun z : S2816x1024.Idx → EReal => z _) (host_b m c)).trans (at2_of _ _ _ _ ?_ ?_)
      · (blk_simp [ix_1 t]) <;> omega
      · (blk_simp [ix_1 t]) <;> omega
  · refine (congrArg (fun z : S8448x1024.Idx → EReal => z _) (V_main_arg0 m c)).trans (at2_of _ _ _ _ ?_ ?_)
    · (blk_simp [ix_2 t]) <;> omega
    · (blk_simp [ix_2 t]) <;> omega

/-- The whole product. -/
def prod (x : S8448x2816.Idx → EReal) (w : S2816x1024.Idx → EReal) : S8448x1024.Idx → EReal := fun i => ∑ k : Fin 2816, term x w (i 0).val (i 1).val k.val

/-- The array after the run. -/
abbrev av (c : Dev nD) : S8448x1024.Idx → EReal := fun i => prod (m ((c : Thread nD τ).loc main_arg1)) (m ((c : Thread nD τ).loc main_arg2)) i + at2 (A := 8448) (B := 1024) (m ((c : Thread nD τ).loc main_arg0)) (i 0).val (i 1).val

theorem arr (c : Dev nD) : (dats m 0 c).arrAt 3 cfg0.N = av m c := by
  refine (dats m 0 c).arrAt_eq_of_covers 3 _ (by decide +kernel) fun t hf y => ?_
  blk_simp
  rw [after0_3]
  frame_out
  refine (pt m c t y).trans ?_
  dsimp only [av, prod]
  blk_simp [ix_3 t]

end Cert.Kernel8Ideal.Mm

namespace Cert.Proof

open Idealize.ShloMosaic Idealize.ShloMosaic.TcCoe Idealize.SL.Sem

theorem frame_ri8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem algebraic8 : Cert.algebraic_Kernel8Ideal_Reference8Ideal := by
  intro m g m' g' hpre hargs
  refine ⟨fun c => Cert.Kernel8Ideal.Mm.av m c, ?_, ?_⟩
  · refine (θ_run Cert.Kernel8Ideal.defs _ _).mono (fun r h c => ?_) (Cert.Kernel8Ideal.Value.run_blocks (F := Ideal) m g)
    exact ⟨(h c).1.trans (Cert.Kernel8Ideal.Mm.arr m c), (h c).2⟩
  · refine (θ_run Cert.Reference8Ideal.defs _ _).mono (fun r h c => ?_) (Cert.Reference8Ideal.Value.run (F := Ideal) m' g')
    obtain ⟨a0, a1, a2⟩ := hargs c
    refine ⟨(h c).1.trans ?_, (h c).2⟩
    rw [Cert.Reference8Ideal.Read.val_main_v1_eq, a0, a1, a2]
    funext i
    rw [Cert.Reference8Ideal.Read.val_main_v1_apply, Cert.Reference8Ideal.Read.val_main_v0_apply]
    exact (add_comm _ _).trans (congrArg₂ (· + ·) (Finset.sum_congr rfl fun k _ => congrArg₂ (· * ·) (Cert.Sums.at2_of _ _ _ _ rfl rfl) (Cert.Sums.at2_of _ _ _ _ rfl rfl)) (Cert.Sums.at2_of _ _ _ _ rfl rfl))

end Cert.Proof

end
-- ==== Proof.MmEven.lean ====
/- The products of the layers with the recurrence: each call and the plain product agree. -/
module

public import proofs.«01_k».proof.Defs
public import proofs.«01_k».proof.Proof.Sums
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.StableHlo.ReadAt

@[expose] public section

set_option maxRecDepth 16384

noncomputable section

open Cert.Sums
open Idealize.ShloMosaic Idealize.ShloMosaic.TcCoe Idealize.SL.Sem
open Idealize.ShloMosaic.Pipeline (Dat)

namespace Cert.Kernel9Ideal.Mm

open Cert.Kernel9Ideal.Gen

variable (m : (ℓ : Loc nD τ sig) → Buf (Elt Ideal) ℓ)

theorem ix_0 : ∀ t : Fin cfg0.N, win0_0.index t = ![t.val / 2, 0] := (by decide +kernel : ∀ t : Fin grid0.N, _)
theorem ix_1 : ∀ t : Fin cfg0.N, win0_1.index t = ![0, t.val % 2] := (by decide +kernel : ∀ t : Fin grid0.N, _)
theorem ix_2 : ∀ t : Fin cfg0.N, win0_2.index t = ![t.val / 2, t.val % 2] := (by decide +kernel : ∀ t : Fin grid0.N, _)

theorem pay (x0 : Vec Ideal S1408x1024 .bf16) (x1 : Vec Ideal S1024x1280 .bf16) (y : S1408x1280.Idx) :
    k0_pay1 (F := Ideal) x0 x1 y = ∑ k : Fin 1024, (x0 (ix2 (y 0) k) : EReal) * (x1 (ix2 k (y 1)) : EReal) := by
  unfold k0_pay1
  pointwise

theorem host_a (c : Dev nD) : (V m c main_v0 : S8448x1024.Idx → EReal) = m ((c : Thread nD τ).loc main_arg0) := by
  funext i
  unfold V
  after_reads_at

theorem host_b (c : Dev nD) : (V m c main_v1 : S1024x2560.Idx → EReal) = m ((c : Thread nD τ).loc main_arg1) := by
  funext i
  unfold V
  after_reads_at

/-- A term of the product's element in row `i` and column `j`. -/
def term (x : S8448x1024.Idx → EReal) (w : S1024x2560.Idx → EReal) (i j k : ℕ) : EReal := at2 (A := 8448) (B := 1024) x i k * at2 (A := 1024) (B := 2560) w k j

/-- What point `t` adds at an index of its block. -/
abbrev add (c : Dev nD) (t : ℕ) (y : S1408x1280.Idx) : EReal := ∑ k : Fin 1024, term (m ((c : Thread nD τ).loc main_arg0)) (m ((c : Thread nD τ).loc main_arg1)) (t / 2 * 1408 + (y 0).val) (t % 2 * 1280 + (y 1).val) (k.val)

theorem pt (c : Dev nD) (t : Fin cfg0.N) (y : S1408x1280.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x1024.Idx → EReal => z _) (host_a m c)).trans (at2_of _ _ _ _ ?_ ?_) <;> (blk_simp [ix_0 t]) <;> omega
  · refine (congrArg (fun z : S1024x2560.Idx → EReal => z _) (host_b m c)).trans (at2_of _ _ _ _ ?_ ?_) <;> (blk_simp [ix_1 t]) <;> omega

/-- The array after the run. -/
def av (c : Dev nD) : S8448x2560.Idx → EReal := fun i => ∑ k : Fin 1024, term (m ((c : Thread nD τ).loc main_arg0)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m g m' g' hpre hargs
  refine ⟨fun c => av m c, ?_, ?_⟩
  · refine (θ_run Cert.Kernel9Ideal.defs _ _).mono (fun r h c => ?_) (Cert.Kernel9Ideal.Value.run_blocks (F := Ideal) m g)
    exact ⟨(h c).1.trans (arr m c), (h c).2⟩
  · refine (θ_run Cert.Reference9Ideal.defs _ _).mono (fun r h c => ?_) (Cert.Reference9Ideal.Value.run (F := Ideal) m' g')
    obtain ⟨a0, a1⟩ := hargs c
    refine ⟨(h c).1.trans ?_, (h c).2⟩
    rw [Cert.Reference9Ideal.Read.val_main_v0_eq, a0, a1]
    funext i
    rw [Cert.Reference9Ideal.Read.val_main_v0_apply]
    exact Finset.sum_congr rfl fun k _ => congrArg₂ (· * ·) (at2_val _ _) (at2_val _ _)

end Cert.Kernel9Ideal.Mm

namespace Cert.Kernel10Ideal.Mm

open Cert.Kernel10Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)

theorem pay (x0 : Vec Ideal S1408x512 .bf16) (x1 : Vec Ideal S512x1024 .bf16) (x2 : Vec Ideal S1408x1024 .f32) (y : S1408x1024.Idx) :
    k0_pay1 (F := Ideal) x0 x1 x2 y = (∑ k : Fin 512, (x0 (ix2 (y 0) k) : EReal) * (x1 (ix2 k (y 1)) : EReal)) + (x2 y : EReal) := by
  unfold k0_pay1
  pointwise

theorem host_a (c : Dev nD) : (V m c main_v0 : S8448x512.Idx → EReal) = m ((c : Thread nD τ).loc main_arg1) := by
  funext i
  unfold V
  after_reads_at

theorem host_b (c : Dev nD) : (V m c main_v1 : S512x1024.Idx → EReal) = m ((c : Thread nD τ).loc main_arg2) := by
  funext i
  unfold V
  after_reads_at

/-- A term of the product's element in row `i` and column `j`. -/
def term (x : S8448x512.Idx → EReal) (w : S512x1024.Idx → EReal) (i j k : ℕ) : EReal := at2 (A := 8448) (B := 512) x i k * at2 (A := 512) (B := 1024) w k j

/-- What point `t` adds at an index of its block. -/
abbrev add (c : Dev nD) (t : ℕ) (y : S1408x1024.Idx) : EReal := ∑ k : Fin 512, term (m ((c : Thread nD τ).loc main_arg1)) (m ((c : Thread nD τ).loc main_arg2)) (t * 1408 + (y 0).val) ((y 1).val) (k.val)

theorem pt (c : Dev nD) (t : Fin cfg0.N) (y : S1408x1024.Idx) : k0_pay1 (F := Ideal) (iblk m c 0 t) (iblk m c 1 t) (iblk m c 2 t) y = add m c t.val y + at2 (A := 8448) (B := 1024) (m ((c : Thread nD τ).loc main_arg0)) (t.val * 1408 + (y 0).val) ((y 1).val) := by
  refine (pay (iblk m c 0 t) (iblk m c 1 t) (iblk m c 2 t) y).trans (congrArg₂ (· + ·) (Finset.sum_congr (M := EReal) rfl fun k _ => congrArg₂ (· * ·) ?_ ?_) ?_)
  · refine (congrArg (fun z : S8448x512.Idx → EReal => z _) (host_a m c)).trans (at2_of _ _ _ _ ?_ ?_) <;> (blk_simp [ix_0 t]) <;> omega
  · refine (congrArg (fun z : S512x1024.Idx → EReal => z _) (host_b m c)).trans (at2_of _ _ _ _ ?_ ?_) <;> (blk_simp [ix_1 t]) <;> omega
  · refine (congrArg (fun z : S8448x1024.Idx → EReal => z _) (V_main_arg0 m c)).trans (at2_of _ _ _ _ ?_ ?_) <;> (blk_simp [ix_2 t]) <;> omega

/-- The array after the run. -/
def av (c : Dev nD) : S8448x1024.Idx → EReal := fun i => (∑ k : Fin 512, term (m ((c : Thread nD τ).loc main_arg1)) (m ((c : Thread nD τ).loc main_arg2)) (i 0).val (i 1).val k.val) + at2 (A := 8448) (B := 1024) (m ((c : Thread nD τ).loc main_arg0)) (i 0).val (i 1).val

theorem arr (c : Dev nD) : (dats m 0 c).arrAt 3 cfg0.N = av m c := by
  refine (dats m 0 c).arrAt_eq_of_covers 3 _ (by decide +kernel) fun t hf y => ?_
  blk_simp
  rw [after0_3]
  frame_out
  refine (pt m c t y).trans ?_
  dsimp only [av]
  blk_simp [ix_3 t]

theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m g m' g' hpre hargs
  refine ⟨fun c => av m c, ?_, ?_⟩
  · refine (θ_run Cert.Kernel10Ideal.defs _ _).mono (fun r h c => ?_) (Cert.Kernel10Ideal.Value.run_blocks (F := Ideal) m g)
    exact ⟨(h c).1.trans (arr m c), (h c).2⟩
  · refine (θ_run Cert.Reference10Ideal.defs _ _).mono (fun r h c => ?_) (Cert.Reference10Ideal.Value.run (F := Ideal) m' g')
    obtain ⟨a0, a1, a2⟩ := hargs c
    refine ⟨(h c).1.trans ?_, (h c).2⟩
    rw [Cert.Reference10Ideal.Read.val_main_v1_eq, a0, a1, a2]
    funext i
    rw [Cert.Reference10Ideal.Read.val_main_v1_apply, Cert.Reference10Ideal.Read.val_main_v0_apply]
    exact (add_comm _ _).trans (congrArg₂ (· + ·) (Finset.sum_congr rfl fun k _ => congrArg₂ (· * ·) (at2_val _ _) (at2_val _ _)) (at2_val _ _))

end Cert.Kernel10Ideal.Mm

namespace Cert.Kernel11Ideal.Mm

open Cert.Kernel11Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S1408x1024 .f32) (x1 : Vec Ideal S1024x1024 .bf16) (y : S1408x1024.Idx) :
    k0_pay1 (F := Ideal) x0 x1 y = ∑ k : Fin 1024, (x0 (ix2 (y 0) k) : EReal) * (x1 (ix2 (y 1) k) : EReal) := by
  unfold k0_pay1
  pointwise

theorem host_b (c : Dev nD) : (V m c main_v0 : S1024x1024.Idx → EReal) = m ((c : Thread nD τ).loc main_arg1) := by
  funext i
  unfold V
  after_reads_at

/-- A term of the product's element in row `i` and column `j`. -/
def term (x : S8448x1024.Idx → EReal) (w : S1024x1024.Idx → EReal) (i j k : ℕ) : EReal := at2 (A := 8448) (B := 1024) x i k * at2 (A := 1024) (B := 1024) w j k

/-- What point `t` adds at an index of its block. -/
abbrev add (c : Dev nD) (t : ℕ) (y : S1408x1024.Idx) : EReal := ∑ k : Fin 1024, term (m ((c : Thread nD τ).loc main_arg2)) (m ((c : Thread nD τ).loc main_arg1)) (t * 1408 + (y 0).val) ((y 1).val) (k.val)

theorem pt (c : Dev nD) (t : Fin cfg0.N) (y : S1408x1024.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x1024.Idx → EReal => z _) (V_main_arg2 m c)).trans (at2_of _ _ _ _ ?_ ?_) <;> (blk_simp [ix_0 t]) <;> omega
  · refine (congrArg (fun z : S1024x1024.Idx → EReal => z _) (host_b m c)).trans (at2_of _ _ _ _ ?_ ?_) <;> (blk_simp [ix_1 t]) <;> omega

/-- The array after the run. -/
def av (c : Dev nD) : S8448x1024.Idx → EReal := fun i => ∑ k : Fin 1024, term (m ((c : Thread nD τ).loc main_arg2)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m g m' g' hpre hargs
  refine ⟨fun c => av m c, ?_, ?_⟩
  · refine (θ_run Cert.Kernel11Ideal.defs _ _).mono (fun r h c => ?_) (Cert.Kernel11Ideal.Value.run_blocks (F := Ideal) m g)
    exact ⟨(h c).1.trans (arr m c), (h c).2⟩
  · refine (θ_run Cert.Reference11Ideal.defs _ _).mono (fun r h c => ?_) (Cert.Reference11Ideal.Value.run (F := Ideal) m' g')
    obtain ⟨a0, a1, a2⟩ := hargs c
    refine ⟨(h c).1.trans ?_, (h c).2⟩
    rw [Cert.Reference11Ideal.Read.val_main_v3_eq, a1, a2]
    funext i
    rw [Cert.Reference11Ideal.Read.val_main_v3_apply]
    exact Finset.sum_congr rfl fun k _ => congrArg₂ (· * ·) (at2_val _ _) (at2_val _ _)

end Cert.Kernel11Ideal.Mm

namespace Cert.Kernel12Ideal.Mm

open Cert.Kernel12Ideal.Gen

variable (m : (ℓ : Loc nD τ sig) → Buf (Elt Ideal) ℓ)

theorem ix_0 : ∀ t : Fin cfg0.N, win0_0.index t = ![t.val % 6, 0] := (by decide +kernel : ∀ t : Fin grid0.N, _)
theorem ix_1 : ∀ t : Fin cfg0.N, win0_1.index t = ![t.val % 6, 0] := (by decide +kernel : ∀ t : Fin grid0.N, _)
theorem ix_2 : ∀ t : Fin cfg0.N, win0_2.index t = ![0, 0] := (by decide +kernel : ∀ t : Fin grid0.N, _)

theorem pay (x0 : Vec Ideal S1408x512 .bf16) (x1 : Vec Ideal S1408x1024 .f32) (y : S512x1024.Idx) :
    k0_pay1 (F := Ideal) x0 x1 y = ∑ k : Fin 1408, (x0 (ix2 k (y 0)) : EReal) * (x1 (ix2 k (y 1)) : EReal) := by
  unfold k0_pay1
  pointwise

theorem host_a (c : Dev nD) : (V m c main_v0 : S8448x512.Idx → EReal) = m ((c : Thread nD τ).loc main_arg0) := by
  funext i
  unfold V
  after_reads_at

/-- A term of the product's element in row `i` and column `j`. -/
def term (x : S8448x512.Idx → EReal) (w : S8448x1024.Idx → EReal) (i j k : ℕ) : EReal := at2 (A := 8448) (B := 512) x k i * at2 (A := 8448) (B := 1024) w k j

/-- What point `t` adds at an index of its block. -/
abbrev add (c : Dev nD) (t : ℕ) (y : S512x1024.Idx) : EReal := ∑ k : Fin 1408, term (m ((c : Thread nD τ).loc main_arg0)) (m ((c : Thread nD τ).loc main_arg2)) ((y 0).val) ((y 1).val) (1408 * (t % 6) + k.val)

theorem pt (c : Dev nD) (t : Fin cfg0.N) (y : S512x1024.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x512.Idx → EReal => z _) (host_a m c)).trans (at2_of _ _ _ _ ?_ ?_) <;> (blk_simp [ix_0 t]) <;> omega
  · refine (congrArg (fun z : S8448x1024.Idx → EReal => z _) (V_main_arg2 m c)).trans (at2_of _ _ _ _ ?_ ?_) <;> (blk_simp [ix_1 t]) <;> omega

theorem step_A (c : Dev nD) (t : Fin cfg0.N) (h0 : t.val % 6 = 0) (y : S512x1024.Idx) : (outsAt0 m c t.val t.isLt).2 y = 0 + add m c t.val y := by
  have hN : t.val < 6 := lt_of_lt_of_eq t.isLt (show cfg0.N = 6 from N_0)
  rw [outsAt0_A m c t h0 (by omega) (by omega), zero_add]
  frame_out
  unfold k0_pay2
  rw [shapeCast_self]
  exact pt m c t y

theorem step_B (c : Dev nD) (t : Fin cfg0.N) (h0 : ¬t.val % 6 = 0) (y : S512x1024.Idx) :
    (outsAt0 m c t.val t.isLt).2 y = (outsAt0 m c (t.val - 1) (Nat.lt_of_le_of_lt (Nat.sub_le _ _) t.isLt)).2 y + add m c t.val y := by
  have hp : ∀ z : Vec Ideal S512x1024 .f32, k0_pay3 (F := Ideal) (iblk m c 0 t) (iblk m c 1 t) z y = (z y + add m c t.val y : EReal) := by
    intro z
    unfold k0_pay3
    rw [shapeCast_self, ← pt m c t y]
    rfl
  by_cases h2 : t.val % 6 = 5
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S512x1024.Idx) :
    (outsAt0 m c t.val t.isLt).2 y = 0 + ∑ k ∈ Finset.range (t.val % 6 + 1), add m c (6 * (t.val / 6) + k) y :=
  Pipeline.eq_sum_of_reset_step_apply (N := cfg0.N) (fun n h (y : S512x1024.Idx) => (outsAt0 m c n h).2 y) 6 (fun _ => 0)
    (fun n y => add m c n y) (fun t h0 y => step_A m c t h0 y) (fun t h0 y => step_B m c t h0 y) t y

theorem last (c : Dev nD) (t : Fin cfg0.N) (h2 : t.val % 6 = 5) (y : S512x1024.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 6 = 5 := (by decide +kernel : ∀ t : Fin grid0.N, _)

/-- The array after the run. -/
def av (c : Dev nD) : S512x1024.Idx → EReal := fun i => ∑ k : Fin (6 * 1408), term (m ((c : Thread nD τ).loc main_arg0)) (m ((c : Thread nD τ).loc main_arg2)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 6 1408]
  refine Finset.sum_congr (M := EReal) rfl fun j hj => ?_
  have hj' := Finset.mem_range.mp hj
  have e0 : (6 * (t.val / 6) + j) % 6 = j := by omega
  simp only [add, e0]

theorem frame_ri : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic : Cert.algebraic_Kernel12Ideal_Reference12Ideal := by
  intro m g m' g' hpre hargs
  refine ⟨fun c => av m c, ?_, ?_⟩
  · refine (θ_run Cert.Kernel12Ideal.defs _ _).mono (fun r h c => ?_) (Cert.Kernel12Ideal.Value.run_blocks (F := Ideal) m g)
    exact ⟨(h c).1.trans (arr m c), (h c).2⟩
  · refine (θ_run Cert.Reference12Ideal.defs _ _).mono (fun r h c => ?_) (Cert.Reference12Ideal.Value.run (F := Ideal) m' g')
    obtain ⟨a0, a1, a2⟩ := hargs c
    refine ⟨(h c).1.trans ?_, (h c).2⟩
    rw [Cert.Reference12Ideal.Read.val_main_v2_eq, a0, a2]
    funext i
    rw [Cert.Reference12Ideal.Read.val_main_v2_apply, Cert.Reference12Ideal.Read.val_main_v1_apply]
    exact Finset.sum_congr rfl fun k _ => (mul_comm _ _).trans (congrArg₂ (· * ·) (at2_val _ _) (at2_val _ _))

end Cert.Kernel12Ideal.Mm

namespace Cert.Kernel13Ideal.Mm

open Cert.Kernel13Ideal.Gen

variable (m : (ℓ : Loc nD τ sig) → Buf (Elt Ideal) ℓ)

theorem ix_0 : ∀ t : Fin cfg0.N, win0_0.index t = ![t.val % 11, 0] := (by decide +kernel : ∀ t : Fin grid0.N, _)
theorem ix_1 : ∀ t : Fin cfg0.N, win0_1.index t = ![t.val % 11, t.val / 11] := (by decide +kernel : ∀ t : Fin grid0.N, _)
theorem ix_2 : ∀ t : Fin cfg0.N, win0_2.index t = ![0, t.val / 11] := (by decide +kernel : ∀ t : Fin grid0.N, _)

theorem pay (x0 : Vec Ideal S768x1024 .bf16) (x1 : Vec Ideal S768x1280 .f32) (y : S1024x1280.Idx) :
    k0_pay1 (F := Ideal) x0 x1 y = ∑ k : Fin 768, (x0 (ix2 k (y 0)) : EReal) * (x1 (ix2 k (y 1)) : EReal) := by
  unfold k0_pay1
  pointwise

theorem host_a (c : Dev nD) : (V m c main_v0 : S8448x1024.Idx → EReal) = m ((c : Thread nD τ).loc main_arg0) := by
  funext i
  unfold V
  after_reads_at

/-- A term of the product's element in row `i` and column `j`. -/
def term (x : S8448x1024.Idx → EReal) (w : S8448x2560.Idx → EReal) (i j k : ℕ) : EReal := at2 (A := 8448) (B := 1024) x k i * at2 (A := 8448) (B := 2560) w k j

/-- What point `t` adds at an index of its block. -/
abbrev add (c : Dev nD) (t : ℕ) (y : S1024x1280.Idx) : EReal := ∑ k : Fin 768, term (m ((c : Thread nD τ).loc main_arg0)) (m ((c : Thread nD τ).loc main_arg2)) ((y 0).val) (t / 11 * 1280 + (y 1).val) (768 * (t % 11) + k.val)

theorem pt (c : Dev nD) (t : Fin cfg0.N) (y : S1024x1280.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x1024.Idx → EReal => z _) (host_a m c)).trans (at2_of _ _ _ _ ?_ ?_) <;> (blk_simp [ix_0 t]) <;> omega
  · refine (congrArg (fun z : S8448x2560.Idx → EReal => z _) (V_main_arg2 m c)).trans (at2_of _ _ _ _ ?_ ?_) <;> (blk_simp [ix_1 t]) <;> omega

theorem step_A (c : Dev nD) (t : Fin cfg0.N) (h0 : t.val % 11 = 0) (y : S1024x1280.Idx) : (outsAt0 m c t.val t.isLt).2 y = 0 + add m c t.val y := by
  rw [outsAt0_A m c t h0 (by omega) (by omega), zero_add]
  frame_out
  unfold k0_pay2
  rw [shapeCast_self]
  exact pt m c t y

theorem step_B (c : Dev nD) (t : Fin cfg0.N) (h0 : ¬t.val % 11 = 0) (y : S1024x1280.Idx) :
    (outsAt0 m c t.val t.isLt).2 y = (outsAt0 m c (t.val - 1) (Nat.lt_of_le_of_lt (Nat.sub_le _ _) t.isLt)).2 y + add m c t.val y := by
  have hp : ∀ z : Vec Ideal S1024x1280 .f32, k0_pay3 (F := Ideal) (iblk m c 0 t) (iblk m c 1 t) z y = (z y + add m c t.val y : EReal) := by
    intro z
    unfold k0_pay3
    rw [shapeCast_self, ← pt m c t y]
    rfl
  by_cases h2 : t.val % 11 = 10
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S1024x1280.Idx) :
    (outsAt0 m c t.val t.isLt).2 y = 0 + ∑ k ∈ Finset.range (t.val % 11 + 1), add m c (11 * (t.val / 11) + k) y :=
  Pipeline.eq_sum_of_reset_step_apply (N := cfg0.N) (fun n h (y : S1024x1280.Idx) => (outsAt0 m c n h).2 y) 11 (fun _ => 0)
    (fun n y => add m c n y) (fun t h0 y => step_A m c t h0 y) (fun t h0 y => step_B m c t h0 y) t y

theorem last (c : Dev nD) (t : Fin cfg0.N) (h2 : t.val % 11 = 10) (y : S1024x1280.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 11 = 10 := (by decide +kernel : ∀ t : Fin grid0.N, _)

/-- The array after the run. -/
def av (c : Dev nD) : S1024x2560.Idx → EReal := fun i => ∑ k : Fin (11 * 768), term (m ((c : Thread nD τ).loc main_arg0)) (m ((c : Thread nD τ).loc main_arg2)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 11 768]
  refine Finset.sum_congr (M := EReal) rfl fun j hj => ?_
  have hj' := Finset.mem_range.mp hj
  have e0 : (11 * (t.val / 11) + j) / 11 = t.val / 11 := by omega
  have e1 : (11 * (t.val / 11) + j) % 11 = j := by omega
  simp only [add, e0, e1]

theorem frame_ri : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic : Cert.algebraic_Kernel13Ideal_Reference13Ideal := by
  intro m g m' g' hpre hargs
  refine ⟨fun c => av m c, ?_, ?_⟩
  · refine (θ_run Cert.Kernel13Ideal.defs _ _).mono (fun r h c => ?_) (Cert.Kernel13Ideal.Value.run_blocks (F := Ideal) m g)
    exact ⟨(h c).1.trans (arr m c), (h c).2⟩
  · refine (θ_run Cert.Reference13Ideal.defs _ _).mono (fun r h c => ?_) (Cert.Reference13Ideal.Value.run (F := Ideal) m' g')
    obtain ⟨a0, a1, a2⟩ := hargs c
    refine ⟨(h c).1.trans ?_, (h c).2⟩
    rw [Cert.Reference13Ideal.Read.val_main_v2_eq, a0, a2]
    funext i
    rw [Cert.Reference13Ideal.Read.val_main_v2_apply, Cert.Reference13Ideal.Read.val_main_v1_apply]
    exact Finset.sum_congr rfl fun k _ => (mul_comm _ _).trans (congrArg₂ (· * ·) (at2_val _ _) (at2_val _ _))

end Cert.Kernel13Ideal.Mm

namespace Cert.Kernel14Ideal.Mm

open Cert.Kernel14Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S768x2560 .f32) (x1 : Vec Ideal S1024x2560 .bf16) (y : S768x1024.Idx) :
    k0_pay1 (F := Ideal) x0 x1 y = ∑ k : Fin 2560, (x0 (ix2 (y 0) k) : EReal) * (x1 (ix2 (y 1) k) : EReal) := by
  unfold k0_pay1
  pointwise

theorem host_b (c : Dev nD) : (V m c main_v0 : S1024x2560.Idx → EReal) = m ((c : Thread nD τ).loc main_arg1) := by
  funext i
  unfold V
  after_reads_at

/-- A term of the product's element in row `i` and column `j`. -/
def term (x : S8448x2560.Idx → EReal) (w : S1024x2560.Idx → EReal) (i j k : ℕ) : EReal := at2 (A := 8448) (B := 2560) x i k * at2 (A := 1024) (B := 2560) w j k

/-- What point `t` adds at an index of its block. -/
abbrev add (c : Dev nD) (t : ℕ) (y : S768x1024.Idx) : EReal := ∑ k : Fin 2560, term (m ((c : Thread nD τ).loc main_arg2)) (m ((c : Thread nD τ).loc main_arg1)) (t * 768 + (y 0).val) ((y 1).val) (k.val)

theorem pt (c : Dev nD) (t : Fin cfg0.N) (y : S768x1024.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x2560.Idx → EReal => z _) (V_main_arg2 m c)).trans (at2_of _ _ _ _ ?_ ?_) <;> (blk_simp [ix_0 t]) <;> omega
  · refine (congrArg (fun z : S1024x2560.Idx → EReal => z _) (host_b m c)).trans (at2_of _ _ _ _ ?_ ?_) <;> (blk_simp [ix_1 t]) <;> omega

/-- The array after the run. -/
def av (c : Dev nD) : S8448x1024.Idx → EReal := fun i => ∑ k : Fin 2560, term (m ((c : Thread nD τ).loc main_arg2)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic : Cert.algebraic_Kernel14Ideal_Reference14Ideal := by
  intro m g m' g' hpre hargs
  refine ⟨fun c => av m c, ?_, ?_⟩
  · refine (θ_run Cert.Kernel14Ideal.defs _ _).mono (fun r h c => ?_) (Cert.Kernel14Ideal.Value.run_blocks (F := Ideal) m g)
    exact ⟨(h c).1.trans (arr m c), (h c).2⟩
  · refine (θ_run Cert.Reference14Ideal.defs _ _).mono (fun r h c => ?_) (Cert.Reference14Ideal.Value.run (F := Ideal) m' g')
    obtain ⟨a0, a1, a2⟩ := hargs c
    refine ⟨(h c).1.trans ?_, (h c).2⟩
    rw [Cert.Reference14Ideal.Read.val_main_v3_eq, a1, a2]
    funext i
    rw [Cert.Reference14Ideal.Read.val_main_v3_apply]
    exact Finset.sum_congr rfl fun k _ => congrArg₂ (· * ·) (at2_val _ _) (at2_val _ _)

end Cert.Kernel14Ideal.Mm

end
-- ==== Proof.MmOddIn.lean ====
/- The attention layers' products with the input and query weights: each call and the plain product agree. -/
module

public import proofs.«01_k».proof.Defs
public import proofs.«01_k».proof.Proof.Sums
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.StableHlo.ReadAt

@[expose] public section

set_option maxRecDepth 16384

noncomputable section

open Cert.Sums
open Idealize.ShloMosaic Idealize.ShloMosaic.TcCoe Idealize.SL.Sem
open Idealize.ShloMosaic.Pipeline (Dat)

namespace Cert.Kernel15Ideal.Mm

open Cert.Kernel15Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S1408x1024 .bf16) (x1 : Vec Ideal S1024x768 .bf16) (y : S1408x768.Idx) :
    k0_pay1 (F := Ideal) x0 x1 y = ∑ k : Fin 1024, (x0 (ix2 (y 0) k) : EReal) * (x1 (ix2 k (y 1)) : EReal) := by
  unfold k0_pay1
  pointwise

theorem host_a (c : Dev nD) : (V m c main_v0 : S8448x1024.Idx → EReal) = m ((c : Thread nD τ).loc main_arg0) := by
  funext i
  unfold V
  after_reads_at

theorem host_b (c : Dev nD) : (V m c main_v1 : S1024x768.Idx → EReal) = m ((c : Thread nD τ).loc main_arg1) := by
  funext i
  unfold V
  after_reads_at

/-- A term of the product's element in row `i` and column `j`. -/
def term (x : S8448x1024.Idx → EReal) (w : S1024x768.Idx → EReal) (i j k : ℕ) : EReal := at2 (A := 8448) (B := 1024) x i k * at2 (A := 1024) (B := 768) w k j

/-- What point `t` adds at an index of its block. -/
abbrev add (c : Dev nD) (t : ℕ) (y : S1408x768.Idx) : EReal := ∑ k : Fin 1024, term (m ((c : Thread nD τ).loc main_arg0)) (m ((c : Thread nD τ).loc main_arg1)) (t * 1408 + (y 0).val) ((y 1).val) (k.val)

theorem pt (c : Dev nD) (t : Fin cfg0.N) (y : S1408x768.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x1024.Idx → EReal => z _) (host_a m c)).trans (at2_of _ _ _ _ ?_ ?_) <;> (blk_simp [ix_0 t]) <;> omega
  · refine (congrArg (fun z : S1024x768.Idx → EReal => z _) (host_b m c)).trans (at2_of _ _ _ _ ?_ ?_) <;> (blk_simp [ix_1 t]) <;> omega

/-- The array after the run. -/
def av (c : Dev nD) : S8448x768.Idx → EReal := fun i => ∑ k : Fin 1024, term (m ((c : Thread nD τ).loc main_arg0)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic : Cert.algebraic_Kernel15Ideal_Reference15Ideal := by
  intro m g m' g' hpre hargs
  refine ⟨fun c => av m c, ?_, ?_⟩
  · refine (θ_run Cert.Kernel15Ideal.defs _ _).mono (fun r h c => ?_) (Cert.Kernel15Ideal.Value.run_blocks (F := Ideal) m g)
    exact ⟨(h c).1.trans (arr m c), (h c).2⟩
  · refine (θ_run Cert.Reference15Ideal.defs _ _).mono (fun r h c => ?_) (Cert.Reference15Ideal.Value.run (F := Ideal) m' g')
    obtain ⟨a0, a1⟩ := hargs c
    refine ⟨(h c).1.trans ?_, (h c).2⟩
    rw [Cert.Reference15Ideal.Read.val_main_v0_eq, a0, a1]
    funext i
    rw [Cert.Reference15Ideal.Read.val_main_v0_apply]
    exact Finset.sum_congr rfl fun k _ => congrArg₂ (· * ·) (at2_val _ _) (at2_val _ _)

end Cert.Kernel15Ideal.Mm

namespace Cert.Kernel16Ideal.Mm

open Cert.Kernel16Ideal.Gen

variable (m : (ℓ : Loc nD τ sig) → Buf (Elt Ideal) ℓ)

theorem ix_0 : ∀ t : Fin cfg0.N, win0_0.index t = ![t.val % 6, 0] := (by decide +kernel : ∀ t : Fin grid0.N, _)
theorem ix_1 : ∀ t : Fin cfg0.N, win0_1.index t = ![t.val % 6, 0] := (by decide +kernel : ∀ t : Fin grid0.N, _)
theorem ix_2 : ∀ t : Fin cfg0.N, win0_2.index t = ![0, 0] := (by decide +kernel : ∀ t : Fin grid0.N, _)

theorem pay (x0 : Vec Ideal S1408x1024 .bf16) (x1 : Vec Ideal S1408x768 .f32) (y : S1024x768.Idx) :
    k0_pay1 (F := Ideal) x0 x1 y = ∑ k : Fin 1408, (x0 (ix2 k (y 0)) : EReal) * (x1 (ix2 k (y 1)) : EReal) := by
  unfold k0_pay1
  pointwise

theorem host_a (c : Dev nD) : (V m c main_v0 : S8448x1024.Idx → EReal) = m ((c : Thread nD τ).loc main_arg0) := by
  funext i
  unfold V
  after_reads_at

/-- A term of the product's element in row `i` and column `j`. -/
def term (x : S8448x1024.Idx → EReal) (w : S8448x768.Idx → EReal) (i j k : ℕ) : EReal := at2 (A := 8448) (B := 1024) x k i * at2 (A := 8448) (B := 768) w k j

/-- What point `t` adds at an index of its block. -/
abbrev add (c : Dev nD) (t : ℕ) (y : S1024x768.Idx) : EReal := ∑ k : Fin 1408, term (m ((c : Thread nD τ).loc main_arg0)) (m ((c : Thread nD τ).loc main_arg2)) ((y 0).val) ((y 1).val) (1408 * (t % 6) + k.val)

theorem pt (c : Dev nD) (t : Fin cfg0.N) (y : S1024x768.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x1024.Idx → EReal => z _) (host_a m c)).trans (at2_of _ _ _ _ ?_ ?_) <;> (blk_simp [ix_0 t]) <;> omega
  · refine (congrArg (fun z : S8448x768.Idx → EReal => z _) (V_main_arg2 m c)).trans (at2_of _ _ _ _ ?_ ?_) <;> (blk_simp [ix_1 t]) <;> omega

theorem step_A (c : Dev nD) (t : Fin cfg0.N) (h0 : t.val % 6 = 0) (y : S1024x768.Idx) : (outsAt0 m c t.val t.isLt).2 y = 0 + add m c t.val y := by
  have hN : t.val < 6 := lt_of_lt_of_eq t.isLt (show cfg0.N = 6 from N_0)
  rw [outsAt0_A m c t h0 (by omega) (by omega), zero_add]
  frame_out
  unfold k0_pay2
  rw [shapeCast_self]
  exact pt m c t y

theorem step_B (c : Dev nD) (t : Fin cfg0.N) (h0 : ¬t.val % 6 = 0) (y : S1024x768.Idx) :
    (outsAt0 m c t.val t.isLt).2 y = (outsAt0 m c (t.val - 1) (Nat.lt_of_le_of_lt (Nat.sub_le _ _) t.isLt)).2 y + add m c t.val y := by
  have hp : ∀ z : Vec Ideal S1024x768 .f32, k0_pay3 (F := Ideal) (iblk m c 0 t) (iblk m c 1 t) z y = (z y + add m c t.val y : EReal) := by
    intro z
    unfold k0_pay3
    rw [shapeCast_self, ← pt m c t y]
    rfl
  by_cases h2 : t.val % 6 = 5
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S1024x768.Idx) :
    (outsAt0 m c t.val t.isLt).2 y = 0 + ∑ k ∈ Finset.range (t.val % 6 + 1), add m c (6 * (t.val / 6) + k) y :=
  Pipeline.eq_sum_of_reset_step_apply (N := cfg0.N) (fun n h (y : S1024x768.Idx) => (outsAt0 m c n h).2 y) 6 (fun _ => 0)
    (fun n y => add m c n y) (fun t h0 y => step_A m c t h0 y) (fun t h0 y => step_B m c t h0 y) t y

theorem last (c : Dev nD) (t : Fin cfg0.N) (h2 : t.val % 6 = 5) (y : S1024x768.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 6 = 5 := (by decide +kernel : ∀ t : Fin grid0.N, _)

/-- The array after the run. -/
def av (c : Dev nD) : S1024x768.Idx → EReal := fun i => ∑ k : Fin (6 * 1408), term (m ((c : Thread nD τ).loc main_arg0)) (m ((c : Thread nD τ).loc main_arg2)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 6 1408]
  refine Finset.sum_congr (M := EReal) rfl fun j hj => ?_
  have hj' := Finset.mem_range.mp hj
  have e0 : (6 * (t.val / 6) + j) % 6 = j := by omega
  simp only [add, e0]

theorem frame_ri : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic : Cert.algebraic_Kernel16Ideal_Reference16Ideal := by
  intro m g m' g' hpre hargs
  refine ⟨fun c => av m c, ?_, ?_⟩
  · refine (θ_run Cert.Kernel16Ideal.defs _ _).mono (fun r h c => ?_) (Cert.Kernel16Ideal.Value.run_blocks (F := Ideal) m g)
    exact ⟨(h c).1.trans (arr m c), (h c).2⟩
  · refine (θ_run Cert.Reference16Ideal.defs _ _).mono (fun r h c => ?_) (Cert.Reference16Ideal.Value.run (F := Ideal) m' g')
    obtain ⟨a0, a1, a2⟩ := hargs c
    refine ⟨(h c).1.trans ?_, (h c).2⟩
    rw [Cert.Reference16Ideal.Read.val_main_v2_eq, a0, a2]
    funext i
    rw [Cert.Reference16Ideal.Read.val_main_v2_apply, Cert.Reference16Ideal.Read.val_main_v1_apply]
    exact Finset.sum_congr rfl fun k _ => (mul_comm _ _).trans (congrArg₂ (· * ·) (at2_val _ _) (at2_val _ _))

end Cert.Kernel16Ideal.Mm

namespace Cert.Kernel17Ideal.Mm

open Cert.Kernel17Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S1408x768 .f32) (x1 : Vec Ideal S1024x768 .bf16) (y : S1408x1024.Idx) :
    k0_pay1 (F := Ideal) x0 x1 y = ∑ k : Fin 768, (x0 (ix2 (y 0) k) : EReal) * (x1 (ix2 (y 1) k) : EReal) := by
  unfold k0_pay1
  pointwise

theorem host_b (c : Dev nD) : (V m c main_v0 : S1024x768.Idx → EReal) = m ((c : Thread nD τ).loc main_arg1) := by
  funext i
  unfold V
  after_reads_at

/-- A term of the product's element in row `i` and column `j`. -/
def term (x : S8448x768.Idx → EReal) (w : S1024x768.Idx → EReal) (i j k : ℕ) : EReal := at2 (A := 8448) (B := 768) x i k * at2 (A := 1024) (B := 768) w j k

/-- What point `t` adds at an index of its block. -/
abbrev add (c : Dev nD) (t : ℕ) (y : S1408x1024.Idx) : EReal := ∑ k : Fin 768, term (m ((c : Thread nD τ).loc main_arg2)) (m ((c : Thread nD τ).loc main_arg1)) (t * 1408 + (y 0).val) ((y 1).val) (k.val)

theorem pt (c : Dev nD) (t : Fin cfg0.N) (y : S1408x1024.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x768.Idx → EReal => z _) (V_main_arg2 m c)).trans (at2_of _ _ _ _ ?_ ?_) <;> (blk_simp [ix_0 t]) <;> omega
  · refine (congrArg (fun z : S1024x768.Idx → EReal => z _) (host_b m c)).trans (at2_of _ _ _ _ ?_ ?_) <;> (blk_simp [ix_1 t]) <;> omega

/-- The array after the run. -/
def av (c : Dev nD) : S8448x1024.Idx → EReal := fun i => ∑ k : Fin 768, term (m ((c : Thread nD τ).loc main_arg2)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic : Cert.algebraic_Kernel17Ideal_Reference17Ideal := by
  intro m g m' g' hpre hargs
  refine ⟨fun c => av m c, ?_, ?_⟩
  · refine (θ_run Cert.Kernel17Ideal.defs _ _).mono (fun r h c => ?_) (Cert.Kernel17Ideal.Value.run_blocks (F := Ideal) m g)
    exact ⟨(h c).1.trans (arr m c), (h c).2⟩
  · refine (θ_run Cert.Reference17Ideal.defs _ _).mono (fun r h c => ?_) (Cert.Reference17Ideal.Value.run (F := Ideal) m' g')
    obtain ⟨a0, a1, a2⟩ := hargs c
    refine ⟨(h c).1.trans ?_, (h c).2⟩
    rw [Cert.Reference17Ideal.Read.val_main_v3_eq, a1, a2]
    funext i
    rw [Cert.Reference17Ideal.Read.val_main_v3_apply]
    exact Finset.sum_congr rfl fun k _ => congrArg₂ (· * ·) (at2_val _ _) (at2_val _ _)

end Cert.Kernel17Ideal.Mm

namespace Cert.Kernel18Ideal.Mm

open Cert.Kernel18Ideal.Gen

variable (m : (ℓ : Loc nD τ sig) → Buf (Elt Ideal) ℓ)

theorem ix_0 : ∀ t : Fin cfg0.N, win0_0.index t = ![t.val / 2, 0] := (by decide +kernel : ∀ t : Fin grid0.N, _)
theorem ix_1 : ∀ t : Fin cfg0.N, win0_1.index t = ![0, t.val % 2] := (by decide +kernel : ∀ t : Fin grid0.N, _)
theorem ix_2 : ∀ t : Fin cfg0.N, win0_2.index t = ![t.val / 2, t.val % 2] := (by decide +kernel : ∀ t : Fin grid0.N, _)

theorem pay (x0 : Vec Ideal S1408x384 .bf16) (x1 : Vec Ideal S384x1024 .bf16) (y : S1408x1024.Idx) :
    k0_pay1 (F := Ideal) x0 x1 y = ∑ k : Fin 384, (x0 (ix2 (y 0) k) : EReal) * (x1 (ix2 k (y 1)) : EReal) := by
  unfold k0_pay1
  pointwise

theorem host_a (c : Dev nD) : (V m c main_v0 : S8448x384.Idx → EReal) = m ((c : Thread nD τ).loc main_arg0) := by
  funext i
  unfold V
  after_reads_at

theorem host_b (c : Dev nD) : (V m c main_v1 : S384x2048.Idx → EReal) = m ((c : Thread nD τ).loc main_arg1) := by
  funext i
  unfold V
  after_reads_at

/-- A term of the product's element in row `i` and column `j`. -/
def term (x : S8448x384.Idx → EReal) (w : S384x2048.Idx → EReal) (i j k : ℕ) : EReal := at2 (A := 8448) (B := 384) x i k * at2 (A := 384) (B := 2048) w k j

/-- What point `t` adds at an index of its block. -/
abbrev add (c : Dev nD) (t : ℕ) (y : S1408x1024.Idx) : EReal := ∑ k : Fin 384, term (m ((c : Thread nD τ).loc main_arg0)) (m ((c : Thread nD τ).loc main_arg1)) (t / 2 * 1408 + (y 0).val) (t % 2 * 1024 + (y 1).val) (k.val)

theorem pt (c : Dev nD) (t : Fin cfg0.N) (y : S1408x1024.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x384.Idx → EReal => z _) (host_a m c)).trans (at2_of _ _ _ _ ?_ ?_) <;> (blk_simp [ix_0 t]) <;> omega
  · refine (congrArg (fun z : S384x2048.Idx → EReal => z _) (host_b m c)).trans (at2_of _ _ _ _ ?_ ?_) <;> (blk_simp [ix_1 t]) <;> omega

/-- The array after the run. -/
def av (c : Dev nD) : S8448x2048.Idx → EReal := fun i => ∑ k : Fin 384, term (m ((c : Thread nD τ).loc main_arg0)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic : Cert.algebraic_Kernel18Ideal_Reference18Ideal := by
  intro m g m' g' hpre hargs
  refine ⟨fun c => av m c, ?_, ?_⟩
  · refine (θ_run Cert.Kernel18Ideal.defs _ _).mono (fun r h c => ?_) (Cert.Kernel18Ideal.Value.run_blocks (F := Ideal) m g)
    exact ⟨(h c).1.trans (arr m c), (h c).2⟩
  · refine (θ_run Cert.Reference18Ideal.defs _ _).mono (fun r h c => ?_) (Cert.Reference18Ideal.Value.run (F := Ideal) m' g')
    obtain ⟨a0, a1⟩ := hargs c
    refine ⟨(h c).1.trans ?_, (h c).2⟩
    rw [Cert.Reference18Ideal.Read.val_main_v0_eq, a0, a1]
    funext i
    rw [Cert.Reference18Ideal.Read.val_main_v0_apply]
    exact Finset.sum_congr rfl fun k _ => congrArg₂ (· * ·) (at2_val _ _) (at2_val _ _)

end Cert.Kernel18Ideal.Mm

namespace Cert.Kernel19Ideal.Mm

open Cert.Kernel19Ideal.Gen

variable (m : (ℓ : Loc nD τ sig) → Buf (Elt Ideal) ℓ)

theorem ix_0 : ∀ t : Fin cfg0.N, win0_0.index t = ![t.val % 6, 0] := (by decide +kernel : ∀ t : Fin grid0.N, _)
theorem ix_1 : ∀ t : Fin cfg0.N, win0_1.index t = ![t.val % 6, 0] := (by decide +kernel : ∀ t : Fin grid0.N, _)
theorem ix_2 : ∀ t : Fin cfg0.N, win0_2.index t = ![0, 0] := (by decide +kernel : ∀ t : Fin grid0.N, _)

theorem pay (x0 : Vec Ideal S1408x384 .bf16) (x1 : Vec Ideal S1408x2048 .bf16) (y : S384x2048.Idx) :
    k0_pay1 (F := Ideal) x0 x1 y = ∑ k : Fin 1408, (x0 (ix2 k (y 0)) : EReal) * (x1 (ix2 k (y 1)) : EReal) := by
  unfold k0_pay1
  pointwise

theorem host_a (c : Dev nD) : (V m c main_v0 : S8448x384.Idx → EReal) = m ((c : Thread nD τ).loc main_arg0) := by
  funext i
  unfold V
  after_reads_at

theorem host_b (c : Dev nD) : (V m c main_v1 : S8448x2048.Idx → EReal) = m ((c : Thread nD τ).loc main_arg2) := by
  funext i
  unfold V
  after_reads_at

/-- A term of the product's element in row `i` and column `j`. -/
def term (x : S8448x384.Idx → EReal) (w : S8448x2048.Idx → EReal) (i j k : ℕ) : EReal := at2 (A := 8448) (B := 384) x k i * at2 (A := 8448) (B := 2048) w k j

/-- What point `t` adds at an index of its block. -/
abbrev add (c : Dev nD) (t : ℕ) (y : S384x2048.Idx) : EReal := ∑ k : Fin 1408, term (m ((c : Thread nD τ).loc main_arg0)) (m ((c : Thread nD τ).loc main_arg2)) ((y 0).val) ((y 1).val) (1408 * (t % 6) + k.val)

theorem pt (c : Dev nD) (t : Fin cfg0.N) (y : S384x2048.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x384.Idx → EReal => z _) (host_a m c)).trans (at2_of _ _ _ _ ?_ ?_) <;> (blk_simp [ix_0 t]) <;> omega
  · refine (congrArg (fun z : S8448x2048.Idx → EReal => z _) (host_b m c)).trans (at2_of _ _ _ _ ?_ ?_) <;> (blk_simp [ix_1 t]) <;> omega

theorem step_A (c : Dev nD) (t : Fin cfg0.N) (h0 : t.val % 6 = 0) (y : S384x2048.Idx) : (outsAt0 m c t.val t.isLt).2 y = 0 + add m c t.val y := by
  have hN : t.val < 6 := lt_of_lt_of_eq t.isLt (show cfg0.N = 6 from N_0)
  rw [outsAt0_A m c t h0 (by omega) (by omega), zero_add]
  frame_out
  unfold k0_pay2
  rw [shapeCast_self]
  exact pt m c t y

theorem step_B (c : Dev nD) (t : Fin cfg0.N) (h0 : ¬t.val % 6 = 0) (y : S384x2048.Idx) :
    (outsAt0 m c t.val t.isLt).2 y = (outsAt0 m c (t.val - 1) (Nat.lt_of_le_of_lt (Nat.sub_le _ _) t.isLt)).2 y + add m c t.val y := by
  have hp : ∀ z : Vec Ideal S384x2048 .f32, k0_pay3 (F := Ideal) (iblk m c 0 t) (iblk m c 1 t) z y = (z y + add m c t.val y : EReal) := by
    intro z
    unfold k0_pay3
    rw [shapeCast_self, ← pt m c t y]
    rfl
  by_cases h2 : t.val % 6 = 5
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S384x2048.Idx) :
    (outsAt0 m c t.val t.isLt).2 y = 0 + ∑ k ∈ Finset.range (t.val % 6 + 1), add m c (6 * (t.val / 6) + k) y :=
  Pipeline.eq_sum_of_reset_step_apply (N := cfg0.N) (fun n h (y : S384x2048.Idx) => (outsAt0 m c n h).2 y) 6 (fun _ => 0)
    (fun n y => add m c n y) (fun t h0 y => step_A m c t h0 y) (fun t h0 y => step_B m c t h0 y) t y

theorem last (c : Dev nD) (t : Fin cfg0.N) (h2 : t.val % 6 = 5) (y : S384x2048.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 6 = 5 := (by decide +kernel : ∀ t : Fin grid0.N, _)

/-- The array after the run. -/
def av (c : Dev nD) : S384x2048.Idx → EReal := fun i => ∑ k : Fin (6 * 1408), term (m ((c : Thread nD τ).loc main_arg0)) (m ((c : Thread nD τ).loc main_arg2)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 6 1408]
  refine Finset.sum_congr (M := EReal) rfl fun j hj => ?_
  have hj' := Finset.mem_range.mp hj
  have e0 : (6 * (t.val / 6) + j) % 6 = j := by omega
  simp only [add, e0]

theorem frame_ri : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic : Cert.algebraic_Kernel19Ideal_Reference19Ideal := by
  intro m g m' g' hpre hargs
  refine ⟨fun c => av m c, ?_, ?_⟩
  · refine (θ_run Cert.Kernel19Ideal.defs _ _).mono (fun r h c => ?_) (Cert.Kernel19Ideal.Value.run_blocks (F := Ideal) m g)
    exact ⟨(h c).1.trans (arr m c), (h c).2⟩
  · refine (θ_run Cert.Reference19Ideal.defs _ _).mono (fun r h c => ?_) (Cert.Reference19Ideal.Value.run (F := Ideal) m' g')
    obtain ⟨a0, a1, a2⟩ := hargs c
    refine ⟨(h c).1.trans ?_, (h c).2⟩
    rw [Cert.Reference19Ideal.Read.val_main_v2_eq, a0, a2]
    funext i
    rw [Cert.Reference19Ideal.Read.val_main_v2_apply, Cert.Reference19Ideal.Read.val_main_v1_apply]
    exact Finset.sum_congr rfl fun k _ => (mul_comm _ _).trans (congrArg₂ (· * ·) (at2_val _ _) (at2_val _ _))

end Cert.Kernel19Ideal.Mm

namespace Cert.Kernel20Ideal.Mm

open Cert.Kernel20Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S2816x2048 .bf16) (x1 : Vec Ideal S384x2048 .bf16) (y : S2816x384.Idx) :
    k0_pay1 (F := Ideal) x0 x1 y = ∑ k : Fin 2048, (x0 (ix2 (y 0) k) : EReal) * (x1 (ix2 (y 1) k) : EReal) := by
  unfold k0_pay1
  pointwise

theorem host_a (c : Dev nD) : (V m c main_v0 : S8448x2048.Idx → EReal) = m ((c : Thread nD τ).loc main_arg2) := by
  funext i
  unfold V
  after_reads_at

theorem host_b (c : Dev nD) : (V m c main_v1 : S384x2048.Idx → EReal) = m ((c : Thread nD τ).loc main_arg1) := by
  funext i
  unfold V
  after_reads_at

/-- A term of the product's element in row `i` and column `j`. -/
def term (x : S8448x2048.Idx → EReal) (w : S384x2048.Idx → EReal) (i j k : ℕ) : EReal := at2 (A := 8448) (B := 2048) x i k * at2 (A := 384) (B := 2048) w j k

/-- What point `t` adds at an index of its block. -/
abbrev add (c : Dev nD) (t : ℕ) (y : S2816x384.Idx) : EReal := ∑ k : Fin 2048, term (m ((c : Thread nD τ).loc main_arg2)) (m ((c : Thread nD τ).loc main_arg1)) (t * 2816 + (y 0).val) ((y 1).val) (k.val)

theorem pt (c : Dev nD) (t : Fin cfg0.N) (y : S2816x384.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x2048.Idx → EReal => z _) (host_a m c)).trans (at2_of _ _ _ _ ?_ ?_) <;> (blk_simp [ix_0 t]) <;> omega
  · refine (congrArg (fun z : S384x2048.Idx → EReal => z _) (host_b m c)).trans (at2_of _ _ _ _ ?_ ?_) <;> (blk_simp [ix_1 t]) <;> omega

/-- The array after the run. -/
def av (c : Dev nD) : S8448x384.Idx → EReal := fun i => ∑ k : Fin 2048, term (m ((c : Thread nD τ).loc main_arg2)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

theorem algebraic : Cert.algebraic_Kernel20Ideal_Reference20Ideal := by
  intro m g m' g' hpre hargs
  refine ⟨fun c => av m c, ?_, ?_⟩
  · refine (θ_run Cert.Kernel20Ideal.defs _ _).mono (fun r h c => ?_) (Cert.Kernel20Ideal.Value.run_blocks (F := Ideal) m g)
    exact ⟨(h c).1.trans (arr m c), (h c).2⟩
  · refine (θ_run Cert.Reference20Ideal.defs _ _).mono (fun r h c => ?_) (Cert.Reference20Ideal.Value.run (F := Ideal) m' g')
    obtain ⟨a0, a1, a2⟩ := hargs c
    refine ⟨(h c).1.trans ?_, (h c).2⟩
    rw [Cert.Reference20Ideal.Read.val_main_v3_eq, a1, a2]
    funext i
    rw [Cert.Reference20Ideal.Read.val_main_v3_apply]
    exact Finset.sum_congr rfl fun k _ => congrArg₂ (· * ·) (at2_val _ _) (at2_val _ _)

end Cert.Kernel20Ideal.Mm

end
-- ==== Proof.MmOddUp.lean ====
/- The attention layers' products with the key and value weights: each call and the plain product agree. -/
module

public import proofs.«01_k».proof.Defs
public import proofs.«01_k».proof.Proof.Sums
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import Idealize.ShloMosaic.Lib.StableHlo.ReadAt

@[expose] public section

set_option maxRecDepth 16384

noncomputable section

open Cert.Sums
open Idealize.ShloMosaic Idealize.ShloMosaic.TcCoe Idealize.SL.Sem
open Idealize.ShloMosaic.Pipeline (Dat)

namespace Cert.Kernel21Ideal.Mm

open Cert.Kernel21Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S1408x256 .bf16) (x1 : Vec Ideal S256x2048 .bf16) (y : S1408x2048.Idx) :
    k0_pay1 (F := Ideal) x0 x1 y = ∑ k : Fin 256, (x0 (ix2 (y 0) k) : EReal) * (x1 (ix2 k (y 1)) : EReal) := by
  unfold k0_pay1
  pointwise

theorem host_a (c : Dev nD) : (V m c main_v0 : S8448x256.Idx → EReal) = m ((c : Thread nD τ).loc main_arg0) := by
  funext i
  unfold V
  after_reads_at

theorem host_b (c : Dev nD) : (V m c main_v1 : S256x2048.Idx → EReal) = m ((c : Thread nD τ).loc main_arg1) := by
  funext i
  unfold V
  after_reads_at

/-- A term of the product's element in row `i` and column `j`. -/
def term (x : S8448x256.Idx → EReal) (w : S256x2048.Idx → EReal) (i j k : ℕ) : EReal := at2 (A := 8448) (B := 256) x i k * at2 (A := 256) (B := 2048) w k j

/-- What point `t` adds at an index of its block. -/
abbrev add (c : Dev nD) (t : ℕ) (y : S1408x2048.Idx) : EReal := ∑ k : Fin 256, term (m ((c : Thread nD τ).loc main_arg0)) (m ((c : Thread nD τ).loc main_arg1)) (t * 1408 + (y 0).val) ((y 1).val) (k.val)

theorem pt (c : Dev nD) (t : Fin cfg0.N) (y : S1408x2048.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x256.Idx → EReal => z _) (host_a m c)).trans (at2_of _ _ _ _ ?_ ?_) <;> (blk_simp [ix_0 t]) <;> omega
  · refine (congrArg (fun z : S256x2048.Idx → EReal => z _) (host_b m c)).trans (at2_of _ _ _ _ ?_ ?_) <;> (blk_simp [ix_1 t]) <;> omega

/-- The array after the run. -/
def av (c : Dev nD) : S8448x2048.Idx → EReal := fun i => ∑ k : Fin 256, term (m ((c : Thread nD τ).loc main_arg0)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference21Ideal := fun m ρ _ =>
  (θ_run Cert.Reference21Ideal.defs _ _).mono (fun r h => ⟨fun c => (h c).2, sem_eq_zero_of_no_sems (by decide) r.2⟩)
    (Cert.Reference21Ideal.Value.run (F := Ideal) m ρ)

theorem algebraic : Cert.algebraic_Kernel21Ideal_Reference21Ideal := by
  intro m g m' g' hpre hargs
  refine ⟨fun c => av m c, ?_, ?_⟩
  · refine (θ_run Cert.Kernel21Ideal.defs _ _).mono (fun r h c => ?_) (Cert.Kernel21Ideal.Value.run_blocks (F := Ideal) m g)
    exact ⟨(h c).1.trans (arr m c), (h c).2⟩
  · refine (θ_run Cert.Reference21Ideal.defs _ _).mono (fun r h c => ?_) (Cert.Reference21Ideal.Value.run (F := Ideal) m' g')
    obtain ⟨a0, a1⟩ := hargs c
    refine ⟨(h c).1.trans ?_, (h c).2⟩
    rw [Cert.Reference21Ideal.Read.val_main_v0_eq, a0, a1]
    funext i
    rw [Cert.Reference21Ideal.Read.val_main_v0_apply]
    exact Finset.sum_congr rfl fun k _ => congrArg₂ (· * ·) (at2_val _ _) (at2_val _ _)

end Cert.Kernel21Ideal.Mm

namespace Cert.Kernel22Ideal.Mm

open Cert.Kernel22Ideal.Gen

variable (m : (ℓ : Loc nD τ sig) → Buf (Elt Ideal) ℓ)

theorem ix_0 : ∀ t : Fin cfg0.N, win0_0.index t = ![t.val % 6, 0] := (by decide +kernel : ∀ t : Fin grid0.N, _)
theorem ix_1 : ∀ t : Fin cfg0.N, win0_1.index t = ![t.val % 6, 0] := (by decide +kernel : ∀ t : Fin grid0.N, _)
theorem ix_2 : ∀ t : Fin cfg0.N, win0_2.index t = ![0, 0] := (by decide +kernel : ∀ t : Fin grid0.N, _)

theorem pay (x0 : Vec Ideal S1408x256 .bf16) (x1 : Vec Ideal S1408x2048 .f32) (y : S256x2048.Idx) :
    k0_pay1 (F := Ideal) x0 x1 y = ∑ k : Fin 1408, (x0 (ix2 k (y 0)) : EReal) * (x1 (ix2 k (y 1)) : EReal) := by
  unfold k0_pay1
  pointwise

theorem host_a (c : Dev nD) : (V m c main_v0 : S8448x256.Idx → EReal) = m ((c : Thread nD τ).loc main_arg0) := by
  funext i
  unfold V
  after_reads_at

/-- A term of the product's element in row `i` and column `j`. -/
def term (x : S8448x256.Idx → EReal) (w : S8448x2048.Idx → EReal) (i j k : ℕ) : EReal := at2 (A := 8448) (B := 256) x k i * at2 (A := 8448) (B := 2048) w k j

/-- What point `t` adds at an index of its block. -/
abbrev add (c : Dev nD) (t : ℕ) (y : S256x2048.Idx) : EReal := ∑ k : Fin 1408, term (m ((c : Thread nD τ).loc main_arg0)) (m ((c : Thread nD τ).loc main_arg2)) ((y 0).val) ((y 1).val) (1408 * (t % 6) + k.val)

theorem pt (c : Dev nD) (t : Fin cfg0.N) (y : S256x2048.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x256.Idx → EReal => z _) (host_a m c)).trans (at2_of _ _ _ _ ?_ ?_) <;> (blk_simp [ix_0 t]) <;> omega
  · refine (congrArg (fun z : S8448x2048.Idx → EReal => z _) (V_main_arg2 m c)).trans (at2_of _ _ _ _ ?_ ?_) <;> (blk_simp [ix_1 t]) <;> omega

theorem step_A (c : Dev nD) (t : Fin cfg0.N) (h0 : t.val % 6 = 0) (y : S256x2048.Idx) : (outsAt0 m c t.val t.isLt).2 y = 0 + add m c t.val y := by
  have hN : t.val < 6 := lt_of_lt_of_eq t.isLt (show cfg0.N = 6 from N_0)
  rw [outsAt0_A m c t h0 (by omega) (by omega), zero_add]
  frame_out
  unfold k0_pay2
  rw [shapeCast_self]
  exact pt m c t y

theorem step_B (c : Dev nD) (t : Fin cfg0.N) (h0 : ¬t.val % 6 = 0) (y : S256x2048.Idx) :
    (outsAt0 m c t.val t.isLt).2 y = (outsAt0 m c (t.val - 1) (Nat.lt_of_le_of_lt (Nat.sub_le _ _) t.isLt)).2 y + add m c t.val y := by
  have hp : ∀ z : Vec Ideal S256x2048 .f32, k0_pay3 (F := Ideal) (iblk m c 0 t) (iblk m c 1 t) z y = (z y + add m c t.val y : EReal) := by
    intro z
    unfold k0_pay3
    rw [shapeCast_self, ← pt m c t y]
    rfl
  by_cases h2 : t.val % 6 = 5
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S256x2048.Idx) :
    (outsAt0 m c t.val t.isLt).2 y = 0 + ∑ k ∈ Finset.range (t.val % 6 + 1), add m c (6 * (t.val / 6) + k) y :=
  Pipeline.eq_sum_of_reset_step_apply (N := cfg0.N) (fun n h (y : S256x2048.Idx) => (outsAt0 m c n h).2 y) 6 (fun _ => 0)
    (fun n y => add m c n y) (fun t h0 y => step_A m c t h0 y) (fun t h0 y => step_B m c t h0 y) t y

theorem last (c : Dev nD) (t : Fin cfg0.N) (h2 : t.val % 6 = 5) (y : S256x2048.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 6 = 5 := (by decide +kernel : ∀ t : Fin grid0.N, _)

/-- The array after the run. -/
def av (c : Dev nD) : S256x2048.Idx → EReal := fun i => ∑ k : Fin (6 * 1408), term (m ((c : Thread nD τ).loc main_arg0)) (m ((c : Thread nD τ).loc main_arg2)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 6 1408]
  refine Finset.sum_congr (M := EReal) rfl fun j hj => ?_
  have hj' := Finset.mem_range.mp hj
  have e0 : (6 * (t.val / 6) + j) % 6 = j := by omega
  simp only [add, e0]

theorem frame_ri : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic : Cert.algebraic_Kernel22Ideal_Reference22Ideal := by
  intro m g m' g' hpre hargs
  refine ⟨fun c => av m c, ?_, ?_⟩
  · refine (θ_run Cert.Kernel22Ideal.defs _ _).mono (fun r h c => ?_) (Cert.Kernel22Ideal.Value.run_blocks (F := Ideal) m g)
    exact ⟨(h c).1.trans (arr m c), (h c).2⟩
  · refine (θ_run Cert.Reference22Ideal.defs _ _).mono (fun r h c => ?_) (Cert.Reference22Ideal.Value.run (F := Ideal) m' g')
    obtain ⟨a0, a1, a2⟩ := hargs c
    refine ⟨(h c).1.trans ?_, (h c).2⟩
    rw [Cert.Reference22Ideal.Read.val_main_v2_eq, a0, a2]
    funext i
    rw [Cert.Reference22Ideal.Read.val_main_v2_apply, Cert.Reference22Ideal.Read.val_main_v1_apply]
    exact Finset.sum_congr rfl fun k _ => (mul_comm _ _).trans (congrArg₂ (· * ·) (at2_val _ _) (at2_val _ _))

end Cert.Kernel22Ideal.Mm

namespace Cert.Kernel23Ideal.Mm

open Cert.Kernel23Ideal.Gen

variable (m : (ℓ : Loc nD τ sig) → Buf (Elt Ideal) ℓ)

theorem ix_0 : ∀ t : Fin cfg0.N, win0_0.index t = ![t.val / 4, t.val % 4] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, 0] := (by decide +kernel : ∀ t : Fin grid0.N, _)

theorem pay (x0 : Vec Ideal S4224x512 .f32) (x1 : Vec Ideal S256x512 .bf16) (y : S4224x256.Idx) :
    k0_pay1 (F := Ideal) x0 x1 y = ∑ k : Fin 512, (x0 (ix2 (y 0) k) : EReal) * (x1 (ix2 (y 1) k) : EReal) := by
  unfold k0_pay1
  pointwise

theorem host_b (c : Dev nD) : (V m c main_v0 : S256x2048.Idx → EReal) = m ((c : Thread nD τ).loc main_arg1) := by
  funext i
  unfold V
  after_reads_at

/-- A term of the product's element in row `i` and column `j`. -/
def term (x : S8448x2048.Idx → EReal) (w : S256x2048.Idx → EReal) (i j k : ℕ) : EReal := at2 (A := 8448) (B := 2048) x i k * at2 (A := 256) (B := 2048) w j k

/-- What point `t` adds at an index of its block. -/
abbrev add (c : Dev nD) (t : ℕ) (y : S4224x256.Idx) : EReal := ∑ k : Fin 512, term (m ((c : Thread nD τ).loc main_arg2)) (m ((c : Thread nD τ).loc main_arg1)) (t / 4 * 4224 + (y 0).val) ((y 1).val) (512 * (t % 4) + k.val)

theorem pt (c : Dev nD) (t : Fin cfg0.N) (y : S4224x256.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x2048.Idx → EReal => z _) (V_main_arg2 m c)).trans (at2_of _ _ _ _ ?_ ?_) <;> (blk_simp [ix_0 t]) <;> omega
  · refine (congrArg (fun z : S256x2048.Idx → EReal => z _) (host_b m c)).trans (at2_of _ _ _ _ ?_ ?_) <;> (blk_simp [ix_1 t]) <;> omega

theorem step_A (c : Dev nD) (t : Fin cfg0.N) (h0 : t.val % 4 = 0) (y : S4224x256.Idx) : (outsAt0 m c t.val t.isLt).2 y = 0 + add m c t.val y := by
  rw [outsAt0_A m c t h0 (by omega) (by omega), zero_add]
  frame_out
  unfold k0_pay2
  rw [shapeCast_self]
  exact pt m c t y

theorem step_B (c : Dev nD) (t : Fin cfg0.N) (h0 : ¬t.val % 4 = 0) (y : S4224x256.Idx) :
    (outsAt0 m c t.val t.isLt).2 y = (outsAt0 m c (t.val - 1) (Nat.lt_of_le_of_lt (Nat.sub_le _ _) t.isLt)).2 y + add m c t.val y := by
  have hp : ∀ z : Vec Ideal S4224x256 .f32, k0_pay3 (F := Ideal) (iblk m c 0 t) (iblk m c 1 t) z y = (z y + add m c t.val y : EReal) := by
    intro z
    unfold k0_pay3
    rw [shapeCast_self, ← pt m c t y]
    rfl
  by_cases h2 : t.val % 4 = 3
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S4224x256.Idx) :
    (outsAt0 m c t.val t.isLt).2 y = 0 + ∑ k ∈ Finset.range (t.val % 4 + 1), add m c (4 * (t.val / 4) + k) y :=
  Pipeline.eq_sum_of_reset_step_apply (N := cfg0.N) (fun n h (y : S4224x256.Idx) => (outsAt0 m c n h).2 y) 4 (fun _ => 0)
    (fun n y => add m c n y) (fun t h0 y => step_A m c t h0 y) (fun t h0 y => step_B m c t h0 y) t y

theorem last (c : Dev nD) (t : Fin cfg0.N) (h2 : t.val % 4 = 3) (y : S4224x256.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 4 = 3 := (by decide +kernel : ∀ t : Fin grid0.N, _)

/-- The array after the run. -/
def av (c : Dev nD) : S8448x256.Idx → EReal := fun i => ∑ k : Fin (4 * 512), term (m ((c : Thread nD τ).loc main_arg2)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 4 512]
  refine Finset.sum_congr (M := EReal) rfl fun j hj => ?_
  have hj' := Finset.mem_range.mp hj
  have e0 : (4 * (t.val / 4) + j) / 4 = t.val / 4 := by omega
  have e1 : (4 * (t.val / 4) + j) % 4 = j := by omega
  simp only [add, e0, e1]

theorem frame_ri : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem algebraic : Cert.algebraic_Kernel23Ideal_Reference23Ideal := by
  intro m g m' g' hpre hargs
  refine ⟨fun c => av m c, ?_, ?_⟩
  · refine (θ_run Cert.Kernel23Ideal.defs _ _).mono (fun r h c => ?_) (Cert.Kernel23Ideal.Value.run_blocks (F := Ideal) m g)
    exact ⟨(h c).1.trans (arr m c), (h c).2⟩
  · refine (θ_run Cert.Reference23Ideal.defs _ _).mono (fun r h c => ?_) (Cert.Reference23Ideal.Value.run (F := Ideal) m' g')
    obtain ⟨a0, a1, a2⟩ := hargs c
    refine ⟨(h c).1.trans ?_, (h c).2⟩
    rw [Cert.Reference23Ideal.Read.val_main_v3_eq, a1, a2]
    funext i
    rw [Cert.Reference23Ideal.Read.val_main_v3_apply]
    exact Finset.sum_congr rfl fun k _ => congrArg₂ (· * ·) (at2_val _ _) (at2_val _ _)

end Cert.Kernel23Ideal.Mm

namespace Cert.Kernel24Ideal.Mm

open Cert.Kernel24Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S1408x256 .bf16) (x1 : Vec Ideal S256x2048 .bf16) (y : S1408x2048.Idx) :
    k0_pay1 (F := Ideal) x0 x1 y = ∑ k : Fin 256, (x0 (ix2 (y 0) k) : EReal) * (x1 (ix2 k (y 1)) : EReal) := by
  unfold k0_pay1
  pointwise

theorem host_a (c : Dev nD) : (V m c main_v0 : S8448x256.Idx → EReal) = m ((c : Thread nD τ).loc main_arg0) := by
  funext i
  unfold V
  after_reads_at

theorem host_b (c : Dev nD) : (V m c main_v1 : S256x2048.Idx → EReal) = m ((c : Thread nD τ).loc main_arg1) := by
  funext i
  unfold V
  after_reads_at

/-- A term of the product's element in row `i` and column `j`. -/
def term (x : S8448x256.Idx → EReal) (w : S256x2048.Idx → EReal) (i j k : ℕ) : EReal := at2 (A := 8448) (B := 256) x i k * at2 (A := 256) (B := 2048) w k j

/-- What point `t` adds at an index of its block. -/
abbrev add (c : Dev nD) (t : ℕ) (y : S1408x2048.Idx) : EReal := ∑ k : Fin 256, term (m ((c : Thread nD τ).loc main_arg0)) (m ((c : Thread nD τ).loc main_arg1)) (t * 1408 + (y 0).val) ((y 1).val) (k.val)

theorem pt (c : Dev nD) (t : Fin cfg0.N) (y : S1408x2048.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x256.Idx → EReal => z _) (host_a m c)).trans (at2_of _ _ _ _ ?_ ?_) <;> (blk_simp [ix_0 t]) <;> omega
  · refine (congrArg (fun z : S256x2048.Idx → EReal => z _) (host_b m c)).trans (at2_of _ _ _ _ ?_ ?_) <;> (blk_simp [ix_1 t]) <;> omega

/-- The array after the run. -/
def av (c : Dev nD) : S8448x2048.Idx → EReal := fun i => ∑ k : Fin 256, term (m ((c : Thread nD τ).loc main_arg0)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem algebraic : Cert.algebraic_Kernel24Ideal_Reference24Ideal := by
  intro m g m' g' hpre hargs
  refine ⟨fun c => av m c, ?_, ?_⟩
  · refine (θ_run Cert.Kernel24Ideal.defs _ _).mono (fun r h c => ?_) (Cert.Kernel24Ideal.Value.run_blocks (F := Ideal) m g)
    exact ⟨(h c).1.trans (arr m c), (h c).2⟩
  · refine (θ_run Cert.Reference24Ideal.defs _ _).mono (fun r h c => ?_) (Cert.Reference24Ideal.Value.run (F := Ideal) m' g')
    obtain ⟨a0, a1⟩ := hargs c
    refine ⟨(h c).1.trans ?_, (h c).2⟩
    rw [Cert.Reference24Ideal.Read.val_main_v1_eq, a0, a1]
    funext i
    rw [Cert.Reference24Ideal.Read.val_main_v1_apply, Cert.Reference24Ideal.Read.val_main_v0_apply]
    exact Finset.sum_congr rfl fun k _ => congrArg₂ (· * ·) (at2_val _ _) (at2_val _ _)

end Cert.Kernel24Ideal.Mm

namespace Cert.Kernel25Ideal.Mm

open Cert.Kernel25Ideal.Gen

variable (m : (ℓ : Loc nD τ sig) → Buf (Elt Ideal) ℓ)

theorem ix_0 : ∀ t : Fin cfg0.N, win0_0.index t = ![t.val % 3, 0] := (by decide +kernel : ∀ t : Fin grid0.N, _)
theorem ix_1 : ∀ t : Fin cfg0.N, win0_1.index t = ![t.val % 3, 0] := (by decide +kernel : ∀ t : Fin grid0.N, _)
theorem ix_2 : ∀ t : Fin cfg0.N, win0_2.index t = ![0, 0] := (by decide +kernel : ∀ t : Fin grid0.N, _)

theorem pay (x0 : Vec Ideal S2816x256 .bf16) (x1 : Vec Ideal S2816x2048 .bf16) (y : S256x2048.Idx) :
    k0_pay1 (F := Ideal) x0 x1 y = ∑ k : Fin 2816, (x0 (ix2 k (y 0)) : EReal) * (x1 (ix2 k (y 1)) : EReal) := by
  unfold k0_pay1
  pointwise

theorem host_a (c : Dev nD) : (V m c main_v0 : S8448x256.Idx → EReal) = m ((c : Thread nD τ).loc main_arg0) := by
  funext i
  unfold V
  after_reads_at

theorem host_b (c : Dev nD) : (V m c main_v1 : S8448x2048.Idx → EReal) = m ((c : Thread nD τ).loc main_arg2) := by
  funext i
  unfold V
  after_reads_at

/-- A term of the product's element in row `i` and column `j`. -/
def term (x : S8448x256.Idx → EReal) (w : S8448x2048.Idx → EReal) (i j k : ℕ) : EReal := at2 (A := 8448) (B := 256) x k i * at2 (A := 8448) (B := 2048) w k j

/-- What point `t` adds at an index of its block. -/
abbrev add (c : Dev nD) (t : ℕ) (y : S256x2048.Idx) : EReal := ∑ k : Fin 2816, term (m ((c : Thread nD τ).loc main_arg0)) (m ((c : Thread nD τ).loc main_arg2)) ((y 0).val) ((y 1).val) (2816 * (t % 3) + k.val)

theorem pt (c : Dev nD) (t : Fin cfg0.N) (y : S256x2048.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x256.Idx → EReal => z _) (host_a m c)).trans (at2_of _ _ _ _ ?_ ?_) <;> (blk_simp [ix_0 t]) <;> omega
  · refine (congrArg (fun z : S8448x2048.Idx → EReal => z _) (host_b m c)).trans (at2_of _ _ _ _ ?_ ?_) <;> (blk_simp [ix_1 t]) <;> omega

theorem step_A (c : Dev nD) (t : Fin cfg0.N) (h0 : t.val % 3 = 0) (y : S256x2048.Idx) : (outsAt0 m c t.val t.isLt).2 y = 0 + add m c t.val y := by
  have hN : t.val < 3 := lt_of_lt_of_eq t.isLt (show cfg0.N = 3 from N_0)
  rw [outsAt0_A m c t h0 (by omega) (by omega), zero_add]
  frame_out
  unfold k0_pay2
  rw [shapeCast_self]
  exact pt m c t y

theorem step_B (c : Dev nD) (t : Fin cfg0.N) (h0 : ¬t.val % 3 = 0) (y : S256x2048.Idx) :
    (outsAt0 m c t.val t.isLt).2 y = (outsAt0 m c (t.val - 1) (Nat.lt_of_le_of_lt (Nat.sub_le _ _) t.isLt)).2 y + add m c t.val y := by
  have hp : ∀ z : Vec Ideal S256x2048 .f32, k0_pay3 (F := Ideal) (iblk m c 0 t) (iblk m c 1 t) z y = (z y + add m c t.val y : EReal) := by
    intro z
    unfold k0_pay3
    rw [shapeCast_self, ← pt m c t y]
    rfl
  by_cases h2 : t.val % 3 = 2
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S256x2048.Idx) :
    (outsAt0 m c t.val t.isLt).2 y = 0 + ∑ k ∈ Finset.range (t.val % 3 + 1), add m c (3 * (t.val / 3) + k) y :=
  Pipeline.eq_sum_of_reset_step_apply (N := cfg0.N) (fun n h (y : S256x2048.Idx) => (outsAt0 m c n h).2 y) 3 (fun _ => 0)
    (fun n y => add m c n y) (fun t h0 y => step_A m c t h0 y) (fun t h0 y => step_B m c t h0 y) t y

theorem last (c : Dev nD) (t : Fin cfg0.N) (h2 : t.val % 3 = 2) (y : S256x2048.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 3 = 2 := (by decide +kernel : ∀ t : Fin grid0.N, _)

/-- The array after the run. -/
def av (c : Dev nD) : S256x2048.Idx → EReal := fun i => ∑ k : Fin (3 * 2816), term (m ((c : Thread nD τ).loc main_arg0)) (m ((c : Thread nD τ).loc main_arg2)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 3 2816]
  refine Finset.sum_congr (M := EReal) rfl fun j hj => ?_
  have hj' := Finset.mem_range.mp hj
  have e0 : (3 * (t.val / 3) + j) % 3 = j := by omega
  simp only [add, e0]

theorem frame_ri : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem algebraic : Cert.algebraic_Kernel25Ideal_Reference25Ideal := by
  intro m g m' g' hpre hargs
  refine ⟨fun c => av m c, ?_, ?_⟩
  · refine (θ_run Cert.Kernel25Ideal.defs _ _).mono (fun r h c => ?_) (Cert.Kernel25Ideal.Value.run_blocks (F := Ideal) m g)
    exact ⟨(h c).1.trans (arr m c), (h c).2⟩
  · refine (θ_run Cert.Reference25Ideal.defs _ _).mono (fun r h c => ?_) (Cert.Reference25Ideal.Value.run (F := Ideal) m' g')
    obtain ⟨a0, a1, a2⟩ := hargs c
    refine ⟨(h c).1.trans ?_, (h c).2⟩
    rw [Cert.Reference25Ideal.Read.val_main_v2_eq, a0, a2]
    funext i
    rw [Cert.Reference25Ideal.Read.val_main_v2_apply, Cert.Reference25Ideal.Read.val_main_v1_apply]
    exact Finset.sum_congr rfl fun k _ => (mul_comm _ _).trans (congrArg₂ (· * ·) (at2_val _ _) (at2_val _ _))

end Cert.Kernel25Ideal.Mm

namespace Cert.Kernel26Ideal.Mm

open Cert.Kernel26Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)

theorem pay (x0 : Vec Ideal S2816x2048 .bf16) (x1 : Vec Ideal S256x2048 .bf16) (x2 : Vec Ideal S2816x256 .f32) (y : S2816x256.Idx) :
    k0_pay1 (F := Ideal) x0 x1 x2 y = (∑ k : Fin 2048, (x0 (ix2 (y 0) k) : EReal) * (x1 (ix2 (y 1) k) : EReal)) + (x2 y : EReal) := by
  unfold k0_pay1
  pointwise

theorem host_a (c : Dev nD) : (V m c main_v0 : S8448x2048.Idx → EReal) = m ((c : Thread nD τ).loc main_arg2) := by
  funext i
  unfold V
  after_reads_at

theorem host_b (c : Dev nD) : (V m c main_v1 : S256x2048.Idx → EReal) = m ((c : Thread nD τ).loc main_arg1) := by
  funext i
  unfold V
  after_reads_at

/-- A term of the product's element in row `i` and column `j`. -/
def term (x : S8448x2048.Idx → EReal) (w : S256x2048.Idx → EReal) (i j k : ℕ) : EReal := at2 (A := 8448) (B := 2048) x i k * at2 (A := 256) (B := 2048) w j k

/-- What point `t` adds at an index of its block. -/
abbrev add (c : Dev nD) (t : ℕ) (y : S2816x256.Idx) : EReal := ∑ k : Fin 2048, term (m ((c : Thread nD τ).loc main_arg2)) (m ((c : Thread nD τ).loc main_arg1)) (t * 2816 + (y 0).val) ((y 1).val) (k.val)

theorem pt (c : Dev nD) (t : Fin cfg0.N) (y : S2816x256.Idx) : k0_pay1 (F := Ideal) (iblk m c 0 t) (iblk m c 1 t) (iblk m c 2 t) y = add m c t.val y + at2 (A := 8448) (B := 256) (m ((c : Thread nD τ).loc main_arg3)) (t.val * 2816 + (y 0).val) ((y 1).val) := by
  refine (pay (iblk m c 0 t) (iblk m c 1 t) (iblk m c 2 t) y).trans (congrArg₂ (· + ·) (Finset.sum_congr (M := EReal) rfl fun k _ => congrArg₂ (· * ·) ?_ ?_) ?_)
  · refine (congrArg (fun z : S8448x2048.Idx → EReal => z _) (host_a m c)).trans (at2_of _ _ _ _ ?_ ?_) <;> (blk_simp [ix_0 t]) <;> omega
  · refine (congrArg (fun z : S256x2048.Idx → EReal => z _) (host_b m c)).trans (at2_of _ _ _ _ ?_ ?_) <;> (blk_simp [ix_1 t]) <;> omega
  · refine (congrArg (fun z : S8448x256.Idx → EReal => z _) (V_main_arg3 m c)).trans (at2_of _ _ _ _ ?_ ?_) <;> (blk_simp [ix_2 t]) <;> omega

/-- The array after the run. -/
def av (c : Dev nD) : S8448x256.Idx → EReal := fun i => (∑ k : Fin 2048, term (m ((c : Thread nD τ).loc main_arg2)) (m ((c : Thread nD τ).loc main_arg1)) (i 0).val (i 1).val k.val) + at2 (A := 8448) (B := 256) (m ((c : Thread nD τ).loc main_arg3)) (i 0).val (i 1).val

theorem arr (c : Dev nD) : (dats m 0 c).arrAt 3 cfg0.N = av m c := by
  refine (dats m 0 c).arrAt_eq_of_covers 3 _ (by decide +kernel) fun t hf y => ?_
  blk_simp
  rw [after0_3]
  frame_out
  refine (pt m c t y).trans ?_
  dsimp only [av]
  blk_simp [ix_3 t]

theorem frame_ri : Cert.quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

theorem algebraic : Cert.algebraic_Kernel26Ideal_Reference26Ideal := by
  intro m g m' g' hpre hargs
  refine ⟨fun c => av m c, ?_, ?_⟩
  · refine (θ_run Cert.Kernel26Ideal.defs _ _).mono (fun r h c => ?_) (Cert.Kernel26Ideal.Value.run_blocks (F := Ideal) m g)
    exact ⟨(h c).1.trans (arr m c), (h c).2⟩
  · refine (θ_run Cert.Reference26Ideal.defs _ _).mono (fun r h c => ?_) (Cert.Reference26Ideal.Value.run (F := Ideal) m' g')
    obtain ⟨a0, a1, a2, a3⟩ := hargs c
    refine ⟨(h c).1.trans ?_, (h c).2⟩
    rw [Cert.Reference26Ideal.Read.val_main_v4_eq, a1, a2, a3]
    funext i
    rw [Cert.Reference26Ideal.Read.val_main_v4_apply, Cert.Reference26Ideal.Read.val_main_v3_apply]
    exact (add_comm _ _).trans (congrArg₂ (· + ·) (Finset.sum_congr rfl fun k _ => congrArg₂ (· * ·) (at2_val _ _) (at2_val _ _)) (at2_val _ _))

end Cert.Kernel26Ideal.Mm

end
-- ==== Proof.MmOddOut.lean ====
/- The attention layers' products with the output weights: each call and the plain product agree. -/
module

public import proofs.«01_k».proof.Defs
public import proofs.«01_k».proof.Proof.Sums
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import Idealize.ShloMosaic.Lib.StableHlo.ReadAt

@[expose] public section

set_option maxRecDepth 16384

noncomputable section

open Cert.Sums
open Idealize.ShloMosaic Idealize.ShloMosaic.TcCoe Idealize.SL.Sem
open Idealize.ShloMosaic.Pipeline (Dat)

namespace Cert.Kernel27Ideal.Mm

open Cert.Kernel27Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![t.val, 0] := (by decide +kernel : ∀ t : Fin grid0.N, _)

theorem pay (x0 : Vec Ideal S768x2048 .bf16) (x1 : Vec Ideal S2048x1024 .bf16) (x2 : Vec Ideal S768x1024 .f32) (y : S768x1024.Idx) :
    k0_pay1 (F := Ideal) x0 x1 x2 y = (∑ k : Fin 2048, (x0 (ix2 (y 0) k) : EReal) * (x1 (ix2 k (y 1)) : EReal)) + (x2 y : EReal) := by
  unfold k0_pay1
  pointwise

theorem host_a (c : Dev nD) : (V m c main_v0 : S8448x2048.Idx → EReal) = m ((c : Thread nD τ).loc main_arg1) := by
  funext i
  unfold V
  after_reads_at

theorem host_b (c : Dev nD) : (V m c main_v1 : S2048x1024.Idx → EReal) = m ((c : Thread nD τ).loc main_arg2) := by
  funext i
  unfold V
  after_reads_at

/-- A term of the product's element in row `i` and column `j`. -/
def term (x : S8448x2048.Idx → EReal) (w : S2048x1024.Idx → EReal) (i j k : ℕ) : EReal := at2 (A := 8448) (B := 2048) x i k * at2 (A := 2048) (B := 1024) w k j

/-- What point `t` adds at an index of its block. -/
abbrev add (c : Dev nD) (t : ℕ) (y : S768x1024.Idx) : EReal := ∑ k : Fin 2048, term (m ((c : Thread nD τ).loc main_arg1)) (m ((c : Thread nD τ).loc main_arg2)) (t * 768 + (y 0).val) ((y 1).val) (k.val)

theorem pt (c : Dev nD) (t : Fin cfg0.N) (y : S768x1024.Idx) : k0_pay1 (F := Ideal) (iblk m c 0 t) (iblk m c 1 t) (iblk m c 2 t) y = add m c t.val y + at2 (A := 8448) (B := 1024) (m ((c : Thread nD τ).loc main_arg0)) (t.val * 768 + (y 0).val) ((y 1).val) := by
  refine (pay (iblk m c 0 t) (iblk m c 1 t) (iblk m c 2 t) y).trans (congrArg₂ (· + ·) (Finset.sum_congr (M := EReal) rfl fun k _ => congrArg₂ (· * ·) ?_ ?_) ?_)
  · refine (congrArg (fun z : S8448x2048.Idx → EReal => z _) (host_a m c)).trans (at2_of _ _ _ _ ?_ ?_) <;> (blk_simp [ix_0 t]) <;> omega
  · refine (congrArg (fun z : S2048x1024.Idx → EReal => z _) (host_b m c)).trans (at2_of _ _ _ _ ?_ ?_) <;> (blk_simp [ix_1 t]) <;> omega
  · refine (congrArg (fun z : S8448x1024.Idx → EReal => z _) (V_main_arg0 m c)).trans (at2_of _ _ _ _ ?_ ?_) <;> (blk_simp [ix_2 t]) <;> omega

/-- The array after the run. -/
def av (c : Dev nD) : S8448x1024.Idx → EReal := fun i => (∑ k : Fin 2048, term (m ((c : Thread nD τ).loc main_arg1)) (m ((c : Thread nD τ).loc main_arg2)) (i 0).val (i 1).val k.val) + at2 (A := 8448) (B := 1024) (m ((c : Thread nD τ).loc main_arg0)) (i 0).val (i 1).val

theorem arr (c : Dev nD) : (dats m 0 c).arrAt 3 cfg0.N = av m c := by
  refine (dats m 0 c).arrAt_eq_of_covers 3 _ (by decide +kernel) fun t hf y => ?_
  blk_simp
  rw [after0_3]
  frame_out
  refine (pt m c t y).trans ?_
  dsimp only [av]
  blk_simp [ix_3 t]

theorem frame_ri : Cert.quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

theorem algebraic : Cert.algebraic_Kernel27Ideal_Reference27Ideal := by
  intro m g m' g' hpre hargs
  refine ⟨fun c => av m c, ?_, ?_⟩
  · refine (θ_run Cert.Kernel27Ideal.defs _ _).mono (fun r h c => ?_) (Cert.Kernel27Ideal.Value.run_blocks (F := Ideal) m g)
    exact ⟨(h c).1.trans (arr m c), (h c).2⟩
  · refine (θ_run Cert.Reference27Ideal.defs _ _).mono (fun r h c => ?_) (Cert.Reference27Ideal.Value.run (F := Ideal) m' g')
    obtain ⟨a0, a1, a2⟩ := hargs c
    refine ⟨(h c).1.trans ?_, (h c).2⟩
    rw [Cert.Reference27Ideal.Read.val_main_v1_eq, a0, a1, a2]
    funext i
    rw [Cert.Reference27Ideal.Read.val_main_v1_apply, Cert.Reference27Ideal.Read.val_main_v0_apply]
    exact (add_comm _ _).trans (congrArg₂ (· + ·) (Finset.sum_congr rfl fun k _ => congrArg₂ (· * ·) (at2_val _ _) (at2_val _ _)) (at2_val _ _))

end Cert.Kernel27Ideal.Mm

namespace Cert.Kernel28Ideal.Mm

open Cert.Kernel28Ideal.Gen

variable (m : (ℓ : Loc nD τ sig) → Buf (Elt Ideal) ℓ)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val, 0] := (by decide +kernel : ∀ t : Fin grid0.N, _)

theorem pay (x0 : Vec Ideal S768x1024 .f32) (x1 : Vec Ideal S2048x1024 .bf16) (y : S768x2048.Idx) :
    k0_pay1 (F := Ideal) x0 x1 y = ∑ k : Fin 1024, (x0 (ix2 (y 0) k) : EReal) * (x1 (ix2 (y 1) k) : EReal) := by
  unfold k0_pay1
  pointwise

theorem host_b (c : Dev nD) : (V m c main_v0 : S2048x1024.Idx → EReal) = m ((c : Thread nD τ).loc main_arg1) := by
  funext i
  unfold V
  after_reads_at

/-- A term of the product's element in row `i` and column `j`. -/
def term (x : S8448x1024.Idx → EReal) (w : S2048x1024.Idx → EReal) (i j k : ℕ) : EReal := at2 (A := 8448) (B := 1024) x i k * at2 (A := 2048) (B := 1024) w j k

/-- What point `t` adds at an index of its block. -/
abbrev add (c : Dev nD) (t : ℕ) (y : S768x2048.Idx) : EReal := ∑ k : Fin 1024, term (m ((c : Thread nD τ).loc main_arg2)) (m ((c : Thread nD τ).loc main_arg1)) (t * 768 + (y 0).val) ((y 1).val) (k.val)

theorem pt (c : Dev nD) (t : Fin cfg0.N) (y : S768x2048.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x1024.Idx → EReal => z _) (V_main_arg2 m c)).trans (at2_of _ _ _ _ ?_ ?_) <;> (blk_simp [ix_0 t]) <;> omega
  · refine (congrArg (fun z : S2048x1024.Idx → EReal => z _) (host_b m c)).trans (at2_of _ _ _ _ ?_ ?_) <;> (blk_simp [ix_1 t]) <;> omega

/-- The array after the run. -/
def av (c : Dev nD) : S8448x2048.Idx → EReal := fun i => ∑ k : Fin 1024, term (m ((c : Thread nD τ).loc main_arg2)) (m ((c : Thread nD τ).loc main_arg1)) (i 0).val (i 1).val k.val

theorem arr (c : Dev nD) : (dats m 0 c).arrAt 2 cfg0.N = av m c := by
  refine (dats m 0 c).arrAt_eq_of_covers 2 _ (by decide +kernel) fun t hf y => ?_
  blk_simp
  rw [after0_2]
  frame_out
  refine (pt m c t y).trans ?_
  dsimp only [av]
  blk_simp [ix_2 t]

theorem frame_ri : Cert.quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

theorem algebraic : Cert.algebraic_Kernel28Ideal_Reference28Ideal := by
  intro m g m' g' hpre hargs
  refine ⟨fun c => av m c, ?_, ?_⟩
  · refine (θ_run Cert.Kernel28Ideal.defs _ _).mono (fun r h c => ?_) (Cert.Kernel28Ideal.Value.run_blocks (F := Ideal) m g)
    exact ⟨(h c).1.trans (arr m c), (h c).2⟩
  · refine (θ_run Cert.Reference28Ideal.defs _ _).mono (fun r h c => ?_) (Cert.Reference28Ideal.Value.run (F := Ideal) m' g')
    obtain ⟨a0, a1, a2⟩ := hargs c
    refine ⟨(h c).1.trans ?_, (h c).2⟩
    rw [Cert.Reference28Ideal.Read.val_main_v4_eq, a1, a2]
    funext i
    rw [Cert.Reference28Ideal.Read.val_main_v4_apply, Cert.Reference28Ideal.Read.val_main_v3_apply]
    exact Finset.sum_congr rfl fun k _ => congrArg₂ (· * ·) (at2_val _ _) (at2_val _ _)

end Cert.Kernel28Ideal.Mm

namespace Cert.Kernel29Ideal.Mm

open Cert.Kernel29Ideal.Gen

variable (m : (ℓ : Loc nD τ sig) → Buf (Elt Ideal) ℓ)

theorem ix_0 : ∀ t : Fin cfg0.N, win0_0.index t = ![t.val % 33, 0] := (by decide +kernel : ∀ t : Fin grid0.N, _)
theorem ix_1 : ∀ t : Fin cfg0.N, win0_1.index t = ![t.val % 33, 0] := (by decide +kernel : ∀ t : Fin grid0.N, _)
theorem ix_2 : ∀ t : Fin cfg0.N, win0_2.index t = ![0, 0] := (by decide +kernel : ∀ t : Fin grid0.N, _)

theorem pay (x0 : Vec Ideal S256x2048 .bf16) (x1 : Vec Ideal S256x1024 .f32) (y : S2048x1024.Idx) :
    k0_pay1 (F := Ideal) x0 x1 y = ∑ k : Fin 256, (x0 (ix2 k (y 0)) : EReal) * (x1 (ix2 k (y 1)) : EReal) := by
  unfold k0_pay1
  pointwise

theorem host_a (c : Dev nD) : (V m c main_v0 : S8448x2048.Idx → EReal) = m ((c : Thread nD τ).loc main_arg0) := by
  funext i
  unfold V
  after_reads_at

/-- A term of the product's element in row `i` and column `j`. -/
def term (x : S8448x2048.Idx → EReal) (w : S8448x1024.Idx → EReal) (i j k : ℕ) : EReal := at2 (A := 8448) (B := 2048) x k i * at2 (A := 8448) (B := 1024) w k j

/-- What point `t` adds at an index of its block. -/
abbrev add (c : Dev nD) (t : ℕ) (y : S2048x1024.Idx) : EReal := ∑ k : Fin 256, term (m ((c : Thread nD τ).loc main_arg0)) (m ((c : Thread nD τ).loc main_arg2)) ((y 0).val) ((y 1).val) (256 * (t % 33) + k.val)

theorem pt (c : Dev nD) (t : Fin cfg0.N) (y : S2048x1024.Idx) : k0_pay1 (F := Ideal) (iblk m c 0 t) (iblk m c 1 t) y = add m c t.val y := by
  refine (pay (iblk m c 0 t) (iblk m c 1 t) y).trans (Finset.sum_congr (M := EReal) rfl fun k _ => congrArg₂ (· * ·) ?_ ?_)
  · refine (congrArg (fun z : S8448x2048.Idx → EReal => z _) (host_a m c)).trans (at2_of _ _ _ _ ?_ ?_) <;> (blk_simp [ix_0 t]) <;> omega
  · refine (congrArg (fun z : S8448x1024.Idx → EReal => z _) (V_main_arg2 m c)).trans (at2_of _ _ _ _ ?_ ?_) <;> (blk_simp [ix_1 t]) <;> omega

theorem step_A (c : Dev nD) (t : Fin cfg0.N) (h0 : t.val % 33 = 0) (y : S2048x1024.Idx) : (outsAt0 m c t.val t.isLt).2 y = 0 + add m c t.val y := by
  have hN : t.val < 33 := lt_of_lt_of_eq t.isLt (show cfg0.N = 33 from N_0)
  rw [outsAt0_A m c t h0 (by omega) (by omega), zero_add]
  frame_out
  unfold k0_pay2
  rw [shapeCast_self]
  exact pt m c t y

theorem step_B (c : Dev nD) (t : Fin cfg0.N) (h0 : ¬t.val % 33 = 0) (y : S2048x1024.Idx) :
    (outsAt0 m c t.val t.isLt).2 y = (outsAt0 m c (t.val - 1) (Nat.lt_of_le_of_lt (Nat.sub_le _ _) t.isLt)).2 y + add m c t.val y := by
  have hp : ∀ z : Vec Ideal S2048x1024 .f32, k0_pay3 (F := Ideal) (iblk m c 0 t) (iblk m c 1 t) z y = (z y + add m c t.val y : EReal) := by
    intro z
    unfold k0_pay3
    rw [shapeCast_self, ← pt m c t y]
    rfl
  by_cases h2 : t.val % 33 = 32
  · rw [outsAt0_C m c t h0 (by omega) h2]
    frame_out
    exact (congrArg (fun z => k0_pay3 (F := Ideal) (iblk m c 0 t) (iblk m c 1 t) z y) (Memref.IsWhole.read_unread _ _)).trans (hp _)
  · rw [outsAt0_B m c t h0 (by omega) h2]
    frame_out
    exact (congrArg (fun z => k0_pay3 (F := Ideal) (iblk m c 0 t) (iblk m c 1 t) z y) (Memref.IsWhole.read_unread _ _)).trans (hp _)

/-- The scratch after a point: what the points of its output block have added so far. -/
theorem scratch (c : Dev nD) (t : Fin cfg0.N) (y : S2048x1024.Idx) :
    (outsAt0 m c t.val t.isLt).2 y = 0 + ∑ k ∈ Finset.range (t.val % 33 + 1), add m c (33 * (t.val / 33) + k) y :=
  Pipeline.eq_sum_of_reset_step_apply (N := cfg0.N) (fun n h (y : S2048x1024.Idx) => (outsAt0 m c n h).2 y) 33 (fun _ => 0)
    (fun n y => add m c n y) (fun t h0 y => step_A m c t h0 y) (fun t h0 y => step_B m c t h0 y) t y

theorem last (c : Dev nD) (t : Fin cfg0.N) (h2 : t.val % 33 = 32) (y : S2048x1024.Idx) : (outsAt0 m c t.val t.isLt).1 y = (outsAt0 m c t.val t.isLt).2 y := by
  rw [outsAt0_C m c t (by omega) (by omega) h2]
  frame_out

theorem flushes : ∀ t : Fin cfg0.N, (cfg0.win 2).flush t = true → t.val % 33 = 32 := (by decide +kernel : ∀ t : Fin grid0.N, _)

/-- The array after the run. -/
def av (c : Dev nD) : S2048x1024.Idx → EReal := fun i => ∑ k : Fin (33 * 256), term (m ((c : Thread nD τ).loc main_arg0)) (m ((c : Thread nD τ).loc main_arg2)) (i 0).val (i 1).val k.val

theorem arr (c : Dev nD) : (dats m 0 c).arrAt 2 cfg0.N = av m c := by
  refine (dats m 0 c).arrAt_eq_of_covers 2 _ (by decide +kernel) fun t hf y => ?_
  have hm := flushes t hf
  blk_simp
  rw [after0_2]
  refine (last m c t hm y).trans ((scratch m c t y).trans ?_)
  rw [zero_add, hm]
  dsimp only [av]
  blk_simp [ix_2 t]
  rw [← sum_parts 33 256]
  refine Finset.sum_congr (M := EReal) rfl fun j hj => ?_
  have hj' := Finset.mem_range.mp hj
  have e0 : (33 * (t.val / 33) + j) % 33 = j := by omega
  simp only [add, e0]

theorem frame_ri : Cert.quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

theorem algebraic : Cert.algebraic_Kernel29Ideal_Reference29Ideal := by
  intro m g m' g' hpre hargs
  refine ⟨fun c => av m c, ?_, ?_⟩
  · refine (θ_run Cert.Kernel29Ideal.defs _ _).mono (fun r h c => ?_) (Cert.Kernel29Ideal.Value.run_blocks (F := Ideal) m g)
    exact ⟨(h c).1.trans (arr m c), (h c).2⟩
  · refine (θ_run Cert.Reference29Ideal.defs _ _).mono (fun r h c => ?_) (Cert.Reference29Ideal.Value.run (F := Ideal) m' g')
    obtain ⟨a0, a1, a2⟩ := hargs c
    refine ⟨(h c).1.trans ?_, (h c).2⟩
    rw [Cert.Reference29Ideal.Read.val_main_v2_eq, a0, a2]
    funext i
    rw [Cert.Reference29Ideal.Read.val_main_v2_apply, Cert.Reference29Ideal.Read.val_main_v1_apply]
    exact Finset.sum_congr rfl fun k _ => (mul_comm _ _).trans (congrArg₂ (· * ·) (at2_val _ _) (at2_val _ _))

end Cert.Kernel29Ideal.Mm

end
-- ==== Proof.FwdRow.lean ====
/- One row of the running softmax: what the carried maximum and sums hold after some keys, and the results at the end. -/
module

public import proofs.«01_k».proof.Proof.Attn
public import proofs.«01_k».proof.Proof.Sums

@[expose] public section

noncomputable section

namespace Cert.Fwd

open Cert.Sums Idealize.ShloMosaic

theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- The weight of key `k` in row `r`: the score's power of two, zero where the key is later. -/
def w (S : ℕ → ℝ) (r k : ℕ) : ℝ := if k ≤ r then (2 : ℝ) ^ S k else 0

/-- After `n` keys the maximum is a real and the sum holds the weights against it; before the first both are empty. -/
def St (S : ℕ → ℝ) (r : ℕ) (V : ℕ → EReal) (n : ℕ) (mx acc : EReal) : Prop :=
  (n = 0 ∧ mx = ⊥ ∧ acc = 0) ∨ ∃ M : ℝ, mx = (M : EReal) ∧ acc = ∑ k ∈ Finset.range n, ((w S r k * (2 : ℝ) ^ (-M) : ℝ) : EReal) * V k

variable {S : ℕ → ℝ} {r : ℕ} {V : ℕ → EReal} {n : ℕ} {mx acc : EReal}

theorem exp2_row (x M : ℝ) (p : Prop) [Decidable p] :
    Ideal.exp2 ((if p then (x : EReal) else ⊥) - (M : EReal)) = (((if p then (2 : ℝ) ^ x else 0) * (2 : ℝ) ^ (-M) : ℝ) : EReal) := by
  by_cases hp : p
  · rw [if_pos hp, if_pos hp, ← EReal.coe_sub, Ideal.exp2_coe, ← Real.rpow_add two_pos, sub_eq_add_neg]
    rfl
  · rw [if_neg hp, if_neg hp, EReal.bot_sub, zero_mul]
    rfl

theorem St.step (h : St S r V n mx acc) {W : ℕ} (hW : 0 < W) (hn : n ≤ r) {s v : Fin W → EReal}
    (hs : ∀ k : Fin W, s k = if n + k.val ≤ r then (S (n + k.val) : EReal) else ⊥) (hv : ∀ k : Fin W, v k = V (n + k.val)) :
    St S r V (n + W) (max mx (Finset.fold max ⊥ s Finset.univ))
      (Ideal.exp2 (mx - max mx (Finset.fold max ⊥ s Finset.univ)) * acc + ∑ k, Ideal.exp2 (s k - max mx (Finset.fold max ⊥ s Finset.univ)) * v k) := by
  have ht : Finset.fold max (⊥ : EReal) s Finset.univ < ⊤ := Finset.fold_max_lt _ |>.mpr ⟨bot_lt_top, fun k _ => by
    rw [hs]
    split
    · exact EReal.coe_lt_top _
    · exact bot_lt_top⟩
  have hb : ⊥ < Finset.fold max (⊥ : EReal) s Finset.univ := Finset.lt_fold_max _ |>.mpr (Or.inr ⟨⟨0, hW⟩, Finset.mem_univ _, by
    rw [hs, if_pos (by simpa using hn)]
    exact EReal.bot_lt_coe _⟩)
  obtain ⟨N, hN⟩ : ∃ N : ℝ, max mx (Finset.fold max ⊥ s Finset.univ) = (N : EReal) := by
    refine ⟨_, (EReal.coe_toReal (max_lt ?_ ht).ne (hb.trans_le (le_max_right _ _)).ne').symm⟩
    rcases h with ⟨_, rfl, _⟩ | ⟨M, rfl, _⟩
    · exact bot_lt_top
    · exact EReal.coe_lt_top _
  rw [hN]
  refine Or.inr ⟨N, rfl, ?_⟩
  rw [Finset.sum_range_add, Finset.sum_range (n := W)]
  refine congrArg₂ (· + ·) ?_ (Finset.sum_congr rfl fun k _ => ?_)
  · rcases h with ⟨rfl, rfl, rfl⟩ | ⟨M, rfl, rfl⟩
    · simp
    · rw [← EReal.coe_sub, Ideal.exp2_coe]
      refine (mul_sum _ _ (Real.rpow_nonneg two_pos.le _) _).trans (Finset.sum_congr rfl fun k _ => ?_)
      rw [← mul_assoc, ← EReal.coe_mul]
      congr 2
      rw [mul_comm, mul_assoc, ← Real.rpow_add two_pos]
      congr 2
      ring
  · rw [hs, hv, exp2_row]
    rfl

/-- A row's sum of weights. -/
def L (S : ℕ → ℝ) (r : ℕ) : ℝ := ∑ k ∈ Finset.range (r + 1), w S r k

theorem L_pos : 0 < L S r :=
  Finset.sum_pos (fun k hk => by rw [w, if_pos (by have := Finset.mem_range.mp hk; omega)]; exact Real.rpow_pos_of_pos two_pos _) ⟨0, Finset.mem_range.mpr (by omega)⟩

theorem sum_all (hn : r < n) : ∑ k ∈ Finset.range n, w S r k = L S r :=
  (Finset.sum_subset (Finset.range_subset_range.mpr hn) fun k _ hk => if_neg (by simpa using hk)).symm

/-- A row's result in one lane. -/
def out (S : ℕ → ℝ) (r : ℕ) (V : ℕ → EReal) : EReal := ∑ k ∈ Finset.range (r + 1), ((w S r k / L S r : ℝ) : EReal) * V k

theorem out_all (hn : r < n) : ∑ k ∈ Finset.range n, ((w S r k / L S r : ℝ) : EReal) * V k = out S r V :=
  (Finset.sum_subset (Finset.range_subset_range.mpr hn) fun k _ hk => by
    rw [w, if_neg (by simpa using hk), zero_div, EReal.coe_zero, zero_mul]).symm

/-- The row's logarithm, to base two. -/
def lse (S : ℕ → ℝ) (r : ℕ) : EReal := ((Real.log (L S r) / Real.log 2 : ℝ) : EReal)

/-- The sum of the weights is what the lane of ones carries. -/
theorem ones (h : St S r (fun _ => 1) n mx acc) (hn : r < n) : ∃ M : ℝ, mx = (M : EReal) ∧ acc = ((L S r * (2 : ℝ) ^ (-M) : ℝ) : EReal) := by
  rcases h with ⟨rfl, _⟩ | ⟨M, rfl, rfl⟩
  · omega
  · refine ⟨M, rfl, ?_⟩
    simp only [mul_one]
    rw [← Attn.coe_sum, ← Finset.sum_mul, sum_all hn]

theorem quot {l : EReal} (h : St S r V n mx acc) (h1 : St S r (fun _ => 1) n mx l) (hn : r < n) : Ideal.div acc l = out S r V := by
  obtain ⟨M, rfl, rfl⟩ := ones h1 hn
  rcases h with ⟨rfl, _⟩ | ⟨M', hM, rfl⟩
  · omega
  obtain rfl : M = M' := EReal.coe_injective hM
  have hE := Real.rpow_pos_of_pos two_pos (-M)
  have hL := L_pos (S := S) (r := r)
  rw [Ideal.div_coe (mul_pos hL hE).ne', mul_comm, mul_sum _ _ (one_div_pos.mpr (mul_pos hL hE)).le, ← out_all hn]
  refine Finset.sum_congr rfl fun k _ => ?_
  rw [← mul_assoc, ← EReal.coe_mul]
  congr 2
  field_simp

theorem logs {l : EReal} (h1 : St S r (fun _ => 1) n mx l) (hn : r < n) :
    mx + Ideal.log l * (((Real.log 2)⁻¹ : ℝ) : EReal) = lse S r := by
  obtain ⟨M, rfl, rfl⟩ := ones h1 hn
  have hE := Real.rpow_pos_of_pos two_pos (-M)
  have hL := L_pos (S := S) (r := r)
  have hl2 : Real.log 2 ≠ 0 := (Real.log_pos one_lt_two).ne'
  rw [Ideal.log_coe, if_neg (not_le.mpr (mul_pos hL hE)), Real.log_mul hL.ne' hE.ne', Real.log_rpow two_pos,
    ← EReal.coe_mul, ← EReal.coe_add]
  refine congrArg _ ?_
  field_simp
  ring

/-- The score of the query in row `R` and key `k` of batch `b` and head `h`. -/
def sc (x0 x1 : (⟨2, ![8448, 2048]⟩ : Shape).Idx → EReal) (b h n k : ℕ) : EReal :=
  ∑ d : Fin 128, at2 x0 (4224 * b + n) (128 * h + d.val) * at2 x1 (4224 * b + k) (128 * h + d.val)

/-- The scores to base two. -/
def S2 (x0 x1 : (⟨2, ![8448, 2048]⟩ : Shape).Idx → EReal) (b h n k : ℕ) : ℝ := (sc x0 x1 b h n k).toReal * (Real.log 2)⁻¹

theorem w_exp (x0 x1 : (⟨2, ![8448, 2048]⟩ : Shape).Idx → EReal) (b h n k : ℕ) :
    w (S2 x0 x1 b h n) n k = if k ≤ n then Real.exp (sc x0 x1 b h n k).toReal else 0 := by
  unfold w S2
  rw [Real.rpow_def_of_pos two_pos, mul_comm, mul_assoc, inv_mul_cancel₀ (Real.log_pos one_lt_two).ne', mul_one]

section Real

variable {x0 x1 : (⟨2, ![8448, 2048]⟩ : Shape).Idx → EReal} (h0 : ∀ i, x0 i = (((x0 i).toReal : ℝ) : EReal)) (h1 : ∀ i, x1 i = (((x1 i).toReal : ℝ) : EReal))
include h0 h1

omit h1 in
theorem at2_real (R C : ℕ) : at2 x0 R C = (((at2 x0 R C).toReal : ℝ) : EReal) := by
  unfold at2
  split
  · exact h0 _
  · rfl

theorem sc_coe (b h n k : ℕ) : sc x0 x1 b h n k = (((∑ d : Fin 128, (at2 x0 (4224 * b + n) (128 * h + d.val)).toReal * (at2 x1 (4224 * b + k) (128 * h + d.val)).toReal : ℝ)) : EReal) := by
  rw [sc, Attn.coe_sum]
  refine Finset.sum_congr rfl fun d _ => ?_
  rw [EReal.coe_mul, ← at2_real h0, ← at2_real h1]

theorem sc_real (b h n k : ℕ) : sc x0 x1 b h n k = (((sc x0 x1 b h n k).toReal : ℝ) : EReal) := by
  rw [sc_coe h0 h1, EReal.toReal_coe]

theorem sc_scaled (b h n k : ℕ) : ∑ d : Fin 128, at2 x0 (4224 * b + n) (128 * h + d.val) * (((Real.log 2)⁻¹ : ℝ) : EReal) * at2 x1 (4224 * b + k) (128 * h + d.val)
    = (S2 x0 x1 b h n k : EReal) := by
  rw [S2, sc_coe h0 h1, EReal.toReal_coe, Finset.sum_mul, Attn.coe_sum]
  refine Finset.sum_congr rfl fun d _ => ?_
  rw [at2_real h0, at2_real h1, ← EReal.coe_mul, ← EReal.coe_mul, EReal.toReal_coe, EReal.toReal_coe]
  congr 1
  ring

end Real

/-- The value in lane `d` of key `k`, lane 64 holding ones. -/
def vl (x2 : (⟨2, ![8448, 2048]⟩ : Shape).Idx → EReal) (b h d k : ℕ) : EReal := if d = 64 then 1 else at2 x2 (4224 * b + k) (128 * h + d)

end Cert.Fwd

end
-- ==== Proof.FwdPay.lean ====
/- One trip's arithmetic, and the last block's, at a row and a lane. -/
module

public import proofs.«01_k».proof.Proof.Gen.Kernel30Ideal.Value
public import proofs.«01_k».proof.Proof.FwdRow
public import proofs.«01_k».proof.Proof.Spec
public import Idealize.ShloMosaic.Lib.StableHlo.ReadAt

@[expose] public section

noncomputable section

namespace Cert.Kernel30Ideal.Fwd

open Cert.Kernel30Ideal.Gen Cert.Attn Cert.Fwd Cert.Sums
open Idealize.ShloMosaic Idealize.ShloMosaic.TcCoe Idealize.SL.Sem

theorem one_b : Ideal.ofBits .bf16 0x3F80#16 = (1 : EReal) := by
  simp [Ideal.ofBits, Ideal.ieee]
  rw [← EReal.coe_mul]
  norm_num

theorem zero_f : Ideal.ofBits .f32 0x00000000#32 = (0 : EReal) := by
  simp [Ideal.ofBits, Ideal.ieee]

theorem addz (x : BitVec 32) : IntOp.addi 0#32 x = x := BitVec.zero_add x

theorem msk : (Named.named κ "mask" 0xF149F2CA#32 : Ideal .f32) = (⊥ : EReal) := rfl

theorem sel64 {α : Type} (d : Fin 128) (a b : α) : Scalar.select (IntOp.cmpi .eq (BitVec.ofNat 32 d.val) 64#32) a b = if d.val = 64 then a else b := by
  revert d
  intro d
  have h : ∀ d : Fin 128, IntOp.cmpi .eq (BitVec.ofNat 32 d.val) 64#32 = if d.val = 64 then 1#1 else 0#1 := by decide
  rw [h]
  split <;> rfl

theorem lt64 {α : Type} (d : Fin 128) (a b : α) : Scalar.select (IntOp.cmpi .slt (BitVec.ofNat 32 d.val) 64#32) a b = if d.val < 64 then a else b := by
  have h : ∀ d : Fin 128, IntOp.cmpi .slt (BitVec.ofNat 32 d.val) 64#32 = if d.val < 64 then 1#1 else 0#1 := by decide
  rw [h]
  split <;> rfl

/-- A row's scores against a block of keys. -/
abbrev dt {W : ℕ} (q : S384x128.Idx → EReal) (k : (⟨2, ![W, 128]⟩ : Shape).Idx → EReal) (x : Fin 384) (y : Fin W) : EReal := ∑ e : Fin 128, q (ix2 x e) * k (ix2 y e)

/-- The maximum carried on. -/
abbrev mx' {W : ℕ} (m : EReal) (s : Fin W → EReal) : EReal := max m (Finset.fold max ⊥ s Finset.univ)

/-- The sum carried on. -/
abbrev ac' {W : ℕ} (m a : EReal) (s v : Fin W → EReal) : EReal := Ideal.exp2 (m - mx' m s) * a + ∑ k, Ideal.exp2 (s k - mx' m s) * v k

/-- A block's value in a lane, lane 64 holding ones. -/
abbrev vv {W : ℕ} (v : (⟨2, ![W, 128]⟩ : Shape).Idx → EReal) (d : Fin 128) (k : Fin W) : EReal := if d.val = 64 then 1 else v (ix2 k d)

/-- A row's masked scores against its own block of keys. -/
abbrev dm (q k : S384x128.Idx → EReal) (x y : Fin 384) : EReal := if y.val ≤ x.val then dt q k x y else ⊥

variable (q : FVec Ideal S384x128 .bf16) (m : FVec Ideal S384x1 .f32) (a : FVec Ideal S384x128 .f32) (x : Fin 384) (d : Fin 128)

theorem m1536 (k : Vec Ideal S1536x128 .bf16) : k0_pay2 (F := Ideal) q m k (ix2 x 0) = mx' (m (ix2 x 0)) (dt q k x) := by
  unfold k0_pay2 k0_pay1
  pointwise
  rw [ninf_f32]

theorem n1536 (k : Vec Ideal S1536x128 .bf16) : k0_pay6 (F := Ideal) q m k (ix2 x 0) = mx' (m (ix2 x 0)) (dt q k x) := m1536 q m x k

theorem a1536 (k v : Vec Ideal S1536x128 .bf16) : k0_pay3 (F := Ideal) q m a k v (ix2 x d) = ac' (m (ix2 x 0)) (a (ix2 x d)) (dt q k x) (vv v d) := by
  have h := m1536 q m x k
  unfold k0_pay3
  generalize k0_pay2 (F := Ideal) q m k = y at h ⊢
  unfold k0_pay1
  pointwise
  simp only [h, sel64, one_b]
  rfl

theorem b1536 (k v : Vec Ideal S1536x128 .bf16) : k0_pay47 (F := Ideal) a (k0_pay4 v) (k0_pay5 q k) (k0_pay6 q m k) (k0_pay7 q m k) (ix2 x d)
    = ac' (m (ix2 x 0)) (a (ix2 x d)) (dt q k x) (vv v d) := a1536 q m a x d k v

theorem m768 (k : Vec Ideal S768x128 .bf16) : k0_pay16 (F := Ideal) q m k (ix2 x 0) = mx' (m (ix2 x 0)) (dt q k x) := by
  unfold k0_pay16 k0_pay15
  pointwise
  rw [ninf_f32]

theorem n768 (k : Vec Ideal S768x128 .bf16) : k0_pay20 (F := Ideal) q m k (ix2 x 0) = mx' (m (ix2 x 0)) (dt q k x) := m768 q m x k

theorem a768 (k v : Vec Ideal S768x128 .bf16) : k0_pay17 (F := Ideal) q m a k v (ix2 x d) = ac' (m (ix2 x 0)) (a (ix2 x d)) (dt q k x) (vv v d) := by
  have h := m768 q m x k
  unfold k0_pay17
  generalize k0_pay16 (F := Ideal) q m k = y at h ⊢
  unfold k0_pay15
  pointwise
  simp only [h, sel64, one_b]
  rfl

theorem b768 (k v : Vec Ideal S768x128 .bf16) : k0_pay49 (F := Ideal) a (k0_pay18 v) (k0_pay19 q k) (k0_pay20 q m k) (k0_pay21 q m k) (ix2 x d)
    = ac' (m (ix2 x 0)) (a (ix2 x d)) (dt q k x) (vv v d) := a768 q m a x d k v

theorem m384 (k : Vec Ideal S384x128 .bf16) : k0_pay30 (F := Ideal) q m k (ix2 x 0) = mx' (m (ix2 x 0)) (dt q k x) := by
  unfold k0_pay30 k0_pay29
  pointwise
  rw [ninf_f32]

theorem n384 (k : Vec Ideal S384x128 .bf16) : k0_pay34 (F := Ideal) q m k (ix2 x 0) = mx' (m (ix2 x 0)) (dt q k x) := m384 q m x k

theorem a384 (k v : Vec Ideal S384x128 .bf16) : k0_pay31 (F := Ideal) q m a k v (ix2 x d) = ac' (m (ix2 x 0)) (a (ix2 x d)) (dt q k x) (vv v d) := by
  have h := m384 q m x k
  unfold k0_pay31
  generalize k0_pay30 (F := Ideal) q m k = y at h ⊢
  unfold k0_pay29
  pointwise
  simp only [h, sel64, one_b]
  rfl

theorem b384 (k v : Vec Ideal S384x128 .bf16) : k0_pay51 (F := Ideal) a (k0_pay32 v) (k0_pay33 q k) (k0_pay34 q m k) (k0_pay35 q m k) (ix2 x d)
    = ac' (m (ix2 x 0)) (a (ix2 x d)) (dt q k x) (vv v d) := a384 q m a x d k v

theorem me (k : Vec Ideal S384x128 .bf16) : k0_pay56 (F := Ideal) m (k0_pay54 q k) (ix2 x 0) = mx' (m (ix2 x 0)) (dm q k x) := by
  unfold k0_pay56 k0_pay55 k0_pay54
  pointwise
  simp only [ninf_f32, addz, msk, KernelIdeal.Att.select_fin (show 384 ≤ 2 ^ 31 by norm_num) (show 384 ≤ 2 ^ 31 by norm_num)]

theorem ne (k : Vec Ideal S384x128 .bf16) : k0_pay60 (F := Ideal) q m k (ix2 x 0) = mx' (m (ix2 x 0)) (dm q k x) := me q m x k

theorem ae (k v : Vec Ideal S384x128 .bf16) : k0_pay57 (F := Ideal) m a (k0_pay53 v) (k0_pay54 q k) (ix2 x d) = ac' (m (ix2 x 0)) (a (ix2 x d)) (dm q k x) (vv v d) := by
  have h := me q m x k
  unfold k0_pay57
  generalize k0_pay56 (F := Ideal) m (k0_pay54 q k) = y at h ⊢
  unfold k0_pay55 k0_pay54 k0_pay53
  pointwise
  simp only [h, sel64, one_b, addz, msk, KernelIdeal.Att.select_fin (show 384 ≤ 2 ^ 31 by norm_num) (show 384 ≤ 2 ^ 31 by norm_num)]
  rfl

theorem be (k v : Vec Ideal S384x128 .bf16) : k0_pay61 (F := Ideal) m a (k0_pay58 v) (k0_pay59 q k) (k0_pay60 q m k) (ix2 x d)
    = ac' (m (ix2 x 0)) (a (ix2 x d)) (dm q k x) (vv v d) := ae q m a x d k v

theorem o0 : k0_pay63 (F := Ideal) a (ix2 x d) = if d.val < 64 then Ideal.div (a (ix2 x d)) (a (ix2 x 64)) else 0 := by
  unfold k0_pay63 k0_pay62
  pointwise
  simp only [lt64, zero_f]

theorem l0 : k0_pay64 (F := Ideal) m a (ix2 x d) = m (ix2 x 0) + Ideal.log (a (ix2 x 64)) * (((Real.log 2)⁻¹ : ℝ) : EReal) := by
  unfold k0_pay64 k0_pay62
  pointwise
  rfl

end Cert.Kernel30Ideal.Fwd

end
-- ==== Proof.FwdTrip.lean ====
/- The carried maxima and sums over the loops' trips. -/
module

public import proofs.«01_k».proof.Proof.FwdPay

@[expose] public section

noncomputable section

namespace Cert.Kernel30Ideal.Fwd

open Cert.Kernel30Ideal.Gen Cert.Attn Cert.Fwd Cert.Sums
open Cert.KernelIdeal.Att (e2 readAt2b)
open Idealize.ShloMosaic Idealize.ShloMosaic.TcCoe Idealize.SL.Sem

theorem t1_n : ∀ i : grid0.Coords, (k0_t1_loop i).trips = (i 2).val / 4 := by decide +kernel
theorem t2_n : ∀ i : grid0.Coords, (k0_t2_loop i).trips = 0 := by decide +kernel
theorem t3_n : ∀ i : grid0.Coords, (k0_t3_loop i).trips = (i 2).val % 4 / 2 := by decide +kernel
theorem t4_n : ∀ i : grid0.Coords, (k0_t4_loop i).trips = 0 := by decide +kernel
theorem t5_n : ∀ i : grid0.Coords, (k0_t5_loop i).trips = (i 2).val % 2 := by decide +kernel
theorem t6_n : ∀ i : grid0.Coords, (k0_t6_loop i).trips = 0 := by decide +kernel
theorem f1 : ∀ (i : grid0.Coords) (k : Fin (k0_t1_loop i).trips), k0_off1 i k = ![1536 * k.val, 0] := by decide +kernel
theorem f2 : ∀ (i : grid0.Coords) (k : Fin (k0_t1_loop i).trips), k0_off2 i k = ![1536 * k.val, 128] := by decide +kernel
theorem f5 : ∀ (i : grid0.Coords), k0_off5 i = ![1536 * ((i 2).val / 4), 0] := by decide +kernel
theorem f6 : ∀ (i : grid0.Coords), k0_off6 i = ![1536 * ((i 2).val / 4), 128] := by decide +kernel
theorem f9 : ∀ (i : grid0.Coords), (i 2).val % 2 = 1 → k0_off9 i = ![384 * ((i 2).val - 1), 0] := by decide +kernel
theorem f10 : ∀ (i : grid0.Coords), (i 2).val % 2 = 1 → k0_off10 i = ![384 * ((i 2).val - 1), 128] := by decide +kernel
theorem f13 : ∀ (i : grid0.Coords), k0_off13 i = ![384 * (i 2).val, 0] := by decide +kernel
theorem f14 : ∀ (i : grid0.Coords), k0_off14 i = ![384 * (i 2).val, 128] := by decide +kernel

/-- The carried values: each head's maximum and sum. -/
abbrev Acc : Type := FVec Ideal S384x1 .f32 × FVec Ideal S384x128 .f32 × FVec Ideal S384x1 .f32 × FVec Ideal S384x128 .f32

/-- A head's value in a lane of key `k`. -/
def bl (x2 : S4224x256.Idx → EReal) (h d k : ℕ) : EReal := if d = 64 then 1 else e2 x2 k (128 * h + d)

/-- The queries' scores are the reals of `S`. -/
def Sc (q0 q1 : S384x128.Idx → EReal) (x1 : S4224x256.Idx → EReal) (S : ℕ → ℕ → ℕ → ℝ) : Prop :=
  ∀ (x : Fin 384) (k : ℕ), k < 4224 → ∑ e : Fin 128, q0 (ix2 x e) * e2 x1 k e.val = (S 0 x.val k : EReal) ∧ ∑ e : Fin 128, q1 (ix2 x e) * e2 x1 k (128 + e.val) = (S 1 x.val k : EReal)

/-- After `n` keys every row and lane of both heads stands where the running softmax should. -/
def C (S : ℕ → ℕ → ℕ → ℝ) (x2 : S4224x256.Idx → EReal) (T n : ℕ) (a : Acc) : Prop :=
  ∀ (x : Fin 384) (d : Fin 128), St (S 0 x.val) (384 * T + x.val) (bl x2 0 d.val) n (a.1 (ix2 x 0)) (a.2.1 (ix2 x d))
    ∧ St (S 1 x.val) (384 * T + x.val) (bl x2 1 d.val) n (a.2.2.1 (ix2 x 0)) (a.2.2.2 (ix2 x d))

variable {S : ℕ → ℕ → ℕ → ℝ} {q0 q1 : FVec Ideal S384x128 .bf16} {x1 x2 : S4224x256.Idx → EReal} {T n : ℕ} {a : Acc}

/-- A block of `W` keys, none of them later than the queries, carries the state on. -/
theorem C.step (hS : Sc q0 q1 x1 S) (hT : T < 11) (ha : C S x2 T n a) (W : ℕ) (hW : 0 < W) (hn : n + W ≤ 384 * T) (b : Acc)
    (k0 v0 k1 v1 : (⟨2, ![W, 128]⟩ : Shape).Idx → EReal)
    (hk0 : k0 = fun i => e2 x1 (n + (i 0).val) (0 + (i 1).val)) (hv0 : v0 = fun i => e2 x2 (n + (i 0).val) (0 + (i 1).val))
    (hk1 : k1 = fun i => e2 x1 (n + (i 0).val) (128 + (i 1).val)) (hv1 : v1 = fun i => e2 x2 (n + (i 0).val) (128 + (i 1).val))
    (h0 : ∀ x, b.1 (ix2 x 0) = mx' (a.1 (ix2 x 0)) (dt q0 k0 x)) (h1 : ∀ x d, b.2.1 (ix2 x d) = ac' (a.1 (ix2 x 0)) (a.2.1 (ix2 x d)) (dt q0 k0 x) (vv v0 d))
    (h2 : ∀ x, b.2.2.1 (ix2 x 0) = mx' (a.2.2.1 (ix2 x 0)) (dt q1 k1 x)) (h3 : ∀ x d, b.2.2.2 (ix2 x d) = ac' (a.2.2.1 (ix2 x 0)) (a.2.2.2 (ix2 x d)) (dt q1 k1 x) (vv v1 d)) :
    C S x2 T (n + W) b := by
  intro x d
  have hx := x.isLt
  rw [h0, h1, h2, h3]
  refine ⟨(ha x d).1.step hW (by omega) (fun k => ?_) (fun k => ?_), (ha x d).2.step hW (by omega) (fun k => ?_) (fun k => ?_)⟩
  · have := k.isLt
    rw [if_pos (by omega), ← (hS x _ (by omega)).1, hk0]
    refine Finset.sum_congr rfl fun e _ => ?_
    show _ * e2 x1 (n + k.val) (0 + e.val) = _
    rw [Nat.zero_add]
  · rw [hv0]
    rfl
  · have := k.isLt
    rw [if_pos (by omega), ← (hS x _ (by omega)).2, hk1]
    rfl
  · rw [hv1]
    rfl

theorem q43 (v : Vec Ideal S384x128 .bf16) : k0_pay43 (F := Ideal) v = v := shapeCast_self v _

theorem q44 (v : Vec Ideal S384x128 .bf16) : k0_pay44 (F := Ideal) v = v := shapeCast_self v _

section Trips

variable (𝒱 : Variants) (c : Dev nD) (bd : Option 𝒱.V) (i : grid0.Coords) (arg3 : Memref sig .tc .vmem S384x256 .bf16) (harg3 : arg3.IsWhole) (arg4 : Memref sig .tc .vmem S4224x256 .bf16) (harg4 : arg4.IsWhole)
  (arg5 : Memref sig .tc .vmem S4224x256 .bf16) (harg5 : arg5.IsWhole) (arg6 : Memref sig .tc .vmem S384x256 .bf16) (harg6 : arg6.IsWhole) (arg7 : Memref sig .tc .vmem S384x256 .f32) (harg7 : arg7.IsWhole)
  (arg2 : BitVec 32) (v0 v2 : FVec Ideal S384x128 .bf16) (v22 : BitVec 32) (w0 : FVec Ideal S384x1 .f32) (w1 : FVec Ideal S384x128 .f32) (w2 : FVec Ideal S384x1 .f32) (w3 : FVec Ideal S384x128 .f32)
  (v30 v31 v32 v33 v35 : BitVec 32) (X4 : BufTy.Contents (Elt Ideal) arg4.view.ty) (X5 : BufTy.Contents (Elt Ideal) arg5.view.ty)
  (hS : Sc v0 v2 (arg4.view.read (Elt Ideal) X4) S)
include hS

theorem trip1 (k : Fin (k0_t1_loop i).trips) (ha : C S (arg5.view.read (Elt Ideal) X5) (i 2).val (1536 * k.val) a) :
    C S (arg5.view.read (Elt Ideal) X5) (i 2).val (1536 * k.val + 1536)
      ((trip_k0_t1 (F := Ideal) 𝒱 c bd i arg3 harg3 arg4 harg4 arg5 harg5 arg6 harg6 arg7 harg7 v0 v2 X4 X5 k).1 a) := by
  have hk : k.val < (i 2).val / 4 := lt_of_lt_of_eq k.isLt (t1_n i)
  have hi : (i 2).val < 11 := (i 2).isLt
  unfold trip_k0_t1
  sl_unfold_run_names
  dsimp only
  rw [q43, q44]
  exact C.step hS hi ha 1536 (by norm_num) (by omega) _ _ _ _ _ (readAt2b _ _ _ _ _ _ _ (f1 i k)) (readAt2b _ _ _ _ _ _ _ (f1 i k))
    (readAt2b _ _ _ _ _ _ _ (f2 i k)) (readAt2b _ _ _ _ _ _ _ (f2 i k)) (fun x => m1536 _ _ x _) (fun x d => a1536 _ _ _ x d _ _)
    (fun x => n1536 _ _ x _) (fun x d => b1536 _ _ _ x d _ _)

theorem loop1 (ha : C S (arg5.view.read (Elt Ideal) X5) (i 2).val 0 a) (n : ℕ) (hn : n ≤ (i 2).val / 4) : C S (arg5.view.read (Elt Ideal) X5) (i 2).val (1536 * n)
    (st_k0_t1 (F := Ideal) 𝒱 c bd i arg3 harg3 arg4 harg4 arg5 harg5 arg6 harg6 arg7 harg7 v0 v2 X4 X5 a n) := by
  induction n with
  | zero => exact ha
  | succ n ih =>
    have h := st_k0_t1_succ (F := Ideal) 𝒱 c bd i arg3 harg3 arg4 harg4 arg5 harg5 arg6 harg6 arg7 harg7 v0 v2 X4 X5 a ⟨n, by rw [t1_n]; omega⟩
    rw [show n + 1 = (⟨n, by rw [t1_n]; omega⟩ : Fin (k0_t1_loop i).trips).val + 1 from rfl, h]
    exact trip1 𝒱 c bd i arg3 harg3 arg4 harg4 arg5 harg5 arg6 harg6 arg7 harg7 v0 v2 X4 X5 hS _ (ih (by omega))

theorem trip3 (k : Fin (k0_t3_loop i).trips) (ha : C S (arg5.view.read (Elt Ideal) X5) (i 2).val (1536 * ((i 2).val / 4)) a) :
    C S (arg5.view.read (Elt Ideal) X5) (i 2).val (1536 * ((i 2).val / 4) + 768) ((trip_k0_t3 (F := Ideal) 𝒱 c bd i arg3 harg3 arg4 harg4 arg5 harg5 arg6 harg6 arg7 harg7 arg2 v0 v2 v22 w0 w1 w2 w3 v30 v31 v32 v33 v35 X4 X5 k).1 a) := by
  have hk : k.val < (i 2).val % 4 / 2 := lt_of_lt_of_eq k.isLt (t3_n i)
  have hi : (i 2).val < 11 := (i 2).isLt
  unfold trip_k0_t3
  sl_unfold_run_names
  dsimp only
  exact C.step hS hi ha 768 (by norm_num) (by omega) _ _ _ _ _ (readAt2b _ _ _ _ _ _ _ (f5 i)) (readAt2b _ _ _ _ _ _ _ (f5 i))
    (readAt2b _ _ _ _ _ _ _ (f6 i)) (readAt2b _ _ _ _ _ _ _ (f6 i)) (fun x => m768 _ _ x _) (fun x d => a768 _ _ _ x d _ _)
    (fun x => n768 _ _ x _) (fun x d => b768 _ _ _ x d _ _)

theorem loop3 (n : ℕ) (hn : n = (i 2).val % 4 / 2) (ha : C S (arg5.view.read (Elt Ideal) X5) (i 2).val (1536 * ((i 2).val / 4)) a) : C S (arg5.view.read (Elt Ideal) X5) (i 2).val (1536 * ((i 2).val / 4) + 768 * n)
    (st_k0_t3 (F := Ideal) 𝒱 c bd i arg3 harg3 arg4 harg4 arg5 harg5 arg6 harg6 arg7 harg7 arg2 v0 v2 v22 w0 w1 w2 w3 v30 v31 v32 v33 v35 X4 X5 a n) := by
  rcases Nat.eq_zero_or_pos n with rfl | h0
  · exact ha
  · obtain rfl : n = 1 := by omega
    have h := st_k0_t3_succ (F := Ideal) 𝒱 c bd i arg3 harg3 arg4 harg4 arg5 harg5 arg6 harg6 arg7 harg7 arg2 v0 v2 v22 w0 w1 w2 w3 v30 v31 v32 v33 v35 X4 X5 a ⟨0, by rw [t3_n]; omega⟩
    have h2 := trip3 𝒱 c bd i arg3 harg3 arg4 harg4 arg5 harg5 arg6 harg6 arg7 harg7 arg2 v0 v2 v22 w0 w1 w2 w3 v30 v31 v32 v33 v35 X4 X5 hS ⟨0, by rw [t3_n]; omega⟩ ha
    exact h.symm ▸ h2

theorem trip5 (k : Fin (k0_t5_loop i).trips) (ha : C S (arg5.view.read (Elt Ideal) X5) (i 2).val (384 * ((i 2).val - 1)) a) :
    C S (arg5.view.read (Elt Ideal) X5) (i 2).val (384 * ((i 2).val - 1) + 384) ((trip_k0_t5 (F := Ideal) 𝒱 c bd i arg3 harg3 arg4 harg4 arg5 harg5 arg6 harg6 arg7 harg7 arg2 v0 v2 v22 w0 w1 w2 w3 v30 v31 v32 v33 v35 X4 X5 k).1 a) := by
  have hk : k.val < (i 2).val % 2 := lt_of_lt_of_eq k.isLt (t5_n i)
  have hi : (i 2).val < 11 := (i 2).isLt
  unfold trip_k0_t5
  sl_unfold_run_names
  dsimp only
  exact C.step hS hi ha 384 (by norm_num) (by omega) _ _ _ _ _ (readAt2b _ _ _ _ _ _ _ (f9 i (by omega))) (readAt2b _ _ _ _ _ _ _ (f9 i (by omega)))
    (readAt2b _ _ _ _ _ _ _ (f10 i (by omega))) (readAt2b _ _ _ _ _ _ _ (f10 i (by omega))) (fun x => m384 _ _ x _) (fun x d => a384 _ _ _ x d _ _)
    (fun x => n384 _ _ x _) (fun x d => b384 _ _ _ x d _ _)

theorem loop5 (n : ℕ) (hn : n = (i 2).val % 2) (ha : C S (arg5.view.read (Elt Ideal) X5) (i 2).val (384 * ((i 2).val - n)) a) : C S (arg5.view.read (Elt Ideal) X5) (i 2).val (384 * (i 2).val)
    (st_k0_t5 (F := Ideal) 𝒱 c bd i arg3 harg3 arg4 harg4 arg5 harg5 arg6 harg6 arg7 harg7 arg2 v0 v2 v22 w0 w1 w2 w3 v30 v31 v32 v33 v35 X4 X5 a n) := by
  rcases Nat.eq_zero_or_pos n with rfl | h0
  · exact ha
  · obtain rfl : n = 1 := by omega
    have h := st_k0_t5_succ (F := Ideal) 𝒱 c bd i arg3 harg3 arg4 harg4 arg5 harg5 arg6 harg6 arg7 harg7 arg2 v0 v2 v22 w0 w1 w2 w3 v30 v31 v32 v33 v35 X4 X5 a ⟨0, by rw [t5_n]; omega⟩
    have h2 := trip5 𝒱 c bd i arg3 harg3 arg4 harg4 arg5 harg5 arg6 harg6 arg7 harg7 arg2 v0 v2 v22 w0 w1 w2 w3 v30 v31 v32 v33 v35 X4 X5 hS ⟨0, by rw [t5_n]; omega⟩ ha
    rw [show 384 * ((i 2).val - 1) + 384 = 384 * (i 2).val by omega] at h2
    exact h.symm ▸ h2

end Trips

end Cert.Kernel30Ideal.Fwd

end
-- ==== Proof.FwdPoint.lean ====
/- What the kernel leaves in the two blocks of a point of its grid. -/
module

public import proofs.«01_k».proof.Proof.FwdTrip

@[expose] public section

noncomputable section

namespace Cert.Kernel30Ideal.Fwd

open Cert.Kernel30Ideal.Gen Cert.Attn Cert.Fwd Cert.Sums
open Cert.KernelIdeal.Att (e2 readAt2b e2_val)
open Idealize.ShloMosaic Idealize.ShloMosaic.TcCoe Idealize.SL.Sem

section Ends

variable {S : ℕ → ℕ → ℕ → ℝ} {x2 : S4224x256.Idx → EReal} {i : grid0.Coords} {a : Acc}
variable {𝒱 : Variants} {c : Dev nD} {bd : Option 𝒱.V} {arg3 : Memref sig .tc .vmem S384x256 .bf16} {harg3 : arg3.IsWhole} {arg4 : Memref sig .tc .vmem S4224x256 .bf16} {harg4 : arg4.IsWhole}
  {arg5 : Memref sig .tc .vmem S4224x256 .bf16} {harg5 : arg5.IsWhole} {arg6 : Memref sig .tc .vmem S384x256 .bf16} {harg6 : arg6.IsWhole} {arg7 : Memref sig .tc .vmem S384x256 .f32} {harg7 : arg7.IsWhole}

theorem start (x2 : S4224x256.Idx → EReal) (T : ℕ) : C S x2 T 0 (k0_pay45, k0_pay46, k0_pay45, k0_pay46) := fun x d =>
  ⟨Or.inl ⟨rfl, msk, zero_f⟩, Or.inl ⟨rfl, msk, zero_f⟩⟩

variable {arg2 : BitVec 32} {v0 v2 : FVec Ideal S384x128 .bf16} {v22 v27 v52 v60 : BitVec 32} {w0 : FVec Ideal S384x1 .f32} {w1 : FVec Ideal S384x128 .f32} {w2 : FVec Ideal S384x1 .f32} {w3 : FVec Ideal S384x128 .f32}
  {v30 v31 v32 v33 v35 : BitVec 32} {X4 : BufTy.Contents (Elt Ideal) arg4.view.ty} {X5 : BufTy.Contents (Elt Ideal) arg5.view.ty} {N n : ℕ}

theorem fin1 (hS : Sc v0 v2 (arg4.view.read (Elt Ideal) X4) S) (hx : arg5.view.read (Elt Ideal) X5 = x2) (hn : N = (i 2).val / 4) (ha : C S x2 (i 2).val 0 a) :
    C S x2 (i 2).val (1536 * ((i 2).val / 4))
      (st_k0_t1 (F := Ideal) 𝒱 c bd i arg3 harg3 arg4 harg4 arg5 harg5 arg6 harg6 arg7 harg7 v0 v2 X4 X5 a N) := by
  subst hn hx
  exact loop1 𝒱 c bd i arg3 harg3 arg4 harg4 arg5 harg5 arg6 harg6 arg7 harg7 v0 v2 X4 X5 hS ha _ le_rfl

theorem fin3 (hS : Sc v0 v2 (arg4.view.read (Elt Ideal) X4) S) (hx : arg5.view.read (Elt Ideal) X5 = x2) (hn : N = (i 2).val % 4 / 2) (ha : C S x2 (i 2).val (1536 * ((i 2).val / 4)) a) :
    C S x2 (i 2).val (384 * ((i 2).val - (i 2).val % 2))
      (st_k0_t3 (F := Ideal) 𝒱 c bd i arg3 harg3 arg4 harg4 arg5 harg5 arg6 harg6 arg7 harg7 arg2 v0 v2 v22 w0 w1 w2 w3 v30 v31 v32 v33 v35 X4 X5 a N) := by
  subst hx
  have h := loop3 𝒱 c bd i arg3 harg3 arg4 harg4 arg5 harg5 arg6 harg6 arg7 harg7 arg2 v0 v2 v22 w0 w1 w2 w3 v30 v31 v32 v33 v35 X4 X5 hS N hn ha
  rwa [show 1536 * ((i 2).val / 4) + 768 * N = 384 * ((i 2).val - (i 2).val % 2) by omega] at h

theorem fin5 (hS : Sc v0 v2 (arg4.view.read (Elt Ideal) X4) S) (hx : arg5.view.read (Elt Ideal) X5 = x2) (hn : N = (i 2).val % 2) (ha : C S x2 (i 2).val (384 * ((i 2).val - (i 2).val % 2)) a) :
    C S x2 (i 2).val (384 * (i 2).val)
      (st_k0_t5 (F := Ideal) 𝒱 c bd i arg3 harg3 arg4 harg4 arg5 harg5 arg6 harg6 arg7 harg7 arg2 v0 v2 v22 w0 w1 w2 w3 v30 v31 v32 v33 v35 X4 X5 a N) := by
  subst hx hn
  exact loop5 𝒱 c bd i arg3 harg3 arg4 harg4 arg5 harg5 arg6 harg6 arg7 harg7 arg2 v0 v2 v22 w0 w1 w2 w3 v30 v31 v32 v33 v35 X4 X5 hS _ rfl ha

theorem fin2 (hn : N = 0) (ha : C S x2 (i 2).val n a) :
    C S x2 (i 2).val n (st_k0_t2 (F := Ideal) 𝒱 c bd i arg3 harg3 arg4 harg4 arg5 harg5 arg6 harg6 arg7 harg7 v0 v2 v27 X4 X5 a N) := by
  subst hn
  exact ha

theorem fin4 (hn : N = 0) (ha : C S x2 (i 2).val n a) :
    C S x2 (i 2).val n (st_k0_t4 (F := Ideal) 𝒱 c bd i arg3 harg3 arg4 harg4 arg5 harg5 arg6 harg6 arg7 harg7 arg2 v0 v2 v22 w0 w1 w2 w3 v30 v31 v32 v33 v35 v52 X4 X5 a N) := by
  subst hn
  exact ha

theorem fin6 (hn : N = 0) (ha : C S x2 (i 2).val n a) :
    C S x2 (i 2).val n (st_k0_t6 (F := Ideal) 𝒱 c bd i arg3 harg3 arg4 harg4 arg5 harg5 arg6 harg6 arg7 harg7 arg2 v0 v2 v22 w0 w1 w2 w3 v30 v31 v32 v33 v35 v60 X4 X5 a N) := by
  subst hn
  exact ha

end Ends

section Run

variable (c : Dev nD) (i : grid0.Coords) (arg3 : Memref sig .tc .vmem S384x256 .bf16) (harg3 : arg3.IsWhole) (arg4 : Memref sig .tc .vmem S4224x256 .bf16) (harg4 : arg4.IsWhole)
  (arg5 : Memref sig .tc .vmem S4224x256 .bf16) (harg5 : arg5.IsWhole) (arg6 : Memref sig .tc .vmem S384x256 .bf16) (harg6 : arg6.IsWhole) (arg7 : Memref sig .tc .vmem S384x256 .f32) (harg7 : arg7.IsWhole)
  (x0 : Vec Ideal S384x256 .bf16) (x1 x2 : Vec Ideal S4224x256 .bf16)

/-- A block of the point's own rows in one head's lanes. -/
abbrev own (x : S4224x256.Idx → EReal) (n p : ℕ) : S384x128.Idx → EReal := fun j => e2 x (n + (j 0).val) (p + (j 1).val)

theorem own0 : arg3.view.readAt (Elt Ideal) (Rect.unit (s := S384x256) ![0, 0] ![384, 128] inb_S384x256_S384x128_0_0).toLoadRect (harg3.unread x0)
    = fun j => e2 x0 (j 0).val (j 1).val := by
  rw [readAt2b arg3.view _ _ _ _ 0 0 rfl, harg3.read_unread]
  simp only [Nat.zero_add]

theorem own1 : arg3.view.readAt (Elt Ideal) (Rect.unit (s := S384x256) ![0, 128] ![384, 128] inb_S384x256_S384x128_0_128).toLoadRect (harg3.unread x0)
    = fun j => e2 x0 (j 0).val (128 + (j 1).val) := by
  rw [readAt2b arg3.view _ _ _ _ 0 128 rfl, harg3.read_unread]
  simp only [Nat.zero_add]

/-- The two stores into each block, from what the loops carry to the point's own keys. -/
theorem run (S : ℕ → ℕ → ℕ → ℝ) (hS : Sc (fun j => e2 x0 (j 0).val (j 1).val) (fun j => e2 x0 (j 0).val (128 + (j 1).val)) x1 S) :
    ∃ (a : Acc) (q0 q1 k0 k1 v0 v1 : FVec Ideal S384x128 .bf16), C S x2 (i 2).val (384 * (i 2).val) a
      ∧ q0 = (fun j => e2 x0 (j 0).val (j 1).val) ∧ q1 = (fun j => e2 x0 (j 0).val (128 + (j 1).val))
      ∧ k0 = own x1 (384 * (i 2).val) 0 ∧ k1 = own x1 (384 * (i 2).val) 128 ∧ v0 = own x2 (384 * (i 2).val) 0 ∧ v1 = own x2 (384 * (i 2).val) 128
      ∧ (kernelRun0_A (F := Ideal) c i arg3 harg3 arg4 harg4 arg5 harg5 arg6 harg6 arg7 harg7 x0 x1 x2).1
        = [⟨Rect.unit (s := S384x256) ![0, 128] ![384, 128] inb_S384x256_S384x128_0_128, k0_pay66 a.2.2.1 a.2.2.2 (k0_pay58 v1) (k0_pay59 q1 k1) (k0_pay60 q1 a.2.2.1 k1)⟩,
          ⟨Rect.unit (s := S384x256) ![0, 0] ![384, 128] inb_S384x256_S384x128_0_0, k0_pay63 (k0_pay57 a.1 a.2.1 (k0_pay53 v0) (k0_pay54 q0 k0))⟩]
      ∧ (kernelRun0_A (F := Ideal) c i arg3 harg3 arg4 harg4 arg5 harg5 arg6 harg6 arg7 harg7 x0 x1 x2).2.1
        = [⟨Rect.unit (s := S384x256) ![0, 128] ![384, 128] inb_S384x256_S384x128_0_128, k0_pay67 a.2.2.1 a.2.2.2 (k0_pay58 v1) (k0_pay59 q1 k1) (k0_pay60 q1 a.2.2.1 k1)⟩,
          ⟨Rect.unit (s := S384x256) ![0, 0] ![384, 128] inb_S384x256_S384x128_0_0, k0_pay64 (k0_pay56 a.1 (k0_pay54 q0 k0)) (k0_pay57 a.1 a.2.1 (k0_pay53 v0) (k0_pay54 q0 k0))⟩] := by
  have hx1 := harg4.read_unread (Val := Elt Ideal) x1
  have hx2 := harg5.read_unread (Val := Elt Ideal) x2
  have hq0 := own0 arg3 harg3 x0
  have hq1 := own1 arg3 harg3 x0
  have hi : (i 2).val < 11 := (i 2).isLt
  have hS' : Sc (arg3.view.readAt (Elt Ideal) (Rect.unit (s := S384x256) ![0, 0] ![384, 128] inb_S384x256_S384x128_0_0).toLoadRect (harg3.unread x0))
      (arg3.view.readAt (Elt Ideal) (Rect.unit (s := S384x256) ![0, 128] ![384, 128] inb_S384x256_S384x128_0_128).toLoadRect (harg3.unread x0)) (arg4.view.read (Elt Ideal) (harg4.unread x1)) S := by
    rw [hq0, hq1, hx1]
    exact hS
  unfold kernelRun0_A
  sl_unfold_run_names
  dsimp only
  refine ⟨_, _, _, _, _, _, _, ?_, ?_, ?_, ?_, ?_, ?_, ?_, rfl, rfl⟩
  rotate_left
  · rw [q43]; exact hq0
  · rw [q44]; exact hq1
  · rw [readAt2b _ _ _ _ _ _ _ (f13 i), hx1]; rfl
  · rw [readAt2b _ _ _ _ _ _ _ (f14 i), hx1]; rfl
  · rw [readAt2b _ _ _ _ _ _ _ (f13 i), hx2]; rfl
  · rw [readAt2b _ _ _ _ _ _ _ (f14 i), hx2]; rfl
  refine fin6 (t6_n i) (fin5 ?_ hx2 (t5_n i) (fin4 (t4_n i) (fin3 ?_ hx2 (t3_n i) (fin2 (t2_n i) (fin1 hS' hx2 (t1_n i) (start _ _))))))
  · rw [q43, q44]; exact hS'
  · rw [q43, q44]; exact hS'

/-- The point's own keys end the rows' softmax. -/
theorem last {S : ℕ → ℝ} {T : ℕ} (hT : T < 11) {V : ℕ → EReal} {m acc : EReal} {q : S384x128.Idx → EReal} {x1 x2 : S4224x256.Idx → EReal} (p : ℕ) (x : Fin 384) (d : Fin 128)
    (h : St S (384 * T + x.val) V (384 * T) m acc) (hq : ∀ k < 4224, ∑ e : Fin 128, q (ix2 x e) * e2 x1 k (p + e.val) = (S k : EReal))
    (hV : ∀ k, V k = if d.val = 64 then 1 else e2 x2 k (p + d.val)) :
    St S (384 * T + x.val) V (384 * T + 384) (mx' m (dm q (own x1 (384 * T) p) x)) (ac' m acc (dm q (own x1 (384 * T) p) x) (vv (own x2 (384 * T) p) d)) := by
  refine h.step (by norm_num) (by omega) (fun k => ?_) (fun k => (hV _).symm)
  have := k.isLt
  simp only [Nat.add_le_add_iff_left]
  refine if_congr Iff.rfl (Eq.trans ?_ (hq (384 * T + k.val) (by omega))) rfl
  rfl

theorem o1 (a0 : FVec Ideal S384x1 .f32) (a1 : FVec Ideal S384x128 .f32) (v : FVec Ideal S384x128 .bf16) (s : FVec Ideal S384x384 .f32) (w : FVec Ideal S384x1 .f32) :
    k0_pay66 (F := Ideal) a0 a1 v s w = k0_pay63 (k0_pay61 a0 a1 v s w) := rfl

theorem l1 (a0 : FVec Ideal S384x1 .f32) (a1 : FVec Ideal S384x128 .f32) (v : FVec Ideal S384x128 .bf16) (s : FVec Ideal S384x384 .f32) (w : FVec Ideal S384x1 .f32) :
    k0_pay67 (F := Ideal) a0 a1 v s w = k0_pay64 w (k0_pay61 a0 a1 v s w) := rfl

/-- A block after a store into each half of its lanes, at an index. -/
theorem halves {e : EltTy} (v : View sig .tc .vmem S384x256 e) (f : v.ty.Contents (Elt Ideal)) (p0 p1 : S384x128.Idx → Elt Ideal e) (x : Fin 384) (y : Fin 256) :
    v.read (Elt Ideal) (v.writes (Elt Ideal) f [⟨Rect.unit (s := S384x256) ![0, 128] ![384, 128] inb_S384x256_S384x128_0_128, p1⟩,
      ⟨Rect.unit (s := S384x256) ![0, 0] ![384, 128] inb_S384x256_S384x128_0_0, p0⟩]) (ix2 x y)
      = if h : y.val < 128 then p0 (ix2 x ⟨y.val, h⟩) else p1 (ix2 x ⟨y.val - 128, by have := y.isLt; omega⟩) := by
  have hy := y.isLt
  by_cases hc : y.val < 128
  · rw [dif_pos hc, View.read_writes_cons_unit_of_not_mem v _ inb_S384x256_S384x128_0_128 _ _ (ix2 x y) rfl 1 (Or.inl hc),
      View.read_writes_cons_unit_of_mem v _ inb_S384x256_S384x128_0_0 _ _ (ix2 x y) (ix2 x ⟨y.val, hc⟩) rfl (by
        intro a
        match a with
        | ⟨0, _⟩ => show x.val = 0 + x.val; omega
        | ⟨1, _⟩ => show y.val = 0 + y.val; omega)]
  · rw [dif_neg hc, View.read_writes_cons_unit_of_mem v _ inb_S384x256_S384x128_0_128 _ _ (ix2 x y) (ix2 x ⟨y.val - 128, by omega⟩) rfl (by
        intro a
        match a with
        | ⟨0, _⟩ => show x.val = 0 + x.val; omega
        | ⟨1, _⟩ => show y.val = 128 + (y.val - 128); omega)]

section Vals

variable {S : ℕ → ℕ → ℕ → ℝ} {T : ℕ} (hT : T < 11) {a : Acc} {q : FVec Ideal S384x128 .bf16} {x1 x2 : S4224x256.Idx → EReal} {k v : Vec Ideal S384x128 .bf16} (ha : C S x2 T (384 * T) a)
  (x : Fin 384) (d : Fin 128)
include hT ha

theorem val0 (hq : ∀ k < 4224, ∑ e : Fin 128, q (ix2 x e) * e2 x1 k (0 + e.val) = (S 0 x.val k : EReal)) (hk : k = own x1 (384 * T) 0) (hv : v = own x2 (384 * T) 0) :
    St (S 0 x.val) (384 * T + x.val) (bl x2 0 d.val) (384 * T + 384) (k0_pay56 (F := Ideal) a.1 (k0_pay54 q k) (ix2 x 0)) (k0_pay57 (F := Ideal) a.1 a.2.1 (k0_pay53 v) (k0_pay54 q k) (ix2 x d)) := by
  rw [me, ae, hk, hv]
  exact last hT 0 x d (ha x d).1 hq fun k => by rw [bl, Nat.mul_zero]

theorem val1 (hq : ∀ k < 4224, ∑ e : Fin 128, q (ix2 x e) * e2 x1 k (128 + e.val) = (S 1 x.val k : EReal)) (hk : k = own x1 (384 * T) 128) (hv : v = own x2 (384 * T) 128) :
    St (S 1 x.val) (384 * T + x.val) (bl x2 1 d.val) (384 * T + 384) (k0_pay60 (F := Ideal) q a.2.2.1 k (ix2 x 0))
      (k0_pay61 (F := Ideal) a.2.2.1 a.2.2.2 (k0_pay58 v) (k0_pay59 q k) (k0_pay60 q a.2.2.1 k) (ix2 x d)) := by
  rw [ne, be, hk, hv]
  exact last hT 128 x d (ha x d).2 hq fun k => by rw [bl, Nat.mul_one]

end Vals

/-- The values of a head's two stores. -/
theorem ends {S : ℕ → ℝ} {T : ℕ} {V : ℕ → ℕ → EReal} (hV : V 64 = fun _ => 1) {m : FVec Ideal S384x1 .f32} {a : FVec Ideal S384x128 .f32} (x : Fin 384) (d : Fin 128)
    (h : ∀ d : Fin 128, St S (384 * T + x.val) (V d.val) (384 * T + 384) (m (ix2 x 0)) (a (ix2 x d))) :
    (k0_pay63 (F := Ideal) a (ix2 x d) : EReal) = (if d.val < 64 then out S (384 * T + x.val) (V d.val) else 0) ∧ (k0_pay64 (F := Ideal) m a (ix2 x d) : EReal) = lse S (384 * T + x.val) := by
  have hx := x.isLt
  have h64 := h 64
  rw [show ((64 : Fin 128) : ℕ) = 64 from rfl, hV] at h64
  rw [o0, l0]
  exact ⟨if_congr Iff.rfl (quot (h d) h64 (by omega)) rfl, logs h64 (by omega)⟩

/-- What the kernel leaves of the outputs and of the rows' logarithms. -/
theorem point (S : ℕ → ℕ → ℕ → ℝ) (hS : Sc (fun j => e2 x0 (j 0).val (j 1).val) (fun j => e2 x0 (j 0).val (128 + (j 1).val)) x1 S) (T : ℕ) (hT : (i 2).val = T) (x : Fin 384) (y : Fin 256) :
    out0_A_3 (F := Ideal) c i arg3 harg3 arg4 harg4 arg5 harg5 arg6 harg6 arg7 harg7 x0 x1 x2 (ix2 x y)
        = (if y.val % 128 < 64 then out (S (y.val / 128) x.val) (384 * T + x.val) (bl x2 (y.val / 128) (y.val % 128)) else 0)
      ∧ out0_A_4 (F := Ideal) c i arg3 harg3 arg4 harg4 arg5 harg5 arg6 harg6 arg7 harg7 x0 x1 x2 (ix2 x y) = lse (S (y.val / 128) x.val) (384 * T + x.val) := by
  subst hT
  obtain ⟨a, q0, q1, k0, k1, v0, v1, ha, hq0, hq1, hk0, hk1, hv0, hv1, h3, h4⟩ := run c i arg3 harg3 arg4 harg4 arg5 harg5 arg6 harg6 arg7 harg7 x0 x1 x2 S hS
  have hi : (i 2).val < 11 := (i 2).isLt
  have hy := y.isLt
  rw [← hq0, ← hq1] at hS
  have A (d : Fin 128) := ends (S := S 0 x.val) (V := bl x2 0) (funext fun _ => if_pos rfl) x d fun d => val0 hi ha x d (fun k hk => by simp only [Nat.zero_add]; exact (hS x k hk).1) hk0 hv0
  have B (d : Fin 128) := ends (S := S 1 x.val) (V := bl x2 1) (funext fun _ => if_pos rfl) x d fun d => val1 hi ha x d (fun k hk => (hS x k hk).2) hk1 hv1
  refine (and_congr (Eq.congr_left ((congrArg (fun L => VO0_3.read (Elt Ideal) (VO0_3.writes (Elt Ideal) VO0_3.junk L) (ix2 x y)) h3).trans (halves VO0_3 _ _ _ x y)))
    (Eq.congr_left ((congrArg (fun L => VO0_4.read (Elt Ideal) (VO0_4.writes (Elt Ideal) VO0_4.junk L) (ix2 x y)) h4).trans (halves VO0_4 _ _ _ x y)))).mpr ?_
  by_cases hc : y.val < 128
  · rw [dif_pos hc, dif_pos hc, show y.val / 128 = 0 by omega, show y.val % 128 = y.val by omega]
    exact A ⟨y.val, hc⟩
  · rw [dif_neg hc, dif_neg hc, show y.val / 128 = 1 by omega, show y.val % 128 = y.val - 128 by omega, o1, l1]
    exact B ⟨y.val - 128, by omega⟩

end Run

end Cert.Kernel30Ideal.Fwd

end
-- ==== Proof.FwdRef.lean ====
/- The forward attention's reference at an index, where queries and keys are finite. -/
module

public import proofs.«01_k».proof.Proof.Gen.Reference30Ideal.Read
public import proofs.«01_k».proof.Proof.FwdRow
public import proofs.«01_k».proof.Proof.Spec
public import Idealize.ShloMosaic.Lib.StableHlo.ReadAt

@[expose] public section

noncomputable section

namespace Cert.Reference30Ideal.Fwd

open Cert.Reference30Ideal.Gen Cert.Reference30Ideal.Read Cert.Attn Cert.Fwd Cert.Sums
open Idealize.ShloMosaic Idealize.ShloMosaic.TcCoe Idealize.SL.Sem

variable {x0 x1 x2 : S8448x2048.Idx → EReal} (h0 : ∀ i, x0 i = (((x0 i).toReal : ℝ) : EReal)) (h1 : ∀ i, x1 i = (((x1 i).toReal : ℝ) : EReal))

theorem r0 (b : Fin 2) (n : Fin 4224) (h : Fin 16) (d : Fin 128) : val_main_v0 (F := Ideal) x0 (ix4 b n h d) = at2 x0 (4224 * b.val + n.val) (128 * h.val + d.val) := by
  rw [val_main_v0_apply]
  refine at2_of _ _ _ _ ?_ ?_
  · show (((b.val * 4224 + n.val) * 16 + h.val) * 128 + d.val) / 2048 = _; omega
  · show (((b.val * 4224 + n.val) * 16 + h.val) * 128 + d.val) % 2048 = _; omega

theorem r2 (b : Fin 2) (h : Fin 16) (n r : Fin 4224) : val_main_v2 (F := Ideal) x0 x1 (ix4 b h n r) = sc x0 x1 b.val h.val n.val r.val := by
  have h1 := fun d => r0 (x0 := x0) b n h d
  have h2 : ∀ d, val_main_v1 (F := Ideal) x1 (ix4 b r h d) = _ := fun d => r0 (x0 := x1) b r h d
  unfold val_main_v2
  generalize val_main_v1 (F := Ideal) x1 = y at h2 ⊢
  generalize val_main_v0 (F := Ideal) x0 = z at h1 ⊢
  clean_types
  pointwise
  simp only [h1, h2]
  rfl

theorem mask (b : Fin 2) (h : Fin 16) (n r : Fin 4224) {α : Type} (x y : α) :
    Scalar.select (val_main_call0_v1 (F := Ideal) (ix4 b h n r)) x y = if r.val ≤ n.val then x else y := by
  unfold val_main_call0_v1 val_main_v9 val_main_v8 val_main_v7 val_main_v6 val_main_v5 val_main_v4 val_main_v3
  clean_types
  pointwise
  exact KernelIdeal.Att.select_le _ _ (by omega) (by omega) _ _

include h0 h1

theorem r10 (b : Fin 2) (h : Fin 16) (n r : Fin 4224) :
    val_main_v10 (F := Ideal) x0 x1 (ix4 b h n r) = if r.val ≤ n.val then (((sc x0 x1 b.val h.val n.val r.val).toReal : ℝ) : EReal) else ⊥ := by
  rw [val_main_v10_apply, mask, r2, ← sc_real h0 h1]
  have e : val_main_call0_v2 (F := Ideal) (ix4 b h n r) = ⊥ := by
    unfold val_main_call0_v2 val_main_call0_v0 val_main_cst
    clean_types
    pointwise
    exact ninf_f32
  rw [e]

theorem r11 (b : Fin 2) (h : Fin 16) (n : Fin 4224) : ∃ M : ℝ, val_main_v11 (F := Ideal) x0 x1 (ix3 b h n) = (M : EReal) := by
  obtain ⟨f, hf⟩ : ∃ f : Fin 4224 → ℝ, ∀ r, val_main_v10 (F := Ideal) x0 x1 (ix4 b h n r) = if r.val ≤ n.val then ((f r : ℝ) : EReal) else ⊥ := ⟨_, r10 h0 h1 b h n⟩
  unfold val_main_v11 val_main_cst_0
  generalize val_main_v10 (F := Ideal) x0 x1 = y at hf ⊢
  clean_types
  pointwise
  simp only [hf, ninf_f32]
  exact row_max f n

omit h0 h1 in
theorem r12 (i : S2x16x4224.Idx) : val_main_v12 (F := Ideal) i = (⊥ : EReal) := by
  unfold val_main_v12 val_main_cst_1
  clean_types
  pointwise
  exact ninf_f32

omit h0 h1 in
theorem r13 (b : Fin 2) (h : Fin 16) (n : Fin 4224) (M : ℝ) (hM : val_main_v11 (F := Ideal) x0 x1 (ix3 b h n) = (M : EReal)) :
    val_main_v13 (F := Ideal) x0 x1 (ix3 b h n) = (M : EReal) := by
  rw [val_main_v13_apply, hM, r12]
  exact max_eq_right bot_le

theorem r17 (b : Fin 2) (h : Fin 16) (n r : Fin 4224) (M : ℝ) (hM : val_main_v11 (F := Ideal) x0 x1 (ix3 b h n) = (M : EReal)) :
    val_main_v17 (F := Ideal) x0 x1 (ix4 b h n r) = ((w (S2 x0 x1 b.val h.val n.val) n.val r.val * Real.exp (-M) : ℝ) : EReal) := by
  rw [w_exp, ← exp_row]
  replace hM := r13 (x0 := x0) (x1 := x1) b h n M hM
  have h1 := r10 h0 h1 b h n r
  unfold val_main_v17 val_main_v16 val_main_v15 val_main_v14
  generalize val_main_v13 (F := Ideal) x0 x1 = y at hM ⊢
  generalize val_main_v10 (F := Ideal) x0 x1 = z at h1 ⊢
  clean_types
  pointwise
  rw [h1, hM]

theorem r30 (b : Fin 2) (h : Fin 16) (n r : Fin 4224) (M : ℝ) (hM : val_main_v26 (F := Ideal) x0 x1 (ix3 b h n) = (M : EReal)) :
    val_main_v30 (F := Ideal) x0 x1 (ix4 b h n r) = ((w (S2 x0 x1 b.val h.val n.val) n.val r.val * Real.exp (-M) : ℝ) : EReal) := by
  rw [w_exp, ← exp_row]
  have h1 := r10 h0 h1 b h n r
  unfold val_main_v30 val_main_v29 val_main_v28 val_main_v27
  generalize val_main_v26 (F := Ideal) x0 x1 = y at hM ⊢
  generalize val_main_v10 (F := Ideal) x0 x1 = z at h1 ⊢
  clean_types
  pointwise
  rw [h1, hM]

omit h0 h1 in
theorem row (b : Fin 2) (h : Fin 16) (n : Fin 4224) (M : ℝ) :
    ∑ r : Fin 4224, ((w (S2 x0 x1 b.val h.val n.val) n.val r.val * Real.exp (-M) : ℝ) : EReal) = ((L (S2 x0 x1 b.val h.val n.val) n.val * Real.exp (-M) : ℝ) : EReal) := by
  rw [← coe_sum, ← Finset.sum_mul, ← sum_all n.isLt, Finset.sum_range]

theorem r21 (b : Fin 2) (h : Fin 16) (n r : Fin 4224) :
    val_main_v21 (F := Ideal) x0 x1 (ix4 b h n r) = ((w (S2 x0 x1 b.val h.val n.val) n.val r.val / L (S2 x0 x1 b.val h.val n.val) n.val : ℝ) : EReal) := by
  obtain ⟨M, hM⟩ := r11 h0 h1 b h n
  have h2 := fun r => r17 h0 h1 b h n r M hM
  have h3 := row (x0 := x0) (x1 := x1) b h n M
  have hE := Real.exp_pos (-M)
  have hL := L_pos (S := S2 x0 x1 b.val h.val n.val) (r := n.val)
  unfold val_main_v21 val_main_v20 val_main_v19 val_main_v18 val_main_cst_2
  generalize val_main_v17 (F := Ideal) x0 x1 = y at h2 ⊢
  clean_types
  pointwise
  simp only [h2]
  rw [h3, div_real _ _ (mul_pos hL hE).ne', mul_div_mul_right _ _ hE.ne']

theorem r25 (b : Fin 2) (n : Fin 4224) (h : Fin 16) (d : Fin 64) :
    val_main_v25 (F := Ideal) x0 x1 x2 (ix4 b n h d) = out (S2 x0 x1 b.val h.val n.val) n.val (vl x2 b.val h.val d.val) := by
  have h2 := r21 h0 h1 b h n
  have h3 : ∀ r d, val_main_v22 (F := Ideal) x2 (ix4 b r h d) = _ := fun r d => r0 (x0 := x2) b r h d
  rw [← out_all n.isLt, Finset.sum_range]
  unfold val_main_v25 val_main_v24 val_main_v23
  generalize val_main_v21 (F := Ideal) x0 x1 = y at h2 ⊢
  generalize val_main_v22 (F := Ideal) x2 = z at h3 ⊢
  clean_types
  pointwise
  simp only [h2, h3, vl, if_neg (show d.val ≠ 64 by omega)]
  exact Finset.sum_congr rfl fun r _ => mul_comm _ _

theorem r31 (b : Fin 2) (h : Fin 16) (n : Fin 4224) (M : ℝ) (hM : val_main_v26 (F := Ideal) x0 x1 (ix3 b h n) = (M : EReal)) :
    val_main_v31 (F := Ideal) x0 x1 (ix3 b h n) = ((L (S2 x0 x1 b.val h.val n.val) n.val * Real.exp (-M) : ℝ) : EReal) := by
  have h2 := fun r => r30 h0 h1 b h n r M hM
  rw [← row (x0 := x0) (x1 := x1) b h n M]
  unfold val_main_v31 val_main_cst_4
  generalize val_main_v30 (F := Ideal) x0 x1 = y at h2 ⊢
  clean_types
  pointwise
  simp only [h2]

theorem r34 (b : Fin 2) (h : Fin 16) (n : Fin 4224) :
    val_main_v34 (F := Ideal) x0 x1 (ix4 b h n 0) = ((Real.log (L (S2 x0 x1 b.val h.val n.val) n.val) : ℝ) : EReal) := by
  obtain ⟨M, hM⟩ := r11 h0 h1 b h n
  have hm : val_main_v26 (F := Ideal) x0 x1 (ix3 b h n) = (M : EReal) := by
    unfold val_main_v11 val_main_cst_0 at hM
    unfold val_main_v26 val_main_cst_3
    exact hM
  have h2 := r31 h0 h1 b h n M hm
  have hE := Real.exp_pos (-M)
  have hL := L_pos (S := S2 x0 x1 b.val h.val n.val) (r := n.val)
  have hk : ∀ a : ℝ, M + (a + -M) = a := fun a => by ring
  have e : idx_main_v27 (ix4 b h n 0) = ix3 b h n := by
    funext a
    match a with
    | ⟨0, _⟩ => rfl
    | ⟨1, _⟩ => rfl
    | ⟨2, _⟩ => rfl
  have e' : idx_main_v32 (ix4 b h n 0) = ix3 b h n := e
  rw [val_main_v34_apply, val_main_v33_apply, val_main_v32_apply, val_main_v27_apply, e, e', hm, h2]
  show (M : EReal) + Ideal.log ((L (S2 x0 x1 b.val h.val n.val) n.val * Real.exp (-M) : ℝ) : EReal) = ((Real.log (L (S2 x0 x1 b.val h.val n.val) n.val) : ℝ) : EReal)
  rw [Ideal.log_coe, if_neg (not_le.mpr (mul_pos hL hE)), Real.log_mul hL.ne' hE.ne', Real.log_exp, ← EReal.coe_add, hk]

theorem r35 (b : Fin 2) (h : Fin 16) (n : Fin 4224) :
    val_main_v35 (F := Ideal) x0 x1 (ix3 b h n) = ((Real.log (L (S2 x0 x1 b.val h.val n.val) n.val) : ℝ) : EReal) := by
  rw [val_main_v35_apply, ← r34 h0 h1]
  refine congrArg _ ?_
  funext a
  refine Fin.ext ?_
  have hb := b.isLt; have hh := h.isLt; have hn := n.isLt
  match a with
  | ⟨0, _⟩ => show ((b.val * 16 + h.val) * 4224 + n.val) / 67584 = b.val; omega
  | ⟨1, _⟩ => show ((b.val * 16 + h.val) * 4224 + n.val) / 4224 % 16 = h.val; omega
  | ⟨2, _⟩ => show ((b.val * 16 + h.val) * 4224 + n.val) / 1 % 4224 = n.val; omega
  | ⟨3, _⟩ => rfl

theorem r38 (b : Fin 2) (h : Fin 16) (n : Fin 4224) : val_main_v38 (F := Ideal) x0 x1 (ix3 b h n) = lse (S2 x0 x1 b.val h.val n.val) n.val := by
  have h2 := r35 h0 h1 b h n
  unfold val_main_v38 val_main_v37 val_main_v36 val_main_cst_5
  generalize val_main_v35 (F := Ideal) x0 x1 = y at h2 ⊢
  clean_types
  pointwise
  rw [h2, two_f32, Ideal.log_coe, if_neg (by norm_num), div_real _ _ (Real.log_pos one_lt_two).ne']
  rfl

theorem r45 (R : Fin 8448) (C : Fin 2048) :
    val_main_v45 (F := Ideal) x0 x1 (ix2 R C) = lse (S2 x0 x1 (R.val / 4224) (C.val / 128) (R.val % 4224)) (R.val % 4224) := by
  have h2 := r38 h0 h1
  unfold val_main_v45 val_main_v41 val_main_v40 val_main_v39
  generalize val_main_v38 (F := Ideal) x0 x1 = y at h2 ⊢
  clean_types
  pointwise
  simp only [h2]

omit h0 h1 in
theorem z1 (i : S_.Idx) : val_main_call1_v0 (F := Ideal) i = (0 : EReal) := by
  have h : (((0#32 : BitVec 32).toInt : ℝ) : EReal) = 0 := by simp
  exact h

theorem r44 (R : Fin 8448) (C : Fin 2048) :
    val_main_v44 (F := Ideal) x0 x1 x2 (ix2 R C) = if C.val % 128 < 64
      then out (S2 x0 x1 (R.val / 4224) (C.val / 128) (R.val % 4224)) (R.val % 4224) (vl x2 (R.val / 4224) (C.val / 128) (C.val % 128)) else 0 := by
  have h2 := r25 (x2 := x2) h0 h1
  have h3 := z1 (Shape.Idx.first h_S_)
  unfold val_main_v44 val_main_v43 val_main_v42
  generalize val_main_v25 (F := Ideal) x0 x1 x2 = y at h2 ⊢
  generalize val_main_call1_v0 (F := Ideal) = z at h3 ⊢
  clean_types
  pointwise
  simp only [h2]
  by_cases h : C.val % 128 < 64
  · rw [dif_pos ⟨by omega, by omega, by omega, h⟩, if_pos h]
  · rw [dif_neg fun hh => h hh.2.2.2, if_neg h]
    exact h3

end Cert.Reference30Ideal.Fwd

end
-- ==== Proof.Fwd.lean ====
/- The attention's forward call and the plain softmax agree. -/
module

public import proofs.«01_k».proof.Defs
public import proofs.«01_k».proof.Proof.Algebraic
public import proofs.«01_k».proof.Proof.FwdPoint
public import proofs.«01_k».proof.Proof.FwdRef
public import proofs.«01_k».proof.Proof.Gen.Pre_finite_scores
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import Idealize.ShloMosaic.Lib.StableHlo.ReadAt

@[expose] public section

set_option maxRecDepth 16384

noncomputable section

namespace Cert.Kernel30Ideal.Fwd

open Cert.Kernel30Ideal.Gen Cert.Sums Cert.Attn Cert.Fwd
open Cert.KernelIdeal.Att (e2 e2_pos)
open Idealize.ShloMosaic Idealize.ShloMosaic.TcCoe Idealize.SL.Sem
open Idealize.ShloMosaic.Pipeline (Dat)

variable (m : (ℓ : Loc nD τ sig) → Buf (Elt Ideal) ℓ)

theorem ix_0 : ∀ t : Fin cfg0.N, win0_0.index t = ![t.val / 88 * 11 + t.val % 11, t.val / 11 % 8] := (by decide +kernel : ∀ t : Fin grid0.N, _)
theorem ix_1 : ∀ t : Fin cfg0.N, win0_1.index t = ![t.val / 88, t.val / 11 % 8] := (by decide +kernel : ∀ t : Fin grid0.N, _)
theorem ix_2 : ∀ t : Fin cfg0.N, win0_2.index t = ![t.val / 88, t.val / 11 % 8] := (by decide +kernel : ∀ t : Fin grid0.N, _)
theorem ix_3 : ∀ t : Fin cfg0.N, win0_3.index t = ![t.val / 88 * 11 + t.val % 11, t.val / 11 % 8] := (by decide +kernel : ∀ t : Fin grid0.N, _)
theorem ix_4 : ∀ t : Fin cfg0.N, win0_4.index t = ![t.val / 88 * 11 + t.val % 11, t.val / 11 % 8] := (by decide +kernel : ∀ t : Fin grid0.N, _)
theorem tile : ∀ t : Fin cfg0.N, (grid0.coords t 2).val = t.val % 11 := (by decide +kernel : ∀ t : Fin grid0.N, (grid0.coords t 2).val = t.val % 11)

abbrev a0 (c : Dev nD) : S8448x2048.Idx → EReal := m ((c : Thread nD τ).loc main_arg0)
abbrev a1 (c : Dev nD) : S8448x2048.Idx → EReal := m ((c : Thread nD τ).loc main_arg1)
abbrev a2 (c : Dev nD) : S8448x2048.Idx → EReal := m ((c : Thread nD τ).loc main_arg2)

theorem host_q (c : Dev nD) (i : S8448x2048.Idx) : (V m c main_v4 : S8448x2048.Idx → EReal) i = a0 m c i * (((Real.log 2)⁻¹ : ℝ) : EReal) := by
  unfold V
  after_reads_at
  refine congrArg (a0 m c i * ·) ?_
  rw [two_f32, Ideal.log_coe, if_neg (by norm_num), ← EReal.coe_one, div_real _ _ (Real.log_pos one_lt_two).ne', one_div]

theorem host_k (c : Dev nD) : (V m c main_v5 : S8448x2048.Idx → EReal) = a1 m c := by
  funext i
  unfold V
  after_reads_at

theorem host_v (c : Dev nD) : (V m c main_v6 : S8448x2048.Idx → EReal) = a2 m c := by
  funext i
  unfold V
  after_reads_at

theorem blk_q (c : Dev nD) (t : Fin cfg0.N) (i j : ℕ) (hi : i < 384) (hj : j < 256) :
    e2 (A := 384) (B := 256) (iblk m c 0 t) i j = at2 (A := 8448) (B := 2048) (a0 m c) (4224 * (t.val / 88) + (384 * (t.val % 11) + i)) (256 * (t.val / 11 % 8) + j) * (((Real.log 2)⁻¹ : ℝ) : EReal) := by
  refine (e2_pos _ _ _ hi hj).trans ((host_q m c _).trans (congrArg (· * _) (at2_of _ _ _ _ ?_ ?_)))
  · (blk_simp [ix_0 t]) <;> dsimp only <;> omega
  · (blk_simp [ix_0 t]) <;> dsimp only <;> omega

theorem blk_k (c : Dev nD) (t : Fin cfg0.N) (i j : ℕ) (hi : i < 4224) (hj : j < 256) :
    e2 (A := 4224) (B := 256) (iblk m c 1 t) i j = at2 (A := 8448) (B := 2048) (a1 m c) (4224 * (t.val / 88) + i) (256 * (t.val / 11 % 8) + j) := by
  refine (e2_pos _ _ _ hi hj).trans ((congrArg (fun z : S8448x2048.Idx → EReal => z _) (host_k m c)).trans (at2_of _ _ _ _ ?_ ?_))
  · (blk_simp [ix_1 t]) <;> dsimp only <;> omega
  · (blk_simp [ix_1 t]) <;> dsimp only <;> omega

theorem blk_v (c : Dev nD) (t : Fin cfg0.N) (i j : ℕ) (hi : i < 4224) (hj : j < 256) :
    e2 (A := 4224) (B := 256) (iblk m c 2 t) i j = at2 (A := 8448) (B := 2048) (a2 m c) (4224 * (t.val / 88) + i) (256 * (t.val / 11 % 8) + j) := by
  refine (e2_pos _ _ _ hi hj).trans ((congrArg (fun z : S8448x2048.Idx → EReal => z _) (host_v m c)).trans (at2_of _ _ _ _ ?_ ?_))
  · (blk_simp [ix_2 t]) <;> dsimp only <;> omega
  · (blk_simp [ix_2 t]) <;> dsimp only <;> omega

/-- The outputs after the run. -/
abbrev ao (c : Dev nD) : S8448x2048.Idx → EReal := fun i => if (i 1).val % 128 < 64
  then out (S2 (a0 m c) (a1 m c) ((i 0).val / 4224) ((i 1).val / 128) ((i 0).val % 4224)) ((i 0).val % 4224) (vl (a2 m c) ((i 0).val / 4224) ((i 1).val / 128) ((i 1).val % 128)) else 0

/-- The rows' logarithms after the run. -/
abbrev al (c : Dev nD) : S8448x2048.Idx → EReal := fun i => lse (S2 (a0 m c) (a1 m c) ((i 0).val / 4224) ((i 1).val / 128) ((i 0).val % 4224)) ((i 0).val % 4224)

/-- The arguments are reals. -/
def Fin01 (c : Dev nD) : Prop := (∀ i, a0 m c i = (((a0 m c i).toReal : ℝ) : EReal)) ∧ (∀ i, a1 m c i = (((a1 m c i).toReal : ℝ) : EReal))

theorem scores (c : Dev nD) (hf : Fin01 m c) (t : Fin cfg0.N) : Sc (fun j => e2 (A := 384) (B := 256) (iblk m c 0 t) (j 0).val (j 1).val) (fun j => e2 (A := 384) (B := 256) (iblk m c 0 t) (j 0).val (128 + (j 1).val)) (iblk m c 1 t)
    (fun h x k => S2 (a0 m c) (a1 m c) (t.val / 88) (2 * (t.val / 11 % 8) + h) (384 * (t.val % 11) + x) k) := by
  intro x k hk
  have hx := x.isLt
  refine ⟨(Finset.sum_congr (M := EReal) rfl fun e _ => ?_).trans (sc_scaled hf.1 hf.2 _ _ _ _), (Finset.sum_congr (M := EReal) rfl fun e _ => ?_).trans (sc_scaled hf.1 hf.2 _ _ _ _)⟩
  · have he := e.isLt
    refine (congrArg₂ (· * ·) (blk_q m c t x.val e.val hx (by omega)) (blk_k m c t k e.val hk (by omega))).trans ?_
    rw [show 128 * (2 * (t.val / 11 % 8) + 0) + e.val = 256 * (t.val / 11 % 8) + e.val by omega]
  · have he := e.isLt
    refine (congrArg₂ (· * ·) (blk_q m c t x.val (128 + e.val) hx (by omega)) (blk_k m c t k (128 + e.val) hk (by omega))).trans ?_
    rw [show 128 * (2 * (t.val / 11 % 8) + 1) + e.val = 256 * (t.val / 11 % 8) + (128 + e.val) by omega]

theorem out_congr {S : ℕ → ℝ} {r : ℕ} {V W : ℕ → EReal} (h : ∀ k ≤ r, V k = W k) : out S r V = out S r W :=
  Finset.sum_congr rfl fun k hk => by rw [h k (by have := Finset.mem_range.mp hk; omega)]

theorem outs3 (c : Dev nD) (t : Fin cfg0.N) : (outsAt0 m c t).1 = out0_A_3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by rw [outsAt0]
theorem outs4 (c : Dev nD) (t : Fin cfg0.N) : (outsAt0 m c t).2 = out0_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by rw [outsAt0]

/-- A point's blocks at an index. -/
theorem at_t (c : Dev nD) (hf : Fin01 m c) (t : Fin cfg0.N) (x : Fin 384) (y : Fin 256) :
    ((outsAt0 m c t).1 (ix2 x y) : EReal) = (if y.val % 128 < 64 then out (S2 (a0 m c) (a1 m c) (t.val / 88) (2 * (t.val / 11 % 8) + y.val / 128) (384 * (t.val % 11) + x.val)) (384 * (t.val % 11) + x.val)
        (vl (a2 m c) (t.val / 88) (2 * (t.val / 11 % 8) + y.val / 128) (y.val % 128)) else 0)
      ∧ ((outsAt0 m c t).2 (ix2 x y) : EReal) = lse (S2 (a0 m c) (a1 m c) (t.val / 88) (2 * (t.val / 11 % 8) + y.val / 128) (384 * (t.val % 11) + x.val)) (384 * (t.val % 11) + x.val) := by
  have hx := x.isLt
  have hy := y.isLt
  have ht : t.val < 176 := t.isLt
  rw [outs3, outs4]
  have h := point c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) _ (scores m c hf t) _ (tile t) x y
  obtain ⟨h3, h4⟩ := h
  refine ⟨?_, ?_⟩
  rotate_left
  · exact h4
  refine h3.trans (if_congr Iff.rfl (out_congr fun k hk => ?_) rfl)
  unfold bl vl
  refine if_congr Iff.rfl rfl ((blk_v m c t k _ (by omega) (by omega)).trans ?_)
  rw [show 128 * (2 * (t.val / 11 % 8) + y.val / 128) + y.val % 128 = 256 * (t.val / 11 % 8) + (128 * (y.val / 128) + y.val % 128) by omega]

theorem idx (t : ℕ) (x : Fin 384) (y : Fin 256) : ((t / 88 * 11 + t % 11) * 384 + x.val) / 4224 = t / 88 ∧ ((t / 88 * 11 + t % 11) * 384 + x.val) % 4224 = 384 * (t % 11) + x.val
    ∧ (t / 11 % 8 * 256 + y.val) / 128 = 2 * (t / 11 % 8) + y.val / 128 ∧ (t / 11 % 8 * 256 + y.val) % 128 = y.val % 128 := by
  have hx := x.isLt
  have hy := y.isLt
  refine ⟨?_, ?_, ?_, ?_⟩ <;> omega

theorem arr3 (c : Dev nD) (hf : Fin01 m c) : (dats m 0 c).arrAt 3 cfg0.N = ao m c := by
  refine (dats m 0 c).arrAt_eq_of_covers 3 _ (by decide +kernel) fun t hfl y => ?_
  obtain ⟨x, z, rfl⟩ : ∃ (x : Fin 384) (z : Fin 256), y = ix2 x z := ⟨y 0, y 1, by funext a; match a with | ⟨0, _⟩ => rfl | ⟨1, _⟩ => rfl⟩
  obtain ⟨e0, e1, e2, e3⟩ := idx t.val x z
  blk_simp
  rw [after0_3]
  refine (at_t m c hf t x z).1.trans ?_
  dsimp only [ao]
  blk_simp [ix_3 t]
  rw [e0, e1, e2, e3]

theorem arr4 (c : Dev nD) (hf : Fin01 m c) : (dats m 0 c).arrAt 4 cfg0.N = al m c := by
  refine (dats m 0 c).arrAt_eq_of_covers 4 _ (by decide +kernel) fun t hfl y => ?_
  obtain ⟨x, z, rfl⟩ : ∃ (x : Fin 384) (z : Fin 256), y = ix2 x z := ⟨y 0, y 1, by funext a; match a with | ⟨0, _⟩ => rfl | ⟨1, _⟩ => rfl⟩
  obtain ⟨e0, e1, e2, e3⟩ := idx t.val x z
  blk_simp
  rw [after0_4]
  refine (at_t m c hf t x z).2.trans ?_
  dsimp only [al]
  blk_simp [ix_4 t]
  rw [e0, e1, e2]

end Cert.Kernel30Ideal.Fwd

namespace Cert.Proof

open Idealize.ShloMosaic Idealize.ShloMosaic.TcCoe Idealize.SL.Sem

theorem frame_ri30 : Cert.quiescent_Reference30Ideal := fun m ρ _ =>
  (θ_run Cert.Reference30Ideal.defs _ _).mono (fun r h => ⟨fun c => (h c).2.2, Idealize.ShloMosaic.sem_eq_zero_of_no_sems (by decide) r.2⟩)
    (Cert.Reference30Ideal.Value.run (F := Ideal) m ρ)

theorem algebraic30 : Cert.algebraic_Kernel30Ideal_Reference30Ideal_pre_finite_scores := by
  intro m g m' g' hpre hargs
  have hf : ∀ c, Cert.Kernel30Ideal.Fwd.Fin01 m c := fun c => ⟨fun i => real_of _ (congrFun (hpre c).1 i), fun i => real_of _ (congrFun (hpre c).2 i)⟩
  refine ⟨fun c => Cert.Kernel30Ideal.Fwd.ao m c, fun c => Cert.Kernel30Ideal.Fwd.al m c, ?_, ?_⟩
  · refine (θ_run Cert.Kernel30Ideal.defs _ _).mono (fun r h c => ?_) (Cert.Kernel30Ideal.Value.run_blocks (F := Ideal) m g)
    exact ⟨(h c).1.trans (Cert.Kernel30Ideal.Fwd.arr3 m c (hf c)), (h c).2.1.trans (Cert.Kernel30Ideal.Fwd.arr4 m c (hf c)), (h c).2.2⟩
  · refine (θ_run Cert.Reference30Ideal.defs _ _).mono (fun r h c => ?_) (Cert.Reference30Ideal.Value.run (F := Ideal) m' g')
    obtain ⟨e0, e1, e2⟩ := h c
    obtain ⟨b0, b1, b2⟩ := hargs c
    refine ⟨e0.trans ?_, e1.trans ?_, e2⟩
    · rw [Cert.Reference30Ideal.Read.val_main_v44_eq, b0, b1, b2]
      exact ext2 _ _ fun R C => Cert.Reference30Ideal.Fwd.r44 (hf c).1 (hf c).2 R C
    · rw [Cert.Reference30Ideal.Read.val_main_v45_eq, b0, b1]
      exact ext2 _ _ fun R C => Cert.Reference30Ideal.Fwd.r45 (hf c).1 (hf c).2 R C

end Cert.Proof

end
-- ==== Proof.lean ====
/- The proof of the claims: the frames of the three programs, the named constant of the kernel's text, the gradients' values, and the products of the other calls. -/
module

public import proofs.«01_k».proof.Defs
public import proofs.«01_k».proof.Proof.Frames
public import proofs.«01_k».proof.Proof.Algebraic
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.MmEven
public import proofs.«01_k».proof.Proof.MmOddIn
public import proofs.«01_k».proof.Proof.MmOddUp
public import proofs.«01_k».proof.Proof.MmOddOut
public import proofs.«01_k».proof.Proof.Fwd

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Pre_finite.Gen.facts, Cert.Pre_finite_scores.Gen.facts,
  frame_p,
  frame_pi,
  fun m ρ _ => frame_pi m ρ (by first | trivial | exact ⟨⟩),
  frame_ri,
  fun m ρ _ => frame_ri m ρ (by first | trivial | exact ⟨⟩),
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  fun m ρ _ => Cert.Kernel7.Gen.frame m ρ, fun m ρ _ => Cert.Kernel7Ideal.Gen.frame m ρ, frame_ri7,
  fun m ρ _ => Cert.Kernel8.Gen.frame m ρ, fun m ρ _ => Cert.Kernel8Ideal.Gen.frame m ρ, frame_ri8,
  fun m ρ _ => Cert.Kernel9.Gen.frame m ρ, fun m ρ _ => Cert.Kernel9Ideal.Gen.frame m ρ, Cert.Kernel9Ideal.Mm.frame_ri,
  fun m ρ _ => Cert.Kernel10.Gen.frame m ρ, fun m ρ _ => Cert.Kernel10Ideal.Gen.frame m ρ, Cert.Kernel10Ideal.Mm.frame_ri,
  fun m ρ _ => Cert.Kernel11.Gen.frame m ρ, fun m ρ _ => Cert.Kernel11Ideal.Gen.frame m ρ, Cert.Kernel11Ideal.Mm.frame_ri,
  fun m ρ _ => Cert.Kernel12.Gen.frame m ρ, fun m ρ _ => Cert.Kernel12Ideal.Gen.frame m ρ, Cert.Kernel12Ideal.Mm.frame_ri,
  fun m ρ _ => Cert.Kernel13.Gen.frame m ρ, fun m ρ _ => Cert.Kernel13Ideal.Gen.frame m ρ, Cert.Kernel13Ideal.Mm.frame_ri,
  fun m ρ _ => Cert.Kernel14.Gen.frame m ρ, fun m ρ _ => Cert.Kernel14Ideal.Gen.frame m ρ, Cert.Kernel14Ideal.Mm.frame_ri,
  fun m ρ _ => Cert.Kernel15.Gen.frame m ρ, fun m ρ _ => Cert.Kernel15Ideal.Gen.frame m ρ, Cert.Kernel15Ideal.Mm.frame_ri,
  fun m ρ _ => Cert.Kernel16.Gen.frame m ρ, fun m ρ _ => Cert.Kernel16Ideal.Gen.frame m ρ, Cert.Kernel16Ideal.Mm.frame_ri,
  fun m ρ _ => Cert.Kernel17.Gen.frame m ρ, fun m ρ _ => Cert.Kernel17Ideal.Gen.frame m ρ, Cert.Kernel17Ideal.Mm.frame_ri,
  fun m ρ _ => Cert.Kernel18.Gen.frame m ρ, fun m ρ _ => Cert.Kernel18Ideal.Gen.frame m ρ, Cert.Kernel18Ideal.Mm.frame_ri,
  fun m ρ _ => Cert.Kernel19.Gen.frame m ρ, fun m ρ _ => Cert.Kernel19Ideal.Gen.frame m ρ, Cert.Kernel19Ideal.Mm.frame_ri,
  fun m ρ _ => Cert.Kernel20.Gen.frame m ρ, fun m ρ _ => Cert.Kernel20Ideal.Gen.frame m ρ, Cert.Kernel20Ideal.Mm.frame_ri,
  fun m ρ _ => Cert.Kernel21.Gen.frame m ρ, fun m ρ _ => Cert.Kernel21Ideal.Gen.frame m ρ, Cert.Kernel21Ideal.Mm.frame_ri,
  fun m ρ _ => Cert.Kernel22.Gen.frame m ρ, fun m ρ _ => Cert.Kernel22Ideal.Gen.frame m ρ, Cert.Kernel22Ideal.Mm.frame_ri,
  fun m ρ _ => Cert.Kernel23.Gen.frame m ρ, fun m ρ _ => Cert.Kernel23Ideal.Gen.frame m ρ, Cert.Kernel23Ideal.Mm.frame_ri,
  fun m ρ _ => Cert.Kernel24.Gen.frame m ρ, fun m ρ _ => Cert.Kernel24Ideal.Gen.frame m ρ, Cert.Kernel24Ideal.Mm.frame_ri,
  fun m ρ _ => Cert.Kernel25.Gen.frame m ρ, fun m ρ _ => Cert.Kernel25Ideal.Gen.frame m ρ, Cert.Kernel25Ideal.Mm.frame_ri,
  fun m ρ _ => Cert.Kernel26.Gen.frame m ρ, fun m ρ _ => Cert.Kernel26Ideal.Gen.frame m ρ, Cert.Kernel26Ideal.Mm.frame_ri,
  fun m ρ _ => Cert.Kernel27.Gen.frame m ρ, fun m ρ _ => Cert.Kernel27Ideal.Gen.frame m ρ, Cert.Kernel27Ideal.Mm.frame_ri,
  fun m ρ _ => Cert.Kernel28.Gen.frame m ρ, fun m ρ _ => Cert.Kernel28Ideal.Gen.frame m ρ, Cert.Kernel28Ideal.Mm.frame_ri,
  fun m ρ _ => Cert.Kernel29.Gen.frame m ρ, fun m ρ _ => Cert.Kernel29Ideal.Gen.frame m ρ, Cert.Kernel29Ideal.Mm.frame_ri,
  fun m ρ _ => Cert.Kernel30.Gen.frame m ρ, fun m ρ _ => Cert.Kernel30Ideal.Gen.frame m ρ, fun m ρ _ => Cert.Kernel30Ideal.Gen.frame m ρ,
  frame_ri30, fun m ρ _ => frame_ri30 m ρ (by first | trivial | exact ⟨⟩),
  preserves, algebraic,
  trivial, algebraic2,
  trivial, algebraic3,
  trivial, algebraic4,
  trivial, algebraic5,
  trivial, algebraic6,
  trivial, algebraic7,
  trivial, algebraic8,
  trivial, Cert.Kernel9Ideal.Mm.algebraic,
  trivial, Cert.Kernel10Ideal.Mm.algebraic,
  trivial, Cert.Kernel11Ideal.Mm.algebraic,
  trivial, Cert.Kernel12Ideal.Mm.algebraic,
  trivial, Cert.Kernel13Ideal.Mm.algebraic,
  trivial, Cert.Kernel14Ideal.Mm.algebraic,
  trivial, Cert.Kernel15Ideal.Mm.algebraic,
  trivial, Cert.Kernel16Ideal.Mm.algebraic,
  trivial, Cert.Kernel17Ideal.Mm.algebraic,
  trivial, Cert.Kernel18Ideal.Mm.algebraic,
  trivial, Cert.Kernel19Ideal.Mm.algebraic,
  trivial, Cert.Kernel20Ideal.Mm.algebraic,
  trivial, Cert.Kernel21Ideal.Mm.algebraic,
  trivial, Cert.Kernel22Ideal.Mm.algebraic,
  trivial, Cert.Kernel23Ideal.Mm.algebraic,
  trivial, Cert.Kernel24Ideal.Mm.algebraic,
  trivial, Cert.Kernel25Ideal.Mm.algebraic,
  trivial, Cert.Kernel26Ideal.Mm.algebraic,
  trivial, Cert.Kernel27Ideal.Mm.algebraic,
  trivial, Cert.Kernel28Ideal.Mm.algebraic,
  trivial, Cert.Kernel29Ideal.Mm.algebraic,
  ⟨IdealRules.named_const.statement Cert.Kernel30Ideal.κ "mask" .f32 0xF149F2CA#32 ⊥ rfl,
    IdealRules.named_const.statement Cert.Kernel30Ideal.κ "log2e" .f32 0x3FB8AA3B#32 (((Real.log 2)⁻¹ : ℝ) : EReal) rfl⟩, algebraic30⟩

end Cert.Proof

end
